-- ==== Defs.lean ====
def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_finite_inproj [hPre_finite_inproj : Cert.Pre_finite_inproj.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.1 = (fun _ => 1#1)
    ∧ (Cert.Pre_finite_inproj.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4))).2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.1 = (fun _ => 1#1)
    ∧ (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.2 = (fun _ => 1#1)

def Pre_OutprojBwd (m : (ℓ : Loc Cert.OutprojBwd.nD Cert.OutprojBwd.τ Cert.OutprojBwd.sig) → Buf (Elt Bits) ℓ) : Prop :=
  True

def Pre_OutprojBwdIdeal (m : (ℓ : Loc Cert.OutprojBwdIdeal.nD Cert.OutprojBwdIdeal.τ Cert.OutprojBwdIdeal.sig) → Buf (Elt Ideal) ℓ) : Prop :=
  True

def Pre_OutprojBwdIdeal_finite_out [hPre_finite_out : Cert.Pre_finite_out.Facts] (m : (ℓ : Loc Cert.OutprojBwdIdeal.nD Cert.OutprojBwdIdeal.τ Cert.OutprojBwdIdeal.sig) → Buf (Elt Ideal) ℓ) : Prop :=
  ∀ c : Dev Cert.OutprojBwdIdeal.nD,
    (Cert.Pre_finite_out.fn (F := Ideal) (m ((c.tc : Thread Cert.OutprojBwdIdeal.nD Cert.OutprojBwdIdeal.τ).loc Cert.OutprojBwdIdeal.main_arg0)) (m ((c.tc : Thread Cert.OutprojBwdIdeal.nD Cert.OutprojBwdIdeal.τ).loc Cert.OutprojBwdIdeal.main_arg1)) (m ((c.tc : Thread Cert.OutprojBwdIdeal.nD Cert.OutprojBwdIdeal.τ).loc Cert.OutprojBwdIdeal.main_arg2)) (m ((c.tc : Thread Cert.OutprojBwdIdeal.nD Cert.OutprojBwdIdeal.τ).loc Cert.OutprojBwdIdeal.main_arg3))).1 = (fun _ => 1#1)
    ∧ (Cert.Pre_finite_out.fn (F := Ideal) (m ((c.tc : Thread Cert.OutprojBwdIdeal.nD Cert.OutprojBwdIdeal.τ).loc Cert.OutprojBwdIdeal.main_arg0)) (m ((c.tc : Thread Cert.OutprojBwdIdeal.nD Cert.OutprojBwdIdeal.τ).loc Cert.OutprojBwdIdeal.main_arg1)) (m ((c.tc : Thread Cert.OutprojBwdIdeal.nD Cert.OutprojBwdIdeal.τ).loc Cert.OutprojBwdIdeal.main_arg2)) (m ((c.tc : Thread Cert.OutprojBwdIdeal.nD Cert.OutprojBwdIdeal.τ).loc Cert.OutprojBwdIdeal.main_arg3))).2.1 = (fun _ => 1#1)
    ∧ (Cert.Pre_finite_out.fn (F := Ideal) (m ((c.tc : Thread Cert.OutprojBwdIdeal.nD Cert.OutprojBwdIdeal.τ).loc Cert.OutprojBwdIdeal.main_arg0)) (m ((c.tc : Thread Cert.OutprojBwdIdeal.nD Cert.OutprojBwdIdeal.τ).loc Cert.OutprojBwdIdeal.main_arg1)) (m ((c.tc : Thread Cert.OutprojBwdIdeal.nD Cert.OutprojBwdIdeal.τ).loc Cert.OutprojBwdIdeal.main_arg2)) (m ((c.tc : Thread Cert.OutprojBwdIdeal.nD Cert.OutprojBwdIdeal.τ).loc Cert.OutprojBwdIdeal.main_arg3))).2.2.1 = (fun _ => 1#1)
    ∧ (Cert.Pre_finite_out.fn (F := Ideal) (m ((c.tc : Thread Cert.OutprojBwdIdeal.nD Cert.OutprojBwdIdeal.τ).loc Cert.OutprojBwdIdeal.main_arg0)) (m ((c.tc : Thread Cert.OutprojBwdIdeal.nD Cert.OutprojBwdIdeal.τ).loc Cert.OutprojBwdIdeal.main_arg1)) (m ((c.tc : Thread Cert.OutprojBwdIdeal.nD Cert.OutprojBwdIdeal.τ).loc Cert.OutprojBwdIdeal.main_arg2)) (m ((c.tc : Thread Cert.OutprojBwdIdeal.nD Cert.OutprojBwdIdeal.τ).loc Cert.OutprojBwdIdeal.main_arg3))).2.2.2 = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_finite_out [hPre_finite_out : Cert.Pre_finite_out.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_finite_out.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3))).1 = (fun _ => 1#1)
    ∧ (Cert.Pre_finite_out.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3))).2.1 = (fun _ => 1#1)
    ∧ (Cert.Pre_finite_out.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3))).2.2.1 = (fun _ => 1#1)
    ∧ (Cert.Pre_finite_out.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3))).2.2.2 = (fun _ => 1#1)

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdIdeal_finite_gmlp [hPre_finite_gmlp : Cert.Pre_finite_gmlp.Facts] (m : (ℓ : Loc Cert.GmlpBwdIdeal.nD Cert.GmlpBwdIdeal.τ Cert.GmlpBwdIdeal.sig) → Buf (Elt Ideal) ℓ) : Prop :=
  ∀ c : Dev Cert.GmlpBwdIdeal.nD,
    (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.1 = (fun _ => 1#1)
    ∧ (Cert.Pre_finite_gmlp.fn (F := Ideal) (m ((c.tc : Thread Cert.GmlpBwdIdeal.nD Cert.GmlpBwdIdeal.τ).loc Cert.GmlpBwdIdeal.main_arg0)) (m ((c.tc : Thread Cert.GmlpBwdIdeal.nD Cert.GmlpBwdIdeal.τ).loc Cert.GmlpBwdIdeal.main_arg1)) (m ((c.tc : Thread Cert.GmlpBwdIdeal.nD Cert.GmlpBwdIdeal.τ).loc Cert.GmlpBwdIdeal.main_arg2)) (m ((c.tc : Thread Cert.GmlpBwdIdeal.nD Cert.GmlpBwdIdeal.τ).loc Cert.GmlpBwdIdeal.main_arg3)) (m ((c.tc : Thread Cert.GmlpBwdIdeal.nD Cert.GmlpBwdIdeal.τ).loc Cert.GmlpBwdIdeal.main_arg4)) (m ((c.tc : Thread Cert.GmlpBwdIdeal.nD Cert.GmlpBwdIdeal.τ).loc Cert.GmlpBwdIdeal.main_arg5))).2.2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.2 = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_finite_mlp [hPre_finite_mlp : Cert.Pre_finite_mlp.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).1 = (fun _ => 1#1)
    ∧ (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.1 = (fun _ => 1#1)
    ∧ (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.1 = (fun _ => 1#1)
    ∧ (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.1 = (fun _ => 1#1)
    ∧ (Cert.Pre_finite_mlp.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4)) (m ((c.tc : Thread Cert.MlpBwdIdeal.nD Cert.MlpBwdIdeal.τ).loc Cert.MlpBwdIdeal.main_arg5))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2 = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InfwdRefIdeal (m : (ℓ : Loc Cert.InfwdRefIdeal.nD Cert.InfwdRefIdeal.τ Cert.InfwdRefIdeal.sig) → Buf (Elt Ideal) ℓ) : Prop :=
  True

def Pre_LossTail (m : (ℓ : Loc Cert.LossTail.nD Cert.LossTail.τ Cert.LossTail.sig) → Buf (Elt Bits) ℓ) : Prop :=
  True

def Pre_LossTailIdeal (m : (ℓ : Loc Cert.LossTailIdeal.nD Cert.LossTailIdeal.τ Cert.LossTailIdeal.sig) → Buf (Elt Ideal) ℓ) : Prop :=
  True

def Pre_LossTailIdeal_finite_tail [hPre_finite_tail : Cert.Pre_finite_tail.Facts] (m : (ℓ : Loc Cert.LossTailIdeal.nD Cert.LossTailIdeal.τ Cert.LossTailIdeal.sig) → Buf (Elt Ideal) ℓ) : Prop :=
  ∀ c : Dev Cert.LossTailIdeal.nD,
    (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).1 = (fun _ => 1#1)
    ∧ (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).2.1 = (fun _ => 1#1)
    ∧ (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).2.2.1 = (fun _ => 1#1)
    ∧ (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).2.2.2.1 = (fun _ => 1#1)
    ∧ (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).2.2.2.2.1 = (fun _ => 1#1)
    ∧ (Cert.Pre_finite_tail.fn (F := Ideal) (m ((c.tc : Thread Cert.LossTailIdeal.nD Cert.LossTailIdeal.τ).loc Cert.LossTailIdeal.main_arg0)) (m ((c.tc : Thread Cert.LossTailIdeal.nD Cert.LossTailIdeal.τ).loc Cert.LossTailIdeal.main_arg1)) (m ((c.tc : Thread Cert.LossTailIdeal.nD Cert.LossTailIdeal.τ).loc Cert.LossTailIdeal.main_arg2)) (m ((c.tc : Thread Cert.LossTailIdeal.nD Cert.LossTailIdeal.τ).loc Cert.LossTailIdeal.main_arg3)) (m ((c.tc : Thread Cert.LossTailIdeal.nD Cert.LossTailIdeal.τ).loc Cert.LossTailIdeal.main_arg4)) (m ((c.tc : Thread Cert.LossTailIdeal.nD Cert.LossTailIdeal.τ).loc Cert.LossTailIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_tail [hPre_finite_tail : Cert.Pre_finite_tail.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_finite_tail.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_AdamHalves (m : (ℓ : Loc Cert.AdamHalves.nD Cert.AdamHalves.τ Cert.AdamHalves.sig) → Buf (Elt Bits) ℓ) : Prop :=
  True

def Pre_AdamHalvesIdeal (m : (ℓ : Loc Cert.AdamHalvesIdeal.nD Cert.AdamHalvesIdeal.τ Cert.AdamHalvesIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdIdeal_pre_finite_inproj [hInprojBwdIdeal : Cert.InprojBwdIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_finite_inproj m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_OutprojBwd [hOutprojBwd : Cert.OutprojBwd.Facts] : Prop :=
  ∀ (m : (ℓ : Loc Cert.OutprojBwd.nD Cert.OutprojBwd.τ Cert.OutprojBwd.sig) → Buf (Elt Bits) ℓ) (g : Dev Cert.OutprojBwd.nD → PrngReg), Pre_OutprojBwd m →
    θ_run (Cert.OutprojBwd.defs (F := Bits)) (onTc (τ := Cert.OutprojBwd.τ) (Cert.OutprojBwd.main (F := Bits))) ⟨m, fun _ => 0, g⟩ (fun r => (∀ c : Dev Cert.OutprojBwd.nD,
      r.2.mem ((c.tc : Thread Cert.OutprojBwd.nD Cert.OutprojBwd.τ).loc Cert.OutprojBwd.main_arg0) = m ((c.tc : Thread Cert.OutprojBwd.nD Cert.OutprojBwd.τ).loc Cert.OutprojBwd.main_arg0)
      ∧ r.2.mem ((c.tc : Thread Cert.OutprojBwd.nD Cert.OutprojBwd.τ).loc Cert.OutprojBwd.main_arg1) = m ((c.tc : Thread Cert.OutprojBwd.nD Cert.OutprojBwd.τ).loc Cert.OutprojBwd.main_arg1)
      ∧ r.2.mem ((c.tc : Thread Cert.OutprojBwd.nD Cert.OutprojBwd.τ).loc Cert.OutprojBwd.main_arg2) = m ((c.tc : Thread Cert.OutprojBwd.nD Cert.OutprojBwd.τ).loc Cert.OutprojBwd.main_arg2)
      ∧ r.2.mem ((c.tc : Thread Cert.OutprojBwd.nD Cert.OutprojBwd.τ).loc Cert.OutprojBwd.main_arg3) = m ((c.tc : Thread Cert.OutprojBwd.nD Cert.OutprojBwd.τ).loc Cert.OutprojBwd.main_arg3))
      ∧ r.2.sem = fun _ => 0)

def quiescent_OutprojBwdIdeal [hOutprojBwdIdeal : Cert.OutprojBwdIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ r.2.sem = fun _ => 0)

def quiescent_OutprojBwdIdeal_pre_finite_out [hOutprojBwdIdeal : Cert.OutprojBwdIdeal.Facts] [hPre_finite_out : Cert.Pre_finite_out.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal_finite_out m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_OutprojRefIdeal_pre_finite_out [hOutprojRefIdeal : Cert.OutprojRefIdeal.Facts] [hPre_finite_out : Cert.Pre_finite_out.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_finite_out m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4)
      ∧ r.2.mem ((c.tc : Thread Cert.GmlpBwd.nD Cert.GmlpBwd.τ).loc Cert.GmlpBwd.main_arg5) = m ((c.tc : Thread Cert.GmlpBwd.nD Cert.GmlpBwd.τ).loc Cert.GmlpBwd.main_arg5))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpBwdIdeal_pre_finite_gmlp [hGmlpBwdIdeal : Cert.GmlpBwdIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal_finite_gmlp m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
      ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4)
      ∧ r.2.mem ((c.tc : Thread Cert.MlpBwd.nD Cert.MlpBwd.τ).loc Cert.MlpBwd.main_arg5) = m ((c.tc : Thread Cert.MlpBwd.nD Cert.MlpBwd.τ).loc Cert.MlpBwd.main_arg5))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpBwdIdeal_pre_finite_mlp [hMlpBwdIdeal : Cert.MlpBwdIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_finite_mlp m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
      ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InfwdRefIdeal [hInfwdRefIdeal : Cert.InfwdRefIdeal.Facts] : Prop :=
  ∀ (m : (ℓ : Loc Cert.InfwdRefIdeal.nD Cert.InfwdRefIdeal.τ Cert.InfwdRefIdeal.sig) → Buf (Elt Ideal) ℓ) (g : Dev Cert.InfwdRefIdeal.nD → PrngReg), Pre_InfwdRefIdeal m →
    θ_run (Cert.InfwdRefIdeal.defs (F := Ideal)) (onTc (τ := Cert.InfwdRefIdeal.τ) (Cert.InfwdRefIdeal.main (F := Ideal))) ⟨m, fun _ => 0, g⟩ (fun r => (∀ c : Dev Cert.InfwdRefIdeal.nD,
      r.2.mem ((c.tc : Thread Cert.InfwdRefIdeal.nD Cert.InfwdRefIdeal.τ).loc Cert.InfwdRefIdeal.main_arg0) = m ((c.tc : Thread Cert.InfwdRefIdeal.nD Cert.InfwdRefIdeal.τ).loc Cert.InfwdRefIdeal.main_arg0)
      ∧ r.2.mem ((c.tc : Thread Cert.InfwdRefIdeal.nD Cert.InfwdRefIdeal.τ).loc Cert.InfwdRefIdeal.main_arg1) = m ((c.tc : Thread Cert.InfwdRefIdeal.nD Cert.InfwdRefIdeal.τ).loc Cert.InfwdRefIdeal.main_arg1)
      ∧ r.2.mem ((c.tc : Thread Cert.InfwdRefIdeal.nD Cert.InfwdRefIdeal.τ).loc Cert.InfwdRefIdeal.main_arg2) = m ((c.tc : Thread Cert.InfwdRefIdeal.nD Cert.InfwdRefIdeal.τ).loc Cert.InfwdRefIdeal.main_arg2))
      ∧ r.2.sem = fun _ => 0)

def quiescent_LossTail [hLossTail : Cert.LossTail.Facts] : Prop :=
  ∀ (m : (ℓ : Loc Cert.LossTail.nD Cert.LossTail.τ Cert.LossTail.sig) → Buf (Elt Bits) ℓ) (g : Dev Cert.LossTail.nD → PrngReg), Pre_LossTail m →
    θ_run (Cert.LossTail.defs (F := Bits)) (onTc (τ := Cert.LossTail.τ) (Cert.LossTail.main (F := Bits))) ⟨m, fun _ => 0, g⟩ (fun r => (∀ c : Dev Cert.LossTail.nD,
      r.2.mem ((c.tc : Thread Cert.LossTail.nD Cert.LossTail.τ).loc Cert.LossTail.main_arg0) = m ((c.tc : Thread Cert.LossTail.nD Cert.LossTail.τ).loc Cert.LossTail.main_arg0)
      ∧ r.2.mem ((c.tc : Thread Cert.LossTail.nD Cert.LossTail.τ).loc Cert.LossTail.main_arg1) = m ((c.tc : Thread Cert.LossTail.nD Cert.LossTail.τ).loc Cert.LossTail.main_arg1)
      ∧ r.2.mem ((c.tc : Thread Cert.LossTail.nD Cert.LossTail.τ).loc Cert.LossTail.main_arg2) = m ((c.tc : Thread Cert.LossTail.nD Cert.LossTail.τ).loc Cert.LossTail.main_arg2)
      ∧ r.2.mem ((c.tc : Thread Cert.LossTail.nD Cert.LossTail.τ).loc Cert.LossTail.main_arg3) = m ((c.tc : Thread Cert.LossTail.nD Cert.LossTail.τ).loc Cert.LossTail.main_arg3)
      ∧ r.2.mem ((c.tc : Thread Cert.LossTail.nD Cert.LossTail.τ).loc Cert.LossTail.main_arg4) = m ((c.tc : Thread Cert.LossTail.nD Cert.LossTail.τ).loc Cert.LossTail.main_arg4)
      ∧ r.2.mem ((c.tc : Thread Cert.LossTail.nD Cert.LossTail.τ).loc Cert.LossTail.main_arg5) = m ((c.tc : Thread Cert.LossTail.nD Cert.LossTail.τ).loc Cert.LossTail.main_arg5))
      ∧ r.2.sem = fun _ => 0)

def quiescent_LossTailIdeal [hLossTailIdeal : Cert.LossTailIdeal.Facts] : Prop :=
  ∀ (m : (ℓ : Loc Cert.LossTailIdeal.nD Cert.LossTailIdeal.τ Cert.LossTailIdeal.sig) → Buf (Elt Ideal) ℓ) (g : Dev Cert.LossTailIdeal.nD → PrngReg), Pre_LossTailIdeal m →
    θ_run (Cert.LossTailIdeal.defs (F := Ideal)) (onTc (τ := Cert.LossTailIdeal.τ) (Cert.LossTailIdeal.main (F := Ideal))) ⟨m, fun _ => 0, g⟩ (fun r => (∀ c : Dev Cert.LossTailIdeal.nD,
      r.2.mem ((c.tc : Thread Cert.LossTailIdeal.nD Cert.LossTailIdeal.τ).loc Cert.LossTailIdeal.main_arg0) = m ((c.tc : Thread Cert.LossTailIdeal.nD Cert.LossTailIdeal.τ).loc Cert.LossTailIdeal.main_arg0)
      ∧ r.2.mem ((c.tc : Thread Cert.LossTailIdeal.nD Cert.LossTailIdeal.τ).loc Cert.LossTailIdeal.main_arg1) = m ((c.tc : Thread Cert.LossTailIdeal.nD Cert.LossTailIdeal.τ).loc Cert.LossTailIdeal.main_arg1)
      ∧ r.2.mem ((c.tc : Thread Cert.LossTailIdeal.nD Cert.LossTailIdeal.τ).loc Cert.LossTailIdeal.main_arg2) = m ((c.tc : Thread Cert.LossTailIdeal.nD Cert.LossTailIdeal.τ).loc Cert.LossTailIdeal.main_arg2)
      ∧ r.2.mem ((c.tc : Thread Cert.LossTailIdeal.nD Cert.LossTailIdeal.τ).loc Cert.LossTailIdeal.main_arg3) = m ((c.tc : Thread Cert.LossTailIdeal.nD Cert.LossTailIdeal.τ).loc Cert.LossTailIdeal.main_arg3)
      ∧ r.2.mem ((c.tc : Thread Cert.LossTailIdeal.nD Cert.LossTailIdeal.τ).loc Cert.LossTailIdeal.main_arg4) = m ((c.tc : Thread Cert.LossTailIdeal.nD Cert.LossTailIdeal.τ).loc Cert.LossTailIdeal.main_arg4)
      ∧ r.2.mem ((c.tc : Thread Cert.LossTailIdeal.nD Cert.LossTailIdeal.τ).loc Cert.LossTailIdeal.main_arg5) = m ((c.tc : Thread Cert.LossTailIdeal.nD Cert.LossTailIdeal.τ).loc Cert.LossTailIdeal.main_arg5))
      ∧ r.2.sem = fun _ => 0)

def quiescent_LossTailIdeal_pre_finite_tail [hLossTailIdeal : Cert.LossTailIdeal.Facts] [hPre_finite_tail : Cert.Pre_finite_tail.Facts] : Prop :=
  ∀ (m : (ℓ : Loc Cert.LossTailIdeal.nD Cert.LossTailIdeal.τ Cert.LossTailIdeal.sig) → Buf (Elt Ideal) ℓ) (g : Dev Cert.LossTailIdeal.nD → PrngReg), Pre_LossTailIdeal_finite_tail m →
    θ_run (Cert.LossTailIdeal.defs (F := Ideal)) (onTc (τ := Cert.LossTailIdeal.τ) (Cert.LossTailIdeal.main (F := Ideal))) ⟨m, fun _ => 0, g⟩ (fun r => (∀ c : Dev Cert.LossTailIdeal.nD,
      r.2.mem ((c.tc : Thread Cert.LossTailIdeal.nD Cert.LossTailIdeal.τ).loc Cert.LossTailIdeal.main_arg0) = m ((c.tc : Thread Cert.LossTailIdeal.nD Cert.LossTailIdeal.τ).loc Cert.LossTailIdeal.main_arg0)
      ∧ r.2.mem ((c.tc : Thread Cert.LossTailIdeal.nD Cert.LossTailIdeal.τ).loc Cert.LossTailIdeal.main_arg1) = m ((c.tc : Thread Cert.LossTailIdeal.nD Cert.LossTailIdeal.τ).loc Cert.LossTailIdeal.main_arg1)
      ∧ r.2.mem ((c.tc : Thread Cert.LossTailIdeal.nD Cert.LossTailIdeal.τ).loc Cert.LossTailIdeal.main_arg2) = m ((c.tc : Thread Cert.LossTailIdeal.nD Cert.LossTailIdeal.τ).loc Cert.LossTailIdeal.main_arg2)
      ∧ r.2.mem ((c.tc : Thread Cert.LossTailIdeal.nD Cert.LossTailIdeal.τ).loc Cert.LossTailIdeal.main_arg3) = m ((c.tc : Thread Cert.LossTailIdeal.nD Cert.LossTailIdeal.τ).loc Cert.LossTailIdeal.main_arg3)
      ∧ r.2.mem ((c.tc : Thread Cert.LossTailIdeal.nD Cert.LossTailIdeal.τ).loc Cert.LossTailIdeal.main_arg4) = m ((c.tc : Thread Cert.LossTailIdeal.nD Cert.LossTailIdeal.τ).loc Cert.LossTailIdeal.main_arg4)
      ∧ r.2.mem ((c.tc : Thread Cert.LossTailIdeal.nD Cert.LossTailIdeal.τ).loc Cert.LossTailIdeal.main_arg5) = m ((c.tc : Thread Cert.LossTailIdeal.nD Cert.LossTailIdeal.τ).loc Cert.LossTailIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_finite_tail [hLossRefIdeal : Cert.LossRefIdeal.Facts] [hPre_finite_tail : Cert.Pre_finite_tail.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_tail m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_AdamHalves [hAdamHalves : Cert.AdamHalves.Facts] : Prop :=
  ∀ (m : (ℓ : Loc Cert.AdamHalves.nD Cert.AdamHalves.τ Cert.AdamHalves.sig) → Buf (Elt Bits) ℓ) (g : Dev Cert.AdamHalves.nD → PrngReg), Pre_AdamHalves m →
    θ_run (Cert.AdamHalves.defs (F := Bits)) (onTc (τ := Cert.AdamHalves.τ) (Cert.AdamHalves.main (F := Bits))) ⟨m, fun _ => 0, g⟩ (fun r => (∀ c : Dev Cert.AdamHalves.nD,
      r.2.mem ((c.tc : Thread Cert.AdamHalves.nD Cert.AdamHalves.τ).loc Cert.AdamHalves.main_arg0) = m ((c.tc : Thread Cert.AdamHalves.nD Cert.AdamHalves.τ).loc Cert.AdamHalves.main_arg0)
      ∧ r.2.mem ((c.tc : Thread Cert.AdamHalves.nD Cert.AdamHalves.τ).loc Cert.AdamHalves.main_arg1) = m ((c.tc : Thread Cert.AdamHalves.nD Cert.AdamHalves.τ).loc Cert.AdamHalves.main_arg1)
      ∧ r.2.mem ((c.tc : Thread Cert.AdamHalves.nD Cert.AdamHalves.τ).loc Cert.AdamHalves.main_arg2) = m ((c.tc : Thread Cert.AdamHalves.nD Cert.AdamHalves.τ).loc Cert.AdamHalves.main_arg2)
      ∧ r.2.mem ((c.tc : Thread Cert.AdamHalves.nD Cert.AdamHalves.τ).loc Cert.AdamHalves.main_arg3) = m ((c.tc : Thread Cert.AdamHalves.nD Cert.AdamHalves.τ).loc Cert.AdamHalves.main_arg3)
      ∧ r.2.mem ((c.tc : Thread Cert.AdamHalves.nD Cert.AdamHalves.τ).loc Cert.AdamHalves.main_arg4) = m ((c.tc : Thread Cert.AdamHalves.nD Cert.AdamHalves.τ).loc Cert.AdamHalves.main_arg4)
      ∧ r.2.mem ((c.tc : Thread Cert.AdamHalves.nD Cert.AdamHalves.τ).loc Cert.AdamHalves.main_arg5) = m ((c.tc : Thread Cert.AdamHalves.nD Cert.AdamHalves.τ).loc Cert.AdamHalves.main_arg5)
      ∧ r.2.mem ((c.tc : Thread Cert.AdamHalves.nD Cert.AdamHalves.τ).loc Cert.AdamHalves.main_arg6) = m ((c.tc : Thread Cert.AdamHalves.nD Cert.AdamHalves.τ).loc Cert.AdamHalves.main_arg6)
      ∧ r.2.mem ((c.tc : Thread Cert.AdamHalves.nD Cert.AdamHalves.τ).loc Cert.AdamHalves.main_arg7) = m ((c.tc : Thread Cert.AdamHalves.nD Cert.AdamHalves.τ).loc Cert.AdamHalves.main_arg7))
      ∧ r.2.sem = fun _ => 0)

def quiescent_AdamHalvesIdeal [hAdamHalvesIdeal : Cert.AdamHalvesIdeal.Facts] : Prop :=
  ∀ (m : (ℓ : Loc Cert.AdamHalvesIdeal.nD Cert.AdamHalvesIdeal.τ Cert.AdamHalvesIdeal.sig) → Buf (Elt Ideal) ℓ) (g : Dev Cert.AdamHalvesIdeal.nD → PrngReg), Pre_AdamHalvesIdeal m →
    θ_run (Cert.AdamHalvesIdeal.defs (F := Ideal)) (onTc (τ := Cert.AdamHalvesIdeal.τ) (Cert.AdamHalvesIdeal.main (F := Ideal))) ⟨m, fun _ => 0, g⟩ (fun r => (∀ c : Dev Cert.AdamHalvesIdeal.nD,
      r.2.mem ((c.tc : Thread Cert.AdamHalvesIdeal.nD Cert.AdamHalvesIdeal.τ).loc Cert.AdamHalvesIdeal.main_arg0) = m ((c.tc : Thread Cert.AdamHalvesIdeal.nD Cert.AdamHalvesIdeal.τ).loc Cert.AdamHalvesIdeal.main_arg0)
      ∧ r.2.mem ((c.tc : Thread Cert.AdamHalvesIdeal.nD Cert.AdamHalvesIdeal.τ).loc Cert.AdamHalvesIdeal.main_arg1) = m ((c.tc : Thread Cert.AdamHalvesIdeal.nD Cert.AdamHalvesIdeal.τ).loc Cert.AdamHalvesIdeal.main_arg1)
      ∧ r.2.mem ((c.tc : Thread Cert.AdamHalvesIdeal.nD Cert.AdamHalvesIdeal.τ).loc Cert.AdamHalvesIdeal.main_arg2) = m ((c.tc : Thread Cert.AdamHalvesIdeal.nD Cert.AdamHalvesIdeal.τ).loc Cert.AdamHalvesIdeal.main_arg2)
      ∧ r.2.mem ((c.tc : Thread Cert.AdamHalvesIdeal.nD Cert.AdamHalvesIdeal.τ).loc Cert.AdamHalvesIdeal.main_arg3) = m ((c.tc : Thread Cert.AdamHalvesIdeal.nD Cert.AdamHalvesIdeal.τ).loc Cert.AdamHalvesIdeal.main_arg3)
      ∧ r.2.mem ((c.tc : Thread Cert.AdamHalvesIdeal.nD Cert.AdamHalvesIdeal.τ).loc Cert.AdamHalvesIdeal.main_arg4) = m ((c.tc : Thread Cert.AdamHalvesIdeal.nD Cert.AdamHalvesIdeal.τ).loc Cert.AdamHalvesIdeal.main_arg4)
      ∧ r.2.mem ((c.tc : Thread Cert.AdamHalvesIdeal.nD Cert.AdamHalvesIdeal.τ).loc Cert.AdamHalvesIdeal.main_arg5) = m ((c.tc : Thread Cert.AdamHalvesIdeal.nD Cert.AdamHalvesIdeal.τ).loc Cert.AdamHalvesIdeal.main_arg5)
      ∧ r.2.mem ((c.tc : Thread Cert.AdamHalvesIdeal.nD Cert.AdamHalvesIdeal.τ).loc Cert.AdamHalvesIdeal.main_arg6) = m ((c.tc : Thread Cert.AdamHalvesIdeal.nD Cert.AdamHalvesIdeal.τ).loc Cert.AdamHalvesIdeal.main_arg6)
      ∧ r.2.mem ((c.tc : Thread Cert.AdamHalvesIdeal.nD Cert.AdamHalvesIdeal.τ).loc Cert.AdamHalvesIdeal.main_arg7) = m ((c.tc : Thread Cert.AdamHalvesIdeal.nD Cert.AdamHalvesIdeal.τ).loc Cert.AdamHalvesIdeal.main_arg7))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def preserves_InprojBwd_InprojBwdIdeal : Prop :=
  True

def algebraic_InprojBwdIdeal_InprojRefIdeal_pre_finite_inproj [hInprojBwdIdeal : Cert.InprojBwdIdeal.Facts] [hInprojRefIdeal : Cert.InprojRefIdeal.Facts] [hPre_finite_inproj : Cert.Pre_finite_inproj.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojBwdIdeal_finite_inproj m →
    (∀ c : Dev Cert.InprojBwdIdeal.nD,
      m' ((c.tc : Thread Cert.InprojRefIdeal.nD Cert.InprojRefIdeal.τ).loc Cert.InprojRefIdeal.main_arg0) = m ((c.tc : Thread Cert.InprojBwdIdeal.nD Cert.InprojBwdIdeal.τ).loc Cert.InprojBwdIdeal.main_arg0)
      ∧ m' ((c.tc : Thread Cert.InprojRefIdeal.nD Cert.InprojRefIdeal.τ).loc Cert.InprojRefIdeal.main_arg1) = m ((c.tc : Thread Cert.InprojBwdIdeal.nD Cert.InprojBwdIdeal.τ).loc Cert.InprojBwdIdeal.main_arg1)
      ∧ m' ((c.tc : Thread Cert.InprojRefIdeal.nD Cert.InprojRefIdeal.τ).loc Cert.InprojRefIdeal.main_arg2) = m ((c.tc : Thread Cert.InprojBwdIdeal.nD Cert.InprojBwdIdeal.τ).loc Cert.InprojBwdIdeal.main_arg2)
      ∧ m' ((c.tc : Thread Cert.InprojRefIdeal.nD Cert.InprojRefIdeal.τ).loc Cert.InprojRefIdeal.main_arg3) = m ((c.tc : Thread Cert.InprojBwdIdeal.nD Cert.InprojBwdIdeal.τ).loc Cert.InprojBwdIdeal.main_arg3)
      ∧ m' ((c.tc : Thread Cert.InprojRefIdeal.nD Cert.InprojRefIdeal.τ).loc Cert.InprojRefIdeal.main_arg4) = m ((c.tc : Thread Cert.InprojBwdIdeal.nD Cert.InprojBwdIdeal.τ).loc Cert.InprojBwdIdeal.main_arg4)) →
    ∃ (v0 : (c : Dev Cert.InprojBwdIdeal.nD) → Buf (Elt Ideal) ((c.tc : Thread Cert.InprojBwdIdeal.nD Cert.InprojBwdIdeal.τ).loc Cert.InprojBwdIdeal.main_v52_0)) (v1 : (c : Dev Cert.InprojBwdIdeal.nD) → Buf (Elt Ideal) ((c.tc : Thread Cert.InprojBwdIdeal.nD Cert.InprojBwdIdeal.τ).loc Cert.InprojBwdIdeal.main_v52_1)) (v2 : (c : Dev Cert.InprojBwdIdeal.nD) → Buf (Elt Ideal) ((c.tc : Thread Cert.InprojBwdIdeal.nD Cert.InprojBwdIdeal.τ).loc Cert.InprojBwdIdeal.main_v52_2)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v52_0) = v0 c
          ∧ r.2.mem ((c.tc : Thread Cert.InprojBwdIdeal.nD Cert.InprojBwdIdeal.τ).loc Cert.InprojBwdIdeal.main_v52_1) = v1 c
          ∧ r.2.mem ((c.tc : Thread Cert.InprojBwdIdeal.nD Cert.InprojBwdIdeal.τ).loc Cert.InprojBwdIdeal.main_v52_2) = v2 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v58) = v1 c
          ∧ r.2.mem ((c.tc : Thread Cert.InprojRefIdeal.nD Cert.InprojRefIdeal.τ).loc Cert.InprojRefIdeal.main_v41) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_OutprojBwd_OutprojBwdIdeal : Prop :=
  True

def algebraic_OutprojBwdIdeal_OutprojRefIdeal_pre_finite_out [hOutprojBwdIdeal : Cert.OutprojBwdIdeal.Facts] [hOutprojRefIdeal : Cert.OutprojRefIdeal.Facts] [hPre_finite_out : Cert.Pre_finite_out.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojBwdIdeal_finite_out m →
    (∀ c : Dev Cert.OutprojBwdIdeal.nD,
      m' ((c.tc : Thread Cert.OutprojRefIdeal.nD Cert.OutprojRefIdeal.τ).loc Cert.OutprojRefIdeal.main_arg0) = m ((c.tc : Thread Cert.OutprojBwdIdeal.nD Cert.OutprojBwdIdeal.τ).loc Cert.OutprojBwdIdeal.main_arg0)
      ∧ m' ((c.tc : Thread Cert.OutprojRefIdeal.nD Cert.OutprojRefIdeal.τ).loc Cert.OutprojRefIdeal.main_arg1) = m ((c.tc : Thread Cert.OutprojBwdIdeal.nD Cert.OutprojBwdIdeal.τ).loc Cert.OutprojBwdIdeal.main_arg1)
      ∧ m' ((c.tc : Thread Cert.OutprojRefIdeal.nD Cert.OutprojRefIdeal.τ).loc Cert.OutprojRefIdeal.main_arg2) = m ((c.tc : Thread Cert.OutprojBwdIdeal.nD Cert.OutprojBwdIdeal.τ).loc Cert.OutprojBwdIdeal.main_arg2)
      ∧ m' ((c.tc : Thread Cert.OutprojRefIdeal.nD Cert.OutprojRefIdeal.τ).loc Cert.OutprojRefIdeal.main_arg3) = m ((c.tc : Thread Cert.OutprojBwdIdeal.nD Cert.OutprojBwdIdeal.τ).loc Cert.OutprojBwdIdeal.main_arg3)) →
    ∃ (v0 : (c : Dev Cert.OutprojBwdIdeal.nD) → Buf (Elt Ideal) ((c.tc : Thread Cert.OutprojBwdIdeal.nD Cert.OutprojBwdIdeal.τ).loc Cert.OutprojBwdIdeal.main_v6_0)) (v1 : (c : Dev Cert.OutprojBwdIdeal.nD) → Buf (Elt Ideal) ((c.tc : Thread Cert.OutprojBwdIdeal.nD Cert.OutprojBwdIdeal.τ).loc Cert.OutprojBwdIdeal.main_v6_1)) (v2 : (c : Dev Cert.OutprojBwdIdeal.nD) → Buf (Elt Ideal) ((c.tc : Thread Cert.OutprojBwdIdeal.nD Cert.OutprojBwdIdeal.τ).loc Cert.OutprojBwdIdeal.main_v6_2)) (v3 : (c : Dev Cert.OutprojBwdIdeal.nD) → Buf (Elt Ideal) ((c.tc : Thread Cert.OutprojBwdIdeal.nD Cert.OutprojBwdIdeal.τ).loc Cert.OutprojBwdIdeal.main_v6_3)),
      θ_run (Cert.OutprojBwdIdeal.defs (F := Ideal)) (onTc (τ := Cert.OutprojBwdIdeal.τ) (Cert.OutprojBwdIdeal.main (F := Ideal))) ⟨m, fun _ => 0, g⟩ (fun r => ∀ c : Dev Cert.OutprojBwdIdeal.nD,
          r.2.mem ((c.tc : Thread Cert.OutprojBwdIdeal.nD Cert.OutprojBwdIdeal.τ).loc Cert.OutprojBwdIdeal.main_v6_0) = v0 c
          ∧ r.2.mem ((c.tc : Thread Cert.OutprojBwdIdeal.nD Cert.OutprojBwdIdeal.τ).loc Cert.OutprojBwdIdeal.main_v6_1) = v1 c
          ∧ r.2.mem ((c.tc : Thread Cert.OutprojBwdIdeal.nD Cert.OutprojBwdIdeal.τ).loc Cert.OutprojBwdIdeal.main_v6_2) = v2 c
          ∧ r.2.mem ((c.tc : Thread Cert.OutprojBwdIdeal.nD Cert.OutprojBwdIdeal.τ).loc Cert.OutprojBwdIdeal.main_v6_3) = v3 c
          ∧ r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
          ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
          ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
          ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v44) = v0 c
          ∧ r.2.mem ((c.tc : Thread Cert.OutprojRefIdeal.nD Cert.OutprojRefIdeal.τ).loc Cert.OutprojRefIdeal.main_v45) = v1 c
          ∧ r.2.mem ((c.tc : Thread Cert.OutprojRefIdeal.nD Cert.OutprojRefIdeal.τ).loc Cert.OutprojRefIdeal.main_v46) = v2 c
          ∧ r.2.mem ((c.tc : Thread Cert.OutprojRefIdeal.nD Cert.OutprojRefIdeal.τ).loc Cert.OutprojRefIdeal.main_v39) = v3 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_GmlpBwd_GmlpBwdIdeal : Prop :=
  IdealRules.named_const.Statement Cert.GmlpBwdIdeal.κ "gelu_a" .f32 0x3D372713#32 ((8943 / 200000 : ℝ) : EReal)
  ∧ IdealRules.named_const.Statement Cert.GmlpBwdIdeal.κ "gelu_3a" .f32 0x3E095D4F#32 ((26829 / 200000 : ℝ) : EReal)

def algebraic_GmlpBwdIdeal_GmlpRefIdeal_pre_finite_gmlp [hGmlpBwdIdeal : Cert.GmlpBwdIdeal.Facts] [hGmlpRefIdeal : Cert.GmlpRefIdeal.Facts] [hPre_finite_gmlp : Cert.Pre_finite_gmlp.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpBwdIdeal_finite_gmlp m →
    (∀ c : Dev Cert.GmlpBwdIdeal.nD,
      m' ((c.tc : Thread Cert.GmlpRefIdeal.nD Cert.GmlpRefIdeal.τ).loc Cert.GmlpRefIdeal.main_arg0) = m ((c.tc : Thread Cert.GmlpBwdIdeal.nD Cert.GmlpBwdIdeal.τ).loc Cert.GmlpBwdIdeal.main_arg0)
      ∧ m' ((c.tc : Thread Cert.GmlpRefIdeal.nD Cert.GmlpRefIdeal.τ).loc Cert.GmlpRefIdeal.main_arg1) = m ((c.tc : Thread Cert.GmlpBwdIdeal.nD Cert.GmlpBwdIdeal.τ).loc Cert.GmlpBwdIdeal.main_arg1)
      ∧ m' ((c.tc : Thread Cert.GmlpRefIdeal.nD Cert.GmlpRefIdeal.τ).loc Cert.GmlpRefIdeal.main_arg2) = m ((c.tc : Thread Cert.GmlpBwdIdeal.nD Cert.GmlpBwdIdeal.τ).loc Cert.GmlpBwdIdeal.main_arg2)
      ∧ m' ((c.tc : Thread Cert.GmlpRefIdeal.nD Cert.GmlpRefIdeal.τ).loc Cert.GmlpRefIdeal.main_arg3) = m ((c.tc : Thread Cert.GmlpBwdIdeal.nD Cert.GmlpBwdIdeal.τ).loc Cert.GmlpBwdIdeal.main_arg3)
      ∧ m' ((c.tc : Thread Cert.GmlpRefIdeal.nD Cert.GmlpRefIdeal.τ).loc Cert.GmlpRefIdeal.main_arg4) = m ((c.tc : Thread Cert.GmlpBwdIdeal.nD Cert.GmlpBwdIdeal.τ).loc Cert.GmlpBwdIdeal.main_arg4)
      ∧ m' ((c.tc : Thread Cert.GmlpRefIdeal.nD Cert.GmlpRefIdeal.τ).loc Cert.GmlpRefIdeal.main_arg5) = m ((c.tc : Thread Cert.GmlpBwdIdeal.nD Cert.GmlpBwdIdeal.τ).loc Cert.GmlpBwdIdeal.main_arg5)) →
    ∃ (v0 : (c : Dev Cert.GmlpBwdIdeal.nD) → Buf (Elt Ideal) ((c.tc : Thread Cert.GmlpBwdIdeal.nD Cert.GmlpBwdIdeal.τ).loc Cert.GmlpBwdIdeal.main_v25_0)) (v1 : (c : Dev Cert.GmlpBwdIdeal.nD) → Buf (Elt Ideal) ((c.tc : Thread Cert.GmlpBwdIdeal.nD Cert.GmlpBwdIdeal.τ).loc Cert.GmlpBwdIdeal.main_v25_1)) (v2 : (c : Dev Cert.GmlpBwdIdeal.nD) → Buf (Elt Ideal) ((c.tc : Thread Cert.GmlpBwdIdeal.nD Cert.GmlpBwdIdeal.τ).loc Cert.GmlpBwdIdeal.main_v25_2)) (v3 : (c : Dev Cert.GmlpBwdIdeal.nD) → Buf (Elt Ideal) ((c.tc : Thread Cert.GmlpBwdIdeal.nD Cert.GmlpBwdIdeal.τ).loc Cert.GmlpBwdIdeal.main_v25_3)) (v4 : (c : Dev Cert.GmlpBwdIdeal.nD) → Buf (Elt Ideal) ((c.tc : Thread Cert.GmlpBwdIdeal.nD Cert.GmlpBwdIdeal.τ).loc Cert.GmlpBwdIdeal.main_v25_4)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v25_0) = v0 c
          ∧ r.2.mem ((c.tc : Thread Cert.GmlpBwdIdeal.nD Cert.GmlpBwdIdeal.τ).loc Cert.GmlpBwdIdeal.main_v25_1) = v1 c
          ∧ r.2.mem ((c.tc : Thread Cert.GmlpBwdIdeal.nD Cert.GmlpBwdIdeal.τ).loc Cert.GmlpBwdIdeal.main_v25_2) = v2 c
          ∧ r.2.mem ((c.tc : Thread Cert.GmlpBwdIdeal.nD Cert.GmlpBwdIdeal.τ).loc Cert.GmlpBwdIdeal.main_v25_3) = v3 c
          ∧ r.2.mem ((c.tc : Thread Cert.GmlpBwdIdeal.nD Cert.GmlpBwdIdeal.τ).loc Cert.GmlpBwdIdeal.main_v25_4) = v4 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4)
          ∧ r.2.mem ((c.tc : Thread Cert.GmlpBwdIdeal.nD Cert.GmlpBwdIdeal.τ).loc Cert.GmlpBwdIdeal.main_arg5) = m ((c.tc : Thread Cert.GmlpBwdIdeal.nD Cert.GmlpBwdIdeal.τ).loc Cert.GmlpBwdIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v176) = v0 c
          ∧ r.2.mem ((c.tc : Thread Cert.GmlpRefIdeal.nD Cert.GmlpRefIdeal.τ).loc Cert.GmlpRefIdeal.main_v177) = v1 c
          ∧ r.2.mem ((c.tc : Thread Cert.GmlpRefIdeal.nD Cert.GmlpRefIdeal.τ).loc Cert.GmlpRefIdeal.main_v180) = v2 c
          ∧ r.2.mem ((c.tc : Thread Cert.GmlpRefIdeal.nD Cert.GmlpRefIdeal.τ).loc Cert.GmlpRefIdeal.main_v181) = v3 c
          ∧ r.2.mem ((c.tc : Thread Cert.GmlpRefIdeal.nD Cert.GmlpRefIdeal.τ).loc Cert.GmlpRefIdeal.main_v182) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_MlpBwd_MlpBwdIdeal : Prop :=
  True

def algebraic_MlpBwdIdeal_MlpRefIdeal_pre_finite_mlp [hMlpBwdIdeal : Cert.MlpBwdIdeal.Facts] [hMlpRefIdeal : Cert.MlpRefIdeal.Facts] [hPre_finite_mlp : Cert.Pre_finite_mlp.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpBwdIdeal_finite_mlp m →
    (∀ c : Dev Cert.MlpBwdIdeal.nD,
      m' ((c.tc : Thread Cert.MlpRefIdeal.nD Cert.MlpRefIdeal.τ).loc Cert.MlpRefIdeal.main_arg0) = m ((c.tc : Thread Cert.MlpBwdIdeal.nD Cert.MlpBwdIdeal.τ).loc Cert.MlpBwdIdeal.main_arg0)
      ∧ m' ((c.tc : Thread Cert.MlpRefIdeal.nD Cert.MlpRefIdeal.τ).loc Cert.MlpRefIdeal.main_arg1) = m ((c.tc : Thread Cert.MlpBwdIdeal.nD Cert.MlpBwdIdeal.τ).loc Cert.MlpBwdIdeal.main_arg1)
      ∧ m' ((c.tc : Thread Cert.MlpRefIdeal.nD Cert.MlpRefIdeal.τ).loc Cert.MlpRefIdeal.main_arg2) = m ((c.tc : Thread Cert.MlpBwdIdeal.nD Cert.MlpBwdIdeal.τ).loc Cert.MlpBwdIdeal.main_arg2)
      ∧ m' ((c.tc : Thread Cert.MlpRefIdeal.nD Cert.MlpRefIdeal.τ).loc Cert.MlpRefIdeal.main_arg3) = m ((c.tc : Thread Cert.MlpBwdIdeal.nD Cert.MlpBwdIdeal.τ).loc Cert.MlpBwdIdeal.main_arg3)
      ∧ m' ((c.tc : Thread Cert.MlpRefIdeal.nD Cert.MlpRefIdeal.τ).loc Cert.MlpRefIdeal.main_arg4) = m ((c.tc : Thread Cert.MlpBwdIdeal.nD Cert.MlpBwdIdeal.τ).loc Cert.MlpBwdIdeal.main_arg4)
      ∧ m' ((c.tc : Thread Cert.MlpRefIdeal.nD Cert.MlpRefIdeal.τ).loc Cert.MlpRefIdeal.main_arg5) = m ((c.tc : Thread Cert.MlpBwdIdeal.nD Cert.MlpBwdIdeal.τ).loc Cert.MlpBwdIdeal.main_arg5)) →
    ∃ (v0 : (c : Dev Cert.MlpBwdIdeal.nD) → Buf (Elt Ideal) ((c.tc : Thread Cert.MlpBwdIdeal.nD Cert.MlpBwdIdeal.τ).loc Cert.MlpBwdIdeal.main_v43_0)) (v1 : (c : Dev Cert.MlpBwdIdeal.nD) → Buf (Elt Ideal) ((c.tc : Thread Cert.MlpBwdIdeal.nD Cert.MlpBwdIdeal.τ).loc Cert.MlpBwdIdeal.main_v43_1)) (v2 : (c : Dev Cert.MlpBwdIdeal.nD) → Buf (Elt Ideal) ((c.tc : Thread Cert.MlpBwdIdeal.nD Cert.MlpBwdIdeal.τ).loc Cert.MlpBwdIdeal.main_v43_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v43_0) = v0 c
          ∧ r.2.mem ((c.tc : Thread Cert.MlpBwdIdeal.nD Cert.MlpBwdIdeal.τ).loc Cert.MlpBwdIdeal.main_v43_1) = v1 c
          ∧ r.2.mem ((c.tc : Thread Cert.MlpBwdIdeal.nD Cert.MlpBwdIdeal.τ).loc Cert.MlpBwdIdeal.main_v43_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4)
          ∧ r.2.mem ((c.tc : Thread Cert.MlpBwdIdeal.nD Cert.MlpBwdIdeal.τ).loc Cert.MlpBwdIdeal.main_arg5) = m ((c.tc : Thread Cert.MlpBwdIdeal.nD Cert.MlpBwdIdeal.τ).loc Cert.MlpBwdIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_v57) = v1 c
          ∧ r.2.mem ((c.tc : Thread Cert.MlpRefIdeal.nD Cert.MlpRefIdeal.τ).loc Cert.MlpRefIdeal.main_v54) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_InprojFwd_InprojFwdIdeal : Prop :=
  True

def algebraic_InprojFwdIdeal_InfwdRefIdeal [hInprojFwdIdeal : Cert.InprojFwdIdeal.Facts] [hInfwdRefIdeal : Cert.InfwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InfwdRefIdeal.nD Cert.InfwdRefIdeal.τ Cert.InfwdRefIdeal.sig) → Buf (Elt Ideal) ℓ) (g' : Dev Cert.InfwdRefIdeal.nD → PrngReg), Pre_InprojFwdIdeal m →
    (∀ c : Dev Cert.InprojFwdIdeal.nD,
      m' ((c.tc : Thread Cert.InfwdRefIdeal.nD Cert.InfwdRefIdeal.τ).loc Cert.InfwdRefIdeal.main_arg0) = m ((c.tc : Thread Cert.InprojFwdIdeal.nD Cert.InprojFwdIdeal.τ).loc Cert.InprojFwdIdeal.main_arg0)
      ∧ m' ((c.tc : Thread Cert.InfwdRefIdeal.nD Cert.InfwdRefIdeal.τ).loc Cert.InfwdRefIdeal.main_arg1) = m ((c.tc : Thread Cert.InprojFwdIdeal.nD Cert.InprojFwdIdeal.τ).loc Cert.InprojFwdIdeal.main_arg1)
      ∧ m' ((c.tc : Thread Cert.InfwdRefIdeal.nD Cert.InfwdRefIdeal.τ).loc Cert.InfwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v42_0)) (v1 : (c : Dev Cert.InprojFwdIdeal.nD) → Buf (Elt Ideal) ((c.tc : Thread Cert.InprojFwdIdeal.nD Cert.InprojFwdIdeal.τ).loc Cert.InprojFwdIdeal.main_v42_1)) (v2 : (c : Dev Cert.InprojFwdIdeal.nD) → Buf (Elt Ideal) ((c.tc : Thread Cert.InprojFwdIdeal.nD Cert.InprojFwdIdeal.τ).loc Cert.InprojFwdIdeal.main_v42_2)) (v3 : (c : Dev Cert.InprojFwdIdeal.nD) → Buf (Elt Ideal) ((c.tc : Thread Cert.InprojFwdIdeal.nD Cert.InprojFwdIdeal.τ).loc Cert.InprojFwdIdeal.main_v42_3)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v42_0) = v0 c
          ∧ r.2.mem ((c.tc : Thread Cert.InprojFwdIdeal.nD Cert.InprojFwdIdeal.τ).loc Cert.InprojFwdIdeal.main_v42_1) = v1 c
          ∧ r.2.mem ((c.tc : Thread Cert.InprojFwdIdeal.nD Cert.InprojFwdIdeal.τ).loc Cert.InprojFwdIdeal.main_v42_2) = v2 c
          ∧ r.2.mem ((c.tc : Thread Cert.InprojFwdIdeal.nD Cert.InprojFwdIdeal.τ).loc Cert.InprojFwdIdeal.main_v42_3) = v3 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InfwdRefIdeal.defs (F := Ideal)) (onTc (τ := Cert.InfwdRefIdeal.τ) (Cert.InfwdRefIdeal.main (F := Ideal))) ⟨m', fun _ => 0, g'⟩ (fun r => ∀ c : Dev Cert.InfwdRefIdeal.nD,
          r.2.mem ((c.tc : Thread Cert.InfwdRefIdeal.nD Cert.InfwdRefIdeal.τ).loc Cert.InfwdRefIdeal.main_v17) = v0 c
          ∧ r.2.mem ((c.tc : Thread Cert.InfwdRefIdeal.nD Cert.InfwdRefIdeal.τ).loc Cert.InfwdRefIdeal.main_v19) = v1 c
          ∧ r.2.mem ((c.tc : Thread Cert.InfwdRefIdeal.nD Cert.InfwdRefIdeal.τ).loc Cert.InfwdRefIdeal.main_v18) = v2 c
          ∧ r.2.mem ((c.tc : Thread Cert.InfwdRefIdeal.nD Cert.InfwdRefIdeal.τ).loc Cert.InfwdRefIdeal.main_v21) = v3 c
          ∧ r.2.mem ((c.tc : Thread Cert.InfwdRefIdeal.nD Cert.InfwdRefIdeal.τ).loc Cert.InfwdRefIdeal.main_arg0) = m' ((c.tc : Thread Cert.InfwdRefIdeal.nD Cert.InfwdRefIdeal.τ).loc Cert.InfwdRefIdeal.main_arg0)
          ∧ r.2.mem ((c.tc : Thread Cert.InfwdRefIdeal.nD Cert.InfwdRefIdeal.τ).loc Cert.InfwdRefIdeal.main_arg1) = m' ((c.tc : Thread Cert.InfwdRefIdeal.nD Cert.InfwdRefIdeal.τ).loc Cert.InfwdRefIdeal.main_arg1)
          ∧ r.2.mem ((c.tc : Thread Cert.InfwdRefIdeal.nD Cert.InfwdRefIdeal.τ).loc Cert.InfwdRefIdeal.main_arg2) = m' ((c.tc : Thread Cert.InfwdRefIdeal.nD Cert.InfwdRefIdeal.τ).loc Cert.InfwdRefIdeal.main_arg2))

def preserves_LossTail_LossTailIdeal : Prop :=
  True

def algebraic_LossTailIdeal_LossRefIdeal_pre_finite_tail [hLossTailIdeal : Cert.LossTailIdeal.Facts] [hLossRefIdeal : Cert.LossRefIdeal.Facts] [hPre_finite_tail : Cert.Pre_finite_tail.Facts] : Prop :=
  ∀ (m : (ℓ : Loc Cert.LossTailIdeal.nD Cert.LossTailIdeal.τ Cert.LossTailIdeal.sig) → Buf (Elt Ideal) ℓ) (g : Dev Cert.LossTailIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossTailIdeal_finite_tail m →
    (∀ c : Dev Cert.LossTailIdeal.nD,
      m' ((c.tc : Thread Cert.LossRefIdeal.nD Cert.LossRefIdeal.τ).loc Cert.LossRefIdeal.main_arg0) = m ((c.tc : Thread Cert.LossTailIdeal.nD Cert.LossTailIdeal.τ).loc Cert.LossTailIdeal.main_arg0)
      ∧ m' ((c.tc : Thread Cert.LossRefIdeal.nD Cert.LossRefIdeal.τ).loc Cert.LossRefIdeal.main_arg1) = m ((c.tc : Thread Cert.LossTailIdeal.nD Cert.LossTailIdeal.τ).loc Cert.LossTailIdeal.main_arg1)
      ∧ m' ((c.tc : Thread Cert.LossRefIdeal.nD Cert.LossRefIdeal.τ).loc Cert.LossRefIdeal.main_arg2) = m ((c.tc : Thread Cert.LossTailIdeal.nD Cert.LossTailIdeal.τ).loc Cert.LossTailIdeal.main_arg2)
      ∧ m' ((c.tc : Thread Cert.LossRefIdeal.nD Cert.LossRefIdeal.τ).loc Cert.LossRefIdeal.main_arg3) = m ((c.tc : Thread Cert.LossTailIdeal.nD Cert.LossTailIdeal.τ).loc Cert.LossTailIdeal.main_arg3)
      ∧ m' ((c.tc : Thread Cert.LossRefIdeal.nD Cert.LossRefIdeal.τ).loc Cert.LossRefIdeal.main_arg4) = m ((c.tc : Thread Cert.LossTailIdeal.nD Cert.LossTailIdeal.τ).loc Cert.LossTailIdeal.main_arg4)
      ∧ m' ((c.tc : Thread Cert.LossRefIdeal.nD Cert.LossRefIdeal.τ).loc Cert.LossRefIdeal.main_arg5) = m ((c.tc : Thread Cert.LossTailIdeal.nD Cert.LossTailIdeal.τ).loc Cert.LossTailIdeal.main_arg5)) →
    ∃ (v0 : (c : Dev Cert.LossTailIdeal.nD) → Buf (Elt Ideal) ((c.tc : Thread Cert.LossTailIdeal.nD Cert.LossTailIdeal.τ).loc Cert.LossTailIdeal.main_v37_0)) (v1 : (c : Dev Cert.LossTailIdeal.nD) → Buf (Elt Ideal) ((c.tc : Thread Cert.LossTailIdeal.nD Cert.LossTailIdeal.τ).loc Cert.LossTailIdeal.main_v37_1)) (v2 : (c : Dev Cert.LossTailIdeal.nD) → Buf (Elt Ideal) ((c.tc : Thread Cert.LossTailIdeal.nD Cert.LossTailIdeal.τ).loc Cert.LossTailIdeal.main_v37_2)) (v3 : (c : Dev Cert.LossTailIdeal.nD) → Buf (Elt Ideal) ((c.tc : Thread Cert.LossTailIdeal.nD Cert.LossTailIdeal.τ).loc Cert.LossTailIdeal.main_v37_3)) (v4 : (c : Dev Cert.LossTailIdeal.nD) → Buf (Elt Ideal) ((c.tc : Thread Cert.LossTailIdeal.nD Cert.LossTailIdeal.τ).loc Cert.LossTailIdeal.main_v37_4)),
      θ_run (Cert.LossTailIdeal.defs (F := Ideal)) (onTc (τ := Cert.LossTailIdeal.τ) (Cert.LossTailIdeal.main (F := Ideal))) ⟨m, fun _ => 0, g⟩ (fun r => ∀ c : Dev Cert.LossTailIdeal.nD,
          r.2.mem ((c.tc : Thread Cert.LossTailIdeal.nD Cert.LossTailIdeal.τ).loc Cert.LossTailIdeal.main_v37_0) = v0 c
          ∧ r.2.mem ((c.tc : Thread Cert.LossTailIdeal.nD Cert.LossTailIdeal.τ).loc Cert.LossTailIdeal.main_v37_1) = v1 c
          ∧ r.2.mem ((c.tc : Thread Cert.LossTailIdeal.nD Cert.LossTailIdeal.τ).loc Cert.LossTailIdeal.main_v37_2) = v2 c
          ∧ r.2.mem ((c.tc : Thread Cert.LossTailIdeal.nD Cert.LossTailIdeal.τ).loc Cert.LossTailIdeal.main_v37_3) = v3 c
          ∧ r.2.mem ((c.tc : Thread Cert.LossTailIdeal.nD Cert.LossTailIdeal.τ).loc Cert.LossTailIdeal.main_v37_4) = v4 c
          ∧ r.2.mem ((c.tc : Thread Cert.LossTailIdeal.nD Cert.LossTailIdeal.τ).loc Cert.LossTailIdeal.main_arg0) = m ((c.tc : Thread Cert.LossTailIdeal.nD Cert.LossTailIdeal.τ).loc Cert.LossTailIdeal.main_arg0)
          ∧ r.2.mem ((c.tc : Thread Cert.LossTailIdeal.nD Cert.LossTailIdeal.τ).loc Cert.LossTailIdeal.main_arg1) = m ((c.tc : Thread Cert.LossTailIdeal.nD Cert.LossTailIdeal.τ).loc Cert.LossTailIdeal.main_arg1)
          ∧ r.2.mem ((c.tc : Thread Cert.LossTailIdeal.nD Cert.LossTailIdeal.τ).loc Cert.LossTailIdeal.main_arg2) = m ((c.tc : Thread Cert.LossTailIdeal.nD Cert.LossTailIdeal.τ).loc Cert.LossTailIdeal.main_arg2)
          ∧ r.2.mem ((c.tc : Thread Cert.LossTailIdeal.nD Cert.LossTailIdeal.τ).loc Cert.LossTailIdeal.main_arg3) = m ((c.tc : Thread Cert.LossTailIdeal.nD Cert.LossTailIdeal.τ).loc Cert.LossTailIdeal.main_arg3)
          ∧ r.2.mem ((c.tc : Thread Cert.LossTailIdeal.nD Cert.LossTailIdeal.τ).loc Cert.LossTailIdeal.main_arg4) = m ((c.tc : Thread Cert.LossTailIdeal.nD Cert.LossTailIdeal.τ).loc Cert.LossTailIdeal.main_arg4)
          ∧ r.2.mem ((c.tc : Thread Cert.LossTailIdeal.nD Cert.LossTailIdeal.τ).loc Cert.LossTailIdeal.main_arg5) = m ((c.tc : Thread Cert.LossTailIdeal.nD Cert.LossTailIdeal.τ).loc Cert.LossTailIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v75) = v0 c
          ∧ r.2.mem ((c.tc : Thread Cert.LossRefIdeal.nD Cert.LossRefIdeal.τ).loc Cert.LossRefIdeal.main_v77) = v1 c
          ∧ r.2.mem ((c.tc : Thread Cert.LossRefIdeal.nD Cert.LossRefIdeal.τ).loc Cert.LossRefIdeal.main_v78) = v2 c
          ∧ r.2.mem ((c.tc : Thread Cert.LossRefIdeal.nD Cert.LossRefIdeal.τ).loc Cert.LossRefIdeal.main_v79) = v3 c
          ∧ r.2.mem ((c.tc : Thread Cert.LossRefIdeal.nD Cert.LossRefIdeal.τ).loc Cert.LossRefIdeal.main_v73) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v4)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v4) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v13) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_AdamHalves_AdamHalvesIdeal : Prop :=
  True

def algebraic_AdamHalvesIdeal_AdamRefIdeal [hAdamHalvesIdeal : Cert.AdamHalvesIdeal.Facts] [hAdamRefIdeal : Cert.AdamRefIdeal.Facts] : Prop :=
  ∀ (m : (ℓ : Loc Cert.AdamHalvesIdeal.nD Cert.AdamHalvesIdeal.τ Cert.AdamHalvesIdeal.sig) → Buf (Elt Ideal) ℓ) (g : Dev Cert.AdamHalvesIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamHalvesIdeal m →
    (∀ c : Dev Cert.AdamHalvesIdeal.nD,
      m' ((c.tc : Thread Cert.AdamRefIdeal.nD Cert.AdamRefIdeal.τ).loc Cert.AdamRefIdeal.main_arg0) = m ((c.tc : Thread Cert.AdamHalvesIdeal.nD Cert.AdamHalvesIdeal.τ).loc Cert.AdamHalvesIdeal.main_arg0)
      ∧ m' ((c.tc : Thread Cert.AdamRefIdeal.nD Cert.AdamRefIdeal.τ).loc Cert.AdamRefIdeal.main_arg1) = m ((c.tc : Thread Cert.AdamHalvesIdeal.nD Cert.AdamHalvesIdeal.τ).loc Cert.AdamHalvesIdeal.main_arg1)
      ∧ m' ((c.tc : Thread Cert.AdamRefIdeal.nD Cert.AdamRefIdeal.τ).loc Cert.AdamRefIdeal.main_arg2) = m ((c.tc : Thread Cert.AdamHalvesIdeal.nD Cert.AdamHalvesIdeal.τ).loc Cert.AdamHalvesIdeal.main_arg2)
      ∧ m' ((c.tc : Thread Cert.AdamRefIdeal.nD Cert.AdamRefIdeal.τ).loc Cert.AdamRefIdeal.main_arg3) = m ((c.tc : Thread Cert.AdamHalvesIdeal.nD Cert.AdamHalvesIdeal.τ).loc Cert.AdamHalvesIdeal.main_arg3)
      ∧ m' ((c.tc : Thread Cert.AdamRefIdeal.nD Cert.AdamRefIdeal.τ).loc Cert.AdamRefIdeal.main_arg4) = m ((c.tc : Thread Cert.AdamHalvesIdeal.nD Cert.AdamHalvesIdeal.τ).loc Cert.AdamHalvesIdeal.main_arg4)
      ∧ m' ((c.tc : Thread Cert.AdamRefIdeal.nD Cert.AdamRefIdeal.τ).loc Cert.AdamRefIdeal.main_arg5) = m ((c.tc : Thread Cert.AdamHalvesIdeal.nD Cert.AdamHalvesIdeal.τ).loc Cert.AdamHalvesIdeal.main_arg5)
      ∧ m' ((c.tc : Thread Cert.AdamRefIdeal.nD Cert.AdamRefIdeal.τ).loc Cert.AdamRefIdeal.main_arg6) = m ((c.tc : Thread Cert.AdamHalvesIdeal.nD Cert.AdamHalvesIdeal.τ).loc Cert.AdamHalvesIdeal.main_arg6)
      ∧ m' ((c.tc : Thread Cert.AdamRefIdeal.nD Cert.AdamRefIdeal.τ).loc Cert.AdamRefIdeal.main_arg7) = m ((c.tc : Thread Cert.AdamHalvesIdeal.nD Cert.AdamHalvesIdeal.τ).loc Cert.AdamHalvesIdeal.main_arg7)) →
    ∃ (v0 : (c : Dev Cert.AdamHalvesIdeal.nD) → Buf (Elt Ideal) ((c.tc : Thread Cert.AdamHalvesIdeal.nD Cert.AdamHalvesIdeal.τ).loc Cert.AdamHalvesIdeal.main_v14_0)) (v1 : (c : Dev Cert.AdamHalvesIdeal.nD) → Buf (Elt Ideal) ((c.tc : Thread Cert.AdamHalvesIdeal.nD Cert.AdamHalvesIdeal.τ).loc Cert.AdamHalvesIdeal.main_v14_1)) (v2 : (c : Dev Cert.AdamHalvesIdeal.nD) → Buf (Elt Ideal) ((c.tc : Thread Cert.AdamHalvesIdeal.nD Cert.AdamHalvesIdeal.τ).loc Cert.AdamHalvesIdeal.main_v14_2)) (v3 : (c : Dev Cert.AdamHalvesIdeal.nD) → Buf (Elt Ideal) ((c.tc : Thread Cert.AdamHalvesIdeal.nD Cert.AdamHalvesIdeal.τ).loc Cert.AdamHalvesIdeal.main_v14_3)) (v4 : (c : Dev Cert.AdamHalvesIdeal.nD) → Buf (Elt Ideal) ((c.tc : Thread Cert.AdamHalvesIdeal.nD Cert.AdamHalvesIdeal.τ).loc Cert.AdamHalvesIdeal.main_v14_4)) (v5 : (c : Dev Cert.AdamHalvesIdeal.nD) → Buf (Elt Ideal) ((c.tc : Thread Cert.AdamHalvesIdeal.nD Cert.AdamHalvesIdeal.τ).loc Cert.AdamHalvesIdeal.main_v14_5)) (v6 : (c : Dev Cert.AdamHalvesIdeal.nD) → Buf (Elt Ideal) ((c.tc : Thread Cert.AdamHalvesIdeal.nD Cert.AdamHalvesIdeal.τ).loc Cert.AdamHalvesIdeal.main_v14_6)) (v7 : (c : Dev Cert.AdamHalvesIdeal.nD) → Buf (Elt Ideal) ((c.tc : Thread Cert.AdamHalvesIdeal.nD Cert.AdamHalvesIdeal.τ).loc Cert.AdamHalvesIdeal.main_v14_7)),
      θ_run (Cert.AdamHalvesIdeal.defs (F := Ideal)) (onTc (τ := Cert.AdamHalvesIdeal.τ) (Cert.AdamHalvesIdeal.main (F := Ideal))) ⟨m, fun _ => 0, g⟩ (fun r => ∀ c : Dev Cert.AdamHalvesIdeal.nD,
          r.2.mem ((c.tc : Thread Cert.AdamHalvesIdeal.nD Cert.AdamHalvesIdeal.τ).loc Cert.AdamHalvesIdeal.main_v14_0) = v0 c
          ∧ r.2.mem ((c.tc : Thread Cert.AdamHalvesIdeal.nD Cert.AdamHalvesIdeal.τ).loc Cert.AdamHalvesIdeal.main_v14_1) = v1 c
          ∧ r.2.mem ((c.tc : Thread Cert.AdamHalvesIdeal.nD Cert.AdamHalvesIdeal.τ).loc Cert.AdamHalvesIdeal.main_v14_2) = v2 c
          ∧ r.2.mem ((c.tc : Thread Cert.AdamHalvesIdeal.nD Cert.AdamHalvesIdeal.τ).loc Cert.AdamHalvesIdeal.main_v14_3) = v3 c
          ∧ r.2.mem ((c.tc : Thread Cert.AdamHalvesIdeal.nD Cert.AdamHalvesIdeal.τ).loc Cert.AdamHalvesIdeal.main_v14_4) = v4 c
          ∧ r.2.mem ((c.tc : Thread Cert.AdamHalvesIdeal.nD Cert.AdamHalvesIdeal.τ).loc Cert.AdamHalvesIdeal.main_v14_5) = v5 c
          ∧ r.2.mem ((c.tc : Thread Cert.AdamHalvesIdeal.nD Cert.AdamHalvesIdeal.τ).loc Cert.AdamHalvesIdeal.main_v14_6) = v6 c
          ∧ r.2.mem ((c.tc : Thread Cert.AdamHalvesIdeal.nD Cert.AdamHalvesIdeal.τ).loc Cert.AdamHalvesIdeal.main_v14_7) = v7 c
          ∧ r.2.mem ((c.tc : Thread Cert.AdamHalvesIdeal.nD Cert.AdamHalvesIdeal.τ).loc Cert.AdamHalvesIdeal.main_arg0) = m ((c.tc : Thread Cert.AdamHalvesIdeal.nD Cert.AdamHalvesIdeal.τ).loc Cert.AdamHalvesIdeal.main_arg0)
          ∧ r.2.mem ((c.tc : Thread Cert.AdamHalvesIdeal.nD Cert.AdamHalvesIdeal.τ).loc Cert.AdamHalvesIdeal.main_arg1) = m ((c.tc : Thread Cert.AdamHalvesIdeal.nD Cert.AdamHalvesIdeal.τ).loc Cert.AdamHalvesIdeal.main_arg1)
          ∧ r.2.mem ((c.tc : Thread Cert.AdamHalvesIdeal.nD Cert.AdamHalvesIdeal.τ).loc Cert.AdamHalvesIdeal.main_arg2) = m ((c.tc : Thread Cert.AdamHalvesIdeal.nD Cert.AdamHalvesIdeal.τ).loc Cert.AdamHalvesIdeal.main_arg2)
          ∧ r.2.mem ((c.tc : Thread Cert.AdamHalvesIdeal.nD Cert.AdamHalvesIdeal.τ).loc Cert.AdamHalvesIdeal.main_arg3) = m ((c.tc : Thread Cert.AdamHalvesIdeal.nD Cert.AdamHalvesIdeal.τ).loc Cert.AdamHalvesIdeal.main_arg3)
          ∧ r.2.mem ((c.tc : Thread Cert.AdamHalvesIdeal.nD Cert.AdamHalvesIdeal.τ).loc Cert.AdamHalvesIdeal.main_arg4) = m ((c.tc : Thread Cert.AdamHalvesIdeal.nD Cert.AdamHalvesIdeal.τ).loc Cert.AdamHalvesIdeal.main_arg4)
          ∧ r.2.mem ((c.tc : Thread Cert.AdamHalvesIdeal.nD Cert.AdamHalvesIdeal.τ).loc Cert.AdamHalvesIdeal.main_arg5) = m ((c.tc : Thread Cert.AdamHalvesIdeal.nD Cert.AdamHalvesIdeal.τ).loc Cert.AdamHalvesIdeal.main_arg5)
          ∧ r.2.mem ((c.tc : Thread Cert.AdamHalvesIdeal.nD Cert.AdamHalvesIdeal.τ).loc Cert.AdamHalvesIdeal.main_arg6) = m ((c.tc : Thread Cert.AdamHalvesIdeal.nD Cert.AdamHalvesIdeal.τ).loc Cert.AdamHalvesIdeal.main_arg6)
          ∧ r.2.mem ((c.tc : Thread Cert.AdamHalvesIdeal.nD Cert.AdamHalvesIdeal.τ).loc Cert.AdamHalvesIdeal.main_arg7) = m ((c.tc : Thread Cert.AdamHalvesIdeal.nD Cert.AdamHalvesIdeal.τ).loc Cert.AdamHalvesIdeal.main_arg7))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v28) = v1 c
          ∧ r.2.mem ((c.tc : Thread Cert.AdamRefIdeal.nD Cert.AdamRefIdeal.τ).loc Cert.AdamRefIdeal.main_v9) = v2 c
          ∧ r.2.mem ((c.tc : Thread Cert.AdamRefIdeal.nD Cert.AdamRefIdeal.τ).loc Cert.AdamRefIdeal.main_v15) = v3 c
          ∧ r.2.mem ((c.tc : Thread Cert.AdamRefIdeal.nD Cert.AdamRefIdeal.τ).loc Cert.AdamRefIdeal.main_v29) = v4 c
          ∧ r.2.mem ((c.tc : Thread Cert.AdamRefIdeal.nD Cert.AdamRefIdeal.τ).loc Cert.AdamRefIdeal.main_v57) = v5 c
          ∧ r.2.mem ((c.tc : Thread Cert.AdamRefIdeal.nD Cert.AdamRefIdeal.τ).loc Cert.AdamRefIdeal.main_v38) = v6 c
          ∧ r.2.mem ((c.tc : Thread Cert.AdamRefIdeal.nD Cert.AdamRefIdeal.τ).loc Cert.AdamRefIdeal.main_v44) = v7 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def Claim : Prop :=
  ∃ (hInprojBwd : Cert.InprojBwd.Facts) (hInprojBwdIdeal : Cert.InprojBwdIdeal.Facts) (hInprojRefIdeal : Cert.InprojRefIdeal.Facts) (hOutprojBwd : Cert.OutprojBwd.Facts) (hOutprojBwdIdeal : Cert.OutprojBwdIdeal.Facts) (hOutprojRefIdeal : Cert.OutprojRefIdeal.Facts) (hGmlpBwd : Cert.GmlpBwd.Facts) (hGmlpBwdIdeal : Cert.GmlpBwdIdeal.Facts) (hGmlpRefIdeal : Cert.GmlpRefIdeal.Facts) (hMlpBwd : Cert.MlpBwd.Facts) (hMlpBwdIdeal : Cert.MlpBwdIdeal.Facts) (hMlpRefIdeal : Cert.MlpRefIdeal.Facts) (hInprojFwd : Cert.InprojFwd.Facts) (hInprojFwdIdeal : Cert.InprojFwdIdeal.Facts) (hInfwdRefIdeal : Cert.InfwdRefIdeal.Facts) (hLossTail : Cert.LossTail.Facts) (hLossTailIdeal : Cert.LossTailIdeal.Facts) (hLossRefIdeal : Cert.LossRefIdeal.Facts) (hDwUp : Cert.DwUp.Facts) (hDwUpIdeal : Cert.DwUpIdeal.Facts) (hDwUpRefIdeal : Cert.DwUpRefIdeal.Facts) (hAdamHalves : Cert.AdamHalves.Facts) (hAdamHalvesIdeal : Cert.AdamHalvesIdeal.Facts) (hAdamRefIdeal : Cert.AdamRefIdeal.Facts) (hChipSum : Cert.ChipSum.Facts) (hChipSumIdeal : Cert.ChipSumIdeal.Facts) (hChipSumRefIdeal : Cert.ChipSumRefIdeal.Facts) (hPre_finite_inproj : Cert.Pre_finite_inproj.Facts) (hPre_finite_out : Cert.Pre_finite_out.Facts) (hPre_finite_gmlp : Cert.Pre_finite_gmlp.Facts) (hPre_finite_mlp : Cert.Pre_finite_mlp.Facts) (hPre_finite_tail : Cert.Pre_finite_tail.Facts),
    quiescent_InprojBwd (hInprojBwd := hInprojBwd)
    ∧ quiescent_InprojBwdIdeal (hInprojBwdIdeal := hInprojBwdIdeal)
    ∧ quiescent_InprojBwdIdeal_pre_finite_inproj (hInprojBwdIdeal := hInprojBwdIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ quiescent_OutprojBwd (hOutprojBwd := hOutprojBwd)
    ∧ quiescent_OutprojBwdIdeal (hOutprojBwdIdeal := hOutprojBwdIdeal)
    ∧ quiescent_OutprojBwdIdeal_pre_finite_out (hOutprojBwdIdeal := hOutprojBwdIdeal) (hPre_finite_out := hPre_finite_out)
    ∧ quiescent_OutprojRefIdeal (hOutprojRefIdeal := hOutprojRefIdeal)
    ∧ quiescent_OutprojRefIdeal_pre_finite_out (hOutprojRefIdeal := hOutprojRefIdeal) (hPre_finite_out := hPre_finite_out)
    ∧ quiescent_GmlpBwd (hGmlpBwd := hGmlpBwd)
    ∧ quiescent_GmlpBwdIdeal (hGmlpBwdIdeal := hGmlpBwdIdeal)
    ∧ quiescent_GmlpBwdIdeal_pre_finite_gmlp (hGmlpBwdIdeal := hGmlpBwdIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_MlpBwd (hMlpBwd := hMlpBwd)
    ∧ quiescent_MlpBwdIdeal (hMlpBwdIdeal := hMlpBwdIdeal)
    ∧ quiescent_MlpBwdIdeal_pre_finite_mlp (hMlpBwdIdeal := hMlpBwdIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_InprojFwd (hInprojFwd := hInprojFwd)
    ∧ quiescent_InprojFwdIdeal (hInprojFwdIdeal := hInprojFwdIdeal)
    ∧ quiescent_InfwdRefIdeal (hInfwdRefIdeal := hInfwdRefIdeal)
    ∧ quiescent_LossTail (hLossTail := hLossTail)
    ∧ quiescent_LossTailIdeal (hLossTailIdeal := hLossTailIdeal)
    ∧ quiescent_LossTailIdeal_pre_finite_tail (hLossTailIdeal := hLossTailIdeal) (hPre_finite_tail := hPre_finite_tail)
    ∧ quiescent_LossRefIdeal (hLossRefIdeal := hLossRefIdeal)
    ∧ quiescent_LossRefIdeal_pre_finite_tail (hLossRefIdeal := hLossRefIdeal) (hPre_finite_tail := hPre_finite_tail)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_AdamHalves (hAdamHalves := hAdamHalves)
    ∧ quiescent_AdamHalvesIdeal (hAdamHalvesIdeal := hAdamHalvesIdeal)
    ∧ quiescent_AdamRefIdeal (hAdamRefIdeal := hAdamRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ preserves_InprojBwd_InprojBwdIdeal
    ∧ algebraic_InprojBwdIdeal_InprojRefIdeal_pre_finite_inproj (hInprojBwdIdeal := hInprojBwdIdeal) (hInprojRefIdeal := hInprojRefIdeal) (hPre_finite_inproj := hPre_finite_inproj)
    ∧ preserves_OutprojBwd_OutprojBwdIdeal
    ∧ algebraic_OutprojBwdIdeal_OutprojRefIdeal_pre_finite_out (hOutprojBwdIdeal := hOutprojBwdIdeal) (hOutprojRefIdeal := hOutprojRefIdeal) (hPre_finite_out := hPre_finite_out)
    ∧ preserves_GmlpBwd_GmlpBwdIdeal
    ∧ algebraic_GmlpBwdIdeal_GmlpRefIdeal_pre_finite_gmlp (hGmlpBwdIdeal := hGmlpBwdIdeal) (hGmlpRefIdeal := hGmlpRefIdeal) (hPre_finite_gmlp := hPre_finite_gmlp)
    ∧ preserves_MlpBwd_MlpBwdIdeal
    ∧ algebraic_MlpBwdIdeal_MlpRefIdeal_pre_finite_mlp (hMlpBwdIdeal := hMlpBwdIdeal) (hMlpRefIdeal := hMlpRefIdeal) (hPre_finite_mlp := hPre_finite_mlp)
    ∧ preserves_InprojFwd_InprojFwdIdeal
    ∧ algebraic_InprojFwdIdeal_InfwdRefIdeal (hInprojFwdIdeal := hInprojFwdIdeal) (hInfwdRefIdeal := hInfwdRefIdeal)
    ∧ preserves_LossTail_LossTailIdeal
    ∧ algebraic_LossTailIdeal_LossRefIdeal_pre_finite_tail (hLossTailIdeal := hLossTailIdeal) (hLossRefIdeal := hLossRefIdeal) (hPre_finite_tail := hPre_finite_tail)
    ∧ preserves_DwUp_DwUpIdeal
    ∧ algebraic_DwUpIdeal_DwUpRefIdeal (hDwUpIdeal := hDwUpIdeal) (hDwUpRefIdeal := hDwUpRefIdeal)
    ∧ preserves_AdamHalves_AdamHalvesIdeal
    ∧ algebraic_AdamHalvesIdeal_AdamRefIdeal (hAdamHalvesIdeal := hAdamHalvesIdeal) (hAdamRefIdeal := hAdamRefIdeal)
    ∧ preserves_ChipSum_ChipSumIdeal
    ∧ algebraic_ChipSumIdeal_ChipSumRefIdeal (hChipSumIdeal := hChipSumIdeal) (hChipSumRefIdeal := hChipSumRefIdeal)
-- ==== Pre_finite_gmlp.lean ====
abbrev S2x2048x1024 : Shape := ⟨3, ![2, 2048, 1024]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x512 : Shape := ⟨3, ![2, 2048, 512]⟩
abbrev S_ : Shape := ⟨0, ![]⟩

class Facts : Prop where
  bcast_S_S2x2048x1024 : S_.BroadcastsInDim S2x2048x1024 (![] : Fin 0 → Fin S2x2048x1024.rank)
  bcast_S_S1x8x64 : S_.BroadcastsInDim S1x8x64 (![] : Fin 0 → Fin S1x8x64.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S2x2048x512 : S_.BroadcastsInDim S2x2048x512 (![] : Fin 0 → Fin S2x2048x512.rank)

variable [Facts]

def fn {F : FTy → Type} [FloatOps F] (main_arg0 : FVec F S2x2048x1024 .f32) (main_arg1 : FVec F S1x8x64 .f32) (main_arg2 : FVec F S1x8x64 .f32) (main_arg3 : FVec F S1x8x128x128 .f32) (main_arg4 : FVec F S1x8x128 .f32) (main_arg5 : FVec F S2x2048x512 .f32) : IVec S2x2048x1024 1 × IVec S1x8x64 1 × IVec S1x8x64 1 × IVec S1x8x128x128 1 × IVec S1x8x128 1 × IVec S2x2048x512 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x8x64 .f32 := Host.absf main_arg1
  let main_cst_0 : FVec F S_ .f32 := constant S_ .f32 0x7F800000#32
  let main_v4 : FVec F S1x8x64 .f32 := broadcastInDim S1x8x64 ![] bcast_S_S1x8x64 main_cst_0
  let main_v5 : IVec S1x8x64 1 := cmpf .olt main_v3 main_v4
  let main_v6 : FVec F S1x8x64 .f32 := Host.absf main_arg2
  let main_cst_1 : FVec F S_ .f32 := constant S_ .f32 0x7F800000#32
  let main_v7 : FVec F S1x8x64 .f32 := broadcastInDim S1x8x64 ![] bcast_S_S1x8x64 main_cst_1
  let main_v8 : IVec S1x8x64 1 := cmpf .olt main_v6 main_v7
  let main_v9 : FVec F S1x8x128x128 .f32 := Host.absf main_arg3
  let main_cst_2 : FVec F S_ .f32 := constant S_ .f32 0x7F800000#32
  let main_v10 : FVec F S1x8x128x128 .f32 := broadcastInDim S1x8x128x128 ![] bcast_S_S1x8x128x128 main_cst_2
  let main_v11 : IVec S1x8x128x128 1 := cmpf .olt main_v9 main_v10
  let main_v12 : FVec F S1x8x128 .f32 := Host.absf main_arg4
  let main_cst_3 : FVec F S_ .f32 := constant S_ .f32 0x7F800000#32
  let main_v13 : FVec F S1x8x128 .f32 := broadcastInDim S1x8x128 ![] bcast_S_S1x8x128 main_cst_3
  let main_v14 : IVec S1x8x128 1 := cmpf .olt main_v12 main_v13
  let main_v15 : FVec F S2x2048x512 .f32 := Host.absf main_arg5
  let main_cst_4 : FVec F S_ .f32 := constant S_ .f32 0x7F800000#32
  let main_v16 : FVec F S2x2048x512 .f32 := broadcastInDim S2x2048x512 ![] bcast_S_S2x2048x512 main_cst_4
  let main_v17 : IVec S2x2048x512 1 := cmpf .olt main_v15 main_v16
  (main_v2, main_v5, main_v8, main_v11, main_v14, main_v17)
-- ==== Pre_finite_inproj.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x2568 : S_.BroadcastsInDim S1x1024x2568 (![] : Fin 0 → Fin S1x1024x2568.rank)
  bcast_S_S2x2048x2568 : S_.BroadcastsInDim S2x2048x2568 (![] : Fin 0 → Fin S2x2048x2568.rank)

variable [Facts]

def fn {F : FTy → Type} [FloatOps F] (main_arg0 : FVec F S2x2048x1024 .f32) (main_arg1 : FVec F S1x1024 .f32) (main_arg2 : FVec F S1x1024x2568 .f32) (main_arg3 : FVec F S2x2048x1024 .f32) (main_arg4 : FVec F S2x2048x2568 .f32) : IVec S2x2048x1024 1 × IVec S1x1024 1 × IVec S1x1024x2568 1 × IVec S2x2048x2568 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2568 .f32 := Host.absf main_arg2
  let main_cst_1 : FVec F S_ .f32 := constant S_ .f32 0x7F800000#32
  let main_v7 : FVec F S1x1024x2568 .f32 := broadcastInDim S1x1024x2568 ![] bcast_S_S1x1024x2568 main_cst_1
  let main_v8 : IVec S1x1024x2568 1 := cmpf .olt main_v6 main_v7
  let main_v9 : FVec F S2x2048x2568 .f32 := Host.absf main_arg4
  let main_cst_2 : FVec F S_ .f32 := constant S_ .f32 0x7F800000#32
  let main_v10 : FVec F S2x2048x2568 .f32 := broadcastInDim S2x2048x2568 ![] bcast_S_S2x2048x2568 main_cst_2
  let main_v11 : IVec S2x2048x2568 1 := cmpf .olt main_v9 main_v10
  (main_v2, main_v5, main_v8, main_v11)
-- ==== Pre_finite_mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn {F : FTy → Type} [FloatOps F] (main_arg0 : FVec F S2x2048x1024 .f32) (main_arg1 : FVec F S1x1024 .f32) (main_arg2 : FVec F S1x1024x4096 .f32) (main_arg3 : FVec F S1x4096x1024 .f32) (main_arg4 : FVec F S2x2048x1024 .f32) (main_arg5 : FVec F S2x2048x1024 .f32) : IVec S2x2048x1024 1 × IVec S1x1024 1 × IVec S1x1024x4096 1 × IVec S1x4096x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite_out.lean ====
abbrev S2x2048x1024 : Shape := ⟨3, ![2, 2048, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn {F : FTy → Type} [FloatOps F] (main_arg0 : FVec F S2x2048x1024 .f32) (main_arg1 : FVec F S1x1024x1024 .f32) (main_arg2 : FVec F S1x1024 .f32) (main_arg3 : FVec F S2x2048x1024 .f32) : IVec S2x2048x1024 1 × IVec S1x1024x1024 1 × IVec S1x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  (main_v2, main_v5, main_v8, main_v11)
-- ==== Pre_finite_tail.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn {F : FTy → Type} [FloatOps F] (main_arg0 : FVec F S2x2048x1024 .f32) (main_arg1 : FVec F S1x1024 .f32) (main_arg2 : FVec F S1x1024x4096 .f32) (main_arg3 : FVec F S1x4096x1024 .f32) (main_arg4 : FVec F S1x1024 .f32) (main_arg5 : FVec F S2x2048x1024 .f32) : IVec S2x2048x1024 1 × IVec S1x1024 1 × IVec S1x1024x4096 1 × IVec S1x4096x1024 1 × IVec S1x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2x2048x1024 .f32 := Host.absf main_arg5
  let main_cst_4 : FVec F S_ .f32 := constant S_ .f32 0x7F800000#32
  let main_v16 : FVec F S2x2048x1024 .f32 := broadcastInDim S2x2048x1024 ![] bcast_S_S2x2048x1024 main_cst_4
  let main_v17 : IVec S2x2048x1024 1 := cmpf .olt main_v15 main_v16
  (main_v2, main_v5, main_v8, main_v11, main_v14, main_v17)
-- ==== InprojBwd.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S1024x2568 : Shape := ⟨2, ![1024, 2568]⟩
abbrev S1024x642 : Shape := ⟨2, ![1024, 642]⟩
abbrev S1x1024x642 : Shape := ⟨3, ![1, 1024, 642]⟩
abbrev S4x1024x642 : Shape := ⟨3, ![4, 1024, 642]⟩
abbrev S1024x382 : Shape := ⟨2, ![1024, 382]⟩
abbrev S1024x1024 : Shape := ⟨2, ![1024, 1024]⟩
abbrev S1024x260 : Shape := ⟨2, ![1024, 260]⟩
abbrev S1024x252 : Shape := ⟨2, ![1024, 252]⟩
abbrev S1024x512 : Shape := ⟨2, ![1024, 512]⟩
abbrev S1024x390 : Shape := ⟨2, ![1024, 390]⟩
abbrev S1024x634 : Shape := ⟨2, ![1024, 634]⟩
abbrev S1024x8 : Shape := ⟨2, ![1024, 8]⟩
abbrev S_ : Shape := ⟨0, ![]⟩
abbrev S1024x128 : Shape := ⟨2, ![1024, 128]⟩
abbrev S4096x2568 : Shape := ⟨2, ![4096, 2568]⟩
abbrev S4096x1024 : Shape := ⟨2, ![4096, 1024]⟩
abbrev S4096x512 : Shape := ⟨2, ![4096, 512]⟩
abbrev S4096x8 : Shape := ⟨2, ![4096, 8]⟩
abbrev S4096x128 : Shape := ⟨2, ![4096, 128]⟩
abbrev S4096x1664 : Shape := ⟨2, ![4096, 1664]⟩
abbrev S512x1024 : Shape := ⟨2, ![512, 1024]⟩
abbrev S512x1664 : Shape := ⟨2, ![512, 1664]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 64
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x1024, .f32⟩
  | .hbm, ⟨4, _⟩ => ⟨S2x2048x2568, .f32⟩
  | .hbm, ⟨5, _⟩ => ⟨S1024x2568, .f32⟩
  | .hbm, ⟨6, _⟩ => ⟨S1024x642, .f32⟩
  | .hbm, ⟨7, _⟩ => ⟨S1024x642, .bf16⟩
  | .hbm, ⟨8, _⟩ => ⟨S1024x2568, .f32⟩
  | .hbm, ⟨9, _⟩ => ⟨S1024x642, .f32⟩
  | .hbm, ⟨10, _⟩ => ⟨S1024x642, .bf16⟩
  | .hbm, ⟨11, _⟩ => ⟨S1024x2568, .f32⟩
  | .hbm, ⟨12, _⟩ => ⟨S1024x642, .f32⟩
  | .hbm, ⟨13, _⟩ => ⟨S1024x642, .bf16⟩
  | .hbm, ⟨14, _⟩ => ⟨S1024x2568, .f32⟩
  | .hbm, ⟨15, _⟩ => ⟨S1024x642, .f32⟩
  | .hbm, ⟨16, _⟩ => ⟨S1024x642, .bf16⟩
  | .hbm, ⟨17, _⟩ => ⟨S1x1024x642, .bf16⟩
  | .hbm, ⟨18, _⟩ => ⟨S1x1024x642, .bf16⟩
  | .hbm, ⟨19, _⟩ => ⟨S1x1024x642, .bf16⟩
  | .hbm, ⟨20, _⟩ => ⟨S1x1024x642, .bf16⟩
  | .hbm, ⟨21, _⟩ => ⟨S4x1024x642, .bf16⟩
  | .hbm, ⟨22, _⟩ => ⟨S1x1024x642, .bf16⟩
  | .hbm, ⟨23, _⟩ => ⟨S1024x642, .bf16⟩
  | .hbm, ⟨24, _⟩ => ⟨S1x1024x642, .bf16⟩
  | .hbm, ⟨25, _⟩ => ⟨S1024x642, .bf16⟩
  | .hbm, ⟨26, _⟩ => ⟨S1024x382, .bf16⟩
  | .hbm, ⟨27, _⟩ => ⟨S1024x1024, .bf16⟩
  | .hbm, ⟨28, _⟩ => ⟨S1x1024x642, .bf16⟩
  | .hbm, ⟨29, _⟩ => ⟨S1024x642, .bf16⟩
  | .hbm, ⟨30, _⟩ => ⟨S1024x260, .bf16⟩
  | .hbm, ⟨31, _⟩ => ⟨S1x1024x642, .bf16⟩
  | .hbm, ⟨32, _⟩ => ⟨S1024x642, .bf16⟩
  | .hbm, ⟨33, _⟩ => ⟨S1024x252, .bf16⟩
  | .hbm, ⟨34, _⟩ => ⟨S1024x512, .bf16⟩
  | .hbm, ⟨35, _⟩ => ⟨S1x1024x642, .bf16⟩
  | .hbm, ⟨36, _⟩ => ⟨S1024x642, .bf16⟩
  | .hbm, ⟨37, _⟩ => ⟨S1024x390, .bf16⟩
  | .hbm, ⟨38, _⟩ => ⟨S1x1024x642, .bf16⟩
  | .hbm, ⟨39, _⟩ => ⟨S1024x642, .bf16⟩
  | .hbm, ⟨40, _⟩ => ⟨S1024x634, .bf16⟩
  | .hbm, ⟨41, _⟩ => ⟨S1024x1024, .bf16⟩
  | .hbm, ⟨42, _⟩ => ⟨S1x1024x642, .bf16⟩
  | .hbm, ⟨43, _⟩ => ⟨S1024x642, .bf16⟩
  | .hbm, ⟨44, _⟩ => ⟨S1024x8, .bf16⟩
  | .hbm, ⟨45, _⟩ => ⟨S_, .i32⟩
  | .hbm, ⟨46, _⟩ => ⟨S_, .bf16⟩
  | .hbm, ⟨47, _⟩ => ⟨S1024x128, .bf16⟩
  | .hbm, ⟨48, _⟩ => ⟨S4096x2568, .f32⟩
  | .hbm, ⟨49, _⟩ => ⟨S4096x1024, .f32⟩
  | .hbm, ⟨50, _⟩ => ⟨S4096x1024, .bf16⟩
  | .hbm, ⟨51, _⟩ => ⟨S4096x1024, .f32⟩
  | .hbm, ⟨52, _⟩ => ⟨S4096x512, .f32⟩
  | .hbm, ⟨53, _⟩ => ⟨S4096x8, .f32⟩
  | .hbm, ⟨54, _⟩ => ⟨S_, .i32⟩
  | .hbm, ⟨55, _⟩ => ⟨S_, .f32⟩
  | .hbm, ⟨56, _⟩ => ⟨S4096x128, .f32⟩
  | .hbm, ⟨57, _⟩ => ⟨S4096x1664, .f32⟩
  | .hbm, ⟨58, _⟩ => ⟨S4096x1664, .bf16⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1664, .bf16⟩
  | .local _ .vmem, ⟨3, _⟩ => ⟨S512x1664, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x128, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_c : Ref sig .tc := ⟨.hbm, 45, rfl⟩
abbrev main_call0_v0 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_c_0 : Ref sig .tc := ⟨.hbm, 54, rfl⟩
abbrev main_call1_v0 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52_0 : Ref sig .tc := ⟨.hbm, 61, rfl⟩
abbrev main_v52_1 : Ref sig .tc := ⟨.hbm, 62, rfl⟩
abbrev main_v52_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InprojRefIdeal.lean ====
abbrev S2x2048x1024 : Shape := ⟨3, ![2, 2048, 1024]⟩
abbrev S1x1024 : Shape := ⟨2, ![1, 1024]⟩
abbrev S1x1024x2568 : Shape := ⟨3, ![1, 1024, 2568]⟩
abbrev S2x2048x2568 : Shape := ⟨3, ![2, 2048, 2568]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2568 : Shape := ⟨2, ![1024, 2568]⟩
abbrev S4096x1024 : Shape := ⟨2, ![4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S2x2048x1024, .f32⟩
  | .hbm, ⟨4, _⟩ => ⟨S2x2048x2568, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x2568, .f32⟩
  | .hbm, ⟨27, _⟩ => ⟨S2x2048x2568, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S4096x1024, .f32⟩
  | .hbm, ⟨75, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== OutprojBwd.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S512x1024 : Shape := ⟨2, ![512, 1024]⟩

abbrev nBuf : Space → Nat
  | .hbm => 14
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S1x1024, .f32⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .bf16⟩
  | .hbm, ⟨10, _⟩ => ⟨S4096x1024, .bf16⟩
  | .hbm, ⟨11, _⟩ => ⟨S4096x512, .f32⟩
  | .hbm, ⟨12, _⟩ => ⟨S4096x512, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutprojRefIdeal.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x512 : Shape := ⟨3, ![2, 2048, 512]⟩
abbrev S4096x1024 : Shape := ⟨2, ![4096, 1024]⟩
abbrev S4096x512 : Shape := ⟨2, ![4096, 512]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S1x1024, .f32⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S1x1024, .f32⟩
  | .hbm, ⟨53, _⟩ => ⟨S2x2048x1024, .f32⟩
  | .hbm, ⟨54, _⟩ => ⟨S2x2048x512, .f32⟩
  | .hbm, ⟨55, _⟩ => ⟨S2x2048x512, .f32⟩
  | .hbm, ⟨56, _⟩ => ⟨S4096x1024, .f32⟩
  | .hbm, ⟨57, _⟩ => ⟨S4096x1024, .bf16⟩
  | .hbm, ⟨58, _⟩ => ⟨S4096x512, .f32⟩
  | .hbm, ⟨59, _⟩ => ⟨S4096x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== GmlpBwd.lean ====
abbrev S2x2048x1024 : Shape := ⟨3, ![2, 2048, 1024]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x512 : Shape := ⟨3, ![2, 2048, 512]⟩
abbrev S512 : Shape := ⟨1, ![512]⟩
abbrev S_ : Shape := ⟨0, ![]⟩
abbrev S128 : Shape := ⟨1, ![128]⟩
abbrev S128x1 : Shape := ⟨2, ![128, 1]⟩
abbrev S1x512 : Shape := ⟨2, ![1, 512]⟩
abbrev S128x512 : Shape := ⟨2, ![128, 512]⟩
abbrev S512x128 : Shape := ⟨2, ![512, 128]⟩
abbrev S8x64 : Shape := ⟨2, ![8, 64]⟩
abbrev S8x128x128 : Shape := ⟨3, ![8, 128, 128]⟩
abbrev S1024x128 : Shape := ⟨2, ![1024, 128]⟩
abbrev S128x8x128 : Shape := ⟨3, ![128, 8, 128]⟩
abbrev S128x1024 : Shape := ⟨2, ![128, 1024]⟩
abbrev S8x128 : Shape := ⟨2, ![8, 128]⟩
abbrev S128x8 : Shape := ⟨2, ![128, 8]⟩
abbrev S128x8x64 : Shape := ⟨3, ![128, 8, 64]⟩
abbrev S4096x1024 : Shape := ⟨2, ![4096, 1024]⟩
abbrev S4096x512 : Shape := ⟨2, ![4096, 512]⟩
abbrev S128x128 : Shape := ⟨2, ![128, 128]⟩
abbrev S256x1024 : Shape := ⟨2, ![256, 1024]⟩
abbrev S256x512 : Shape := ⟨2, ![256, 512]⟩
abbrev S256x128 : Shape := ⟨2, ![256, 128]⟩
abbrev S1024x512 : Shape := ⟨2, ![1024, 512]⟩
abbrev S512x512 : Shape := ⟨2, ![512, 512]⟩

abbrev nBuf : Space → Nat
  | .hbm => 53
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x8x64, .f32⟩
  | .hbm, ⟨2, _⟩ => ⟨S1x8x64, .f32⟩
  | .hbm, ⟨3, _⟩ => ⟨S1x8x128x128, .f32⟩
  | .hbm, ⟨4, _⟩ => ⟨S1x8x128, .f32⟩
  | .hbm, ⟨5, _⟩ => ⟨S2x2048x512, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S128, .i32⟩
  | .hbm, ⟨26, _⟩ => ⟨S128x1, .i32⟩
  | .hbm, ⟨27, _⟩ => ⟨S1x512, .i32⟩
  | .hbm, ⟨28, _⟩ => ⟨S128x512, .i32⟩
  | .hbm, ⟨29, _⟩ => ⟨S128x512, .i32⟩
  | .hbm, ⟨30, _⟩ => ⟨S128x512, .i1⟩
  | .hbm, ⟨31, _⟩ => ⟨S128x512, .bf16⟩
  | .hbm, ⟨32, _⟩ => ⟨S512x128, .bf16⟩
  | .hbm, ⟨33, _⟩ => ⟨S8x64, .f32⟩
  | .hbm, ⟨34, _⟩ => ⟨S1x512, .f32⟩
  | .hbm, ⟨35, _⟩ => ⟨S8x64, .f32⟩
  | .hbm, ⟨36, _⟩ => ⟨S1x512, .f32⟩
  | .hbm, ⟨37, _⟩ => ⟨S8x128x128, .f32⟩
  | .hbm, ⟨38, _⟩ => ⟨S1024x128, .f32⟩
  | .hbm, ⟨39, _⟩ => ⟨S8x128x128, .f32⟩
  | .hbm, ⟨40, _⟩ => ⟨S128x8x128, .f32⟩
  | .hbm, ⟨41, _⟩ => ⟨S128x1024, .f32⟩
  | .hbm, ⟨42, _⟩ => ⟨S8x128, .f32⟩
  | .hbm, ⟨43, _⟩ => ⟨S128x8, .f32⟩
  | .hbm, ⟨44, _⟩ => ⟨S128x8x64, .f32⟩
  | .hbm, ⟨45, _⟩ => ⟨S128x512, .f32⟩
  | .hbm, ⟨46, _⟩ => ⟨S4096x1024, .f32⟩
  | .hbm, ⟨47, _⟩ => ⟨S4096x512, .f32⟩
  | .hbm, ⟨48, _⟩ => ⟨S4096x1024, .bf16⟩
  | .hbm, ⟨49, _⟩ => ⟨S1024x128, .f32⟩
  | .hbm, ⟨50, _⟩ => ⟨S128x128, .f32⟩
  | .hbm, ⟨51, _⟩ => ⟨S1x512, .f32⟩
  | .hbm, ⟨52, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S512x128, .bf16⟩
  | .local _ .vmem, ⟨8, _⟩ => ⟨S128x1024, .f32⟩
  | .local _ .vmem, ⟨9, _⟩ => ⟨S1024x128, .f32⟩
  | .local _ .vmem, ⟨10, _⟩ => ⟨S128x512, .f32⟩
  | .local _ .vmem, ⟨11, _⟩ => ⟨S256x1024, .bf16⟩
  | .local _ .vmem, ⟨12, _⟩ => ⟨S256x1024, .bf16⟩
  | .local _ .vmem, ⟨13, _⟩ => ⟨S1024x128, .f32⟩
  | .local _ .vmem, ⟨14, _⟩ => ⟨S128x128, .f32⟩
  | .local _ .vmem, ⟨15, _⟩ => ⟨S1x512, .f32⟩
  | .local _ .vmem, ⟨16, _⟩ => ⟨S1x512, .f32⟩
  | .local _ .vmem, ⟨17, _⟩ => ⟨S128x1024, .bf16⟩
  | .local _ .vmem, ⟨18, _⟩ => ⟨S1024x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GmlpBwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GmlpRefIdeal.lean ====
abbrev S2x2048x1024 : Shape := ⟨3, ![2, 2048, 1024]⟩
abbrev S1x8x64 : Shape := ⟨3, ![1, 8, 64]⟩
abbrev S1x8x128x128 : Shape := ⟨4, ![1, 8, 128, 128]⟩
abbrev S1x8x128 : Shape := ⟨3, ![1, 8, 128]⟩
abbrev S2x2048x512 : Shape := ⟨3, ![2, 2048, 512]⟩
abbrev S8x64 : Shape := ⟨2, ![8, 64]⟩
abbrev S8x128x128 : Shape := ⟨3, ![8, 128, 128]⟩
abbrev S8x128 : Shape := ⟨2, ![8, 128]⟩
abbrev S_ : Shape := ⟨0, ![]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x16x128x8x64 : Shape := ⟨5, ![2, 16, 128, 8, 64]⟩
abbrev S128x128 : Shape := ⟨2, ![128, 128]⟩
abbrev S1x128x128 : Shape := ⟨3, ![1, 128, 128]⟩
abbrev S8x2x16x64x128 : Shape := ⟨5, ![8, 2, 16, 64, 128]⟩
abbrev S128x8 : Shape := ⟨2, ![128, 8]⟩
abbrev S1x1x128x8x1 : Shape := ⟨5, ![1, 1, 128, 8, 1]⟩
abbrev S4096x1024 : Shape := ⟨2, ![4096, 1024]⟩
abbrev S1024x128 : Shape := ⟨2, ![1024, 128]⟩
abbrev S1x512 : Shape := ⟨2, ![1, 512]⟩

abbrev nBuf : Space → Nat
  | .hbm => 251
  | .vmem => 0
  | .smem => 0
  | _ => 0

abbrev hbmTy0_0 (i : Nat) : BufTy := match i % 128 with
  | 0 => ⟨S2x2048x1024, .f32⟩
  | 1 => ⟨S1x8x64, .f32⟩
  | 2 => ⟨S1x8x64, .f32⟩
  | 3 => ⟨S1x8x128x128, .f32⟩
  | 4 => ⟨S1x8x128, .f32⟩
  | 5 => ⟨S2x2048x512, .f32⟩
  | 6 => ⟨S2x2048x512, .f32⟩
  | 7 => ⟨S2x2048x512, .f32⟩
  | 8 => ⟨S8x64, .f32⟩
  | 9 => ⟨S8x64, .f32⟩
  | 10 => ⟨S8x128x128, .f32⟩
  | 11 => ⟨S8x128, .f32⟩
  | 12 => ⟨S2x2048x512, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S_, .f32⟩
  | 22 => ⟨S2x2048x512, .f32⟩
  | 23 => ⟨S2x2048x512, .f32⟩
  | 24 => ⟨S2x2048x512, .f32⟩
  | 25 => ⟨S_, .f32⟩
  | 26 => ⟨S2x2048x512, .f32⟩
  | 27 => ⟨S2x2048x512, .f32⟩
  | 28 => ⟨S2x2048x512, .f32⟩
  | 29 => ⟨S_, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S_, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S2x2048x512, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S_, .f32⟩
  | 50 => ⟨S2x2048x512, .f32⟩
  | 51 => ⟨S2x2048x512, .f32⟩
  | 52 => ⟨S_, .f32⟩
  | 53 => ⟨S2x2048x512, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S_, .f32⟩
  | 64 => ⟨S2x2048x512, .f32⟩
  | 65 => ⟨S2x2048x512, .f32⟩
  | 66 => ⟨S2x2048x512, .f32⟩
  | 67 => ⟨S_, .f32⟩
  | 68 => ⟨S2x2048x512, .f32⟩
  | 69 => ⟨S2x2048x512, .f32⟩
  | 70 => ⟨S_, .f32⟩
  | 71 => ⟨S2x2048x512, .f32⟩
  | 72 => ⟨S2x2048x512, .f32⟩
  | 73 => ⟨S2x2048x512, .f32⟩
  | 74 => ⟨S2x2048x8x64, .f32⟩
  | 75 => ⟨S_, .f32⟩
  | 76 => ⟨S2x2048x8, .f32⟩
  | 77 => ⟨S2x2048x8x1, .f32⟩
  | 78 => ⟨S_, .f32⟩
  | 79 => ⟨S2x2048x8x1, .f32⟩
  | 80 => ⟨S2x2048x8x1, .f32⟩
  | 81 => ⟨S2x2048x8x64, .f32⟩
  | 82 => ⟨S2x2048x8x64, .f32⟩
  | 83 => ⟨S2x2048x8x64, .f32⟩
  | 84 => ⟨S_, .f32⟩
  | 85 => ⟨S2x2048x8x64, .f32⟩
  | 86 => ⟨S2x2048x8x64, .f32⟩
  | 87 => ⟨S_, .f32⟩
  | 88 => ⟨S2x2048x8, .f32⟩
  | 89 => ⟨S2x2048x8x1, .f32⟩
  | 90 => ⟨S_, .f32⟩
  | 91 => ⟨S2x2048x8x1, .f32⟩
  | 92 => ⟨S2x2048x8x1, .f32⟩
  | 93 => ⟨S2x2048x8x64, .f32⟩
  | 94 => ⟨S2x2048x8x64, .f32⟩
  | 95 => ⟨S_, .f32⟩
  | 96 => ⟨S2x2048x8x1, .f32⟩
  | 97 => ⟨S2x2048x8x1, .f32⟩
  | 98 => ⟨S2x2048x8x1, .f32⟩
  | 99 => ⟨S2x2048x8x1, .f32⟩
  | 100 => ⟨S_, .f32⟩
  | 101 => ⟨S2x2048x8x1, .f32⟩
  | 102 => ⟨S2x2048x8x1, .f32⟩
  | 103 => ⟨S2x2048x8x64, .f32⟩
  | 104 => ⟨S2x2048x8x64, .f32⟩
  | 105 => ⟨S1x1x8x64, .f32⟩
  | 106 => ⟨S2x2048x8x64, .f32⟩
  | 107 => ⟨S2x2048x8x64, .f32⟩
  | 108 => ⟨S1x1x8x64, .f32⟩
  | 109 => ⟨S2x2048x8x64, .f32⟩
  | 110 => ⟨S2x2048x8x64, .f32⟩
  | 111 => ⟨S2x16x128x8x64, .f32⟩
  | 112 => ⟨S_, .i1⟩
  | 113 => ⟨S128x128, .i1⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i1⟩
  | 120 => ⟨S_, .i1⟩
  | 121 => ⟨S128x128, .i1⟩
  | 122 => ⟨S128x128, .i1⟩
  | 123 => ⟨S1x128x128, .i1⟩
  | 124 => ⟨S_, .f32⟩
  | 125 => ⟨S8x128x128, .i1⟩
  | 126 => ⟨S8x128x128, .f32⟩
  | 127 => ⟨S8x128x128, .f32⟩
  | _ => ⟨S2x2048x1024, .f32⟩

abbrev hbmTy0_1 (i : Nat) : BufTy := match i % 128 with
  | 0 => ⟨S_, .f32⟩
  | 1 => ⟨S8x128x128, .f32⟩
  | 2 => ⟨S8x2x16x64x128, .f32⟩
  | 3 => ⟨S2x16x128x8x64, .f32⟩
  | 4 => ⟨S128x8, .f32⟩
  | 5 => ⟨S1x1x128x8x1, .f32⟩
  | 6 => ⟨S2x16x128x8x64, .f32⟩
  | 7 => ⟨S2x16x128x8x64, .f32⟩
  | 8 => ⟨S2x2048x512, .f32⟩
  | 9 => ⟨S2x2048x512, .f32⟩
  | 10 => ⟨S2x2048x512, .f32⟩
  | 11 => ⟨S2x2048x512, .f32⟩
  | 12 => ⟨S2x16x128x8x64, .f32⟩
  | 13 => ⟨S_, .f32⟩
  | 14 => ⟨S128x8, .f32⟩
  | 15 => ⟨S1x1x128x8x1, .f32⟩
  | 16 => ⟨S_, .f32⟩
  | 17 => ⟨S128x8, .f32⟩
  | 18 => ⟨S8x128, .f32⟩
  | 19 => ⟨S8x2x16x64x128, .f32⟩
  | 20 => ⟨S8x128x128, .f32⟩
  | 21 => ⟨S8x2x16x64x128, .f32⟩
  | 22 => ⟨S2x16x128x8x64, .f32⟩
  | 23 => ⟨S_, .f32⟩
  | 24 => ⟨S8x128x128, .f32⟩
  | 25 => ⟨S8x128x128, .f32⟩
  | 26 => ⟨S2x2048x8x64, .f32⟩
  | 27 => ⟨S_, .f32⟩
  | 28 => ⟨S8x64, .f32⟩
  | 29 => ⟨S1x1x8x64, .f32⟩
  | 30 => ⟨S_, .f32⟩
  | 31 => ⟨S8x64, .f32⟩
  | 32 => ⟨S2x2048x8x64, .f32⟩
  | 33 => ⟨S_, .f32⟩
  | 34 => ⟨S8x64, .f32⟩
  | 35 => ⟨S1x1x8x64, .f32⟩
  | 36 => ⟨S2x2048x8x64, .f32⟩
  | 37 => ⟨S2x2048x8x64, .f32⟩
  | 38 => ⟨S_, .f32⟩
  | 39 => ⟨S8x64, .f32⟩
  | 40 => ⟨S2x2048x8x64, .f32⟩
  | 41 => ⟨S_, .f32⟩
  | 42 => ⟨S2x2048x8, .f32⟩
  | 43 => ⟨S2x2048x8x1, .f32⟩
  | 44 => ⟨S2x2048x8x64, .f32⟩
  | 45 => ⟨S2x2048x8x64, .f32⟩
  | 46 => ⟨S2x2048x8x1, .f32⟩
  | 47 => ⟨S2x2048x8x64, .f32⟩
  | 48 => ⟨S_, .f32⟩
  | 49 => ⟨S2x2048x8, .f32⟩
  | 50 => ⟨S2x2048x8x1, .f32⟩
  | 51 => ⟨S_, .f32⟩
  | 52 => ⟨S2x2048x8x1, .f32⟩
  | 53 => ⟨S2x2048x8x1, .f32⟩
  | 54 => ⟨S_, .f32⟩
  | 55 => ⟨S2x2048x8, .f32⟩
  | 56 => ⟨S2x2048x8x64, .f32⟩
  | 57 => ⟨S2x2048x8x64, .f32⟩
  | 58 => ⟨S2x2048x8x64, .f32⟩
  | 59 => ⟨S_, .f32⟩
  | 60 => ⟨S2x2048x8, .f32⟩
  | 61 => ⟨S2x2048x8x1, .f32⟩
  | 62 => ⟨S2x2048x8x64, .f32⟩
  | 63 => ⟨S2x2048x8x1, .f32⟩
  | 64 => ⟨S_, .f32⟩
  | 65 => ⟨S2x2048x8x1, .f32⟩
  | 66 => ⟨S2x2048x8x1, .f32⟩
  | 67 => ⟨S_, .f32⟩
  | 68 => ⟨S2x2048x8, .f32⟩
  | 69 => ⟨S2x2048x8x64, .f32⟩
  | 70 => ⟨S2x2048x8x64, .f32⟩
  | 71 => ⟨S2x2048x512, .f32⟩
  | 72 => ⟨S2x2048x512, .f32⟩
  | 73 => ⟨S2x2048x512, .f32⟩
  | 74 => ⟨S_, .f32⟩
  | 75 => ⟨S2x2048x512, .f32⟩
  | 76 => ⟨S2x2048x512, .f32⟩
  | 77 => ⟨S2x2048x512, .f32⟩
  | 78 => ⟨S_, .f32⟩
  | 79 => ⟨S2x2048x512, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S_, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S_, .f32⟩
  | 93 => ⟨S2x2048x512, .f32⟩
  | 94 => ⟨S2x2048x512, .f32⟩
  | 95 => ⟨S2x2048x512, .f32⟩
  | 96 => ⟨S_, .f32⟩
  | 97 => ⟨S2x2048x512, .f32⟩
  | 98 => ⟨S2x2048x512, .f32⟩
  | 99 => ⟨S2x2048x512, .f32⟩
  | 100 => ⟨S_, .f32⟩
  | 101 => ⟨S2x2048x512, .f32⟩
  | 102 => ⟨S2x2048x512, .f32⟩
  | 103 => ⟨S_, .f32⟩
  | 104 => ⟨S2x2048x512, .f32⟩
  | 105 => ⟨S2x2048x512, .f32⟩
  | 106 => ⟨S2x2048x512, .f32⟩
  | 107 => ⟨S2x2048x512, .f32⟩
  | 108 => ⟨S1x8x128, .f32⟩
  | 109 => ⟨S1x8x128x128, .f32⟩
  | 110 => ⟨S1x8x64, .f32⟩
  | 111 => ⟨S1x8x64, .f32⟩
  | 112 => ⟨S2x2048x1024, .f32⟩
  | 113 => ⟨S4096x1024, .f32⟩
  | 114 => ⟨S4096x1024, .bf16⟩
  | 115 => ⟨S1024x128, .f32⟩
  | 116 => ⟨S8x128, .f32⟩
  | 117 => ⟨S128x8, .f32⟩
  | 118 => ⟨S_, .i32⟩
  | 119 => ⟨S_, .f32⟩
  | 120 => ⟨S128x128, .f32⟩
  | 121 => ⟨S1x512, .f32⟩
  | 122 => ⟨S1x512, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c : Ref sig .tc := ⟨.hbm, 112, rfl⟩
abbrev main_v83 : Ref sig .tc := ⟨.hbm, 113, rfl⟩
abbrev main_call0_v0 : Ref sig .tc := ⟨.hbm, 114, rfl⟩
abbrev main_call0_c : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_c_0 : Ref sig .tc := ⟨.hbm, 120, rfl⟩
abbrev main_call0_v5 : Ref sig .tc := ⟨.hbm, 121, rfl⟩
abbrev main_v84 : Ref sig .tc := ⟨.hbm, 122, rfl⟩
abbrev main_v85 : Ref sig .tc := ⟨.hbm, 123, rfl⟩
abbrev main_cst_22 : Ref sig .tc := ⟨.hbm, 124, rfl⟩
abbrev main_v86_1 : Ref sig .tc := ⟨.hbm, 125, rfl⟩
abbrev main_call1_v1 : Ref sig .tc := ⟨.hbm, 126, rfl⟩
abbrev main_v86_0 : Ref sig .tc := ⟨.hbm, 127, rfl⟩
abbrev main_call1_cst : Ref sig .tc := ⟨.hbm, 128, rfl⟩
abbrev main_v86_2 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_23 : Ref sig .tc := ⟨.hbm, 141, rfl⟩
abbrev main_v98 : Ref sig .tc := ⟨.hbm, 142, rfl⟩
abbrev main_v99 : Ref sig .tc := ⟨.hbm, 143, rfl⟩
abbrev main_cst_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_call2_cst : Ref sig .tc := ⟨.hbm, 151, rfl⟩
abbrev main_call2_v0 : Ref sig .tc := ⟨.hbm, 152, rfl⟩
abbrev main_v106 : Ref sig .tc := ⟨.hbm, 153, rfl⟩
abbrev main_v107 : Ref sig .tc := ⟨.hbm, 154, rfl⟩
abbrev main_cst_25 : Ref sig .tc := ⟨.hbm, 155, rfl⟩
abbrev main_v108 : Ref sig .tc := ⟨.hbm, 156, rfl⟩
abbrev main_v109 : Ref sig .tc := ⟨.hbm, 157, rfl⟩
abbrev main_cst_26 : Ref sig .tc := ⟨.hbm, 158, rfl⟩
abbrev main_v110 : Ref sig .tc := ⟨.hbm, 159, rfl⟩
abbrev main_v111 : Ref sig .tc := ⟨.hbm, 160, rfl⟩
abbrev main_cst_27 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_28 : Ref sig .tc := ⟨.hbm, 166, rfl⟩
abbrev main_v116 : Ref sig .tc := ⟨.hbm, 167, rfl⟩
abbrev main_v117 : Ref sig .tc := ⟨.hbm, 168, rfl⟩
abbrev main_cst_29 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_30 : Ref sig .tc := ⟨.hbm, 176, rfl⟩
abbrev main_v124 : Ref sig .tc := ⟨.hbm, 177, rfl⟩
abbrev main_v125 : Ref sig .tc := ⟨.hbm, 178, rfl⟩
abbrev main_cst_31 : Ref sig .tc := ⟨.hbm, 179, rfl⟩
abbrev main_v126 : Ref sig .tc := ⟨.hbm, 180, rfl⟩
abbrev main_v127 : Ref sig .tc := ⟨.hbm, 181, rfl⟩
abbrev main_cst_32 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_33 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_34 : Ref sig .tc := ⟨.hbm, 192, rfl⟩
abbrev main_v136 : Ref sig .tc := ⟨.hbm, 193, rfl⟩
abbrev main_v137 : Ref sig .tc := ⟨.hbm, 194, rfl⟩
abbrev main_cst_35 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_36 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_37 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_38 : Ref sig .tc := ⟨.hbm, 210, rfl⟩
abbrev main_v150 : Ref sig .tc := ⟨.hbm, 211, rfl⟩
abbrev main_v151 : Ref sig .tc := ⟨.hbm, 212, rfl⟩
abbrev main_cst_39 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_40 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_41 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_42 : Ref sig .tc := ⟨.hbm, 228, rfl⟩
abbrev main_v164 : Ref sig .tc := ⟨.hbm, 229, rfl⟩
abbrev main_v165 : Ref sig .tc := ⟨.hbm, 230, rfl⟩
abbrev main_cst_43 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_c_44 : Ref sig .tc := ⟨.hbm, 246, rfl⟩
abbrev main_call3_v0 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩

abbrev nD : Nat := 1
abbrev τ : Topo := Topo.v7x

variable {F : FTy → Type} [FloatOps F]
-- ==== MlpBwd.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x1024 : Shape := ⟨2, ![4096, 1024]⟩
abbrev S4x512x1024 : Shape := ⟨3, ![4, 512, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩
abbrev S4096x4096 : Shape := ⟨2, ![4096, 4096]⟩
abbrev S256x1024 : Shape := ⟨2, ![256, 1024]⟩
abbrev S256x4096 : Shape := ⟨2, ![256, 4096]⟩
abbrev S16 : Shape := ⟨1, ![16]⟩
abbrev S1 : Shape := ⟨1, ![1]⟩
abbrev S1x512x1024 : Shape := ⟨3, ![1, 512, 1024]⟩
abbrev S1x1024x512 : Shape := ⟨3, ![1, 1024, 512]⟩
abbrev S512x1024 : Shape := ⟨2, ![512, 1024]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 57
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S2x2048x1024, .f32⟩
  | .hbm, ⟨5, _⟩ => ⟨S2x2048x1024, .f32⟩
  | .hbm, ⟨6, _⟩ => ⟨S1024x4096, .f32⟩
  | .hbm, ⟨7, _⟩ => ⟨S1024x1024, .f32⟩
  | .hbm, ⟨8, _⟩ => ⟨S1024x4096, .f32⟩
  | .hbm, ⟨9, _⟩ => ⟨S1024x1024, .f32⟩
  | .hbm, ⟨10, _⟩ => ⟨S1024x4096, .f32⟩
  | .hbm, ⟨11, _⟩ => ⟨S1024x1024, .f32⟩
  | .hbm, ⟨12, _⟩ => ⟨S1024x4096, .f32⟩
  | .hbm, ⟨13, _⟩ => ⟨S1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S4x1024x1024, .f32⟩
  | .hbm, ⟨19, _⟩ => ⟨S4x1024x1024, .bf16⟩
  | .hbm, ⟨20, _⟩ => ⟨S4096x1024, .f32⟩
  | .hbm, ⟨21, _⟩ => ⟨S4x1024x1024, .f32⟩
  | .hbm, ⟨22, _⟩ => ⟨S4x1024x1024, .bf16⟩
  | .hbm, ⟨23, _⟩ => ⟨S4x512x1024, .bf16⟩
  | .hbm, ⟨24, _⟩ => ⟨S4x512x1024, .bf16⟩
  | .hbm, ⟨25, _⟩ => ⟨S1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S1024x4096, .f32⟩
  | .hbm, ⟨43, _⟩ => ⟨S2x2048x4096, .f32⟩
  | .hbm, ⟨44, _⟩ => ⟨S_, .f32⟩
  | .hbm, ⟨45, _⟩ => ⟨S2x2048x4096, .f32⟩
  | .hbm, ⟨46, _⟩ => ⟨S2x2048x4096, .f32⟩
  | .hbm, ⟨47, _⟩ => ⟨S2x2048x4096, .f32⟩
  | .hbm, ⟨48, _⟩ => ⟨S4096x1024, .f32⟩
  | .hbm, ⟨49, _⟩ => ⟨S4096x1024, .bf16⟩
  | .hbm, ⟨50, _⟩ => ⟨S4096x4096, .f32⟩
  | .hbm, ⟨51, _⟩ => ⟨S4096x4096, .bf16⟩
  | .hbm, ⟨52, _⟩ => ⟨S4096x1024, .f32⟩
  | .hbm, ⟨53, _⟩ => ⟨S4096x1024, .f32⟩
  | .hbm, ⟨54, _⟩ => ⟨S4096x4096, .bf16⟩
  | .hbm, ⟨55, _⟩ => ⟨S4096x1024, .f32⟩
  | .hbm, ⟨56, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x4096, .bf16⟩
  | .local _ .vmem, ⟨10, _⟩ => ⟨S256x4096, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S4x1024x1024, .bf16⟩
  | .local _ .vmem, ⟨16, _⟩ => ⟨S4x512x1024, .bf16⟩
  | .local _ .vmem, ⟨17, _⟩ => ⟨S4x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_cst : Ref sig .tc := ⟨.hbm, 44, rfl⟩
abbrev main_call0_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let c16_i32 : BitVec 32 := 16#32
  let v4 : BitVec 1 := Scalar.cmpi .slt arg0 c16_i32
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c16_i32_4 : BitVec 32 := 16#32
  let v8 : BitVec 1 := Scalar.cmpi .eq arg0 c16_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S2x2048x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S1024x4096, .f32⟩
  | .hbm, ⟨28, _⟩ => ⟨S2x2048x4096, .f32⟩
  | .hbm, ⟨29, _⟩ => ⟨S_, .f32⟩
  | .hbm, ⟨30, _⟩ => ⟨S2x2048x4096, .f32⟩
  | .hbm, ⟨31, _⟩ => ⟨S2x2048x4096, .f32⟩
  | .hbm, ⟨32, _⟩ => ⟨S_, .f32⟩
  | .hbm, ⟨33, _⟩ => ⟨S2x2048x4096, .f32⟩
  | .hbm, ⟨34, _⟩ => ⟨S2x2048x4096, .i1⟩
  | .hbm, ⟨35, _⟩ => ⟨S_, .f32⟩
  | .hbm, ⟨36, _⟩ => ⟨S2x2048x4096, .f32⟩
  | .hbm, ⟨37, _⟩ => ⟨S2x2048x4096, .f32⟩
  | .hbm, ⟨38, _⟩ => ⟨S_, .f32⟩
  | .hbm, ⟨39, _⟩ => ⟨S2x2048x4096, .f32⟩
  | .hbm, ⟨40, _⟩ => ⟨S2x2048x4096, .f32⟩
  | .hbm, ⟨41, _⟩ => ⟨S4096x1024, .f32⟩
  | .hbm, ⟨42, _⟩ => ⟨S2x2048x1024, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S2x2048x4096, .f32⟩
  | .hbm, ⟨47, _⟩ => ⟨S2x2048x4096, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S1x1024, .f32⟩
  | .hbm, ⟨76, _⟩ => ⟨S4096x4096, .f32⟩
  | .hbm, ⟨77, _⟩ => ⟨S4096x4096, .bf16⟩
  | .hbm, ⟨78, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== InprojFwd.lean ====
abbrev S2x2048x1024 : Shape := ⟨3, ![2, 2048, 1024]⟩
abbrev S1x1024 : Shape := ⟨2, ![1, 1024]⟩
abbrev S1x1024x2568 : Shape := ⟨3, ![1, 1024, 2568]⟩
abbrev S1024x2568 : Shape := ⟨2, ![1024, 2568]⟩
abbrev S1024x642 : Shape := ⟨2, ![1024, 642]⟩
abbrev S1x1024x642 : Shape := ⟨3, ![1, 1024, 642]⟩
abbrev S4x1024x642 : Shape := ⟨3, ![4, 1024, 642]⟩
abbrev S1024x382 : Shape := ⟨2, ![1024, 382]⟩
abbrev S1024x1024 : Shape := ⟨2, ![1024, 1024]⟩
abbrev S1024x260 : Shape := ⟨2, ![1024, 260]⟩
abbrev S1024x252 : Shape := ⟨2, ![1024, 252]⟩
abbrev S1024x512 : Shape := ⟨2, ![1024, 512]⟩
abbrev S1024x390 : Shape := ⟨2, ![1024, 390]⟩
abbrev S1024x634 : Shape := ⟨2, ![1024, 634]⟩
abbrev S1024x8 : Shape := ⟨2, ![1024, 8]⟩
abbrev S_ : Shape := ⟨0, ![]⟩
abbrev S1024x128 : Shape := ⟨2, ![1024, 128]⟩
abbrev S4096x1024 : Shape := ⟨2, ![4096, 1024]⟩
abbrev S4096x512 : Shape := ⟨2, ![4096, 512]⟩
abbrev S4096x128 : Shape := ⟨2, ![4096, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 51
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S1024x2568, .f32⟩
  | .hbm, ⟨4, _⟩ => ⟨S1024x642, .f32⟩
  | .hbm, ⟨5, _⟩ => ⟨S1024x642, .bf16⟩
  | .hbm, ⟨6, _⟩ => ⟨S1024x2568, .f32⟩
  | .hbm, ⟨7, _⟩ => ⟨S1024x642, .f32⟩
  | .hbm, ⟨8, _⟩ => ⟨S1024x642, .bf16⟩
  | .hbm, ⟨9, _⟩ => ⟨S1024x2568, .f32⟩
  | .hbm, ⟨10, _⟩ => ⟨S1024x642, .f32⟩
  | .hbm, ⟨11, _⟩ => ⟨S1024x642, .bf16⟩
  | .hbm, ⟨12, _⟩ => ⟨S1024x2568, .f32⟩
  | .hbm, ⟨13, _⟩ => ⟨S1024x642, .f32⟩
  | .hbm, ⟨14, _⟩ => ⟨S1024x642, .bf16⟩
  | .hbm, ⟨15, _⟩ => ⟨S1x1024x642, .bf16⟩
  | .hbm, ⟨16, _⟩ => ⟨S1x1024x642, .bf16⟩
  | .hbm, ⟨17, _⟩ => ⟨S1x1024x642, .bf16⟩
  | .hbm, ⟨18, _⟩ => ⟨S1x1024x642, .bf16⟩
  | .hbm, ⟨19, _⟩ => ⟨S4x1024x642, .bf16⟩
  | .hbm, ⟨20, _⟩ => ⟨S1x1024x642, .bf16⟩
  | .hbm, ⟨21, _⟩ => ⟨S1024x642, .bf16⟩
  | .hbm, ⟨22, _⟩ => ⟨S1x1024x642, .bf16⟩
  | .hbm, ⟨23, _⟩ => ⟨S1024x642, .bf16⟩
  | .hbm, ⟨24, _⟩ => ⟨S1024x382, .bf16⟩
  | .hbm, ⟨25, _⟩ => ⟨S1024x1024, .bf16⟩
  | .hbm, ⟨26, _⟩ => ⟨S1x1024x642, .bf16⟩
  | .hbm, ⟨27, _⟩ => ⟨S1024x642, .bf16⟩
  | .hbm, ⟨28, _⟩ => ⟨S1024x260, .bf16⟩
  | .hbm, ⟨29, _⟩ => ⟨S1x1024x642, .bf16⟩
  | .hbm, ⟨30, _⟩ => ⟨S1024x642, .bf16⟩
  | .hbm, ⟨31, _⟩ => ⟨S1024x252, .bf16⟩
  | .hbm, ⟨32, _⟩ => ⟨S1024x512, .bf16⟩
  | .hbm, ⟨33, _⟩ => ⟨S1x1024x642, .bf16⟩
  | .hbm, ⟨34, _⟩ => ⟨S1024x642, .bf16⟩
  | .hbm, ⟨35, _⟩ => ⟨S1024x390, .bf16⟩
  | .hbm, ⟨36, _⟩ => ⟨S1x1024x642, .bf16⟩
  | .hbm, ⟨37, _⟩ => ⟨S1024x642, .bf16⟩
  | .hbm, ⟨38, _⟩ => ⟨S1024x634, .bf16⟩
  | .hbm, ⟨39, _⟩ => ⟨S1024x1024, .bf16⟩
  | .hbm, ⟨40, _⟩ => ⟨S1x1024x642, .bf16⟩
  | .hbm, ⟨41, _⟩ => ⟨S1024x642, .bf16⟩
  | .hbm, ⟨42, _⟩ => ⟨S1024x8, .bf16⟩
  | .hbm, ⟨43, _⟩ => ⟨S_, .i32⟩
  | .hbm, ⟨44, _⟩ => ⟨S_, .bf16⟩
  | .hbm, ⟨45, _⟩ => ⟨S1024x128, .bf16⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x512, .f32⟩
  | .hbm, ⟨50, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x128, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_c : Ref sig .tc := ⟨.hbm, 43, rfl⟩
abbrev main_call0_v0 : Ref sig .tc := ⟨.hbm, 44, rfl⟩
abbrev main_v40 : Ref sig .tc := ⟨.hbm, 45, rfl⟩
abbrev main_v41 : Ref sig .tc := ⟨.hbm, 46, rfl⟩
abbrev main_v42_0 : Ref sig .tc := ⟨.hbm, 47, rfl⟩
abbrev main_v42_1 : Ref sig .tc := ⟨.hbm, 48, rfl⟩
abbrev main_v42_2 : Ref sig .tc := ⟨.hbm, 49, rfl⟩
abbrev main_v42_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InfwdRefIdeal.lean ====
abbrev S2x2048x1024 : Shape := ⟨3, ![2, 2048, 1024]⟩
abbrev S1x1024 : Shape := ⟨2, ![1, 1024]⟩
abbrev S1x1024x2568 : Shape := ⟨3, ![1, 1024, 2568]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2568 : Shape := ⟨2, ![1024, 2568]⟩
abbrev S2x2048x2568 : Shape := ⟨3, ![2, 2048, 2568]⟩
abbrev S4096x2568 : Shape := ⟨2, ![4096, 2568]⟩
abbrev S4096x1024 : Shape := ⟨2, ![4096, 1024]⟩
abbrev S4096x512 : Shape := ⟨2, ![4096, 512]⟩
abbrev S4096x8 : Shape := ⟨2, ![4096, 8]⟩
abbrev S4096x128 : Shape := ⟨2, ![4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2568, .f32⟩
  | .hbm, ⟨3, _⟩ => ⟨S1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S1024x2568, .f32⟩
  | .hbm, ⟨21, _⟩ => ⟨S2x2048x2568, .f32⟩
  | .hbm, ⟨22, _⟩ => ⟨S4096x2568, .f32⟩
  | .hbm, ⟨23, _⟩ => ⟨S4096x1024, .f32⟩
  | .hbm, ⟨24, _⟩ => ⟨S4096x512, .f32⟩
  | .hbm, ⟨25, _⟩ => ⟨S4096x1024, .f32⟩
  | .hbm, ⟨26, _⟩ => ⟨S4096x8, .f32⟩
  | .hbm, ⟨27, _⟩ => ⟨S_, .i32⟩
  | .hbm, ⟨28, _⟩ => ⟨S_, .f32⟩
  | .hbm, ⟨29, _⟩ => ⟨S4096x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== LossTail.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x1024 : Shape := ⟨2, ![4096, 1024]⟩
abbrev S4x512x1024 : Shape := ⟨3, ![4, 512, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x4096 : Shape := ⟨2, ![4096, 4096]⟩
abbrev S8x128 : Shape := ⟨2, ![8, 128]⟩
abbrev S512x1024 : Shape := ⟨2, ![512, 1024]⟩
abbrev S512x4096 : Shape := ⟨2, ![512, 4096]⟩
abbrev S16 : Shape := ⟨1, ![16]⟩
abbrev S1 : Shape := ⟨1, ![1]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x1x1 : Shape := ⟨3, ![1, 1, 1]⟩

abbrev nBuf : Space → Nat
  | .hbm => 51
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S2x2048x1024, .f32⟩
  | .hbm, ⟨6, _⟩ => ⟨S1024x4096, .f32⟩
  | .hbm, ⟨7, _⟩ => ⟨S1024x1024, .f32⟩
  | .hbm, ⟨8, _⟩ => ⟨S1024x4096, .f32⟩
  | .hbm, ⟨9, _⟩ => ⟨S1024x1024, .f32⟩
  | .hbm, ⟨10, _⟩ => ⟨S1024x4096, .f32⟩
  | .hbm, ⟨11, _⟩ => ⟨S1024x1024, .f32⟩
  | .hbm, ⟨12, _⟩ => ⟨S1024x4096, .f32⟩
  | .hbm, ⟨13, _⟩ => ⟨S1024x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S4x1024x1024, .f32⟩
  | .hbm, ⟨19, _⟩ => ⟨S4x1024x1024, .bf16⟩
  | .hbm, ⟨20, _⟩ => ⟨S4096x1024, .f32⟩
  | .hbm, ⟨21, _⟩ => ⟨S4x1024x1024, .f32⟩
  | .hbm, ⟨22, _⟩ => ⟨S4x1024x1024, .bf16⟩
  | .hbm, ⟨23, _⟩ => ⟨S4x512x1024, .bf16⟩
  | .hbm, ⟨24, _⟩ => ⟨S4x512x1024, .bf16⟩
  | .hbm, ⟨25, _⟩ => ⟨S1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S4096x1024, .f32⟩
  | .hbm, ⟨46, _⟩ => ⟨S4096x4096, .bf16⟩
  | .hbm, ⟨47, _⟩ => ⟨S4096x1024, .bf16⟩
  | .hbm, ⟨48, _⟩ => ⟨S4096x1024, .f32⟩
  | .hbm, ⟨49, _⟩ => ⟨S8x128, .f32⟩
  | .hbm, ⟨50, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | .local _ .vmem, ⟨14, _⟩ => ⟨S1x1024, .f32⟩
  | .local _ .vmem, ⟨15, _⟩ => ⟨S512x1024, .f32⟩
  | .local _ .vmem, ⟨16, _⟩ => ⟨S4x1024x1024, .bf16⟩
  | .local _ .vmem, ⟨17, _⟩ => ⟨S4x512x1024, .bf16⟩
  | .local _ .vmem, ⟨18, _⟩ => ⟨S4x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev main_v37_3 : Ref sig .tc := ⟨.hbm, 49, rfl⟩
abbrev main_v37_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S8x128 : Shape := ⟨2, ![8, 128]⟩

abbrev nBuf : Space → Nat
  | .hbm => 108
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S1024x4096, .f32⟩
  | .hbm, ⟨24, _⟩ => ⟨S2x2048x4096, .f32⟩
  | .hbm, ⟨25, _⟩ => ⟨S_, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S4096x1024, .f32⟩
  | .hbm, ⟨30, _⟩ => ⟨S2x2048x1024, .f32⟩
  | .hbm, ⟨31, _⟩ => ⟨S1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1024, .f32⟩
  | .hbm, ⟨48, _⟩ => ⟨S2x2048x1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2x2048, .f32⟩
  | .hbm, ⟨71, _⟩ => ⟨S_, .f32⟩
  | .hbm, ⟨72, _⟩ => ⟨S2x2048, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S1024, .f32⟩
  | .hbm, ⟨79, _⟩ => ⟨S1x1x1024, .f32⟩
  | .hbm, ⟨80, _⟩ => ⟨S2x2048x1024, .f32⟩
  | .hbm, ⟨81, _⟩ => ⟨S2x2048x1024, .f32⟩
  | .hbm, ⟨82, _⟩ => ⟨S_, .f32⟩
  | .hbm, ⟨83, _⟩ => ⟨S1024, .f32⟩
  | .hbm, ⟨84, _⟩ => ⟨S2x2048x1024, .f32⟩
  | .hbm, ⟨85, _⟩ => ⟨S_, .f32⟩
  | .hbm, ⟨86, _⟩ => ⟨S2x2048, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S2x2048x1, .f32⟩
  | .hbm, ⟨91, _⟩ => ⟨S_, .f32⟩
  | .hbm, ⟨92, _⟩ => ⟨S2x2048x1, .f32⟩
  | .hbm, ⟨93, _⟩ => ⟨S2x2048x1, .f32⟩
  | .hbm, ⟨94, _⟩ => ⟨S_, .f32⟩
  | .hbm, ⟨95, _⟩ => ⟨S2x2048, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S1x1024, .f32⟩
  | .hbm, ⟨102, _⟩ => ⟨S4096x4096, .f32⟩
  | .hbm, ⟨103, _⟩ => ⟨S4096x4096, .bf16⟩
  | .hbm, ⟨104, _⟩ => ⟨S4096x1024, .f32⟩
  | .hbm, ⟨105, _⟩ => ⟨S4096x1024, .bf16⟩
  | .hbm, ⟨106, _⟩ => ⟨S4096x1024, .f32⟩
  | .hbm, ⟨107, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== DwUp.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S4096x1024, .f32⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S4x1024x1024, .bf16⟩
  | .local _ .vmem, ⟨0, _⟩ => ⟨S4096x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 2], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_off1 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v2 : Index := Scalar.indexCast v1
  let c0 : Index := 0#32
  ![v2.toNat, 0]
def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2x2048x1024 : Shape := ⟨3, ![2, 2048, 1024]⟩
abbrev S2x2048x4096 : Shape := ⟨3, ![2, 2048, 4096]⟩
abbrev S_ : Shape := ⟨0, ![]⟩
abbrev S1024x4096 : Shape := ⟨2, ![1024, 4096]⟩
abbrev S4096x1024 : Shape := ⟨2, ![4096, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S_, .f32⟩
  | .hbm, ⟨3, _⟩ => ⟨S1024x4096, .f32⟩
  | .hbm, ⟨4, _⟩ => ⟨S2x2048x4096, .f32⟩
  | .hbm, ⟨5, _⟩ => ⟨S4096x1024, .f32⟩
  | .hbm, ⟨6, _⟩ => ⟨S1024x4096, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S4x1024x1024, .f32⟩
  | .hbm, ⟨16, _⟩ => ⟨S4x1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== AdamHalves.lean ====
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 30
  | .vmem => 36
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1x512x1024, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1x512x1024, .f32⟩
  | .hbm, ⟨17, _⟩ => ⟨S512x1024, .f32⟩
  | .hbm, ⟨18, _⟩ => ⟨S1x512x1024, .f32⟩
  | .hbm, ⟨19, _⟩ => ⟨S512x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AdamRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S_, .f32⟩
  | .hbm, ⟨67, _⟩ => ⟨S1024x1024, .f32⟩
  | .hbm, ⟨68, _⟩ => ⟨S1024x1024, .f32⟩
  | .hbm, ⟨69, _⟩ => ⟨S_, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S_, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== ChipSum.lean ====
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .local _ .vmem, ⟨0, _⟩ => ⟨S4x512x1024, .bf16⟩
  | .local _ .vmem, ⟨1, _⟩ => ⟨S512x1024, .f32⟩
  | _, _ => ⟨S4x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumRefIdeal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reals.lean ====
/-
  Extended reals that are real numbers. Where every argument is finite, each operation of a kernel or of a reference
  gives a real number again; the lemmas here carry one operation each from the extended reals to the reals, and read
  the float words both programs write out.
-/
module

public import Idealize.ShloMosaic.Lib.Pointwise
public import Idealize.ShloMosaic.PureOps.Ideal.Laws

@[expose] public section

noncomputable section

namespace Cert.Reals

open Idealize.ShloMosaic

/-- A sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of real numbers by one that is not zero. -/
theorem div_real {x y : ℝ} (h : y ≠ 0) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- An extended real below infinity in absolute value is its real part. -/
theorem eq_toReal_of_abs_lt {x : EReal} (h : max x (-x) < ⊤) : x = ((x.toReal : ℝ) : EReal) := by
  refine (EReal.coe_toReal (fun e => ?_) fun e => ?_).symm
  · subst e; simp at h
  · subst e; simp at h

/-- The norms' epsilon: the float word nearest to one millionth. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_inf : Ideal.ofBits .f32 0x7F800000#32 = ⊤ := by
  simp [Ideal.ofBits, Ideal.ieee]

/-- The source indices of a sum over the two leading axes of a block of rank three: one per pair of coordinates. -/
theorem drop_lead2 {n0 n1 n2 : Nat} (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A host sum over the two leading axes of a block of rank three, at an index. -/
theorem hostReduceAdd_lead2 {n0 n1 n2 : Nat} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  refine congrArg (init + ·) (Eq.trans ?_ (Fintype.sum_prod_type' (fun (a : Fin n0) (b : Fin n1) => v (ix3 a b (j 0)))))
  exact @Finset.sum_filter_eq_sum_of_fiber _ _ _ _ _ _ _ (fun i => h.drop i = j) _ (fun k : Fin n0 × Fin n1 => ix3 k.1 k.2 (j 0))
    (fun x y e => Prod.ext (congrFun e 0) (congrFun e 1)) (drop_lead2 h j) v

/-! ## The root mean square of a row of 1024 numbers -/

/-- The mean of the squares, plus epsilon. -/
def meanSq (x : Fin 1024 → ℝ) : ℝ := (∑ d, x d * x d) / 1024 + eps

/-- The reciprocal root mean square. -/
def rms (x : Fin 1024 → ℝ) : ℝ := (Real.sqrt (meanSq x))⁻¹

theorem meanSq_pos (x : Fin 1024 → ℝ) : 0 < meanSq x :=
  add_pos_of_nonneg_of_pos (div_nonneg (Finset.sum_nonneg fun d _ => mul_self_nonneg (x d)) (by norm_num)) eps_pos

theorem rms_sq (x : Fin 1024 → ℝ) : rms x * rms x = (meanSq x)⁻¹ := by
  rw [rms, ← mul_inv, Real.mul_self_sqrt (meanSq_pos x).le]

/-- The gradient of a row of a root-mean-square norm, as the kernels write it. -/
def rmsBwd (x g : Fin 1024 → ℝ) (d : Fin 1024) : ℝ :=
  rms x * g d - x d * (rms x * rms x * rms x) * ((∑ e, g e * x e) / 1024)

/-- The same gradient by the chain rule, one operation of the norm at a time: the square's two equal halves, each with
    the derivative of the reciprocal root at the mean square. -/
theorem rmsBwd_chain (x g : Fin 1024 → ℝ) (d : Fin 1024) :
    g d * rms x + x d * ((∑ e, x e * g e) * (-(1 / 2) * (rms x / meanSq x)) / 1024)
      + (∑ e, x e * g e) * (-(1 / 2) * (rms x / meanSq x)) / 1024 * x d = rmsBwd x g d := by
  have h : rms x / meanSq x = rms x * rms x * rms x := by rw [rms_sq, div_eq_mul_inv, mul_comm]
  rw [h, rmsBwd, Finset.sum_congr rfl fun e _ => mul_comm (x e) (g e)]
  ring

/-- A sum over blocks of consecutive numbers is the sum over all of them. -/
theorem sum_blocks {M : Type} [AddCommMonoid M] (a b : ℕ) (F : ℕ → M) :
    ∑ t ∈ Finset.range a, ∑ r ∈ Finset.range b, F (b * t + r) = ∑ n ∈ Finset.range (b * a), F n := by
  induction a with
  | zero => simp
  | succ a ih => rw [Finset.sum_range_succ, ih, Nat.mul_succ, Finset.sum_range_add]

/-- A running value that starts with the first block's part and adds one block's part at each further step is the sum of the parts. -/
theorem running_sum {N : ℕ} (v : (n : ℕ) → n < N → EReal) (p : ℕ → ℝ) (h0 : ∀ h, v 0 h = ((p 0 : ℝ) : EReal))
    (hs : ∀ n (h : n + 1 < N) (h' : n < N), v (n + 1) h = v n h' + ((p (n + 1) : ℝ) : EReal)) (n : ℕ) (hn : n < N) :
    v n hn = ((∑ t ∈ Finset.range (n + 1), p t : ℝ) : EReal) := by
  induction n with
  | zero => rw [h0, Finset.sum_range_one]
  | succ n ih => rw [hs n hn (by omega), ih (by omega), ← EReal.coe_add, Finset.sum_range_succ _ (n + 1)]

theorem exists_ix2 {n0 n1 : ℕ} (i : (⟨2, ![n0, n1]⟩ : Shape).Idx) : ∃ (a : Fin n0) (b : Fin n1), i = ix2 a b := ⟨_, _, eq_ix2 i⟩
theorem exists_ix3 {n0 n1 n2 : ℕ} (i : (⟨3, ![n0, n1, n2]⟩ : Shape).Idx) : ∃ (a : Fin n0) (b : Fin n1) (d : Fin n2), i = ix3 a b d := ⟨_, _, _, eq_ix3 i⟩

/-- One entry of a row times a transposed matrix. -/
def rowDot {n k : ℕ} (P : Fin k → ℝ) (W : Fin n → Fin k → ℝ) (d : Fin n) : ℝ := ∑ e, P e * W d e

/-- An array whose absolute values all lie below infinity holds the reals its entries are. -/
theorem real_of_finite {S : Shape} {a : FVec Ideal S .f32} {h : (⟨0, ![]⟩ : Shape).BroadcastsInDim S (![] : Fin 0 → Fin S.rank)}
    (e : cmpf .olt (Host.absf a) (broadcastInDim S ![] h (constant ⟨0, ![]⟩ .f32 0x7F800000#32)) = fun _ => 1#1) (i : S.Idx) :
    a i = (((a i).toReal : ℝ) : EReal) := by
  refine eq_toReal_of_abs_lt ?_
  have e1 := congrFun e i
  replace e1 : Ideal.cmp .olt (max (a i) (-(a i))) (Ideal.ofBits .f32 0x7F800000#32) = 1#1 := e1
  rw [ofBits_inf] at e1
  by_contra hn
  simp [Ideal.cmp, hn] at e1

end Cert.Reals

end
-- ==== Proof.InprojBwdPoint.lean ====
/-
  One grid point of the input projection's backward pass: what it leaves in each output's staging buffer, as the
  kernel's payloads of the point's input blocks, and those blocks as parts of the arguments of @main.
-/
module

public import proofs.«01_k».proof.Proof.Gen.InprojBwdIdeal.Value
public import Idealize.ShloMosaic.Lib.Pointwise
public import Idealize.ShloMosaic.Lib.StableHlo.ReadAt

@[expose] public section

set_option maxRecDepth 16384

noncomputable section

namespace Cert.Inproj

open Cert.InprojBwdIdeal Cert.InprojBwdIdeal.Gen Idealize.ShloMosaic Idealize.ShloMosaic.TcCoe Idealize.SL.Sem

section
variable {F : FTy → Type} [FloatOps F] (m : (ℓ : Loc nD τ sig) → Buf (Elt F) ℓ) (c : Dev nD)

theorem hz : (![0, 0] : Fin 2 → Nat) = fun _ => 0 := funext fun a => by fin_cases a <;> rfl

/-- The gradient that reaches the point's normed rows: the sum of its four products. -/
def dhOf (t : Fin cfg0.N) : FVec F S512x1024 .f32 :=
  k0_pay2 (iblk m c 0 t) (iblk m c 4 t)
    (View.ld (iblk m c 1 t) (Rect.unit ![0, 0] ![512, 1024] inb_S512x1664_S512x1024_0_0)) (iblk m c 5 t)
    (View.ld (iblk m c 1 t) (Rect.unit ![0, 1024] ![512, 512] inb_S512x1664_S512x512_0_1024)) (iblk m c 6 t)
    (View.ld (iblk m c 1 t) (Rect.unit ![0, 1536] ![512, 128] inb_S512x1664_S512x128_0_1536)) (iblk m c 7 t)

/-- The point's block of the residual stream's gradient. -/
def gxOf (t : Fin cfg0.N) : FVec F S512x1024 .f32 :=
  k0_pay6 (dhOf m c t) (k0_pay3 (iblk m c 2 t)) (k0_pay4 (iblk m c 2 t)) (iblk m c 8 t) (iblk m c 3 t)

/-- The point's block of normed rows. -/
def hOf (t : Fin cfg0.N) : FVec F S512x1024 .bf16 :=
  k0_pay7 (k0_pay3 (iblk m c 2 t)) (iblk m c 8 t) (k0_pay4 (iblk m c 2 t))

/-- The norm weight's gradient after the point, from what it was before. -/
def gwOf (t : Fin cfg0.N) (acc : FVec F S1x1024 .f32) : FVec F S1x1024 .f32 :=
  k0_pay8 (dhOf m c t) (k0_pay3 (iblk m c 2 t)) (k0_pay4 (iblk m c 2 t)) acc

theorem gx_A (t : Fin cfg0.N) (h0 : t.val % 8 = 0) : (outsAt0 m c t.val t.isLt).1 = gxOf m c t := by
  rw [outsAt0_A m c t h0]
  dsimp only
  unfold out0_A_9
  rw [View.read_writes_eq_canon _ _ _ (fun y => cover0_A_9 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S1x1024) hz, View.ld_unit_zero (S := S1024x1024) hz,View.ld_unit_zero (S := S1024x512) hz,View.ld_unit_zero (S := S1024x128) hz]
  rfl

theorem gx_B (t : Fin cfg0.N) (h0 : ¬t.val % 8 = 0) : (outsAt0 m c t.val t.isLt).1 = gxOf m c t := by
  rw [outsAt0_B m c t h0]
  dsimp only
  unfold out0_B_9
  rw [View.read_writes_eq_canon _ _ _ (fun y => cover0_B_9 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S1x1024) hz, View.ld_unit_zero (S := S1024x1024) hz,View.ld_unit_zero (S := S1024x512) hz,View.ld_unit_zero (S := S1024x128) hz]
  rfl

theorem h_A (t : Fin cfg0.N) (h0 : t.val % 8 = 0) : (outsAt0 m c t.val t.isLt).2.1 = hOf m c t := by
  rw [outsAt0_A m c t h0]
  dsimp only
  unfold out0_A_10
  rw [View.read_writes_eq_canon _ _ _ (fun y => cover0_A_10 (y := y) ..)]
  unfold kernelRun0_A
  dsimp only
  sl_unfold_words
  rw [View.canon_unit_zero hz]
  simp only [View.readAt_eq_ld, (hs0_2 t).read_unread, (hs0_8 t).read_unread, View.ld_unit_zero (S := S512x1024) hz, View.ld_unit_zero (S := S1x1024) hz]
  rfl

theorem h_B (t : Fin cfg0.N) (h0 : ¬t.val % 8 = 0) : (outsAt0 m c t.val t.isLt).2.1 = hOf m c t := by
  rw [outsAt0_B m c t h0]
  dsimp only
  unfold out0_B_10
  rw [View.read_writes_eq_canon _ _ _ (fun y => cover0_B_10 (y := y) ..)]
  unfold kernelRun0_B
  dsimp only
  sl_unfold_words
  rw [View.canon_unit_zero hz]
  simp only [View.readAt_eq_ld, (hs0_2 t).read_unread, (hs0_8 t).read_unread, View.ld_unit_zero (S := S512x1024) hz, View.ld_unit_zero (S := S1x1024) hz]
  rfl

theorem gw_A (t : Fin cfg0.N) (h0 : t.val % 8 = 0) : (outsAt0 m c t.val t.isLt).2.2 = gwOf m c t k0_pay1 := by
  rw [outsAt0_A m c t h0]
  dsimp only
  unfold out0_A_11
  rw [View.read_writes_eq_canon _ _ _ (fun y => cover0_A_11 (y := y) ..)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S1x1024) hz, View.ld_unit_zero (S := S1024x1024) hz,View.ld_unit_zero (S := S1024x512) hz,View.ld_unit_zero (S := S1024x128) hz]
  rfl

theorem gw_B (t : Fin cfg0.N) (h0 : ¬t.val % 8 = 0) :
    (outsAt0 m c t.val t.isLt).2.2 = gwOf m c t (outsAt0 m c (t.val - 1) (by have := t.isLt; omega)).2.2 := by
  rw [outsAt0_B m c t h0]
  dsimp only
  unfold out0_B_11
  rw [View.read_writes_eq_canon _ _ _ (fun y => cover0_B_11 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_11 t).read_unread, View.ld_unit_zero (S := S512x1024) hz, View.ld_unit_zero (S := S1x1024) hz, View.ld_unit_zero (S := S1024x1024) hz,View.ld_unit_zero (S := S1024x512) hz,View.ld_unit_zero (S := S1024x128) hz]
  rfl

end

/-! ## The point's blocks as parts of the arguments -/

section
variable (m : (ℓ : Loc nD τ sig) → Buf (Elt Ideal) ℓ) (c : Dev nD)

/-- The row of the whole arrays that is row `r` of point `t`'s blocks. -/
def row (t : Fin cfg0.N) (r : Fin 512) : Fin 4096 :=
  ⟨512 * t.val + r.val, by have := t.isLt; have : cfg0.N = 8 := N_0; omega⟩

/-- The batch of a row, and its position in the sequence. -/
def bat (i : Fin 4096) : Fin 2 := ⟨i.val / 2048, by omega⟩
def pos (i : Fin 4096) : Fin 2048 := ⟨i.val % 2048, by omega⟩

abbrev argX : Vec Ideal S2x2048x1024 .f32 := m (c.tc.loc main_arg0)
abbrev argNw : Vec Ideal S1x1024 .f32 := m (c.tc.loc main_arg1)
abbrev argW : Vec Ideal S1x1024x2568 .f32 := m (c.tc.loc main_arg2)
abbrev argDx : Vec Ideal S2x2048x1024 .f32 := m (c.tc.loc main_arg3)
abbrev argP : Vec Ideal S2x2048x2568 .f32 := m (c.tc.loc main_arg4)

theorem sitofp_zero (φ : FTy) : FloatOps.sitofp (F := Ideal) φ 0#32 = 0 := by
  show (((0#32 : BitVec 32).toInt : ℝ) : EReal) = 0
  simp

/-- A block of rows sits in its array at the point's row offset; a block that is a whole array sits at offset zero. -/
theorem index_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) ∧ (win0_10.index t 0 = t.val ∧ win0_10.index t 1 = 0) := by decide +kernel
theorem index_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_11.index t 0 = 0 ∧ win0_11.index t 1 = 0) := by decide +kernel

theorem blk_0 (t : Fin cfg0.N) (r : Fin 512) (k : Fin 1024) : iblk m c 0 t (ix2 r k) = argP m c (ix3 (bat (row t r)) (pos (row t r)) ⟨k.val, by omega⟩) := by
  have e : iblk m c 0 t (ix2 r k) = (V m c main_v43 : Vec Ideal S4096x1024 .bf16) (ix2 (row t r) k) := by
    unfold iblk
    rw [View.read_apply]
    refine congrArg (V m c main_v43 : Vec Ideal S4096x1024 .bf16) (funext fun a => Fin.ext ?_)
    match a with
    | ⟨0, _⟩ => show win0_0.index t 0 * 512 + 1 * r.val = 512 * t.val + r.val; rw [(index_rows t).1.1]; omega
    | ⟨1, _⟩ => show win0_0.index t 1 * 1024 + 1 * k.val = k.val; rw [(index_rows t).1.2]; omega
  rw [e]
  simp only [V]
  after_reads_at
  rfl
theorem blk_1 (t : Fin cfg0.N) (r : Fin 512) (k : Fin 1664) : iblk m c 1 t (ix2 r k) =
    (if h : k.val < 1024 then argP m c (ix3 (bat (row t r)) (pos (row t r)) ⟨k.val + 1536, by omega⟩)
    else if h : k.val < 1536 then argP m c (ix3 (bat (row t r)) (pos (row t r)) ⟨k.val, by omega⟩)
    else if h : k.val < 1544 then argP m c (ix3 (bat (row t r)) (pos (row t r)) ⟨k.val + 1024, by omega⟩) else 0) := by
  have e : iblk m c 1 t (ix2 r k) = (V m c main_v49 : Vec Ideal S4096x1664 .bf16) (ix2 (row t r) k) := by
    unfold iblk
    rw [View.read_apply]
    refine congrArg (V m c main_v49 : Vec Ideal S4096x1664 .bf16) (funext fun a => Fin.ext ?_)
    match a with
    | ⟨0, _⟩ => show win0_1.index t 0 * 512 + 1 * r.val = 512 * t.val + r.val; rw [(index_rows t).2.1.1]; omega
    | ⟨1, _⟩ => show win0_1.index t 1 * 1664 + 1 * k.val = k.val; rw [(index_rows t).2.1.2]; omega
  rw [e]
  simp only [V]
  after_reads_at
  by_cases h1 : k.val < 1024
  · rw [dif_pos h1, dif_pos h1]
    after_reads_at
    exact congrArg (fun j => argP m c (ix3 (bat (row t r)) (pos (row t r)) j)) (Fin.ext (by dsimp only; omega))
  rw [dif_neg h1, dif_neg h1]
  by_cases h2 : k.val < 1536
  · rw [dif_pos (by omega), dif_pos h2]
    after_reads_at
    exact congrArg (fun j => argP m c (ix3 (bat (row t r)) (pos (row t r)) j)) (Fin.ext (by dsimp only; omega))
  rw [dif_neg (by omega), dif_neg h2]
  by_cases h3 : k.val < 1544
  · rw [dif_pos h3]
    after_reads_at
    rw [dif_pos (by omega)]
    exact congrArg (fun j => argP m c (ix3 (bat (row t r)) (pos (row t r)) j)) (Fin.ext (by dsimp only; omega))
  rw [dif_neg h3]
  after_reads_at
  rw [dif_neg (by omega)]
  exact sitofp_zero .f32
theorem blk_2 (t : Fin cfg0.N) (r : Fin 512) (k : Fin 1024) : iblk m c 2 t (ix2 r k) = argX m c (ix3 (bat (row t r)) (pos (row t r)) k) := by
  have e : iblk m c 2 t (ix2 r k) = (V m c main_v50 : Vec Ideal S4096x1024 .f32) (ix2 (row t r) k) := by
    unfold iblk
    rw [View.read_apply]
    refine congrArg (V m c main_v50 : Vec Ideal S4096x1024 .f32) (funext fun a => Fin.ext ?_)
    match a with
    | ⟨0, _⟩ => show win0_2.index t 0 * 512 + 1 * r.val = 512 * t.val + r.val; rw [(index_rows t).2.2.1.1]; omega
    | ⟨1, _⟩ => show win0_2.index t 1 * 1024 + 1 * k.val = k.val; rw [(index_rows t).2.2.1.2]; omega
  rw [e]
  simp only [V]
  after_reads_at
  rfl
theorem blk_3 (t : Fin cfg0.N) (r : Fin 512) (k : Fin 1024) : iblk m c 3 t (ix2 r k) = argDx m c (ix3 (bat (row t r)) (pos (row t r)) k) := by
  have e : iblk m c 3 t (ix2 r k) = (V m c main_v51 : Vec Ideal S4096x1024 .f32) (ix2 (row t r) k) := by
    unfold iblk
    rw [View.read_apply]
    refine congrArg (V m c main_v51 : Vec Ideal S4096x1024 .f32) (funext fun a => Fin.ext ?_)
    match a with
    | ⟨0, _⟩ => show win0_3.index t 0 * 512 + 1 * r.val = 512 * t.val + r.val; rw [(index_rows t).2.2.2.1.1]; omega
    | ⟨1, _⟩ => show win0_3.index t 1 * 1024 + 1 * k.val = k.val; rw [(index_rows t).2.2.2.1.2]; omega
  rw [e]
  simp only [V]
  after_reads_at
  rfl
theorem blk_4 (t : Fin cfg0.N) (r : Fin 1024) (k : Fin 1024) : iblk m c 4 t (ix2 r k) = argW m c (ix3 0 r ⟨k.val, by omega⟩) := by
  have e : iblk m c 4 t (ix2 r k) = (V m c main_v22 : Vec Ideal S1024x1024 .bf16) (ix2 (r) k) := by
    unfold iblk
    rw [View.read_apply]
    refine congrArg (V m c main_v22 : Vec Ideal S1024x1024 .bf16) (funext fun a => Fin.ext ?_)
    match a with
    | ⟨0, _⟩ => show win0_4.index t 0 * 1024 + 1 * r.val = r.val; rw [(index_whole t).1.1]; omega
    | ⟨1, _⟩ => show win0_4.index t 1 * 1024 + 1 * k.val = k.val; rw [(index_whole t).1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_5 (t : Fin cfg0.N) (r : Fin 1024) (k : Fin 1024) : iblk m c 5 t (ix2 r k) = argW m c (ix3 0 r ⟨k.val + 1536, by omega⟩) := by
  have e : iblk m c 5 t (ix2 r k) = (V m c main_v36 : Vec Ideal S1024x1024 .bf16) (ix2 (r) k) := by
    unfold iblk
    rw [View.read_apply]
    refine congrArg (V m c main_v36 : Vec Ideal S1024x1024 .bf16) (funext fun a => Fin.ext ?_)
    match a with
    | ⟨0, _⟩ => show win0_5.index t 0 * 1024 + 1 * r.val = r.val; rw [(index_whole t).2.1.1]; omega
    | ⟨1, _⟩ => show win0_5.index t 1 * 1024 + 1 * k.val = k.val; rw [(index_whole t).2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_6 (t : Fin cfg0.N) (r : Fin 1024) (k : Fin 512) : iblk m c 6 t (ix2 r k) = argW m c (ix3 0 r ⟨k.val + 1024, by omega⟩) := by
  have e : iblk m c 6 t (ix2 r k) = (V m c main_v29 : Vec Ideal S1024x512 .bf16) (ix2 (r) k) := by
    unfold iblk
    rw [View.read_apply]
    refine congrArg (V m c main_v29 : Vec Ideal S1024x512 .bf16) (funext fun a => Fin.ext ?_)
    match a with
    | ⟨0, _⟩ => show win0_6.index t 0 * 1024 + 1 * r.val = r.val; rw [(index_whole t).2.2.1.1]; omega
    | ⟨1, _⟩ => show win0_6.index t 1 * 512 + 1 * k.val = k.val; rw [(index_whole t).2.2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_7 (t : Fin cfg0.N) (r : Fin 1024) (k : Fin 128) : iblk m c 7 t (ix2 r k) = (if h : k.val < 8 then argW m c (ix3 0 r ⟨k.val + 2560, by omega⟩) else 0) := by
  have e : iblk m c 7 t (ix2 r k) = (V m c main_v40 : Vec Ideal S1024x128 .bf16) (ix2 (r) k) := by
    unfold iblk
    rw [View.read_apply]
    refine congrArg (V m c main_v40 : Vec Ideal S1024x128 .bf16) (funext fun a => Fin.ext ?_)
    match a with
    | ⟨0, _⟩ => show win0_7.index t 0 * 1024 + 1 * r.val = r.val; rw [(index_whole t).2.2.2.1.1]; omega
    | ⟨1, _⟩ => show win0_7.index t 1 * 128 + 1 * k.val = k.val; rw [(index_whole t).2.2.2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_8 (t : Fin cfg0.N) (r : Fin 1) (k : Fin 1024) : iblk m c 8 t (ix2 r k) = argNw m c (ix2 r k) := by
  have e : iblk m c 8 t (ix2 r k) = (V m c main_arg1 : Vec Ideal S1x1024 .f32) (ix2 (r) k) := by
    unfold iblk
    rw [View.read_apply]
    refine congrArg (V m c main_arg1 : Vec Ideal S1x1024 .f32) (funext fun a => Fin.ext ?_)
    match a with
    | ⟨0, _⟩ => show win0_8.index t 0 * 1 + 1 * r.val = r.val; rw [(index_whole t).2.2.2.2.1.1]; omega
    | ⟨1, _⟩ => show win0_8.index t 1 * 1024 + 1 * k.val = k.val; rw [(index_whole t).2.2.2.2.1.2]; omega
  rw [e]
  rw [V_main_arg1]

end

end Cert.Inproj

end
-- ==== Proof.InprojBwdValue.lean ====
/-
  What the input projection's backward pass leaves in its three results, over the reals: the residual stream's
  gradient, the normed rows, and the norm weight's gradient summed over the grid's points.
-/
module

public import proofs.«01_k».proof.Proof.Reals
public import proofs.«01_k».proof.Proof.InprojBwdPoint
public import proofs.«01_k».proof.Proof.Gen.InprojBwdIdeal.Value

@[expose] public section

set_option maxRecDepth 16384

noncomputable section

namespace Cert.Inproj

open Cert.InprojBwdIdeal Cert.InprojBwdIdeal.Gen Cert.InprojBwdIdeal.Value Idealize.ShloMosaic Idealize.ShloMosaic.TcCoe Idealize.SL.Sem Cert.Reals

/-- The sum over the projection's columns, taken in the four groups the kernel keeps apart, the last one padded. -/
theorem dh_groups (f : Fin 2568 → ℝ) :
    (∑ k : Fin 1024, f ⟨k.val, by omega⟩) + (∑ k : Fin 1024, f ⟨k.val + 1536, by omega⟩)
      + (∑ k : Fin 512, f ⟨k.val + 1024, by omega⟩) + (∑ k : Fin 128, if h : k.val < 8 then f ⟨k.val + 2560, by omega⟩ else 0)
    = ∑ k, f k := by
  set g : ℕ → ℝ := fun n => if h : n < 2568 then f ⟨n, h⟩ else 0 with hg
  have hf : ∀ k : Fin 2568, f k = g k.val := fun k => by simp [hg, k.isLt]
  have h4 : (∑ k : Fin 128, if h : k.val < 8 then f ⟨k.val + 2560, by omega⟩ else 0) = ∑ n ∈ Finset.range 8, g (2560 + n) := by
    have e : ∀ k : Fin 128, (if h : k.val < 8 then f ⟨k.val + 2560, by omega⟩ else 0) = (fun n => g (2560 + n)) k.val := fun k => by
      by_cases h : k.val < 8
      · rw [dif_pos h, hf]; simp only [Nat.add_comm]
      · rw [dif_neg h]; simp only [hg]; rw [dif_neg (by omega)]
    rw [Finset.sum_congr rfl fun k _ => e k, Fin.sum_univ_eq_sum_range (fun n => g (2560 + n)) 128,
      show (128 : ℕ) = 8 + 120 from rfl, Finset.sum_range_add]
    rw [Finset.sum_eq_zero (s := Finset.range 120), add_zero]
    intro n _
    simp only [hg]
    rw [dif_neg (by omega)]
  rw [h4]
  simp only [hf]
  rw [Fin.sum_univ_eq_sum_range (fun n => g n) 1024, Fin.sum_univ_eq_sum_range (fun n => g (n + 1536)) 1024,
    Fin.sum_univ_eq_sum_range (fun n => g (n + 1024)) 512, Fin.sum_univ_eq_sum_range (fun n => g n) 2568]
  rw [show (2568 : ℕ) = 1024 + 512 + 1024 + 8 from rfl, Finset.sum_range_add, Finset.sum_range_add, Finset.sum_range_add]
  simp only [Nat.add_comm, Nat.reduceAdd]
  ring

section
variable (m : (ℓ : Loc nD τ sig) → Buf (Elt Ideal) ℓ) (c : Dev nD)
  (X : Fin 2 → Fin 2048 → Fin 1024 → ℝ) (NW : Fin 1024 → ℝ) (W : Fin 1024 → Fin 2568 → ℝ) (P : Fin 2 → Fin 2048 → Fin 2568 → ℝ)
  (hx : ∀ b s d, argX m c (ix3 b s d) = ((X b s d : ℝ) : EReal)) (hnw : ∀ d, argNw m c (ix2 0 d) = ((NW d : ℝ) : EReal))
  (hw : ∀ d k, argW m c (ix3 0 d k) = ((W d k : ℝ) : EReal)) (hp : ∀ b s k, argP m c (ix3 b s k) = ((P b s k : ℝ) : EReal))

include hw hp in
theorem dhOf_at (t : Fin cfg0.N) (r : Fin 512) (d : Fin 1024) :
    dhOf m c t (ix2 r d) = ((rowDot (P (bat (row t r)) (pos (row t r))) W d : ℝ) : EReal) := by
  have h1 : ∀ k : Fin 1024, iblk m c 1 t (ix2 r ⟨k.val, by omega⟩) = argP m c (ix3 (bat (row t r)) (pos (row t r)) ⟨k.val + 1536, by omega⟩) := fun k => by
    rw [blk_1, dif_pos k.isLt]
  have h2 : ∀ k : Fin 512, iblk m c 1 t (ix2 r ⟨k.val + 1024, by omega⟩) = argP m c (ix3 (bat (row t r)) (pos (row t r)) ⟨k.val + 1024, by omega⟩) := fun k => by
    rw [blk_1, dif_neg (by dsimp only; omega), dif_pos (by dsimp only; omega)]
  have h3 : ∀ k : Fin 128, iblk m c 1 t (ix2 r ⟨k.val + 1536, by omega⟩) = (((if h : k.val < 8 then P (bat (row t r)) (pos (row t r)) ⟨k.val + 2560, by omega⟩ else 0 : ℝ)) : EReal) := fun k => by
    rw [blk_1, dif_neg (by dsimp only; omega), dif_neg (by dsimp only; omega)]
    by_cases h : k.val < 8
    · rw [dif_pos (by dsimp only; omega), dif_pos h, hp]
    · rw [dif_neg (by dsimp only; omega), dif_neg h, EReal.coe_zero]
  have h4 : ∀ k : Fin 128, iblk m c 7 t (ix2 d k) = (((if h : k.val < 8 then W d ⟨k.val + 2560, by omega⟩ else 0 : ℝ)) : EReal) := fun k => by
    rw [blk_7]
    by_cases h : k.val < 8
    · rw [dif_pos h, dif_pos h, hw]
    · rw [dif_neg h, dif_neg h, EReal.coe_zero]
  unfold dhOf
  pointwise [k0_pay2]
  have h2' : ∀ k : Fin 512, iblk m c 1 t (ix2 r ⟨1024 + k.val, by omega⟩) = argP m c (ix3 (bat (row t r)) (pos (row t r)) ⟨k.val + 1024, by omega⟩) := fun k => by
    rw [← h2 k]; exact congrArg (fun j => iblk m c 1 t (ix2 r j)) (Fin.ext (Nat.add_comm _ _))
  have h3' : ∀ k : Fin 128, iblk m c 1 t (ix2 r ⟨1536 + k.val, by omega⟩) = (((if h : k.val < 8 then P (bat (row t r)) (pos (row t r)) ⟨k.val + 2560, by omega⟩ else 0 : ℝ)) : EReal) := fun k => by
    rw [← h3 k]; exact congrArg (fun j => iblk m c 1 t (ix2 r j)) (Fin.ext (Nat.add_comm _ _))
  simp only [blk_0, blk_4, blk_5, blk_6, h1, h2', h3', h4, hp, hw, ← EReal.coe_mul, ← coe_sum, ← EReal.coe_add]
  refine congrArg _ ((Eq.trans ?_ (dh_groups fun k => P (bat (row t r)) (pos (row t r)) k * W d k)))
  congr 1
  refine Finset.sum_congr rfl fun k _ => ?_
  by_cases h : k.val < 8
  · rw [dif_pos h, dif_pos h, dif_pos h]
  · rw [dif_neg h, dif_neg h, dif_neg h, zero_mul]

include hx in
theorem rms_row (t : Fin cfg0.N) (r : Fin 512) :
    k0_pay5 (F := Ideal) (k0_pay4 (iblk m c 2 t)) (ix2 r 0) = ((rms (X (bat (row t r)) (pos (row t r))) : ℝ) : EReal) := by
  pointwise [k0_pay5, k0_pay4, k0_pay3]
  simp only [blk_2, hx, ofBits_1024, ofBits_eps, ← EReal.coe_mul, ← coe_sum, div_real (show (1024:ℝ) ≠ 0 by norm_num), ← EReal.coe_add]
  exact rsqrt_real (meanSq_pos _)

include hx hnw hw hp in
theorem gxOf_at (t : Fin cfg0.N) (r : Fin 512) (d : Fin 1024) :
    gxOf m c t (ix2 r d) = argDx m c (ix3 (bat (row t r)) (pos (row t r)) d)
      + ((rmsBwd (X (bat (row t r)) (pos (row t r))) (fun e => rowDot (P (bat (row t r)) (pos (row t r))) W e * NW e) d : ℝ) : EReal) := by
  unfold gxOf
  pointwise [k0_pay6, k0_pay3]
  simp only [rms_row m c X hx, dhOf_at m c W P hw hp, blk_2, blk_3, blk_8, hx, hnw, ofBits_1024, ← EReal.coe_mul, ← coe_sum, div_real (show (1024:ℝ) ≠ 0 by norm_num), ← EReal.coe_sub]
  rfl

include hx hnw in
theorem hOf_at (t : Fin cfg0.N) (r : Fin 512) (d : Fin 1024) :
    hOf m c t (ix2 r d) = ((X (bat (row t r)) (pos (row t r)) d * rms (X (bat (row t r)) (pos (row t r))) * NW d : ℝ) : EReal) := by
  unfold hOf
  pointwise [k0_pay7, k0_pay3]
  simp only [rms_row m c X hx, blk_2, blk_8, hx, hnw, ← EReal.coe_mul]

include hx hw hp in
theorem gwOf_at (t : Fin cfg0.N) (acc : Vec Ideal S1x1024 .f32) (d : Fin 1024) :
    gwOf m c t acc (ix2 0 d) = acc (ix2 0 d) + ((∑ r : Fin 512, rowDot (P (bat (row t r)) (pos (row t r))) W d * X (bat (row t r)) (pos (row t r)) d
      * rms (X (bat (row t r)) (pos (row t r))) : ℝ) : EReal) := by
  unfold gwOf
  pointwise [k0_pay8, k0_pay3]
  simp only [rms_row m c X hx, dhOf_at m c W P hw hp, blk_2, hx, ← EReal.coe_mul, ← coe_sum]

/-- The grid point and the row within its block where a row of the whole array is computed. -/
def pt (i : Fin 4096) : Fin cfg0.N := ⟨i.val / 512, by rw [show cfg0.N = 8 from N_0]; omega⟩
def sub (i : Fin 4096) : Fin 512 := ⟨i.val % 512, by omega⟩

theorem row_pt (i : Fin 4096) : row (pt i) (sub i) = i := Fin.ext (by show 512 * (i.val / 512) + i.val % 512 = i.val; omega)

theorem index_out (t : Fin cfg0.N) : win0_9.index t 0 = t.val ∧ win0_9.index t 1 = 0 ∧ win0_10.index t 0 = t.val ∧ win0_10.index t 1 = 0 := by
  revert t; decide +kernel

theorem gx_point (t : Fin cfg0.N) : (outsAt0 m c t.val t.isLt).1 = gxOf m c t := by
  by_cases h : t.val % 8 = 0
  · exact gx_A m c t h
  · exact gx_B m c t h

theorem h_point (t : Fin cfg0.N) : (outsAt0 m c t.val t.isLt).2.1 = hOf m c t := by
  by_cases h : t.val % 8 = 0
  · exact h_A m c t h
  · exact h_B m c t h

theorem arr_9 (i : Fin 4096) (d : Fin 1024) : ((dats m 0 c).arrAt 9 cfg0.N : Vec Ideal S4096x1024 .f32) (ix2 i d) = gxOf m c (pt i) (ix2 (sub i) d) := by
  have e := congrFun (blocks9 m c (pt i) (flush0_9 _)) (ix2 (sub i) d)
  rw [View.read_apply, flushed9, gx_point] at e
  refine Eq.trans ?_ e
  refine congrArg ((dats m 0 c).arrAt 9 cfg0.N : Vec Ideal S4096x1024 .f32) (funext fun a => Fin.ext ?_)
  have hi := index_out (pt i)
  match a with
  | ⟨0, _⟩ => show i.val = win0_9.index (pt i) 0 * 512 + 1 * (i.val % 512); rw [hi.1]; show i.val = i.val / 512 * 512 + 1 * (i.val % 512); omega
  | ⟨1, _⟩ => show d.val = win0_9.index (pt i) 1 * 1024 + 1 * d.val; rw [hi.2.1]; omega

theorem arr_10 (i : Fin 4096) (d : Fin 1024) : ((dats m 0 c).arrAt 10 cfg0.N : Vec Ideal S4096x1024 .bf16) (ix2 i d) = hOf m c (pt i) (ix2 (sub i) d) := by
  have e := congrFun (blocks10 m c (pt i) (flush0_10 _)) (ix2 (sub i) d)
  rw [View.read_apply, flushed10, h_point] at e
  refine Eq.trans ?_ e
  refine congrArg ((dats m 0 c).arrAt 10 cfg0.N : Vec Ideal S4096x1024 .bf16) (funext fun a => Fin.ext ?_)
  have hi := index_out (pt i)
  match a with
  | ⟨0, _⟩ => show i.val = win0_10.index (pt i) 0 * 512 + 1 * (i.val % 512); rw [hi.2.2.1]; show i.val = i.val / 512 * 512 + 1 * (i.val % 512); omega
  | ⟨1, _⟩ => show d.val = win0_10.index (pt i) 1 * 1024 + 1 * d.val; rw [hi.2.2.2]; omega

/-- The last point's running sum, as the contents of the norm weight's gradient. -/
abbrev gwLast : Vec Ideal S1x1024 .f32 := (outsAt0 m c 7 (by rw [show cfg0.N = 8 from N_0]; decide)).2.2

theorem arr_11 : (dats m 0 c).arrAt 11 cfg0.N = gwLast m c := by
  refine (dats m 0 c).arrAt_eq_of_cover 11 (gwLast m c) (fun t hf => ?_) fun i => ⟨t0_7, (flush0_11 t0_7).mpr rfl, ?_⟩
  · have hN : cfg0.N = 8 := N_0
    have h7 : t.val = 7 := by have := (flush0_11 t).mp hf; have := t.isLt; omega
    obtain rfl : t = t0_7 := Fin.ext h7
    rw [flushed11]
    have hz' : (fun a => win0_11.index t0_7 a * main_v52_2.ty.shape.size a) = fun _ => 0 := funext fun a => by fin_cases a <;> decide
    exact (Memref.read_access_unit_zero (Elt Ideal) main_v52_2 hz' (fun a => by rw [congrFun hz' a]; simp) (gwLast m c)).symm
  · show i ∈ ((View.whole main_v52_2).slice (win0_11.rect t0_7)).set
    rw [View.set_slice_whole, Rect.mem_set_unit]
    intro a
    have h0 : (i 0 : Nat) < 1 := (i 0).isLt
    have h1 : (i 1 : Nat) < 1024 := (i 1).isLt
    match a with
    | ⟨0, _⟩ => show win0_11.index t0_7 0 * win0_11.size 0 ≤ (i 0 : Nat) ∧ (i 0 : Nat) < win0_11.index t0_7 0 * win0_11.size 0 + win0_11.xsize (grid0.coords t0_7) 0
                rw [show win0_11.index t0_7 0 * win0_11.size 0 = 0 from by decide +kernel, show win0_11.xsize (grid0.coords t0_7) 0 = 1 from by decide +kernel]; omega
    | ⟨1, _⟩ => show win0_11.index t0_7 1 * win0_11.size 1 ≤ (i 1 : Nat) ∧ (i 1 : Nat) < win0_11.index t0_7 1 * win0_11.size 1 + win0_11.xsize (grid0.coords t0_7) 1
                rw [show win0_11.index t0_7 1 * win0_11.size 1 = 0 from by decide +kernel, show win0_11.xsize (grid0.coords t0_7) 1 = 1024 from by decide +kernel]; omega

/-- One row's part of the norm weight's gradient, over the running row number. -/
def gwPart (d : Fin 1024) (n : ℕ) : ℝ :=
  let b : Fin 2 := ⟨n / 2048 % 2, by omega⟩
  let s : Fin 2048 := ⟨n % 2048, by omega⟩
  rowDot (P b s) W d * X b s d * rms (X b s)

include hx hw hp in
theorem gw_step (t : Fin cfg0.N) (acc : Vec Ideal S1x1024 .f32) (d : Fin 1024) :
    gwOf m c t acc (ix2 0 d) = acc (ix2 0 d) + ((∑ r ∈ Finset.range 512, gwPart X W P d (512 * t.val + r) : ℝ) : EReal) := by
  rw [gwOf_at m c X W P hx hw hp, Finset.sum_range]
  have hN : cfg0.N = 8 := N_0
  have ht := t.isLt
  refine congrArg (fun z : ℝ => acc (ix2 0 d) + (z : EReal)) (Finset.sum_congr rfl fun r _ => ?_)
  have hb : (⟨(512 * t.val + r.val) / 2048 % 2, by omega⟩ : Fin 2) = bat (row t r) :=
    Fin.ext (by show (512 * t.val + r.val) / 2048 % 2 = (512 * t.val + r.val) / 2048; omega)
  show _ = rowDot (P ⟨(512 * t.val + r.val) / 2048 % 2, _⟩ ⟨(512 * t.val + r.val) % 2048, _⟩) W d * X ⟨(512 * t.val + r.val) / 2048 % 2, _⟩ _ d * rms (X ⟨(512 * t.val + r.val) / 2048 % 2, _⟩ _)
  rw [hb]
  rfl

include hx hw hp in
theorem gwLast_at (d : Fin 1024) :
    gwLast m c (ix2 0 d) = ((∑ b, ∑ s, X b s d * rms (X b s) * rowDot (P b s) W d : ℝ) : EReal) := by
  have hN : cfg0.N = 8 := N_0
  have key : gwLast m c (ix2 0 d) = _ := running_sum (fun n h => (outsAt0 m c n h).2.2 (ix2 0 d))
    (fun n => ∑ r ∈ Finset.range 512, gwPart X W P d (512 * n + r)) ?_ ?_ 7 (by omega)
  · refine key.trans (congrArg _ ?_)
    rw [sum_blocks 8 512 (gwPart X W P d), show 512 * 8 = 2048 * 2 from rfl, ← sum_blocks 2 2048, Finset.sum_range]
    refine Finset.sum_congr rfl fun b _ => ?_
    rw [Finset.sum_range]
    refine Finset.sum_congr rfl fun s _ => ?_
    have hb : (⟨(2048 * b.val + s.val) / 2048 % 2, by omega⟩ : Fin 2) = b := Fin.ext (by show (2048 * b.val + s.val) / 2048 % 2 = b.val; omega)
    have hs : (⟨(2048 * b.val + s.val) % 2048, by omega⟩ : Fin 2048) = s := Fin.ext (by show (2048 * b.val + s.val) % 2048 = s.val; omega)
    show rowDot (P ⟨(2048 * b.val + s.val) / 2048 % 2, _⟩ ⟨(2048 * b.val + s.val) % 2048, _⟩) W d * X ⟨(2048 * b.val + s.val) / 2048 % 2, _⟩ ⟨(2048 * b.val + s.val) % 2048, _⟩ d * rms (X ⟨(2048 * b.val + s.val) / 2048 % 2, _⟩ ⟨(2048 * b.val + s.val) % 2048, _⟩) = _
    rw [hb, hs]
    ring
  · intro h
    have h0 := gw_A m c ⟨0, h⟩ rfl
    dsimp only at h0 ⊢
    rw [h0, gw_step m c X W P hx hw hp]
    pointwise [k0_pay1]
  · intro n h h'
    have h0 := gw_B m c ⟨n + 1, h⟩ (by dsimp only; omega)
    dsimp only at h0 ⊢
    rw [h0, gw_step m c X W P hx hw hp]
    rfl

/-- The three results. -/
def gxRes : Vec Ideal S4096x1024 .f32 := fun i => argDx m c (ix3 (bat (i 0)) (pos (i 0)) (i 1))
  + ((rmsBwd (X (bat (i 0)) (pos (i 0))) (fun e => rowDot (P (bat (i 0)) (pos (i 0))) W e * NW e) (i 1) : ℝ) : EReal)
def hRes : Vec Ideal S4096x1024 .bf16 := fun i =>
  ((X (bat (i 0)) (pos (i 0)) (i 1) * rms (X (bat (i 0)) (pos (i 0))) * NW (i 1) : ℝ) : EReal)
def gwRes : Vec Ideal S1x1024 .f32 := fun i => ((∑ b, ∑ s, X b s (i 1) * rms (X b s) * rowDot (P b s) W (i 1) : ℝ) : EReal)

include hx hnw hw hp in
theorem final_9 : (dats m 0 c).arrAt 9 cfg0.N = gxRes m c X NW W P := by
  refine funext fun (i : S4096x1024.Idx) => ?_
  obtain ⟨a, d, rfl⟩ := exists_ix2 i
  rw [arr_9, gxOf_at m c X NW W P hx hnw hw hp, row_pt]
  rfl

include hx hnw in
theorem final_10 : (dats m 0 c).arrAt 10 cfg0.N = hRes X NW := by
  refine funext fun (i : S4096x1024.Idx) => ?_
  obtain ⟨a, d, rfl⟩ := exists_ix2 i
  rw [arr_10, hOf_at m c X NW hx hnw, row_pt]
  rfl

include hx hw hp in
theorem final_11 : (dats m 0 c).arrAt 11 cfg0.N = gwRes X W P := by
  rw [arr_11]
  refine funext fun (i : S1x1024.Idx) => ?_
  obtain ⟨a, d, rfl⟩ := exists_ix2 i
  obtain rfl : a = 0 := Subsingleton.elim _ _
  exact gwLast_at m c X W P hx hw hp d
end

end Cert.Inproj

end
-- ==== Proof.InprojRefValue.lean ====
/-
  What the reference of the input projection's backward pass computes, over the reals: the gradient of the residual
  stream, the normed rows, and the gradient of the norm's weight.
-/
module

public import proofs.«01_k».proof.Proof.Reals
public import proofs.«01_k».proof.Proof.Gen.InprojRefIdeal.Read

@[expose] public section

set_option maxRecDepth 16384

noncomputable section

namespace Cert.Inproj.Ref

open Cert.InprojRefIdeal Cert.InprojRefIdeal.Gen Cert.InprojRefIdeal.Read Idealize.ShloMosaic Cert.Reals

section
variable (x : Vec Ideal S2x2048x1024 .f32) (nw : Vec Ideal S1x1024 .f32) (w : Vec Ideal S1x1024x2568 .f32)
  (dx1 : Vec Ideal S2x2048x1024 .f32) (p : Vec Ideal S2x2048x2568 .f32)
  (X : Fin 2 → Fin 2048 → Fin 1024 → ℝ) (NW : Fin 1024 → ℝ) (W : Fin 1024 → Fin 2568 → ℝ) (P : Fin 2 → Fin 2048 → Fin 2568 → ℝ)
  (hx : ∀ b s d, x (ix3 b s d) = ((X b s d : ℝ) : EReal)) (hnw : ∀ d, nw (ix2 0 d) = ((NW d : ℝ) : EReal))
  (hw : ∀ d k, w (ix3 0 d k) = ((W d k : ℝ) : EReal)) (hp : ∀ b s k, p (ix3 b s k) = ((P b s k : ℝ) : EReal))

include hx in
theorem meanSq_at (b : Fin 2) (s : Fin 2048) : (val_main_v7 (F := Ideal) x : Vec Ideal S2x2048x1 .f32) (ix3 b s 0) = ((meanSq (X b s) : ℝ) : EReal) := by
  pointwise [val_main_v7, val_main_v5, val_main_v3, val_main_v2, val_main_v1, val_main_v4, val_main_v6, val_main_cst, val_main_cst_0, val_main_cst_1]
  simp only [hx, ofBits_1024, ofBits_eps, ← EReal.coe_mul, ← coe_sum, div_real (show (1024:ℝ) ≠ 0 by norm_num), ← EReal.coe_add]
  rfl

include hx in
theorem rms_at (b : Fin 2) (s : Fin 2048) : (val_main_v8 (F := Ideal) x : Vec Ideal S2x2048x1 .f32) (ix3 b s 0) = ((rms (X b s) : ℝ) : EReal) := by
  pointwise [val_main_v8]
  rw [meanSq_at x X hx, rsqrt_real (meanSq_pos _)]
  rfl

include hw hp in
theorem dh_at (b : Fin 2) (s : Fin 2048) (d : Fin 1024) : (val_main_v19 (F := Ideal) w p : Vec Ideal S2x2048x1024 .f32) (ix3 b s d) = ((rowDot (P b s) W d : ℝ) : EReal) := by
  pointwise [val_main_v19, val_main_v17]
  simp only [hw, hp, ← EReal.coe_mul, ← coe_sum]
  rfl

include hx hnw hw hp in
theorem gx_at (b : Fin 2) (s : Fin 2048) (d : Fin 1024) : (val_main_v40 (F := Ideal) x nw w dx1 p : Vec Ideal S2x2048x1024 .f32) (ix3 b s d)
    = dx1 (ix3 b s d) + ((rmsBwd (X b s) (fun e => rowDot (P b s) W e * NW e) d : ℝ) : EReal) := by
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v14, val_main_v0, val_main_v11, val_main_v10, val_main_v9, val_main_cst_2, val_main_cst_5, val_main_cst_6, val_main_cst_7]
  simp only [Fin.sum_univ_one, hx, hnw, meanSq_at x X hx, rms_at x X hx, dh_at w p W P hw hp, ofBits_1024, ofBits_neg_half, ← EReal.coe_mul, ← coe_sum,
    div_real (show (1024:ℝ) ≠ 0 by norm_num), div_real (meanSq_pos _).ne', add_assoc, ← EReal.coe_add]
  rw [← rmsBwd_chain, add_assoc]

include hx hw hp in
theorem gw_at (d : Fin 1024) : (val_main_v41 (F := Ideal) x w p : Vec Ideal S1x1024 .f32) (ix2 0 d)
    = ((∑ b, ∑ s, X b s d * rms (X b s) * rowDot (P b s) W d : ℝ) : EReal) := by
  pointwise [val_main_v41, val_main_v25, val_main_v22, val_main_v21, val_main_v20, val_main_v13, val_main_v12, hostReduceAdd_lead2, val_main_cst_3, val_main_cst_4]
  simp only [Fin.sum_univ_one, hx, rms_at x X hx, dh_at w p W P hw hp, ← EReal.coe_mul, ← coe_sum]

include hx hnw in
theorem h_at (b : Fin 2) (s : Fin 2048) (d : Fin 1024) : (val_main_v56 (F := Ideal) x nw : Vec Ideal S2x2048x1024 .f32) (ix3 b s d)
    = ((X b s d * rms (X b s) * NW d : ℝ) : EReal) := by
  pointwise [val_main_v56, val_main_v55, val_main_v54, val_main_v53, val_main_v52, val_main_v51, val_main_v50, val_main_v49, val_main_v48, val_main_v47, val_main_v46, val_main_v45, val_main_v44, val_main_v43, val_main_cst_8, val_main_cst_9, val_main_cst_10]
  simp only [hx, hnw, ofBits_1024, ofBits_eps, ← EReal.coe_mul, ← coe_sum, div_real (show (1024:ℝ) ≠ 0 by norm_num), ← EReal.coe_add]
  rw [show (∑ d, X b s d * X b s d)/1024 + eps = meanSq (X b s) from rfl, rsqrt_real (meanSq_pos _)]
  simp only [← EReal.coe_mul]
  rfl

include hx hnw hw hp in
theorem res_gx (i : Fin 4096) (d : Fin 1024) : (val_main_v42 (F := Ideal) x nw w dx1 p : Vec Ideal S4096x1024 .f32) (ix2 i d)
    = dx1 (ix3 ⟨i.val / 2048, by omega⟩ ⟨i.val % 2048, by omega⟩ d)
      + ((rmsBwd (X ⟨i.val / 2048, by omega⟩ ⟨i.val % 2048, by omega⟩)
        (fun e => rowDot (P ⟨i.val / 2048, by omega⟩ ⟨i.val % 2048, by omega⟩) W e * NW e) d : ℝ) : EReal) := by
  pointwise [val_main_v42]
  exact gx_at x nw w dx1 p X NW W P hx hnw hw hp _ _ _

include hx hnw in
theorem res_h (i : Fin 4096) (d : Fin 1024) : (val_main_v58 (F := Ideal) x nw : Vec Ideal S4096x1024 .bf16) (ix2 i d)
    = ((X ⟨i.val / 2048, by omega⟩ ⟨i.val % 2048, by omega⟩ d * rms (X ⟨i.val / 2048, by omega⟩ ⟨i.val % 2048, by omega⟩) * NW d : ℝ) : EReal) := by
  pointwise [val_main_v58, val_main_v57]
  exact h_at x nw X NW hx hnw _ _ _
end

end Cert.Inproj.Ref

end
-- ==== Proof.Inproj.lean ====
/-
  The input projection's backward pass: its runs, the reference's runs, and the equality of their results.
-/
module

public import proofs.«01_k».proof.Defs
public import proofs.«01_k».proof.Proof.InprojBwdValue
public import proofs.«01_k».proof.Proof.InprojRefValue
public import proofs.«01_k».proof.Proof.Gen.InprojBwd.Frame
public import proofs.«01_k».proof.Proof.Gen.InprojRefIdeal.Run
public import proofs.«01_k».proof.Proof.Gen.Pre_finite_inproj
public import Idealize.ShloMosaic.Adequacy
public import Idealize.ShloMosaic.Init

@[expose] public section

set_option maxRecDepth 16384

noncomputable section

namespace Cert.Inproj

open Idealize.ShloMosaic Idealize.SL.Sem Cert.Reals

theorem frame_ref : Cert.quiescent_InprojRefIdeal (hInprojRefIdeal := InprojRefIdeal.Gen.facts) := fun m ρ _ =>
  (θ_run InprojRefIdeal.defs _ _).mono (fun r h => ⟨fun c => (h c).2.2.2, sem_eq_zero_of_no_sems (by decide) r.2⟩)
    (InprojRefIdeal.Value.run (F := Ideal) m ρ)

/-- On arguments that are real numbers, the reference's three results are the kernel's. -/
theorem results_eq (x : Vec Ideal InprojRefIdeal.S2x2048x1024 .f32) (nw : Vec Ideal InprojRefIdeal.S1x1024 .f32)
    (w : Vec Ideal InprojRefIdeal.S1x1024x2568 .f32) (dx1 : Vec Ideal InprojRefIdeal.S2x2048x1024 .f32) (p : Vec Ideal InprojRefIdeal.S2x2048x2568 .f32)
    (m : (ℓ : Loc InprojBwdIdeal.nD InprojBwdIdeal.τ InprojBwdIdeal.sig) → Buf (Elt Ideal) ℓ) (c : Dev InprojBwdIdeal.nD)
    (e : x = argX m c ∧ nw = argNw m c ∧ w = argW m c ∧ dx1 = argDx m c ∧ p = argP m c)
    (hx : ∀ i, x i = (((x i).toReal : ℝ) : EReal)) (hnw : ∀ i, nw i = (((nw i).toReal : ℝ) : EReal))
    (hw : ∀ i, w i = (((w i).toReal : ℝ) : EReal)) (hp : ∀ i, p i = (((p i).toReal : ℝ) : EReal)) :
    InprojRefIdeal.Read.val_main_v42 (F := Ideal) x nw w dx1 p = (InprojBwdIdeal.Gen.dats m 0 c).arrAt 9 InprojBwdIdeal.cfg0.N
    ∧ InprojRefIdeal.Read.val_main_v58 (F := Ideal) x nw = (InprojBwdIdeal.Gen.dats m 0 c).arrAt 10 InprojBwdIdeal.cfg0.N
    ∧ InprojRefIdeal.Read.val_main_v41 (F := Ideal) x w p = (InprojBwdIdeal.Gen.dats m 0 c).arrAt 11 InprojBwdIdeal.cfg0.N := by
  obtain ⟨rfl, rfl, rfl, rfl, rfl⟩ := e
  have hx' := fun b s d => hx (ix3 b s d)
  have hnw' := fun d => hnw (ix2 0 d)
  have hw' := fun d k => hw (ix3 0 d k)
  have hp' := fun b s k => hp (ix3 b s k)
  refine ⟨?_, ?_, ?_⟩
  · rw [final_9 m c _ _ _ _ hx' hnw' hw' hp']
    refine funext fun (i : InprojBwdIdeal.S4096x1024.Idx) => ?_
    obtain ⟨a, d, rfl⟩ := exists_ix2 i
    exact Ref.res_gx _ _ _ _ _ _ _ _ _ hx' hnw' hw' hp' a d
  · rw [final_10 m c _ _ hx' hnw']
    refine funext fun (i : InprojBwdIdeal.S4096x1024.Idx) => ?_
    obtain ⟨a, d, rfl⟩ := exists_ix2 i
    exact Ref.res_h _ _ _ _ hx' hnw' a d
  · rw [final_11 m c _ _ _ hx' hw' hp']
    refine funext fun (i : InprojBwdIdeal.S1x1024.Idx) => ?_
    obtain ⟨a, d, rfl⟩ := exists_ix2 i
    obtain rfl : a = 0 := Subsingleton.elim _ _
    exact Ref.gw_at _ _ _ _ _ _ hx' hw' hp' d

theorem algebraic : Cert.algebraic_InprojBwdIdeal_InprojRefIdeal_pre_finite_inproj (hInprojBwdIdeal := InprojBwdIdeal.Gen.facts)
    (hInprojRefIdeal := InprojRefIdeal.Gen.facts) (hPre_finite_inproj := Pre_finite_inproj.Gen.facts) := by
  intro m ρ m' ρ' hpre hag
  refine ⟨_, _, _, InprojBwdIdeal.Value.run_blocks (F := Ideal) m ρ, (θ_run InprojRefIdeal.defs _ _).mono (fun r h c => ?_)
    (InprojRefIdeal.Value.run (F := Ideal) m' ρ')⟩
  have hc := h c
  obtain ⟨a0, a1, a2, a3, a4⟩ := hag c
  obtain ⟨p0, p1, p2, p3⟩ := hpre c
  obtain ⟨r0, r1, r2⟩ := results_eq _ _ _ _ _ m c ⟨a0, a1, a2, a3, a4⟩ (by rw [a0]; exact real_of_finite p0) (by rw [a1]; exact real_of_finite p1)
    (by rw [a2]; exact real_of_finite p2) (by rw [a4]; exact real_of_finite p3)
  exact ⟨hc.1.trans ((InprojRefIdeal.Read.val_main_v42_eq m' c).trans r0), hc.2.1.trans ((InprojRefIdeal.Read.val_main_v58_eq _ _).trans r1),
    hc.2.2.1.trans ((InprojRefIdeal.Read.val_main_v41_eq _ _ _).trans r2), hc.2.2.2⟩

end Cert.Inproj

end
-- ==== Proof.OutprojBwdPoint.lean ====
/-
  One grid point of the output projection's backward pass: what it leaves in each output's staging buffer, as the
  kernel's payloads of the point's input blocks, and those blocks as parts of the arguments of @main.
-/
module

public import proofs.«01_k».proof.Proof.Gen.OutprojBwdIdeal.Value
public import Idealize.ShloMosaic.Lib.Pointwise
public import Idealize.ShloMosaic.Lib.StableHlo.ReadAt

@[expose] public section

set_option maxRecDepth 16384

noncomputable section

namespace Cert.Outproj

open Cert.OutprojBwdIdeal Cert.OutprojBwdIdeal.Gen Idealize.ShloMosaic Idealize.ShloMosaic.TcCoe Idealize.SL.Sem

section
variable {F : FTy → Type} [FloatOps F] (m : (ℓ : Loc nD τ sig) → Buf (Elt F) ℓ) (c : Dev nD)

theorem hz : (![0, 0] : Fin 2 → Nat) = fun _ => 0 := funext fun a => by fin_cases a <;> rfl

/-- The point's block of the projection's gradient. -/
def goOf (t : Fin cfg0.N) : FVec F S256x1024 .bf16 := k0_pay9 (iblk m c 1 t) (iblk m c 3 t) (iblk m c 0 t)

/-- The point's blocks of the two mixers' gradients. -/
def gaOf (t : Fin cfg0.N) : FVec F S256x512 .f32 :=
  k0_pay1 (goOf m c t) (View.ld (iblk m c 2 t) (Rect.unit ![0, 0] ![512, 1024] inb_S1024x1024_S512x1024_0_0))
def gbOf (t : Fin cfg0.N) : FVec F S256x512 .f32 :=
  k0_pay2 (goOf m c t) (View.ld (iblk m c 2 t) (Rect.unit ![512, 0] ![512, 1024] inb_S1024x1024_S512x1024_512_0))

/-- The norm weight's gradient after the point, from what it was before. -/
def gwOf (t : Fin cfg0.N) (acc : FVec F S1x1024 .f32) : FVec F S1x1024 .f32 :=
  k0_pay3 (k0_pay8 (iblk m c 1 t) (iblk m c 0 t)) acc

theorem go_point (t : Fin cfg0.N) : (outsAt0 m c t.val t.isLt).1 = goOf m c t := by
  by_cases h0 : t.val % 16 = 0
  · rw [outsAt0_A m c t h0]
    dsimp only
    unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_3 t).read_unread, View.ld_unit_zero (S := S256x1024) hz, View.ld_unit_zero (S := S1x1024) hz]
    rfl
  · rw [outsAt0_B m c t h0]
    dsimp only
    unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_3 t).read_unread, View.ld_unit_zero (S := S256x1024) hz, View.ld_unit_zero (S := S1x1024) hz]
    rfl

theorem ga_point (t : Fin cfg0.N) : (outsAt0 m c t.val t.isLt).2.1 = gaOf m c t := by
  by_cases h0 : t.val % 16 = 0
  · rw [outsAt0_A m c t h0]
    dsimp only
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S256x1024) hz, View.ld_unit_zero (S := S1x1024) hz]
    rfl
  · rw [outsAt0_B m c t h0]
    dsimp only
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S256x1024) hz, View.ld_unit_zero (S := S1x1024) hz]
    rfl

theorem gb_point (t : Fin cfg0.N) : (outsAt0 m c t.val t.isLt).2.2.1 = gbOf m c t := by
  by_cases h0 : t.val % 16 = 0
  · rw [outsAt0_A m c t h0]
    dsimp only
    unfold out0_A_6
    rw [View.read_writes_eq_canon _ _ _ (fun y => cover0_A_6 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, View.ld_unit_zero (S := S256x1024) hz, View.ld_unit_zero (S := S1x1024) hz]
    rfl
  · rw [outsAt0_B m c t h0]
    dsimp only
    unfold out0_B_6
    rw [View.read_writes_eq_canon _ _ _ (fun y => cover0_B_6 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, View.ld_unit_zero (S := S256x1024) hz, View.ld_unit_zero (S := S1x1024) hz]
    rfl

theorem gw_A (t : Fin cfg0.N) (h0 : t.val % 16 = 0) : (outsAt0 m c t.val t.isLt).2.2.2 = gwOf m c t k0_pay4 := by
  rw [outsAt0_A m c t h0]
  dsimp only
  unfold out0_A_7
  rw [View.read_writes_eq_canon _ _ _ (fun y => cover0_A_7 (y := y) ..)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, View.ld_unit_zero (S := S256x1024) hz]
  rfl

theorem gw_B (t : Fin cfg0.N) (h0 : ¬t.val % 16 = 0) :
    (outsAt0 m c t.val t.isLt).2.2.2 = gwOf m c t (outsAt0 m c (t.val - 1) (by have := t.isLt; omega)).2.2.2 := by
  rw [outsAt0_B m c t h0]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_0 t).read_unread, (hs0_1 t).read_unread, (hs0_7 t).read_unread, View.ld_unit_zero (S := S256x1024) hz, View.ld_unit_zero (S := S1x1024) hz]
  rfl
end

/-! ## The point's blocks as parts of the arguments -/

section
variable (m : (ℓ : Loc nD τ sig) → Buf (Elt Ideal) ℓ) (c : Dev nD)

/-- The row of the whole arrays that is row `r` of point `t`'s blocks, its batch, and its position in the sequence. -/
def row (t : Fin cfg0.N) (r : Fin 256) : Fin 4096 :=
  ⟨256 * t.val + r.val, by have := t.isLt; have : cfg0.N = 16 := N_0; omega⟩
def bat (i : Fin 4096) : Fin 2 := ⟨i.val / 2048, by omega⟩
def pos (i : Fin 4096) : Fin 2048 := ⟨i.val % 2048, by omega⟩

abbrev argM : Vec Ideal S2x2048x1024 .f32 := m (c.tc.loc main_arg0)
abbrev argW : Vec Ideal S1x1024x1024 .f32 := m (c.tc.loc main_arg1)
abbrev argNw : Vec Ideal S1x1024 .f32 := m (c.tc.loc main_arg2)
abbrev argDx : Vec Ideal S2x2048x1024 .f32 := m (c.tc.loc main_arg3)

theorem index_in : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) := by decide +kernel

theorem blk_0 (t : Fin cfg0.N) (r : Fin 256) (k : Fin 1024) : iblk m c 0 t (ix2 r k) = argDx m c (ix3 (bat (row t r)) (pos (row t r)) k) := by
  have e : iblk m c 0 t (ix2 r k) = (V m c main_v3 : Vec Ideal S4096x1024 .f32) (ix2 (row t r) k) := by
    unfold iblk
    rw [View.read_apply]
    refine congrArg (V m c main_v3 : Vec Ideal S4096x1024 .f32) (funext fun a => Fin.ext ?_)
    match a with
    | ⟨0, _⟩ => show win0_0.index t 0 * 256 + 1 * r.val = 256 * t.val + r.val; rw [(index_in t).1.1]; omega
    | ⟨1, _⟩ => show win0_0.index t 1 * 1024 + 1 * k.val = k.val; rw [(index_in t).1.2]; omega
  rw [e]
  simp only [V]
  after_reads_at
  rfl

theorem blk_1 (t : Fin cfg0.N) (r : Fin 256) (k : Fin 1024) : iblk m c 1 t (ix2 r k)
    = (∑ e : Fin 1024, argM m c (ix3 (bat (row t r)) (pos (row t r)) e) * argW m c (ix3 0 e k) : EReal) := by
  have e : iblk m c 1 t (ix2 r k) = (V m c main_v2 : Vec Ideal S4096x1024 .f32) (ix2 (row t r) k) := by
    unfold iblk
    rw [View.read_apply]
    refine congrArg (V m c main_v2 : Vec Ideal S4096x1024 .f32) (funext fun a => Fin.ext ?_)
    match a with
    | ⟨0, _⟩ => show win0_1.index t 0 * 256 + 1 * r.val = 256 * t.val + r.val; rw [(index_in t).2.1.1]; omega
    | ⟨1, _⟩ => show win0_1.index t 1 * 1024 + 1 * k.val = k.val; rw [(index_in t).2.1.2]; omega
  rw [e]
  simp only [V]
  after_reads_at
  rfl

theorem blk_2 (t : Fin cfg0.N) (r : Fin 1024) (k : Fin 1024) : iblk m c 2 t (ix2 r k) = argW m c (ix3 0 r k) := by
  have e : iblk m c 2 t (ix2 r k) = (V m c main_v5 : Vec Ideal S1024x1024 .bf16) (ix2 r k) := by
    unfold iblk
    rw [View.read_apply]
    refine congrArg (V m c main_v5 : Vec Ideal S1024x1024 .bf16) (funext fun a => Fin.ext ?_)
    match a with
    | ⟨0, _⟩ => show win0_2.index t 0 * 1024 + 1 * r.val = r.val; rw [(index_in t).2.2.1.1]; omega
    | ⟨1, _⟩ => show win0_2.index t 1 * 1024 + 1 * k.val = k.val; rw [(index_in t).2.2.1.2]; omega
  rw [e]
  simp only [V]
  after_reads_at

theorem blk_3 (t : Fin cfg0.N) (k : Fin 1024) : iblk m c 3 t (ix2 0 k) = argNw m c (ix2 0 k) := by
  unfold iblk
  rw [View.read_apply]
  refine congrArg (argNw m c) (funext fun a => Fin.ext ?_)
  match a with
  | ⟨0, _⟩ => show win0_3.index t 0 * 1 + 1 * 0 = 0; rw [(index_in t).2.2.2.1]
  | ⟨1, _⟩ => show win0_3.index t 1 * 1024 + 1 * k.val = k.val; rw [(index_in t).2.2.2.2]; omega
end

end Cert.Outproj

end
-- ==== Proof.OutprojBwdValue.lean ====
/-
  What the output projection's backward pass leaves in its four results, over the reals: the projection's gradient, the
  two mixers' gradients, and the norm weight's gradient summed over the grid's points.
-/
module

public import proofs.«01_k».proof.Proof.Reals
public import proofs.«01_k».proof.Proof.OutprojBwdPoint

@[expose] public section

set_option maxRecDepth 16384

noncomputable section

namespace Cert.Outproj

open Cert.OutprojBwdIdeal Cert.OutprojBwdIdeal.Gen Cert.OutprojBwdIdeal.Value Idealize.ShloMosaic Idealize.ShloMosaic.TcCoe Idealize.SL.Sem Cert.Reals

/-- The projection of a row. -/
def proj (M : Fin 1024 → ℝ) (W : Fin 1024 → Fin 1024 → ℝ) (d : Fin 1024) : ℝ := ∑ e, M e * W e d

/-- The gradient of the projection of a row. -/
def go (M : Fin 1024 → ℝ) (W : Fin 1024 → Fin 1024 → ℝ) (NW G : Fin 1024 → ℝ) (d : Fin 1024) : ℝ :=
  rmsBwd (proj M W) (fun e => G e * NW e) d

section
variable (m : (ℓ : Loc nD τ sig) → Buf (Elt Ideal) ℓ) (c : Dev nD)
  (M : Fin 2 → Fin 2048 → Fin 1024 → ℝ) (W : Fin 1024 → Fin 1024 → ℝ) (NW : Fin 1024 → ℝ) (G : Fin 2 → Fin 2048 → Fin 1024 → ℝ)
  (hm : ∀ b s d, argM m c (ix3 b s d) = ((M b s d : ℝ) : EReal)) (hw : ∀ d k, argW m c (ix3 0 d k) = ((W d k : ℝ) : EReal))
  (hnw : ∀ d, argNw m c (ix2 0 d) = ((NW d : ℝ) : EReal)) (hg : ∀ b s k, argDx m c (ix3 b s k) = ((G b s k : ℝ) : EReal))

include hm hw in
theorem o_at (t : Fin cfg0.N) (r : Fin 256) (k : Fin 1024) :
    iblk m c 1 t (ix2 r k) = ((proj (M (bat (row t r)) (pos (row t r))) W k : ℝ) : EReal) := by
  rw [blk_1]
  simp only [hm, hw, ← EReal.coe_mul, ← coe_sum]
  rfl

include hm hw in
theorem rms_row (t : Fin cfg0.N) (r : Fin 256) :
    k0_pay6 (F := Ideal) (iblk m c 1 t) (ix2 r 0) = ((rms (proj (M (bat (row t r)) (pos (row t r))) W) : ℝ) : EReal) := by
  pointwise [k0_pay6, k0_pay5]
  simp only [o_at m c M W hm hw, ofBits_1024, ofBits_eps, ← EReal.coe_mul, ← coe_sum, div_real (show (1024:ℝ) ≠ 0 by norm_num), ← EReal.coe_add]
  exact rsqrt_real (meanSq_pos _)

include hm hw hnw hg in
theorem goOf_at (t : Fin cfg0.N) (r : Fin 256) (d : Fin 1024) :
    goOf m c t (ix2 r d) = ((go (M (bat (row t r)) (pos (row t r))) W NW (G (bat (row t r)) (pos (row t r))) d : ℝ) : EReal) := by
  unfold goOf
  pointwise [k0_pay9, k0_pay5, k0_pay7]
  simp only [rms_row m c M W hm hw, o_at m c M W hm hw, blk_0, blk_3, hg, hnw, ofBits_1024, ← EReal.coe_mul, ← coe_sum, div_real (show (1024:ℝ) ≠ 0 by norm_num), ← EReal.coe_sub]
  rfl

include hm hw hnw hg in
theorem gaOf_at (t : Fin cfg0.N) (r : Fin 256) (d : Fin 512) :
    gaOf m c t (ix2 r d) = ((∑ e, go (M (bat (row t r)) (pos (row t r))) W NW (G (bat (row t r)) (pos (row t r))) e * W ⟨d.val, by omega⟩ e : ℝ) : EReal) := by
  unfold gaOf
  pointwise [k0_pay1]
  simp only [goOf_at m c M W NW G hm hw hnw hg, blk_2, hw, ← EReal.coe_mul, ← coe_sum]

include hm hw hnw hg in
theorem gbOf_at (t : Fin cfg0.N) (r : Fin 256) (d : Fin 512) :
    gbOf m c t (ix2 r d) = ((∑ e, go (M (bat (row t r)) (pos (row t r))) W NW (G (bat (row t r)) (pos (row t r))) e * W ⟨512 + d.val, by omega⟩ e : ℝ) : EReal) := by
  unfold gbOf
  pointwise [k0_pay2]
  simp only [goOf_at m c M W NW G hm hw hnw hg, blk_2, hw, ← EReal.coe_mul, ← coe_sum]

/-- One row's part of the norm weight's gradient, over the running row number. -/
def gwPart (d : Fin 1024) (n : ℕ) : ℝ :=
  let b : Fin 2 := ⟨n / 2048 % 2, by omega⟩
  let s : Fin 2048 := ⟨n % 2048, by omega⟩
  G b s d * proj (M b s) W d * rms (proj (M b s) W)

include hm hw hg in
theorem gw_step (t : Fin cfg0.N) (acc : Vec Ideal S1x1024 .f32) (d : Fin 1024) :
    gwOf m c t acc (ix2 0 d) = acc (ix2 0 d) + ((∑ r ∈ Finset.range 256, gwPart M W G d (256 * t.val + r) : ℝ) : EReal) := by
  unfold gwOf
  pointwise [k0_pay3, k0_pay8, k0_pay5, k0_pay7]
  simp only [rms_row m c M W hm hw, o_at m c M W hm hw, blk_0, hg, ← EReal.coe_mul, ← coe_sum]
  rw [Finset.sum_range]
  have hN : cfg0.N = 16 := N_0
  have ht := t.isLt
  refine congrArg (fun z : ℝ => acc (ix2 0 d) + (z : EReal)) (Finset.sum_congr rfl fun r _ => ?_)
  have hb : (⟨(256 * t.val + r.val) / 2048 % 2, by omega⟩ : Fin 2) = bat (row t r) :=
    Fin.ext (by show (256 * t.val + r.val) / 2048 % 2 = (256 * t.val + r.val) / 2048; omega)
  unfold gwPart
  dsimp only
  rw [hb]
  rfl

/-- The grid point and the row within its block where a row of the whole array is computed. -/
def pt (i : Fin 4096) : Fin cfg0.N := ⟨i.val / 256, by rw [show cfg0.N = 16 from N_0]; omega⟩
def sub (i : Fin 4096) : Fin 256 := ⟨i.val % 256, by omega⟩

theorem row_pt (i : Fin 4096) : row (pt i) (sub i) = i := Fin.ext (by show 256 * (i.val / 256) + i.val % 256 = i.val; omega)

theorem index_out (t : Fin cfg0.N) : (win0_4.index t 0 = t.val ∧ win0_4.index t 1 = 0) ∧ (win0_5.index t 0 = t.val ∧ win0_5.index t 1 = 0)
    ∧ (win0_6.index t 0 = t.val ∧ win0_6.index t 1 = 0) := by
  revert t; decide +kernel

theorem arr_4 (i : Fin 4096) (d : Fin 1024) : ((dats m 0 c).arrAt 4 cfg0.N : Vec Ideal S4096x1024 .bf16) (ix2 i d) = goOf m c (pt i) (ix2 (sub i) d) := by
  have e := congrFun (blocks4 m c (pt i) (flush0_4 _)) (ix2 (sub i) d)
  rw [View.read_apply, flushed4, go_point] at e
  refine Eq.trans ?_ e
  refine congrArg ((dats m 0 c).arrAt 4 cfg0.N : Vec Ideal S4096x1024 .bf16) (funext fun a => Fin.ext ?_)
  have hi := (index_out (pt i)).1
  match a with
  | ⟨0, _⟩ => show i.val = win0_4.index (pt i) 0 * 256 + 1 * (i.val % 256); rw [hi.1]; show i.val = i.val / 256 * 256 + 1 * (i.val % 256); omega
  | ⟨1, _⟩ => show d.val = win0_4.index (pt i) 1 * 1024 + 1 * d.val; rw [hi.2]; omega

theorem arr_5 (i : Fin 4096) (d : Fin 512) : ((dats m 0 c).arrAt 5 cfg0.N : Vec Ideal S4096x512 .f32) (ix2 i d) = gaOf m c (pt i) (ix2 (sub i) d) := by
  have e := congrFun (blocks5 m c (pt i) (flush0_5 _)) (ix2 (sub i) d)
  rw [View.read_apply, flushed5, ga_point] at e
  refine Eq.trans ?_ e
  refine congrArg ((dats m 0 c).arrAt 5 cfg0.N : Vec Ideal S4096x512 .f32) (funext fun a => Fin.ext ?_)
  have hi := (index_out (pt i)).2.1
  match a with
  | ⟨0, _⟩ => show i.val = win0_5.index (pt i) 0 * 256 + 1 * (i.val % 256); rw [hi.1]; show i.val = i.val / 256 * 256 + 1 * (i.val % 256); omega
  | ⟨1, _⟩ => show d.val = win0_5.index (pt i) 1 * 512 + 1 * d.val; rw [hi.2]; omega

theorem arr_6 (i : Fin 4096) (d : Fin 512) : ((dats m 0 c).arrAt 6 cfg0.N : Vec Ideal S4096x512 .f32) (ix2 i d) = gbOf m c (pt i) (ix2 (sub i) d) := by
  have e := congrFun (blocks6 m c (pt i) (flush0_6 _)) (ix2 (sub i) d)
  rw [View.read_apply, flushed6, gb_point] at e
  refine Eq.trans ?_ e
  refine congrArg ((dats m 0 c).arrAt 6 cfg0.N : Vec Ideal S4096x512 .f32) (funext fun a => Fin.ext ?_)
  have hi := (index_out (pt i)).2.2
  match a with
  | ⟨0, _⟩ => show i.val = win0_6.index (pt i) 0 * 256 + 1 * (i.val % 256); rw [hi.1]; show i.val = i.val / 256 * 256 + 1 * (i.val % 256); omega
  | ⟨1, _⟩ => show d.val = win0_6.index (pt i) 1 * 512 + 1 * d.val; rw [hi.2]; omega

/-- The last point's running sum, as the contents of the norm weight's gradient. -/
abbrev gwLast : Vec Ideal S1x1024 .f32 := (outsAt0 m c 15 (by rw [show cfg0.N = 16 from N_0]; decide)).2.2.2

theorem arr_7 : (dats m 0 c).arrAt 7 cfg0.N = gwLast m c := by
  refine (dats m 0 c).arrAt_eq_of_cover 7 (gwLast m c) (fun t hf => ?_) fun i => ⟨t0_15, (flush0_7 t0_15).mpr rfl, ?_⟩
  · have hN : cfg0.N = 16 := N_0
    have h7 : t.val = 15 := by have := (flush0_7 t).mp hf; have := t.isLt; omega
    obtain rfl : t = t0_15 := Fin.ext h7
    rw [flushed7]
    have hz' : (fun a => win0_7.index t0_15 a * main_v6_3.ty.shape.size a) = fun _ => 0 := funext fun a => by fin_cases a <;> decide
    exact (Memref.read_access_unit_zero (Elt Ideal) main_v6_3 hz' (fun a => by rw [congrFun hz' a]; simp) (gwLast m c)).symm
  · show i ∈ ((View.whole main_v6_3).slice (win0_7.rect t0_15)).set
    rw [View.set_slice_whole, Rect.mem_set_unit]
    intro a
    have h0 : (i 0 : Nat) < 1 := (i 0).isLt
    have h1 : (i 1 : Nat) < 1024 := (i 1).isLt
    match a with
    | ⟨0, _⟩ => show win0_7.index t0_15 0 * win0_7.size 0 ≤ (i 0 : Nat) ∧ (i 0 : Nat) < win0_7.index t0_15 0 * win0_7.size 0 + win0_7.xsize (grid0.coords t0_15) 0
                rw [show win0_7.index t0_15 0 * win0_7.size 0 = 0 from by decide +kernel, show win0_7.xsize (grid0.coords t0_15) 0 = 1 from by decide +kernel]; omega
    | ⟨1, _⟩ => show win0_7.index t0_15 1 * win0_7.size 1 ≤ (i 1 : Nat) ∧ (i 1 : Nat) < win0_7.index t0_15 1 * win0_7.size 1 + win0_7.xsize (grid0.coords t0_15) 1
                rw [show win0_7.index t0_15 1 * win0_7.size 1 = 0 from by decide +kernel, show win0_7.xsize (grid0.coords t0_15) 1 = 1024 from by decide +kernel]; omega

include hm hw hg in
theorem gwLast_at (d : Fin 1024) :
    gwLast m c (ix2 0 d) = ((∑ b, ∑ s, proj (M b s) W d * rms (proj (M b s) W) * G b s d : ℝ) : EReal) := by
  have hN : cfg0.N = 16 := N_0
  have key : gwLast m c (ix2 0 d) = _ := running_sum (fun n h => (outsAt0 m c n h).2.2.2 (ix2 0 d))
    (fun n => ∑ r ∈ Finset.range 256, gwPart M W G d (256 * n + r)) ?_ ?_ 15 (by omega)
  · refine key.trans (congrArg _ ?_)
    rw [sum_blocks 16 256 (gwPart M W G d), show 256 * 16 = 2048 * 2 from rfl, ← sum_blocks 2 2048, Finset.sum_range]
    refine Finset.sum_congr rfl fun b _ => ?_
    rw [Finset.sum_range]
    refine Finset.sum_congr rfl fun s _ => ?_
    have hb : (⟨(2048 * b.val + s.val) / 2048 % 2, by omega⟩ : Fin 2) = b := Fin.ext (by show (2048 * b.val + s.val) / 2048 % 2 = b.val; omega)
    have hs : (⟨(2048 * b.val + s.val) % 2048, by omega⟩ : Fin 2048) = s := Fin.ext (by show (2048 * b.val + s.val) % 2048 = s.val; omega)
    unfold gwPart
    dsimp only
    rw [hb, hs]
    ring
  · intro h
    have h0 := gw_A m c ⟨0, h⟩ rfl
    dsimp only at h0 ⊢
    rw [h0, gw_step m c M W G hm hw hg]
    pointwise [k0_pay4]
  · intro n h h'
    have h0 := gw_B m c ⟨n + 1, h⟩ (by dsimp only; omega)
    dsimp only at h0 ⊢
    rw [h0, gw_step m c M W G hm hw hg]
    rfl
end

end Cert.Outproj

end
-- ==== Proof.OutprojRefValue.lean ====
/-
  What the reference of the output projection's backward pass computes, over the reals.
-/
module

public import proofs.«01_k».proof.Proof.OutprojBwdValue
public import proofs.«01_k».proof.Proof.Gen.OutprojRefIdeal.Read

@[expose] public section

set_option maxRecDepth 16384

noncomputable section

namespace Cert.Outproj.Ref

open Cert.OutprojRefIdeal Cert.OutprojRefIdeal.Gen Cert.OutprojRefIdeal.Read Idealize.ShloMosaic Cert.Reals

section
variable (a : Vec Ideal S2x2048x1024 .f32) (w : Vec Ideal S1x1024x1024 .f32) (nw : Vec Ideal S1x1024 .f32) (g : Vec Ideal S2x2048x1024 .f32)
  (M : Fin 2 → Fin 2048 → Fin 1024 → ℝ) (W : Fin 1024 → Fin 1024 → ℝ) (NW : Fin 1024 → ℝ) (G : Fin 2 → Fin 2048 → Fin 1024 → ℝ)
  (hm : ∀ b s d, a (ix3 b s d) = ((M b s d : ℝ) : EReal)) (hw : ∀ d k, w (ix3 0 d k) = ((W d k : ℝ) : EReal))
  (hnw : ∀ d, nw (ix2 0 d) = ((NW d : ℝ) : EReal)) (hg : ∀ b s k, g (ix3 b s k) = ((G b s k : ℝ) : EReal))

include hm hw in
theorem o_at (b : Fin 2) (s : Fin 2048) (d : Fin 1024) : (val_main_v1 (F := Ideal) a w : Vec Ideal S2x2048x1024 .f32) (ix3 b s d) = ((proj (M b s) W d : ℝ) : EReal) := by
  pointwise [val_main_v1, val_main_v0]
  simp only [hm, hw, ← EReal.coe_mul, ← coe_sum]
  rfl

include hm hw in
theorem meanSq_at (b : Fin 2) (s : Fin 2048) : (val_main_v9 (F := Ideal) a w : Vec Ideal S2x2048x1 .f32) (ix3 b s 0) = ((meanSq (proj (M b s) W) : ℝ) : EReal) := by
  pointwise [val_main_v9, val_main_v8, val_main_v7, val_main_v6, val_main_v5, val_main_v4, val_main_v3, val_main_cst, val_main_cst_0, val_main_cst_1]
  simp only [o_at a w M W hm hw, ofBits_1024, ofBits_eps, ← EReal.coe_mul, ← coe_sum, div_real (show (1024:ℝ) ≠ 0 by norm_num), ← EReal.coe_add]
  rfl

include hm hw in
theorem rms_at (b : Fin 2) (s : Fin 2048) : (val_main_v10 (F := Ideal) a w : Vec Ideal S2x2048x1 .f32) (ix3 b s 0) = ((rms (proj (M b s) W) : ℝ) : EReal) := by
  pointwise [val_main_v10]
  rw [meanSq_at a w M W hm hw, rsqrt_real (meanSq_pos _)]
  rfl

include hm hw hnw hg in
theorem go_at (b : Fin 2) (s : Fin 2048) (d : Fin 1024) : (val_main_v38 (F := Ideal) a w nw g : Vec Ideal S2x2048x1024 .f32) (ix3 b s d)
    = ((go (M b s) W NW (G b s) d : ℝ) : EReal) := by
  pointwise [val_main_v38, val_main_v37, val_main_v36, val_main_v35, val_main_v34, val_main_v33, val_main_v32, val_main_v31, val_main_v30, val_main_v29, val_main_v28, val_main_v27, val_main_v26, val_main_v25, val_main_v23, val_main_v22, val_main_v16, val_main_v2, val_main_v13, val_main_v12, val_main_v11, val_main_cst_2, val_main_cst_5, val_main_cst_6, val_main_cst_7]
  simp only [Fin.sum_univ_one, hg, hnw, o_at a w M W hm hw, meanSq_at a w M W hm hw, rms_at a w M W hm hw, ofBits_1024, ofBits_neg_half, ← EReal.coe_mul, ← coe_sum,
    div_real (show (1024:ℝ) ≠ 0 by norm_num), div_real (meanSq_pos _).ne', ← EReal.coe_add]
  exact congrArg _ (rmsBwd_chain (proj (M b s) W) (fun e => G b s e * NW e) d)

include hm hw hg in
theorem gw_at (d : Fin 1024) : (val_main_v39 (F := Ideal) a w g : Vec Ideal S1x1024 .f32) (ix2 0 d)
    = ((∑ b, ∑ s, proj (M b s) W d * rms (proj (M b s) W) * G b s d : ℝ) : EReal) := by
  pointwise [val_main_v39, val_main_v24, val_main_v21, val_main_v20, val_main_v19, val_main_v15, val_main_v14, hostReduceAdd_lead2, val_main_cst_3, val_main_cst_4]
  simp only [Fin.sum_univ_one, o_at a w M W hm hw, rms_at a w M W hm hw, hg, ← EReal.coe_mul, ← coe_sum]

include hm hw hnw hg in
theorem res_go (i : Fin 4096) (d : Fin 1024) : (val_main_v44 (F := Ideal) a w nw g : Vec Ideal S4096x1024 .bf16) (ix2 i d)
    = ((go (M (bat i) (pos i)) W NW (G (bat i) (pos i)) d : ℝ) : EReal) := by
  pointwise [val_main_v44, val_main_v43]
  exact go_at a w nw g M W NW G hm hw hnw hg _ _ _

include hm hw hnw hg in
theorem res_ga (i : Fin 4096) (d : Fin 512) : (val_main_v45 (F := Ideal) a w nw g : Vec Ideal S4096x512 .f32) (ix2 i d)
    = ((∑ e, go (M (bat i) (pos i)) W NW (G (bat i) (pos i)) e * W ⟨d.val, by omega⟩ e : ℝ) : EReal) := by
  pointwise [val_main_v45, val_main_v41, val_main_v40, val_main_v0]
  simp only [go_at a w nw g M W NW G hm hw hnw hg, hw, ← EReal.coe_mul, ← coe_sum]
  rfl

include hm hw hnw hg in
theorem res_gb (i : Fin 4096) (d : Fin 512) : (val_main_v46 (F := Ideal) a w nw g : Vec Ideal S4096x512 .f32) (ix2 i d)
    = ((∑ e, go (M (bat i) (pos i)) W NW (G (bat i) (pos i)) e * W ⟨512 + d.val, by omega⟩ e : ℝ) : EReal) := by
  pointwise [val_main_v46, val_main_v42, val_main_v40, val_main_v0]
  simp only [go_at a w nw g M W NW G hm hw hnw hg, hw, ← EReal.coe_mul, ← coe_sum]
  rfl
end

end Cert.Outproj.Ref

end
-- ==== Proof.Outproj.lean ====
/-
  The output projection's backward pass: the reference's run, and the equality of its results with the kernel's.
-/
module

public import proofs.«01_k».proof.Defs
public import proofs.«01_k».proof.Proof.OutprojRefValue
public import proofs.«01_k».proof.Proof.Gen.OutprojBwd.Frame
public import proofs.«01_k».proof.Proof.Gen.OutprojRefIdeal.Run
public import proofs.«01_k».proof.Proof.Gen.Pre_finite_out
public import Idealize.ShloMosaic.Adequacy
public import Idealize.ShloMosaic.Init

@[expose] public section

set_option maxRecDepth 16384

noncomputable section

namespace Cert.Outproj

open Idealize.ShloMosaic Idealize.SL.Sem Cert.Reals

theorem frame_ref : Cert.quiescent_OutprojRefIdeal (hOutprojRefIdeal := OutprojRefIdeal.Gen.facts) := fun m ρ _ =>
  (θ_run OutprojRefIdeal.defs _ _).mono (fun r h => ⟨fun c => (h c).2.2.2.2, sem_eq_zero_of_no_sems (by decide) r.2⟩)
    (OutprojRefIdeal.Value.run (F := Ideal) m ρ)

/-- On arguments that are real numbers, the reference's four results are the kernel's. -/
theorem results_eq (a : Vec Ideal OutprojRefIdeal.S2x2048x1024 .f32) (w : Vec Ideal OutprojRefIdeal.S1x1024x1024 .f32)
    (nw : Vec Ideal OutprojRefIdeal.S1x1024 .f32) (g : Vec Ideal OutprojRefIdeal.S2x2048x1024 .f32)
    (m : (ℓ : Loc OutprojBwdIdeal.nD OutprojBwdIdeal.τ OutprojBwdIdeal.sig) → Buf (Elt Ideal) ℓ) (c : Dev OutprojBwdIdeal.nD)
    (e : a = argM m c ∧ w = argW m c ∧ nw = argNw m c ∧ g = argDx m c)
    (hm : ∀ i, a i = (((a i).toReal : ℝ) : EReal)) (hw : ∀ i, w i = (((w i).toReal : ℝ) : EReal))
    (hnw : ∀ i, nw i = (((nw i).toReal : ℝ) : EReal)) (hg : ∀ i, g i = (((g i).toReal : ℝ) : EReal)) :
    OutprojRefIdeal.Read.val_main_v44 (F := Ideal) a w nw g = (OutprojBwdIdeal.Gen.dats m 0 c).arrAt 4 OutprojBwdIdeal.cfg0.N
    ∧ OutprojRefIdeal.Read.val_main_v45 (F := Ideal) a w nw g = (OutprojBwdIdeal.Gen.dats m 0 c).arrAt 5 OutprojBwdIdeal.cfg0.N
    ∧ OutprojRefIdeal.Read.val_main_v46 (F := Ideal) a w nw g = (OutprojBwdIdeal.Gen.dats m 0 c).arrAt 6 OutprojBwdIdeal.cfg0.N
    ∧ OutprojRefIdeal.Read.val_main_v39 (F := Ideal) a w g = (OutprojBwdIdeal.Gen.dats m 0 c).arrAt 7 OutprojBwdIdeal.cfg0.N := by
  obtain ⟨rfl, rfl, rfl, rfl⟩ := e
  have hm' := fun b s d => hm (ix3 b s d)
  have hw' := fun d k => hw (ix3 0 d k)
  have hnw' := fun d => hnw (ix2 0 d)
  have hg' := fun b s k => hg (ix3 b s k)
  refine ⟨?_, ?_, ?_, ?_⟩
  · refine funext fun (i : OutprojBwdIdeal.S4096x1024.Idx) => ?_
    obtain ⟨b, d, rfl⟩ := exists_ix2 i
    refine (Ref.res_go _ _ _ _ _ _ _ _ hm' hw' hnw' hg' b d).trans ?_
    rw [arr_4, goOf_at m c _ _ _ _ hm' hw' hnw' hg', row_pt]
  · refine funext fun (i : OutprojBwdIdeal.S4096x512.Idx) => ?_
    obtain ⟨b, d, rfl⟩ := exists_ix2 i
    refine (Ref.res_ga _ _ _ _ _ _ _ _ hm' hw' hnw' hg' b d).trans ?_
    rw [arr_5, gaOf_at m c _ _ _ _ hm' hw' hnw' hg', row_pt]
  · refine funext fun (i : OutprojBwdIdeal.S4096x512.Idx) => ?_
    obtain ⟨b, d, rfl⟩ := exists_ix2 i
    refine (Ref.res_gb _ _ _ _ _ _ _ _ hm' hw' hnw' hg' b d).trans ?_
    rw [arr_6, gbOf_at m c _ _ _ _ hm' hw' hnw' hg', row_pt]
  · rw [arr_7]
    refine funext fun (i : OutprojBwdIdeal.S1x1024.Idx) => ?_
    obtain ⟨b, d, rfl⟩ := exists_ix2 i
    obtain rfl : b = 0 := Subsingleton.elim _ _
    exact (Ref.gw_at _ _ _ _ _ _ hm' hw' hg' d).trans (gwLast_at m c _ _ _ hm' hw' hg' d).symm

theorem algebraic : Cert.algebraic_OutprojBwdIdeal_OutprojRefIdeal_pre_finite_out (hOutprojBwdIdeal := OutprojBwdIdeal.Gen.facts)
    (hOutprojRefIdeal := OutprojRefIdeal.Gen.facts) (hPre_finite_out := Pre_finite_out.Gen.facts) := by
  intro m ρ m' ρ' hpre hag
  refine ⟨_, _, _, _, OutprojBwdIdeal.Value.run_blocks (F := Ideal) m ρ, (θ_run OutprojRefIdeal.defs _ _).mono (fun r h c => ?_)
    (OutprojRefIdeal.Value.run (F := Ideal) m' ρ')⟩
  have hc := h c
  obtain ⟨a0, a1, a2, a3⟩ := hag c
  obtain ⟨p0, p1, p2, p3⟩ := hpre c
  obtain ⟨r0, r1, r2, r3⟩ := results_eq _ _ _ _ m c ⟨a0, a1, a2, a3⟩ (by rw [a0]; exact real_of_finite p0) (by rw [a1]; exact real_of_finite p1)
    (by rw [a2]; exact real_of_finite p2) (by rw [a3]; exact real_of_finite p3)
  exact ⟨hc.1.trans ((OutprojRefIdeal.Read.val_main_v44_eq m' c).trans r0), hc.2.1.trans ((OutprojRefIdeal.Read.val_main_v45_eq m' c).trans r1),
    hc.2.2.1.trans ((OutprojRefIdeal.Read.val_main_v46_eq m' c).trans r2), hc.2.2.2.1.trans ((OutprojRefIdeal.Read.val_main_v39_eq _ _ _).trans r3),
    hc.2.2.2.2⟩

end Cert.Outproj

end
-- ==== Proof.GmlpOps.lean ====
/-
  The gated mixer's building blocks, as the kernel writes them: the lanes of one head, the sums over a head's lanes by
  a product with an indicator matrix (each number split in two halves first), and the same sums spread back to the lanes.
-/
module

public import proofs.«01_k».proof.Proof.Reals
public import proofs.«01_k».proof.Proof.Gen.GmlpBwdIdeal.Value
public import Idealize.ShloMosaic.Lib.Pointwise

@[expose] public section

set_option maxRecDepth 16384

noncomputable section

namespace Cert.Gmlp

open Cert.GmlpBwdIdeal Cert.GmlpBwdIdeal.Gen Idealize.ShloMosaic Idealize.ShloMosaic.TcCoe Idealize.SL.Sem Cert.Reals

section
variable {F : FTy → Type} [FloatOps F] [Named F]

/-- The head a lane belongs to: the floor of its number over 64. -/
def headOf : IVec S1x512 32 :=
  let v0 := iota .tc S1x512 32 [1] iota_S1x512_d1_w32
  select (andi (cmpi .ne (subi (extui 32 (cmpi .sgt v0 (broadcast S1x512 0#32)) natLt_1_32) (extui 32 (cmpi .slt v0 (broadcast S1x512 0#32)) natLt_1_32))
      (broadcast S1x512 (Scalar.subi (Scalar.extui (Scalar.cmpi .sgt 64#32 0#32)) (Scalar.extui (Scalar.cmpi .slt 64#32 0#32)))))
      (cmpi .ne (remsi v0 (broadcast S1x512 64#32)) (broadcast S1x512 0#32)))
    (subi (divsi v0 (broadcast S1x512 64#32)) (broadcast S1x512 1#32)) (divsi v0 (broadcast S1x512 64#32))

/-- The lanes of head `h`, the others zero. -/
def headBlk (h : BitVec 32) (v : FVec F S128x512 .bf16) : FVec F S128x512 .bf16 :=
  select (broadcastTo S128x512 (shapeCast S1x512 (cmpi .eq headOf (broadcast S1x512 h)) shapeCasts_S1x512_S1x512) broadcasts_S1x512_S128x512)
    v (broadcast S128x512 (Scalar.ofBits .bf16 0x0000#16))

/-- The eight heads' lanes one below the other. -/
def heads (v : FVec F S128x512 .bf16) : FVec F S1024x512 .bf16 :=
  concatenate S1024x512 0 [⟨S128x512, headBlk 0#32 v⟩, ⟨S128x512, headBlk 1#32 v⟩, ⟨S128x512, headBlk 2#32 v⟩, ⟨S128x512, headBlk 3#32 v⟩,
    ⟨S128x512, headBlk 4#32 v⟩, ⟨S128x512, headBlk 5#32 v⟩, ⟨S128x512, headBlk 6#32 v⟩, ⟨S128x512, headBlk 7#32 v⟩]
    concatenates_S128x512_S128x512_S128x512_S128x512_S128x512_S128x512_S128x512_S128x512_S1024x512_d0

/-- The second half of a split number: what rounding left. -/
def restOf {S : Shape} (v : FVec F S .f32) : FVec F S .bf16 :=
  truncf .bf16 (subf v (extf .f32 (truncf .bf16 v bitsLt_bf16_f32) bitsLt_bf16_f32)) bitsLt_bf16_f32

/-- The sums over each head's lanes. -/
def segDot (v : FVec F S128x512 .f32) (et : FVec F S512x128 .bf16) : FVec F S128x128 .f32 :=
  let w := matmul dot_S256x512_S512x128_S256x128_1_0_0_1_n_n none
    (concatenate S256x512 0 [⟨S128x512, truncf .bf16 v bitsLt_bf16_f32⟩, ⟨S128x512, restOf v⟩] concatenates_S128x512_S128x512_S256x512_d0) et
    (constant S256x128 .f32 0x00000000#32)
  addf (extractStridedSlice S128x128 ![0, 0] w slices_S256x128_o0_0_S128x128) (extractStridedSlice S128x128 ![128, 0] w slices_S256x128_o128_0_S128x128)

/-- One number per head, spread over the head's lanes. -/
def segMap (v : FVec F S128x128 .f32) (e : FVec F S128x512 .bf16) : FVec F S128x512 .f32 :=
  let w := matmul dot_S256x128_S128x512_S256x512_1_0_0_1_n_n none
    (concatenate S256x128 0 [⟨S128x128, truncf .bf16 v bitsLt_bf16_f32⟩, ⟨S128x128, restOf v⟩] concatenates_S128x128_S128x128_S256x128_d0) e
    (constant S256x512 .f32 0x00000000#32)
  addf (extractStridedSlice S128x512 ![0, 0] w slices_S256x512_o0_0_S128x512) (extractStridedSlice S128x512 ![128, 0] w slices_S256x512_o128_0_S128x512)

/-- The constant one over 64, as a block. -/
def inv64 : FVec F S128x128 .f32 := broadcast S128x128 (Scalar.ofBits .f32 0x3C800000#32)

/-- The hyperbolic tangent inside the gate, the gate, and its derivative. -/
def tanhOf (v : FVec F S128x512 .f32) : FVec F S128x512 .f32 :=
  tanh (mulf (broadcast S128x512 (Scalar.ofBits .f32 0x3F4C422A#32)) (addf v (mulf (broadcast S128x512 (Named.named κ "gelu_a" 0x3D372713#32)) (mulf (mulf v v) v))))
def geluOf (v : FVec F S128x512 .f32) : FVec F S128x512 .f32 :=
  mulf (mulf (broadcast S128x512 (Scalar.ofBits .f32 0x3F000000#32)) v) (addf (broadcast S128x512 (Scalar.ofBits .f32 0x3F800000#32)) (tanhOf v))
def gradOf (v : FVec F S128x512 .f32) : FVec F S128x512 .f32 :=
  addf (mulf (broadcast S128x512 (Scalar.ofBits .f32 0x3F000000#32)) (addf (broadcast S128x512 (Scalar.ofBits .f32 0x3F800000#32)) (tanhOf v)))
    (mulf (mulf (mulf (broadcast S128x512 (Scalar.ofBits .f32 0x3F000000#32)) v)
        (subf (broadcast S128x512 (Scalar.ofBits .f32 0x3F800000#32)) (mulf (tanhOf v) (tanhOf v))))
      (mulf (broadcast S128x512 (Scalar.ofBits .f32 0x3F4C422A#32))
        (addf (broadcast S128x512 (Scalar.ofBits .f32 0x3F800000#32)) (mulf (mulf (broadcast S128x512 (Named.named κ "gelu_3a" 0x3E095D4F#32)) v) v))))

/-- A chunk's two halves. -/
def uOf (x : Vec F S128x1024 .f32) : FVec F S128x512 .f32 :=
  extractStridedSlice S128x512 ![0, 0] (shapeCast S128x1024 x shapeCasts_S128x1024_S128x1024) slices_S128x1024_o0_0_S128x512
def vOf (x : Vec F S128x1024 .f32) : FVec F S128x512 .f32 :=
  extractStridedSlice S128x512 ![0, 512] (shapeCast S128x1024 x shapeCasts_S128x1024_S128x1024) slices_S128x1024_o0_512_S128x512

/-- The gated values less their head's mean; the head's reciprocal deviation; the normalised values; and those with the norm's weight and bias. -/
def xcOf (e : FVec F S128x512 .bf16) (et : FVec F S512x128 .bf16) (v : FVec F S128x512 .f32) : FVec F S128x512 .f32 :=
  subf (geluOf v) (segMap (mulf (segDot (geluOf v) et) inv64) e)
def rsOf (e : FVec F S128x512 .bf16) (et : FVec F S512x128 .bf16) (v : FVec F S128x512 .f32) : FVec F S128x512 .f32 :=
  segMap (rsqrt (addf (mulf (segDot (mulf (xcOf e et v) (xcOf e et v)) et) inv64) (broadcast S128x128 (Scalar.ofBits .f32 0x358637BD#32)))) e
def xhOf (e : FVec F S128x512 .bf16) (et : FVec F S512x128 .bf16) (v : FVec F S128x512 .f32) : FVec F S128x512 .f32 :=
  mulf (xcOf e et v) (rsOf e et v)
def vnOf (lnw lnb : FVec F S1x512 .f32) (e : FVec F S128x512 .bf16) (et : FVec F S512x128 .bf16) (v : FVec F S128x512 .f32) : FVec F S128x512 .bf16 :=
  truncf .bf16 (addf (mulf (xhOf e et v) (broadcastTo S128x512 lnw broadcasts_S1x512_S128x512)) (broadcastTo S128x512 lnb broadcasts_S1x512_S128x512)) bitsLt_bf16_f32

/-- The causal mix of the chunk's positions, head by head, before the bias. -/
def mixOf (wm : Vec F S128x1024 .bf16) (vn : FVec F S128x512 .bf16) : FVec F S128x512 .f32 :=
  matmul dot_S128x1024_S1024x512_S128x512_1_0_0_1_n_n none wm (heads vn) (constant S128x512 .f32 0x00000000#32)

/-- The gradient at the gating half. -/
def duOf (dy : Vec F S128x512 .f32) (u mix : FVec F S128x512 .f32) (bm : Vec F S128x512 .f32) : FVec F S128x512 .bf16 :=
  truncf .bf16 (mulf (mulf (shapeCast S128x512 dy shapeCasts_S128x512_S128x512) (addf mix (shapeCast S128x512 bm shapeCasts_S128x512_S128x512))) (gradOf u)) bitsLt_bf16_f32

/-- The gradient at the mixed values. -/
def dmOf (dy : Vec F S128x512 .f32) (u : FVec F S128x512 .f32) : FVec F S128x512 .f32 :=
  mulf (shapeCast S128x512 dy shapeCasts_S128x512_S128x512) (geluOf u)

/-- The gradient at the normalised values with weight and bias, and at the mixing weights. -/
def dvnOf (wsm : Vec F S1024x128 .bf16) (dm : FVec F S128x512 .f32) : FVec F S128x512 .f32 :=
  matmul dot_S1024x128_S1024x512_S128x512_0_0_1_1_n_n none wsm (heads (truncf .bf16 dm bitsLt_bf16_f32)) (constant S128x512 .f32 0x00000000#32)
def dwOf (vn : FVec F S128x512 .bf16) (dm : FVec F S128x512 .f32) : FVec F S1024x128 .f32 :=
  matmul dot_S1024x512_S128x512_S1024x128_1_1_0_0_n_n none (heads (truncf .bf16 dm bitsLt_bf16_f32)) vn (constant S1024x128 .f32 0x00000000#32)

/-- Two sums over each head's lanes at once, and two numbers per head spread over its lanes at once. -/
def segDots (a b : FVec F S128x512 .f32) (et : FVec F S512x128 .bf16) : FVec F S512x128 .f32 :=
  matmul dot_S512x512_S512x128_S512x128_1_0_0_1_n_n none
    (concatenate S512x512 0 [⟨S128x512, truncf .bf16 a bitsLt_bf16_f32⟩, ⟨S128x512, restOf a⟩, ⟨S128x512, truncf .bf16 b bitsLt_bf16_f32⟩, ⟨S128x512, restOf b⟩]
      concatenates_S128x512_S128x512_S128x512_S128x512_S512x512_d0) et (constant S512x128 .f32 0x00000000#32)
def segMaps (a b : FVec F S128x128 .f32) (e : FVec F S128x512 .bf16) : FVec F S512x512 .f32 :=
  matmul dot_S512x128_S128x512_S512x512_1_0_0_1_n_n none
    (concatenate S512x128 0 [⟨S128x128, truncf .bf16 a bitsLt_bf16_f32⟩, ⟨S128x128, restOf a⟩, ⟨S128x128, truncf .bf16 b bitsLt_bf16_f32⟩, ⟨S128x128, restOf b⟩]
      concatenates_S128x128_S128x128_S128x128_S128x128_S512x128_d0) e (constant S512x512 .f32 0x00000000#32)
def first128 (w : FVec F S512x128 .f32) : FVec F S128x128 .f32 :=
  addf (extractStridedSlice S128x128 ![0, 0] w slices_S512x128_o0_0_S128x128) (extractStridedSlice S128x128 ![128, 0] w slices_S512x128_o128_0_S128x128)
def second128 (w : FVec F S512x128 .f32) : FVec F S128x128 .f32 :=
  addf (extractStridedSlice S128x128 ![256, 0] w slices_S512x128_o256_0_S128x128) (extractStridedSlice S128x128 ![384, 0] w slices_S512x128_o384_0_S128x128)
def first512 (w : FVec F S512x512 .f32) : FVec F S128x512 .f32 :=
  addf (extractStridedSlice S128x512 ![0, 0] w slices_S512x512_o0_0_S128x512) (extractStridedSlice S128x512 ![128, 0] w slices_S512x512_o128_0_S128x512)
def second512 (w : FVec F S512x512 .f32) : FVec F S128x512 .f32 :=
  addf (extractStridedSlice S128x512 ![256, 0] w slices_S512x512_o256_0_S128x512) (extractStridedSlice S128x512 ![384, 0] w slices_S512x512_o384_0_S128x512)

/-- The norm's gradient before its reciprocal deviation: the weighted gradient less its head's two means. -/
def dxhOf (lnw : FVec F S1x512 .f32) (dvn : FVec F S128x512 .f32) : FVec F S128x512 .f32 :=
  mulf dvn (broadcastTo S128x512 lnw broadcasts_S1x512_S128x512)
def meansOf (lnw : FVec F S1x512 .f32) (e : FVec F S128x512 .bf16) (et : FVec F S512x128 .bf16) (xh dvn : FVec F S128x512 .f32) : FVec F S512x512 .f32 :=
  segMaps (mulf (first128 (segDots (dxhOf lnw dvn) (mulf (dxhOf lnw dvn) xh) et)) inv64) (mulf (second128 (segDots (dxhOf lnw dvn) (mulf (dxhOf lnw dvn) xh) et)) inv64) e
def dnOf (lnw : FVec F S1x512 .f32) (e : FVec F S128x512 .bf16) (et : FVec F S512x128 .bf16) (xh dvn : FVec F S128x512 .f32) : FVec F S128x512 .f32 :=
  subf (subf (dxhOf lnw dvn) (first512 (meansOf lnw e et xh dvn))) (mulf xh (second512 (meansOf lnw e et xh dvn)))

/-- The gradient at the normalised half. -/
def dvOf (v rs dn : FVec F S128x512 .f32) : FVec F S128x512 .bf16 := truncf .bf16 (mulf (mulf rs dn) (gradOf v)) bitsLt_bf16_f32

/-- The chunk's parts of the norm weight's and bias's gradients. -/
def dlnwOf (xh dvn : FVec F S128x512 .f32) : FVec F S1x512 .f32 :=
  shapeCast S1x512 (multiReduction .add [0] S512 (mulf dvn xh) 0x00000000#32 reduces_S128x512_S512 (.inl rfl) rfl) shapeCasts_S512_S1x512
def dlnbOf (dvn : FVec F S128x512 .f32) : FVec F S1x512 .f32 :=
  shapeCast S1x512 (multiReduction .add [0] S512 dvn 0x00000000#32 reduces_S128x512_S512 (.inl rfl) rfl) shapeCasts_S512_S1x512

/-! ## One chunk of 128 positions, from its rows and the shared blocks -/

variable (x : Vec F S128x1024 .f32) (dy : Vec F S128x512 .f32) (lnw lnb : FVec F S1x512 .f32) (e : FVec F S128x512 .bf16) (et : FVec F S512x128 .bf16)
  (wm : Vec F S128x1024 .bf16) (wsm : Vec F S1024x128 .bf16) (bm : Vec F S128x512 .f32)

def vnC : FVec F S128x512 .bf16 := vnOf lnw lnb e et (vOf x)
def xhC : FVec F S128x512 .f32 := xhOf e et (vOf x)
def dvnC : FVec F S128x512 .f32 := dvnOf wsm (dmOf dy (uOf x))
def duC : FVec F S128x512 .bf16 := duOf dy (uOf x) (mixOf wm (vnC x lnw lnb e et)) bm
def dvC : FVec F S128x512 .bf16 := dvOf (vOf x) (rsOf e et (vOf x)) (dnOf lnw e et (xhC x e et) (dvnC x dy wsm))
def dwC : FVec F S1024x128 .f32 := dwOf (vnC x lnw lnb e et) (dmOf dy (uOf x))
def dbC : FVec F S128x128 .f32 := segDot (dmOf dy (uOf x)) et
def dlnwC : FVec F S1x512 .f32 := dlnwOf (xhC x e et) (dvnC x dy wsm)
def dlnbC : FVec F S1x512 .f32 := dlnbOf (dvnC x dy wsm)

end
end Cert.Gmlp

end
-- ==== Proof.GmlpBwdPoint.lean ====
/-
  What one point of the gated mixer's backward call leaves in each window, in the building blocks of two chunks.
-/
module

public import proofs.«01_k».proof.Proof.GmlpOps

@[expose] public section

set_option maxRecDepth 16384

noncomputable section

namespace Cert.Gmlp

open Cert.GmlpBwdIdeal Cert.GmlpBwdIdeal.Gen Idealize.ShloMosaic Idealize.ShloMosaic.TcCoe Idealize.SL.Sem

variable {F : FTy → Type} [FloatOps F] [Named F] (m : (ℓ : Loc nD τ sig) → Buf (Elt F) ℓ) (c : Dev nD)

theorem hz : (![0, 0] : Fin 2 → Nat) = fun _ => 0 := funext fun a => by fin_cases a <;> rfl

/-- The rows of a point's two chunks. -/
abbrev xA (t : Fin cfg0.N) : Vec F S128x1024 .f32 := View.ld (iblk m c 0 t) (Rect.unit ![0, 0] S128x1024.size inb_S256x1024_S128x1024_0_0)
abbrev xB (t : Fin cfg0.N) : Vec F S128x1024 .f32 := View.ld (iblk m c 0 t) (Rect.unit ![128, 0] S128x1024.size inb_S256x1024_S128x1024_128_0)
abbrev yA (t : Fin cfg0.N) : Vec F S128x512 .f32 := View.ld (iblk m c 1 t) (Rect.unit ![0, 0] S128x512.size inb_S256x512_S128x512_0_0)
abbrev yB (t : Fin cfg0.N) : Vec F S128x512 .f32 := View.ld (iblk m c 1 t) (Rect.unit ![128, 0] S128x512.size inb_S256x512_S128x512_128_0)
abbrev wmOf (t : Fin cfg0.N) : FVec F S128x1024 .bf16 := k0_pay9 (iblk m c 6 t)
abbrev wsmOf (t : Fin cfg0.N) : FVec F S1024x128 .bf16 := k0_pay10 (iblk m c 7 t)
abbrev eOf (t : Fin cfg0.N) : FVec F S128x512 .bf16 := k0_pay12 (iblk m c 4 t)
abbrev etOf (t : Fin cfg0.N) : FVec F S512x128 .bf16 := k0_pay13 (iblk m c 5 t)
abbrev lnwOf (t : Fin cfg0.N) : FVec F S1x512 .f32 := k0_pay11 (iblk m c 2 t)
abbrev lnbOf (t : Fin cfg0.N) : FVec F S1x512 .f32 := k0_pay15 (iblk m c 3 t)

theorem out10_A (t : Fin cfg0.N) (h0 : t.val % 16 = 0) : (outsAt0 m c t.val t.isLt).2.1 =
    k0_pay1 (addf (dwC (xA m c t) (yA m c t) (lnwOf m c t) (lnbOf m c t) (eOf m c t) (etOf m c t)) (dwC (xB m c t) (yB m c t) (lnwOf m c t) (lnbOf m c t) (eOf m c t) (etOf m c t))) (k0_pay154 (k0_pay4 (F := F))) (k0_pay155 k0_pay8 (iota .tc S1024x128 32 [1] iota_S1024x128_d1_w32)) (Scalar.ofBits .f32 0x00000000#32) := by
    rw [outsAt0_A m c t h0 h0]
    dsimp only
    unfold out0_A_10
    rw [View.read_writes_eq_canon _ _ _ (fun y => cover0_A_10 (y := y) ..)]
    unfold kernelRun0_A
    dsimp only
    sl_unfold_words
    rw [View.canon_cons_unit_zero (S := S1024x128) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.readCov_unit_zero (S := S1x512) _ hz, View.readCov_unit_zero (S := S128x1024) _ hz, View.readCov_unit_zero (S := S1024x128) _ hz, View.readCov_unit_zero (S := S128x128) _ hz]
    rfl

theorem out10_B (t : Fin cfg0.N) (h0 : ¬ t.val % 16 = 0) : (outsAt0 m c t.val t.isLt).2.1 =
    k0_pay1 (addf (dwC (xA m c t) (yA m c t) (lnwOf m c t) (lnbOf m c t) (eOf m c t) (etOf m c t)) (dwC (xB m c t) (yB m c t) (lnwOf m c t) (lnbOf m c t) (eOf m c t) (etOf m c t))) (k0_pay154 (outsAt0 m c (t.val - 1) (Nat.lt_of_le_of_lt (Nat.sub_le ..) t.isLt)).2.1) (k0_pay155 k0_pay8 (iota .tc S1024x128 32 [1] iota_S1024x128_d1_w32)) (Scalar.ofBits .f32 0x00000000#32) := by
    rw [outsAt0_B m c t h0 h0]
    dsimp only
    unfold out0_B_10
    rw [View.read_writes_eq_canon _ _ _ (fun y => cover0_B_10 (y := y) ..)]
    unfold kernelRun0_B
    dsimp only
    sl_unfold_words
    rw [View.canon_unit_zero (S := S1024x128) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz]
    rfl

theorem out11_A (t : Fin cfg0.N) (h0 : t.val % 16 = 0) : (outsAt0 m c t.val t.isLt).2.2.1 =
    k0_pay153 (dbC (xA m c t) (yA m c t) (etOf m c t)) (dbC (xB m c t) (yB m c t) (etOf m c t)) (k0_pay5 (F := F)) := by
    rw [outsAt0_A m c t h0 h0]
    dsimp only
    unfold out0_A_11
    rw [View.read_writes_eq_canon _ _ _ (fun y => cover0_A_11 (y := y) ..)]
    unfold kernelRun0_A
    dsimp only
    sl_unfold_words
    rw [View.canon_cons_unit_zero (S := S128x128) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.readCov_unit_zero (S := S1x512) _ hz, View.readCov_unit_zero (S := S128x1024) _ hz, View.readCov_unit_zero (S := S1024x128) _ hz, View.readCov_unit_zero (S := S128x128) _ hz]
    rfl

theorem out11_B (t : Fin cfg0.N) (h0 : ¬ t.val % 16 = 0) : (outsAt0 m c t.val t.isLt).2.2.1 =
    k0_pay153 (dbC (xA m c t) (yA m c t) (etOf m c t)) (dbC (xB m c t) (yB m c t) (etOf m c t)) (outsAt0 m c (t.val - 1) (Nat.lt_of_le_of_lt (Nat.sub_le ..) t.isLt)).2.2.1 := by
    rw [outsAt0_B m c t h0 h0]
    dsimp only
    unfold out0_B_11
    rw [View.read_writes_eq_canon _ _ _ (fun y => cover0_B_11 (y := y) ..)]
    unfold kernelRun0_B
    dsimp only
    sl_unfold_words
    rw [View.canon_unit_zero (S := S128x128) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz]
    rfl

theorem out12_A (t : Fin cfg0.N) (h0 : t.val % 16 = 0) : (outsAt0 m c t.val t.isLt).2.2.2.1 =
    k0_pay2 (addf (dlnwC (xA m c t) (yA m c t) (eOf m c t) (etOf m c t) (wsmOf m c t)) (dlnwC (xB m c t) (yB m c t) (eOf m c t) (etOf m c t) (wsmOf m c t))) (k0_pay6 (F := F)) := by
    rw [outsAt0_A m c t h0 h0]
    dsimp only
    unfold out0_A_12
    rw [View.read_writes_eq_canon _ _ _ (fun y => cover0_A_12 (y := y) ..)]
    unfold kernelRun0_A
    dsimp only
    sl_unfold_words
    rw [View.canon_cons_unit_zero (S := S1x512) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.readCov_unit_zero (S := S1x512) _ hz, View.readCov_unit_zero (S := S128x1024) _ hz, View.readCov_unit_zero (S := S1024x128) _ hz, View.readCov_unit_zero (S := S128x128) _ hz]
    rfl

theorem out12_B (t : Fin cfg0.N) (h0 : ¬ t.val % 16 = 0) : (outsAt0 m c t.val t.isLt).2.2.2.1 =
    k0_pay2 (addf (dlnwC (xA m c t) (yA m c t) (eOf m c t) (etOf m c t) (outsAt0 m c (t.val - 1) (Nat.lt_of_le_of_lt (Nat.sub_le ..) t.isLt)).2.2.2.2.2.2) (dlnwC (xB m c t) (yB m c t) (eOf m c t) (etOf m c t) (outsAt0 m c (t.val - 1) (Nat.lt_of_le_of_lt (Nat.sub_le ..) t.isLt)).2.2.2.2.2.2)) (outsAt0 m c (t.val - 1) (Nat.lt_of_le_of_lt (Nat.sub_le ..) t.isLt)).2.2.2.1 := by
    rw [outsAt0_B m c t h0 h0]
    dsimp only
    unfold out0_B_12
    rw [View.read_writes_eq_canon _ _ _ (fun y => cover0_B_12 (y := y) ..)]
    unfold kernelRun0_B
    dsimp only
    sl_unfold_words
    rw [View.canon_unit_zero (S := S1x512) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz]
    rfl

theorem out13_A (t : Fin cfg0.N) (h0 : t.val % 16 = 0) : (outsAt0 m c t.val t.isLt).2.2.2.2.1 =
    k0_pay3 (addf (dlnbC (xA m c t) (yA m c t) (wsmOf m c t)) (dlnbC (xB m c t) (yB m c t) (wsmOf m c t))) (k0_pay7 (F := F)) := by
    rw [outsAt0_A m c t h0 h0]
    dsimp only
    unfold out0_A_13
    rw [View.read_writes_eq_canon _ _ _ (fun y => cover0_A_13 (y := y) ..)]
    unfold kernelRun0_A
    dsimp only
    sl_unfold_words
    rw [View.canon_cons_unit_zero (S := S1x512) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.readCov_unit_zero (S := S1x512) _ hz, View.readCov_unit_zero (S := S128x1024) _ hz, View.readCov_unit_zero (S := S1024x128) _ hz, View.readCov_unit_zero (S := S128x128) _ hz]
    rfl

theorem out13_B (t : Fin cfg0.N) (h0 : ¬ t.val % 16 = 0) : (outsAt0 m c t.val t.isLt).2.2.2.2.1 =
    k0_pay3 (addf (dlnbC (xA m c t) (yA m c t) (outsAt0 m c (t.val - 1) (Nat.lt_of_le_of_lt (Nat.sub_le ..) t.isLt)).2.2.2.2.2.2) (dlnbC (xB m c t) (yB m c t) (outsAt0 m c (t.val - 1) (Nat.lt_of_le_of_lt (Nat.sub_le ..) t.isLt)).2.2.2.2.2.2)) (outsAt0 m c (t.val - 1) (Nat.lt_of_le_of_lt (Nat.sub_le ..) t.isLt)).2.2.2.2.1 := by
    rw [outsAt0_B m c t h0 h0]
    dsimp only
    unfold out0_B_13
    rw [View.read_writes_eq_canon _ _ _ (fun y => cover0_B_13 (y := y) ..)]
    unfold kernelRun0_B
    dsimp only
    sl_unfold_words
    rw [View.canon_unit_zero (S := S1x512) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz]
    rfl

/-! ## The gradient at the two halves: four stores of one block -/

/-- Four blocks side by side: `A` `B` above `C` `D`. -/
def quad (A B C D : FVec F S128x512 .bf16) : Vec F S256x1024 .bf16 := fun y =>
  if h : (y 0).val < 128 then
    if h' : (y 1).val < 512 then A (ValueIdx.ix2 ⟨(y 0).val, h⟩ ⟨(y 1).val, h'⟩)
    else B (ValueIdx.ix2 ⟨(y 0).val, h⟩ ⟨(y 1).val - 512, by have := (y 1).isLt; have h2 : S256x1024.size 1 = 1024 := rfl; omega⟩)
  else
    if h' : (y 1).val < 512 then C (ValueIdx.ix2 ⟨(y 0).val - 128, by have := (y 0).isLt; have h2 : S256x1024.size 0 = 256 := rfl; omega⟩ ⟨(y 1).val, h'⟩)
    else D (ValueIdx.ix2 ⟨(y 0).val - 128, by have := (y 0).isLt; have h2 : S256x1024.size 0 = 256 := rfl; omega⟩
      ⟨(y 1).val - 512, by have := (y 1).isLt; have h2 : S256x1024.size 1 = 1024 := rfl; omega⟩)

theorem quad_D (A B C D : FVec F S128x512 .bf16) (x : S128x512.Idx) :
    D x = quad A B C D (Rect.emb (Rect.unit (s := S256x1024) ![128, 512] S128x512.size inb_S256x1024_S128x512_128_512) x) := by
  have h0 : (x 0).val < 128 := (x 0).isLt
  have h1 : (x 1).val < 512 := (x 1).isLt
  have e0 : (Rect.emb (Rect.unit (s := S256x1024) ![128, 512] S128x512.size inb_S256x1024_S128x512_128_512) x 0).val = 128 + 1 * (x 0).val := rfl
  have e1 : (Rect.emb (Rect.unit (s := S256x1024) ![128, 512] S128x512.size inb_S256x1024_S128x512_128_512) x 1).val = 512 + 1 * (x 1).val := rfl
  unfold quad
  rw [dif_neg (by omega), dif_neg (by omega)]
  exact congrArg D (funext fun a => Fin.ext (by
    match a with
    | ⟨0, _⟩ => exact (show (x 0).val = (Rect.emb (Rect.unit (s := S256x1024) ![128, 512] S128x512.size inb_S256x1024_S128x512_128_512) x 0).val - 128 by omega)
    | ⟨1, _⟩ => exact (show (x 1).val = (Rect.emb (Rect.unit (s := S256x1024) ![128, 512] S128x512.size inb_S256x1024_S128x512_128_512) x 1).val - 512 by omega)))

theorem quad_C (A B C D : FVec F S128x512 .bf16) (x : S128x512.Idx) :
    C x = quad A B C D (Rect.emb (Rect.unit (s := S256x1024) ![128, 0] S128x512.size inb_S256x1024_S128x512_128_0) x) := by
  have h0 : (x 0).val < 128 := (x 0).isLt
  have h1 : (x 1).val < 512 := (x 1).isLt
  have e0 : (Rect.emb (Rect.unit (s := S256x1024) ![128, 0] S128x512.size inb_S256x1024_S128x512_128_0) x 0).val = 128 + 1 * (x 0).val := rfl
  have e1 : (Rect.emb (Rect.unit (s := S256x1024) ![128, 0] S128x512.size inb_S256x1024_S128x512_128_0) x 1).val = 0 + 1 * (x 1).val := rfl
  unfold quad
  rw [dif_neg (by omega), dif_pos (by omega)]
  exact congrArg C (funext fun a => Fin.ext (by
    match a with
    | ⟨0, _⟩ => exact (show (x 0).val = (Rect.emb (Rect.unit (s := S256x1024) ![128, 0] S128x512.size inb_S256x1024_S128x512_128_0) x 0).val - 128 by omega)
    | ⟨1, _⟩ => exact (show (x 1).val = (Rect.emb (Rect.unit (s := S256x1024) ![128, 0] S128x512.size inb_S256x1024_S128x512_128_0) x 1).val by omega)))

theorem quad_B (A B C D : FVec F S128x512 .bf16) (x : S128x512.Idx) :
    B x = quad A B C D (Rect.emb (Rect.unit (s := S256x1024) ![0, 512] S128x512.size inb_S256x1024_S128x512_0_512) x) := by
  have h0 : (x 0).val < 128 := (x 0).isLt
  have h1 : (x 1).val < 512 := (x 1).isLt
  have e0 : (Rect.emb (Rect.unit (s := S256x1024) ![0, 512] S128x512.size inb_S256x1024_S128x512_0_512) x 0).val = 0 + 1 * (x 0).val := rfl
  have e1 : (Rect.emb (Rect.unit (s := S256x1024) ![0, 512] S128x512.size inb_S256x1024_S128x512_0_512) x 1).val = 512 + 1 * (x 1).val := rfl
  unfold quad
  rw [dif_pos (by omega), dif_neg (by omega)]
  exact congrArg B (funext fun a => Fin.ext (by
    match a with
    | ⟨0, _⟩ => exact (show (x 0).val = (Rect.emb (Rect.unit (s := S256x1024) ![0, 512] S128x512.size inb_S256x1024_S128x512_0_512) x 0).val by omega)
    | ⟨1, _⟩ => exact (show (x 1).val = (Rect.emb (Rect.unit (s := S256x1024) ![0, 512] S128x512.size inb_S256x1024_S128x512_0_512) x 1).val - 512 by omega)))

theorem quad_A (A B C D : FVec F S128x512 .bf16) (x : S128x512.Idx) :
    A x = quad A B C D (Rect.emb (Rect.unit (s := S256x1024) ![0, 0] S128x512.size inb_S256x1024_S128x512_0_0) x) := by
  have h0 : (x 0).val < 128 := (x 0).isLt
  have h1 : (x 1).val < 512 := (x 1).isLt
  have e0 : (Rect.emb (Rect.unit (s := S256x1024) ![0, 0] S128x512.size inb_S256x1024_S128x512_0_0) x 0).val = 0 + 1 * (x 0).val := rfl
  have e1 : (Rect.emb (Rect.unit (s := S256x1024) ![0, 0] S128x512.size inb_S256x1024_S128x512_0_0) x 1).val = 0 + 1 * (x 1).val := rfl
  unfold quad
  rw [dif_pos (by omega), dif_pos (by omega)]
  exact congrArg A (funext fun a => Fin.ext (by
    match a with
    | ⟨0, _⟩ => exact (show (x 0).val = (Rect.emb (Rect.unit (s := S256x1024) ![0, 0] S128x512.size inb_S256x1024_S128x512_0_0) x 0).val by omega)
    | ⟨1, _⟩ => exact (show (x 1).val = (Rect.emb (Rect.unit (s := S256x1024) ![0, 0] S128x512.size inb_S256x1024_S128x512_0_0) x 1).val by omega)))

theorem canon_quad (A B C D : FVec F S128x512 .bf16) :
    View.canon (Val := Elt F) (s := S256x1024) (e := .bf16) [⟨Rect.unit ![128, 512] S128x512.size inb_S256x1024_S128x512_128_512, D⟩, ⟨Rect.unit ![128, 0] S128x512.size inb_S256x1024_S128x512_128_0, C⟩,
      ⟨Rect.unit ![0, 512] S128x512.size inb_S256x1024_S128x512_0_512, B⟩, ⟨Rect.unit ![0, 0] S128x512.size inb_S256x1024_S128x512_0_0, A⟩] = quad A B C D := by
  funext y
  refine View.canon_apply_of_pieces (quad A B C D) _ ?_ y ?_
  · intro p hp x
    simp only [List.mem_cons, List.not_mem_nil, or_false] at hp
    rcases hp with rfl | rfl | rfl | rfl
    · exact quad_D A B C D x
    · exact quad_C A B C D x
    · exact quad_B A B C D x
    · exact quad_A A B C D x
  · have h0 : (y 0).val < 256 := (y 0).isLt
    have h1 : (y 1).val < 1024 := (y 1).isLt
    by_cases hr : (y 0).val < 128 <;> by_cases hd : (y 1).val < 512
    · exact ⟨_, by simp only [List.mem_cons]; exact Or.inr (Or.inr (Or.inr (Or.inl rfl))), (LoadRect.mem_set _).mpr fun a => match a with
        | ⟨0, _⟩ => ⟨(y 0).val, hr, by show (y 0).val = 0 + 1 * (y 0).val; omega⟩
        | ⟨1, _⟩ => ⟨(y 1).val, hd, by show (y 1).val = 0 + 1 * (y 1).val; omega⟩⟩
    · exact ⟨_, by simp only [List.mem_cons]; exact Or.inr (Or.inr (Or.inl rfl)), (LoadRect.mem_set _).mpr fun a => match a with
        | ⟨0, _⟩ => ⟨(y 0).val, hr, by show (y 0).val = 0 + 1 * (y 0).val; omega⟩
        | ⟨1, _⟩ => ⟨(y 1).val - 512, show (y 1).val - 512 < 512 by omega, by show (y 1).val = 512 + 1 * ((y 1).val - 512); omega⟩⟩
    · exact ⟨_, by simp only [List.mem_cons]; exact Or.inr (Or.inl rfl), (LoadRect.mem_set _).mpr fun a => match a with
        | ⟨0, _⟩ => ⟨(y 0).val - 128, show (y 0).val - 128 < 128 by omega, by show (y 0).val = 128 + 1 * ((y 0).val - 128); omega⟩
        | ⟨1, _⟩ => ⟨(y 1).val, hd, by show (y 1).val = 0 + 1 * (y 1).val; omega⟩⟩
    · exact ⟨_, by simp only [List.mem_cons]; exact Or.inl rfl, (LoadRect.mem_set _).mpr fun a => match a with
        | ⟨0, _⟩ => ⟨(y 0).val - 128, show (y 0).val - 128 < 128 by omega, by show (y 0).val = 128 + 1 * ((y 0).val - 128); omega⟩
        | ⟨1, _⟩ => ⟨(y 1).val - 512, show (y 1).val - 512 < 512 by omega, by show (y 1).val = 512 + 1 * ((y 1).val - 512); omega⟩⟩

/-- What a point leaves at the halves, with its mixing weights in hand. -/
def duv (t : Fin cfg0.N) (wm : Vec F S128x1024 .bf16) (wsm : Vec F S1024x128 .bf16) : Vec F S256x1024 .bf16 :=
  quad (duC (xA m c t) (yA m c t) (lnwOf m c t) (lnbOf m c t) (eOf m c t) (etOf m c t) wm (iblk m c 8 t))
    (dvC (xA m c t) (yA m c t) (lnwOf m c t) (eOf m c t) (etOf m c t) wsm)
    (duC (xB m c t) (yB m c t) (lnwOf m c t) (lnbOf m c t) (eOf m c t) (etOf m c t) wm (iblk m c 8 t))
    (dvC (xB m c t) (yB m c t) (lnwOf m c t) (eOf m c t) (etOf m c t) wsm)

theorem out9_A (t : Fin cfg0.N) (h0 : t.val % 16 = 0) : (outsAt0 m c t.val t.isLt).1 = duv m c t (wmOf m c t) (wsmOf m c t) := by
    rw [outsAt0_A m c t h0 h0]
    dsimp only
    unfold out0_A_9
    rw [View.read_writes_eq_canon _ _ _ (fun y => cover0_A_9 (y := y) ..)]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.readCov_unit_zero (S := S1x512) _ hz, View.readCov_unit_zero (S := S128x1024) _ hz, View.readCov_unit_zero (S := S1024x128) _ hz, View.readCov_unit_zero (S := S128x128) _ hz]
    refine (canon_quad (F := F) _ _ _ _).trans ?_
    rfl

theorem out9_B (t : Fin cfg0.N) (h0 : ¬ t.val % 16 = 0) : (outsAt0 m c t.val t.isLt).1 = duv m c t (outsAt0 m c (t.val - 1) (Nat.lt_of_le_of_lt (Nat.sub_le ..) t.isLt)).2.2.2.2.2.1 (outsAt0 m c (t.val - 1) (Nat.lt_of_le_of_lt (Nat.sub_le ..) t.isLt)).2.2.2.2.2.2 := by
    rw [outsAt0_B m c t h0 h0]
    dsimp only
    unfold out0_B_9
    rw [View.read_writes_eq_canon _ _ _ (fun y => cover0_B_9 (y := y) ..)]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz]
    refine (canon_quad (F := F) _ _ _ _).trans ?_
    rfl

/-! ## The mixing weights the first point keeps -/

theorem scr0_A (t : Fin cfg0.N) (h0 : t.val % 16 = 0) : (outsAt0 m c t.val t.isLt).2.2.2.2.2.1 = wmOf m c t := by
    rw [outsAt0_A m c t h0 h0]
    dsimp only
    unfold sout0_A_0
    rw [View.read_writes_eq_canon _ _ _ (fun y => scover0_A_0 (y := y) ..)]
    unfold kernelRun0_A
    dsimp only
    sl_unfold_words
    rw [View.canon_unit_zero (S := S128x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.ld_unit_zero (S := S128x1024) hz]
theorem scr0_B (t : Fin cfg0.N) (h0 : ¬ t.val % 16 = 0) : (outsAt0 m c t.val t.isLt).2.2.2.2.2.1 = (outsAt0 m c (t.val - 1) (Nat.lt_of_le_of_lt (Nat.sub_le ..) t.isLt)).2.2.2.2.2.1 := by
    rw [outsAt0_B m c t h0 h0]
    dsimp only
    unfold sout0_B_0
    rfl
theorem scr1_A (t : Fin cfg0.N) (h0 : t.val % 16 = 0) : (outsAt0 m c t.val t.isLt).2.2.2.2.2.2 = wsmOf m c t := by
    rw [outsAt0_A m c t h0 h0]
    dsimp only
    unfold sout0_A_1
    rw [View.read_writes_eq_canon _ _ _ (fun y => scover0_A_1 (y := y) ..)]
    unfold kernelRun0_A
    dsimp only
    sl_unfold_words
    rw [View.canon_unit_zero (S := S1024x128) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, (hs0_12 t).read_unread, (hs0_13 t).read_unread, (show scM0_0.IsWhole from Memref.isWhole_whole _).read_unread, (show scM0_1.IsWhole from Memref.isWhole_whole _).read_unread, View.ld_unit_zero (S := S1x512) hz, View.ld_unit_zero (S := S128x512) hz, View.ld_unit_zero (S := S512x128) hz, View.ld_unit_zero (S := S128x1024) hz, View.ld_unit_zero (S := S1024x128) hz, View.ld_unit_zero (S := S128x128) hz, View.ld_unit_zero (S := S1024x128) hz]
theorem scr1_B (t : Fin cfg0.N) (h0 : ¬ t.val % 16 = 0) : (outsAt0 m c t.val t.isLt).2.2.2.2.2.2 = (outsAt0 m c (t.val - 1) (Nat.lt_of_le_of_lt (Nat.sub_le ..) t.isLt)).2.2.2.2.2.2 := by
    rw [outsAt0_B m c t h0 h0]
    dsimp only
    unfold sout0_B_1
    rfl

end Cert.Gmlp

end
-- ==== Proof.GmlpMath.lean ====
/-
  The gated mixer's building blocks over the reals: what each block of the kernel holds at an index when its operands
  hold real numbers.
-/
module

public import proofs.«01_k».proof.Proof.GmlpOps

@[expose] public section

set_option maxRecDepth 16384

noncomputable section

namespace Cert.Gmlp

open Cert.GmlpBwdIdeal Cert.GmlpBwdIdeal.Gen Idealize.ShloMosaic Idealize.ShloMosaic.TcCoe Idealize.SL.Sem Cert.Reals

/-! ## The formulas -/

def gA : ℝ := 8943 / 200000
def gC : ℝ := 13386282 / 2 ^ 24
def gT (x : ℝ) : ℝ := Real.tanh (gC * (x + gA * (x * x * x)))
def gelu (x : ℝ) : ℝ := 1 / 2 * x * (1 + gT x)
def gelu' (x : ℝ) : ℝ := 1 / 2 * (1 + gT x) + 1 / 2 * x * (1 - gT x * gT x) * (gC * (1 + 26829 / 200000 * x * x))

/-- The sum over the 64 lanes of head `k`. -/
def seg (X : ℕ → ℝ) (k : ℕ) : ℝ := ∑ d ∈ Finset.range 512, if d / 64 = k then X d else 0
def mean (X : ℕ → ℝ) (d : ℕ) : ℝ := seg X (d / 64) * (1 / 64)
def xcR (v : ℕ → ℝ) (d : ℕ) : ℝ := gelu (v d) - mean (fun d => gelu (v d)) d
def rsR (v : ℕ → ℝ) (d : ℕ) : ℝ := (Real.sqrt (mean (fun d => xcR v d * xcR v d) d + eps))⁻¹
def xhR (v : ℕ → ℝ) (d : ℕ) : ℝ := xcR v d * rsR v d
def vnR (lw lb v : ℕ → ℝ) (d : ℕ) : ℝ := xhR v d * lw d + lb d
def mixR (W : ℕ → ℕ → ℕ → ℝ) (VN : ℕ → ℕ → ℝ) (t d : ℕ) : ℝ := ∑ s ∈ Finset.range 128, W (d / 64) t s * VN s d
def dvnR (W : ℕ → ℕ → ℕ → ℝ) (DM : ℕ → ℕ → ℝ) (s d : ℕ) : ℝ := ∑ t ∈ Finset.range 128, W (d / 64) t s * DM t d
def dnR (lw xh dvn : ℕ → ℝ) (d : ℕ) : ℝ :=
  dvn d * lw d - mean (fun d => dvn d * lw d) d - xh d * mean (fun d => dvn d * lw d * xh d) d

/-! ## Sums -/

theorem sum_seg (X : ℕ → ℝ) (k : ℕ) : ∑ d : Fin 512, X d.val * (if d.val / 64 = k then 1 else 0) = seg X k := by
  rw [seg, ← Fin.sum_univ_eq_sum_range (fun d => if d / 64 = k then X d else 0)]
  exact Finset.sum_congr rfl fun d _ => by split <;> simp

theorem sum_map (Y : ℕ → ℝ) (d : Fin 512) : ∑ k : Fin 128, Y k.val * (if d.val / 64 = k.val then 1 else 0) = Y (d.val / 64) := by
  rw [Finset.sum_eq_single (⟨d.val / 64, by omega⟩ : Fin 128)]
  · simp
  · intro k _ hk
    rw [if_neg fun e => hk (Fin.ext e.symm), mul_zero]
  · simp

theorem sum_stack (f : ℕ → ℝ) (X : ℕ → ℝ) (h : ℕ) (hh : h < 8) :
    ∑ k : Fin 1024, f k.val * (if h = k.val / 128 then X (k.val % 128) else 0) = ∑ s ∈ Finset.range 128, f (128 * h + s) * X s := by
  rw [Fin.sum_univ_eq_sum_range (fun k => f k * (if h = k / 128 then X (k % 128) else 0)) 1024, ← sum_blocks 8 128]
  rw [Finset.sum_eq_single h]
  · refine Finset.sum_congr rfl fun s hs => ?_
    have := Finset.mem_range.mp hs
    rw [if_pos (by omega), show (128 * h + s) % 128 = s by omega]
  · intro k _ hk
    refine Finset.sum_eq_zero fun s hs => ?_
    have := Finset.mem_range.mp hs
    rw [if_neg (by omega), mul_zero]
  · intro hn; exact absurd (Finset.mem_range.mpr hh) hn

theorem mean_sq_pos (v : ℕ → ℝ) (d : ℕ) : 0 < mean (fun d => xcR v d * xcR v d) d + eps := by
  refine add_pos_of_nonneg_of_pos (mul_nonneg (Finset.sum_nonneg fun e _ => ?_) (by norm_num)) eps_pos
  split
  · exact mul_self_nonneg _
  · exact le_rfl

/-! ## Constants -/

theorem ofBits_gC : Ideal.ofBits .f32 0x3F4C422A#32 = ((gC : ℝ) : EReal) := by
  simp [Ideal.ofBits, Ideal.ieee, gC, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
theorem named_a : (Named.named κ "gelu_a" 0x3D372713#32 : Ideal .f32) = ((gA : ℝ) : EReal) := rfl
theorem named_3a : (Named.named κ "gelu_3a" 0x3E095D4F#32 : Ideal .f32) = ((26829 / 200000 : ℝ) : EReal) := rfl

/-! ## Blocks read at an index -/

section
variable {v : FVec Ideal S128x512 .f32} {X : ℕ → ℕ → ℝ} (hv : ∀ (r : Fin 128) (d : Fin 512), v (ix2 r d) = ((X r d : ℝ) : EReal))
include hv

theorem tanhOf_at (r : Fin 128) (d : Fin 512) : tanhOf v (ix2 r d) = ((gT (X r d) : ℝ) : EReal) := by
  unfold tanhOf
  pointwise []
  simp only [hv, named_a, ofBits_gC, ← EReal.coe_mul, ← EReal.coe_add, Ideal.tanh_coe]
  rfl
theorem geluOf_at (r : Fin 128) (d : Fin 512) : geluOf v (ix2 r d) = ((gelu (X r d) : ℝ) : EReal) := by
  unfold geluOf
  pointwise []
  simp only [tanhOf_at hv, hv, ofBits_half, ofBits_one, ← EReal.coe_mul, ← EReal.coe_add]
  rfl
theorem gradOf_at (r : Fin 128) (d : Fin 512) : gradOf v (ix2 r d) = ((gelu' (X r d) : ℝ) : EReal) := by
  unfold gradOf
  pointwise []
  simp only [tanhOf_at hv, hv, named_3a, ofBits_gC, ofBits_half, ofBits_one, ← EReal.coe_mul, ← EReal.coe_add, ← EReal.coe_sub]
  rfl
end

theorem headOf_at : ∀ d : Fin 512, headOf (ix2 0 d) = BitVec.ofNat 32 (d.val / 64) := by decide +kernel

theorem headBlk_at (h : Fin 8) (v : FVec Ideal S128x512 .bf16) (r : Fin 128) (d : Fin 512) :
    headBlk (F := Ideal) (BitVec.ofNat 32 h.val) v (ix2 r d) = if d.val / 64 = h.val then v (ix2 r d) else 0 := by
  unfold headBlk
  pointwise []
  rw [headOf_at]
  by_cases e : d.val / 64 = h.val
  · rw [if_pos e, e]
    simp [Scalar.select, IntOp.cmpi]
  · rw [if_neg e]
    have : BitVec.ofNat 32 (d.val / 64) ≠ BitVec.ofNat 32 h.val := fun q => e (by
      have := congrArg BitVec.toNat q
      simp only [BitVec.toNat_ofNat] at this
      omega)
    simp only [Scalar.select, IntOp.cmpi, beq_eq_false_iff_ne.mpr this]
    rfl

theorem heads_at (v : FVec Ideal S128x512 .bf16) (k : Fin 1024) (d : Fin 512) :
    heads v (ix2 k d) = if d.val / 64 = k.val / 128 then v (ix2 ⟨k.val % 128, by omega⟩ d) else 0 := by
  have key : ∀ (h : Fin 8) (r : Fin 128), k.val = 128 * h.val + r.val →
      headBlk (F := Ideal) (BitVec.ofNat 32 h.val) v (ix2 r d) = if d.val / 64 = k.val / 128 then v (ix2 ⟨k.val % 128, by omega⟩ d) else 0 := by
    intro h r e
    rw [headBlk_at, show k.val / 128 = h.val by omega, show (⟨k.val % 128, by omega⟩ : Fin 128) = r from Fin.ext (by show k.val % 128 = r.val; omega)]
  unfold heads
  pointwise []
  split
  · exact key 0 _ (by simp)
  split
  · exact key 1 _ (by simp; omega)
  split
  · exact key 2 _ (by simp; omega)
  split
  · exact key 3 _ (by simp; omega)
  split
  · exact key 4 _ (by simp; omega)
  split
  · exact key 5 _ (by simp; omega)
  split
  · exact key 6 _ (by simp; omega)
  · exact key 7 _ (by simp; omega)

theorem sub_self_real (x : ℝ) : (x : EReal) - (x : EReal) = 0 := by rw [← EReal.coe_sub, sub_self, EReal.coe_zero]

/-- The indicator matrices of lanes and heads. -/
def IsE (e : FVec Ideal S128x512 .bf16) : Prop := ∀ (k : Fin 128) (d : Fin 512), e (ix2 k d) = (((if d.val / 64 = k.val then 1 else 0 : ℝ)) : EReal)
def IsEt (et : FVec Ideal S512x128 .bf16) : Prop := ∀ (d : Fin 512) (k : Fin 128), et (ix2 d k) = (((if d.val / 64 = k.val then 1 else 0 : ℝ)) : EReal)

theorem segDot_at {v : FVec Ideal S128x512 .f32} {et : FVec Ideal S512x128 .bf16} (het : IsEt et) {X : ℕ → ℕ → ℝ}
    (hv : ∀ (r : Fin 128) (d : Fin 512), v (ix2 r d) = ((X r d : ℝ) : EReal)) (r k : Fin 128) :
    segDot v et (ix2 r k) = ((seg (X r) k : ℝ) : EReal) := by
  unfold segDot restOf
  pointwise []
  simp only [hv, het _ _, sub_self_real, zero_mul, Finset.sum_const_zero, add_zero, ← EReal.coe_mul, ← coe_sum]
  exact congrArg _ (sum_seg (X r) k)

theorem segMap_at {v : FVec Ideal S128x128 .f32} {e : FVec Ideal S128x512 .bf16} (he : IsE e) {Y : ℕ → ℕ → ℝ}
    (hv : ∀ (r : Fin 128) (d : Fin 128), v (ix2 r d) = ((Y r d : ℝ) : EReal)) (r : Fin 128) (d : Fin 512) :
    segMap v e (ix2 r d) = ((Y r (d / 64) : ℝ) : EReal) := by
  unfold segMap restOf
  pointwise []
  simp only [hv, he _ _, sub_self_real, zero_mul, Finset.sum_const_zero, add_zero, ← EReal.coe_mul, ← coe_sum]
  exact congrArg _ (sum_map (Y r) d)

theorem segDots_at {a b : FVec Ideal S128x512 .f32} {et : FVec Ideal S512x128 .bf16} (het : IsEt et) {X Y : ℕ → ℕ → ℝ}
    (ha : ∀ (r : Fin 128) (d : Fin 512), a (ix2 r d) = ((X r d : ℝ) : EReal))
    (hb : ∀ (r : Fin 128) (d : Fin 512), b (ix2 r d) = ((Y r d : ℝ) : EReal)) (r k : Fin 128) :
    first128 (segDots a b et) (ix2 r k) = ((seg (X r) k : ℝ) : EReal) ∧ second128 (segDots a b et) (ix2 r k) = ((seg (Y r) k : ℝ) : EReal) := by
  unfold first128 second128 segDots restOf
  constructor
  · pointwise []
    simp only [ha, hb, het _ _, sub_self_real, zero_mul, Finset.sum_const_zero, add_zero, ← EReal.coe_mul, ← coe_sum]
    exact congrArg _ (sum_seg (X r) k)
  · pointwise []
    simp only [ha, hb, het _ _, sub_self_real, zero_mul, Finset.sum_const_zero, add_zero, ← EReal.coe_mul, ← coe_sum]
    simp only [dif_neg (show ¬256 + r.val < 128 by omega), dif_neg (show ¬256 + r.val - 128 < 128 by omega), dif_pos (show 256 + r.val - 128 - 128 < 128 by omega),
      dif_neg (show ¬384 + r.val < 128 by omega), dif_neg (show ¬384 + r.val - 128 < 128 by omega), dif_neg (show ¬384 + r.val - 128 - 128 < 128 by omega),
      show 256 + r.val - 128 - 128 = r.val by omega, dif_pos r.isLt, zero_mul, Finset.sum_const_zero, add_zero, ← EReal.coe_mul, ← coe_sum]
    exact congrArg _ (sum_seg (Y r) k)

theorem segMaps_at {a b : FVec Ideal S128x128 .f32} {e : FVec Ideal S128x512 .bf16} (he : IsE e) {X Y : ℕ → ℕ → ℝ}
    (ha : ∀ (r : Fin 128) (d : Fin 128), a (ix2 r d) = ((X r d : ℝ) : EReal))
    (hb : ∀ (r : Fin 128) (d : Fin 128), b (ix2 r d) = ((Y r d : ℝ) : EReal)) (r : Fin 128) (d : Fin 512) :
    first512 (segMaps a b e) (ix2 r d) = ((X r (d / 64) : ℝ) : EReal) ∧ second512 (segMaps a b e) (ix2 r d) = ((Y r (d / 64) : ℝ) : EReal) := by
  unfold first512 second512 segMaps restOf
  constructor
  · pointwise []
    simp only [ha, hb, he _ _, sub_self_real, zero_mul, Finset.sum_const_zero, add_zero, ← EReal.coe_mul, ← coe_sum]
    exact congrArg _ (sum_map (X r) d)
  · pointwise []
    simp only [ha, hb, he _ _, sub_self_real, zero_mul, Finset.sum_const_zero, add_zero, ← EReal.coe_mul, ← coe_sum]
    simp only [dif_neg (show ¬256 + r.val < 128 by omega), dif_neg (show ¬256 + r.val - 128 < 128 by omega), dif_pos (show 256 + r.val - 128 - 128 < 128 by omega),
      dif_neg (show ¬384 + r.val < 128 by omega), dif_neg (show ¬384 + r.val - 128 < 128 by omega), dif_neg (show ¬384 + r.val - 128 - 128 < 128 by omega),
      show 256 + r.val - 128 - 128 = r.val by omega, dif_pos r.isLt, zero_mul, Finset.sum_const_zero, add_zero, ← EReal.coe_mul, ← coe_sum]
    exact congrArg _ (sum_map (Y r) d)

end Cert.Gmlp

end
-- ==== Proof.GmlpChunk.lean ====
/-
  One chunk of the gated mixer's backward pass over the reals: each block of the chunk at an index, from the chunk's rows.
-/
module

public import proofs.«01_k».proof.Proof.GmlpMath

@[expose] public section

set_option maxRecDepth 16384

noncomputable section

namespace Cert.Gmlp

open Cert.GmlpBwdIdeal Cert.GmlpBwdIdeal.Gen Idealize.ShloMosaic Idealize.ShloMosaic.TcCoe Idealize.SL.Sem Cert.Reals

section
variable {e : FVec Ideal S128x512 .bf16} {et : FVec Ideal S512x128 .bf16} (he : IsE e) (het : IsEt et)
include he het

theorem xcOf_at {v : FVec Ideal S128x512 .f32} {V : ℕ → ℕ → ℝ} (hv : ∀ (r : Fin 128) (d : Fin 512), v (ix2 r d) = ((V r d : ℝ) : EReal))
    (r : Fin 128) (d : Fin 512) : xcOf e et v (ix2 r d) = ((xcR (V r) d : ℝ) : EReal) := by
  have h1 : ∀ (r k : Fin 128), mulf (segDot (geluOf v) et) inv64 (ix2 r k) = ((seg (fun d => gelu (V r d)) k * (1 / 64) : ℝ) : EReal) := fun r k => by
    unfold inv64
    pointwise []
    rw [segDot_at het (X := fun r d => gelu (V r d)) (geluOf_at hv), ofBits_64th, ← EReal.coe_mul]
  unfold xcOf
  pointwise []
  rw [geluOf_at hv, segMap_at he (Y := fun r k => seg (fun d => gelu (V r d)) k * (1 / 64)) h1, ← EReal.coe_sub]
  rfl

theorem rsOf_at {v : FVec Ideal S128x512 .f32} {V : ℕ → ℕ → ℝ} (hv : ∀ (r : Fin 128) (d : Fin 512), v (ix2 r d) = ((V r d : ℝ) : EReal))
    (r : Fin 128) (d : Fin 512) : rsOf e et v (ix2 r d) = ((rsR (V r) d : ℝ) : EReal) := by
  have h0 : ∀ (r : Fin 128) (d : Fin 512), mulf (xcOf e et v) (xcOf e et v) (ix2 r d) = ((xcR (V r) d * xcR (V r) d : ℝ) : EReal) := fun r d => by
    pointwise []
    rw [xcOf_at he het hv, ← EReal.coe_mul]
  have h1 : ∀ (r k : Fin 128), rsqrt (addf (mulf (segDot (mulf (xcOf e et v) (xcOf e et v)) et) inv64) (broadcast S128x128 (Scalar.ofBits .f32 0x358637BD#32))) (ix2 r k)
      = (((Real.sqrt (seg (fun d => xcR (V r) d * xcR (V r) d) k * (1 / 64) + eps))⁻¹ : ℝ) : EReal) := fun r k => by
    unfold inv64
    pointwise []
    rw [segDot_at het (X := fun r d => xcR (V r) d * xcR (V r) d) h0, ofBits_64th, ofBits_eps, ← EReal.coe_mul, ← EReal.coe_add]
    refine rsqrt_real (add_pos_of_nonneg_of_pos (mul_nonneg (Finset.sum_nonneg fun e _ => ?_) (by norm_num)) eps_pos)
    split
    · exact mul_self_nonneg _
    · exact le_rfl
  unfold rsOf
  rw [segMap_at he (Y := fun r k => (Real.sqrt (seg (fun d => xcR (V r) d * xcR (V r) d) k * (1 / 64) + eps))⁻¹) h1]
  rfl

theorem xhOf_at {v : FVec Ideal S128x512 .f32} {V : ℕ → ℕ → ℝ} (hv : ∀ (r : Fin 128) (d : Fin 512), v (ix2 r d) = ((V r d : ℝ) : EReal))
    (r : Fin 128) (d : Fin 512) : xhOf e et v (ix2 r d) = ((xhR (V r) d : ℝ) : EReal) := by
  unfold xhOf
  pointwise []
  rw [xcOf_at he het hv, rsOf_at he het hv, ← EReal.coe_mul]
  rfl

theorem dnOf_at {lnw : FVec Ideal S1x512 .f32} {LW : ℕ → ℝ} (hw : ∀ d : Fin 512, lnw (ix2 0 d) = ((LW d : ℝ) : EReal))
    {xh dvn : FVec Ideal S128x512 .f32} {XH D : ℕ → ℕ → ℝ} (hx : ∀ (r : Fin 128) (d : Fin 512), xh (ix2 r d) = ((XH r d : ℝ) : EReal))
    (hd : ∀ (r : Fin 128) (d : Fin 512), dvn (ix2 r d) = ((D r d : ℝ) : EReal)) (r : Fin 128) (d : Fin 512) :
    dnOf lnw e et xh dvn (ix2 r d) = ((dnR LW (XH r) (D r) d : ℝ) : EReal) := by
  have h0 : ∀ (r : Fin 128) (d : Fin 512), dxhOf lnw dvn (ix2 r d) = ((D r d * LW d : ℝ) : EReal) := fun r d => by
    unfold dxhOf
    pointwise []
    rw [hd, hw, ← EReal.coe_mul]
  have h1 : ∀ (r : Fin 128) (d : Fin 512), mulf (dxhOf lnw dvn) xh (ix2 r d) = ((D r d * LW d * XH r d : ℝ) : EReal) := fun r d => by
    pointwise []
    rw [h0, hx, ← EReal.coe_mul]
  have h2 : ∀ (r k : Fin 128), mulf (first128 (segDots (dxhOf lnw dvn) (mulf (dxhOf lnw dvn) xh) et)) inv64 (ix2 r k)
      = ((seg (fun d => D r d * LW d) k * (1 / 64) : ℝ) : EReal) := fun r k => by
    unfold inv64
    pointwise []
    rw [(segDots_at het (X := fun r d => D r d * LW d) (Y := fun r d => D r d * LW d * XH r d) h0 h1 r k).1, ofBits_64th, ← EReal.coe_mul]
  have h3 : ∀ (r k : Fin 128), mulf (second128 (segDots (dxhOf lnw dvn) (mulf (dxhOf lnw dvn) xh) et)) inv64 (ix2 r k)
      = ((seg (fun d => D r d * LW d * XH r d) k * (1 / 64) : ℝ) : EReal) := fun r k => by
    unfold inv64
    pointwise []
    rw [(segDots_at het (X := fun r d => D r d * LW d) (Y := fun r d => D r d * LW d * XH r d) h0 h1 r k).2, ofBits_64th, ← EReal.coe_mul]
  unfold dnOf meansOf
  pointwise []
  rw [h0, hx, (segMaps_at he (X := fun r k => seg (fun d => D r d * LW d) k * (1 / 64)) (Y := fun r k => seg (fun d => D r d * LW d * XH r d) k * (1 / 64)) h2 h3 r d).1, (segMaps_at he (X := fun r k => seg (fun d => D r d * LW d) k * (1 / 64)) (Y := fun r k => seg (fun d => D r d * LW d * XH r d) k * (1 / 64)) h2 h3 r d).2, ← EReal.coe_sub, ← EReal.coe_mul, ← EReal.coe_sub]
  rfl
end

theorem lo_lt (d : Fin 512) : d.val < 1024 := by omega
theorem hi_lt (d : Fin 512) : 512 + d.val < 1024 := by omega

section
variable {x : Vec Ideal S128x1024 .f32} {dy : Vec Ideal S128x512 .f32} {lnw lnb : FVec Ideal S1x512 .f32} {e : FVec Ideal S128x512 .bf16}
  {et : FVec Ideal S512x128 .bf16} {wm : Vec Ideal S128x1024 .bf16} {wsm : Vec Ideal S1024x128 .bf16} {bm : Vec Ideal S128x512 .f32}
  {U V Y : ℕ → ℕ → ℝ} {LW LB : ℕ → ℝ} {W : ℕ → ℕ → ℕ → ℝ} {B : ℕ → ℕ → ℝ}
  (hu : ∀ (r : Fin 128) (d : Fin 512), x (ix2 r ⟨d.val, lo_lt d⟩) = ((U r d : ℝ) : EReal))
  (hv : ∀ (r : Fin 128) (d : Fin 512), x (ix2 r ⟨512 + d.val, hi_lt d⟩) = ((V r d : ℝ) : EReal))
  (hy : ∀ (r : Fin 128) (d : Fin 512), dy (ix2 r d) = ((Y r d : ℝ) : EReal))
  (hw : ∀ d : Fin 512, lnw (ix2 0 d) = ((LW d : ℝ) : EReal)) (hb : ∀ d : Fin 512, lnb (ix2 0 d) = ((LB d : ℝ) : EReal))
  (he : IsE e) (het : IsEt et)
  (hm : ∀ (t : Fin 128) (k : Fin 1024), wm (ix2 t k) = ((W (k / 128) t (k % 128) : ℝ) : EReal))
  (hs : ∀ (k : Fin 1024) (s : Fin 128), wsm (ix2 k s) = ((W (k / 128) (k % 128) s : ℝ) : EReal))
  (hbm : ∀ (t : Fin 128) (d : Fin 512), bm (ix2 t d) = ((B (d / 64) t : ℝ) : EReal))

include hu in
theorem uOf_at (r : Fin 128) (d : Fin 512) : uOf x (ix2 r d) = ((U r d : ℝ) : EReal) := by
  unfold uOf
  pointwise []
  exact hu r d
include hv in
theorem vOf_at (r : Fin 128) (d : Fin 512) : vOf x (ix2 r d) = ((V r d : ℝ) : EReal) := by
  unfold vOf
  pointwise []
  exact hv r d

/-- The gradient at the mixed values. -/
def dmR (U Y : ℕ → ℕ → ℝ) (t d : ℕ) : ℝ := Y t d * gelu (U t d)

include hu hy in
theorem dmOf_at (r : Fin 128) (d : Fin 512) : dmOf dy (uOf x) (ix2 r d) = ((dmR U Y r d : ℝ) : EReal) := by
  unfold dmOf
  pointwise []
  rw [hy, geluOf_at (uOf_at hu), ← EReal.coe_mul]
  rfl

include hv hw hb he het in
theorem vnC_at (r : Fin 128) (d : Fin 512) : vnC x lnw lnb e et (ix2 r d) = ((vnR LW LB (V r) d : ℝ) : EReal) := by
  unfold vnC vnOf
  pointwise []
  rw [xhOf_at he het (vOf_at hv), hw, hb, ← EReal.coe_mul, ← EReal.coe_add]
  rfl

include hv he het in
theorem xhC_at (r : Fin 128) (d : Fin 512) : xhC x e et (ix2 r d) = ((xhR (V r) d : ℝ) : EReal) := xhOf_at he het (vOf_at hv) r d

theorem ite_coe (p : Prop) [Decidable p] (a : ℝ) : (if p then (a : EReal) else 0) = ((if p then a else 0 : ℝ) : EReal) := by split <;> simp

include hu hy hs in
theorem dvnC_at (r : Fin 128) (d : Fin 512) : dvnC x dy wsm (ix2 r d) = ((dvnR W (dmR U Y) r d : ℝ) : EReal) := by
  unfold dvnC dvnOf
  pointwise []
  simp only [heads_at]
  pointwise []
  simp only [dmOf_at hu hy, hs, ite_coe, ← EReal.coe_mul, ← coe_sum]
  refine congrArg _ ((sum_stack (fun k => W (k / 128) (k % 128) r) (fun t => dmR U Y t d) (d / 64) (by omega)).trans ?_)
  refine Finset.sum_congr rfl fun s hs => ?_
  have := Finset.mem_range.mp hs
  rw [show (128 * (d.val / 64) + s) / 128 = d.val / 64 by omega, show (128 * (d.val / 64) + s) % 128 = s by omega]

include hu hv hy hw hb he het hm hbm in
theorem duC_at (r : Fin 128) (d : Fin 512) : duC x dy lnw lnb e et wm bm (ix2 r d)
    = ((Y r d * (mixR W (fun t => vnR LW LB (V t)) r d + B (d / 64) r) * gelu' (U r d) : ℝ) : EReal) := by
  unfold duC duOf mixOf
  pointwise []
  simp only [heads_at, vnC_at hv hw hb he het, hy, hbm, hm, gradOf_at (uOf_at hu), ite_coe, ← EReal.coe_mul, ← coe_sum, ← EReal.coe_add]
  refine congrArg (fun q : ℝ => ((Y r d * (q + B (d / 64) r) * gelu' (U r d) : ℝ) : EReal)) ?_
  refine (sum_stack (fun k => W (k / 128) r (k % 128)) (fun t => vnR LW LB (V t) d) (d / 64) (by omega)).trans ?_
  refine Finset.sum_congr rfl fun s hs => ?_
  have := Finset.mem_range.mp hs
  rw [show (128 * (d.val / 64) + s) / 128 = d.val / 64 by omega, show (128 * (d.val / 64) + s) % 128 = s by omega]

/-- The gradient at the normalised half. -/
def dvR (LW v dvn : ℕ → ℝ) (d : ℕ) : ℝ := rsR v d * dnR LW (xhR v) dvn d * gelu' (v d)

include hu hv hy hw he het hs in
theorem dvC_at (r : Fin 128) (d : Fin 512) : dvC x dy lnw e et wsm (ix2 r d)
    = ((dvR LW (V r) (dvnR W (dmR U Y) r) d : ℝ) : EReal) := by
  unfold dvC dvOf
  pointwise []
  rw [rsOf_at he het (vOf_at hv), dnOf_at he het hw (XH := fun r => xhR (V r)) (D := dvnR W (dmR U Y)) (xhC_at hv he het) (dvnC_at hu hy hs), gradOf_at (vOf_at hv), ← EReal.coe_mul, ← EReal.coe_mul]
  rfl

/-- A chunk's part of the mixing weights' gradient. -/
def dwR (DM VN : ℕ → ℕ → ℝ) (h t s : ℕ) : ℝ := seg (fun d => DM t d * VN s d) h

include hu hv hy hw hb he het in
theorem dwC_at (k : Fin 1024) (s : Fin 128) : dwC x dy lnw lnb e et (ix2 k s)
    = ((dwR (dmR U Y) (fun t => vnR LW LB (V t)) (k / 128) (k % 128) s : ℝ) : EReal) := by
  unfold dwC dwOf
  pointwise []
  simp only [heads_at, vnC_at hv hw hb he het]
  pointwise []
  simp only [dmOf_at hu hy, ite_coe, ← EReal.coe_mul, ← coe_sum]
  refine congrArg _ (Eq.trans ?_ (Fin.sum_univ_eq_sum_range (fun d => if d / 64 = k.val / 128 then dmR U Y (k.val % 128) d * vnR LW LB (V s) d else 0) 512))
  exact Finset.sum_congr rfl fun d _ => by split <;> simp

include hu hy het in
theorem dbC_at (r k : Fin 128) : dbC x dy et (ix2 r k) = ((seg (dmR U Y r) k : ℝ) : EReal) := segDot_at het (dmOf_at hu hy) r k

include hu hv hy he het hs in
theorem dlnwC_at (d : Fin 512) : dlnwC x dy e et wsm (ix2 0 d)
    = ((∑ s ∈ Finset.range 128, dvnR W (dmR U Y) s d * xhR (V s) d : ℝ) : EReal) := by
  unfold dlnwC dlnwOf
  pointwise []
  simp only [dvnC_at hu hy hs, xhC_at hv he het, ← EReal.coe_mul, ← coe_sum]
  exact congrArg _ (Fin.sum_univ_eq_sum_range (fun s => dvnR W (dmR U Y) s d * xhR (V s) d) 128)

include hu hy hs in
theorem dlnbC_at (d : Fin 512) : dlnbC x dy wsm (ix2 0 d) = ((∑ s ∈ Finset.range 128, dvnR W (dmR U Y) s d : ℝ) : EReal) := by
  unfold dlnbC dlnbOf
  pointwise []
  simp only [dvnC_at hu hy hs, ← EReal.coe_mul, ← coe_sum]
  exact congrArg _ (Fin.sum_univ_eq_sum_range (fun s => dvnR W (dmR U Y) s d) 128)
end

end Cert.Gmlp

end
-- ==== Proof.GmlpBlocks.lean ====
/-
  The blocks a point of the gated mixer's backward call reads, as parts of the arguments of @main.
-/
module

public import proofs.«01_k».proof.Proof.GmlpBwdPoint
public import proofs.«01_k».proof.Proof.GmlpChunk
public import Idealize.ShloMosaic.Lib.StableHlo.ReadAt

@[expose] public section

set_option maxRecDepth 16384

noncomputable section

namespace Cert.Gmlp

open Cert.GmlpBwdIdeal Cert.GmlpBwdIdeal.Gen Idealize.ShloMosaic Idealize.ShloMosaic.TcCoe Idealize.SL.Sem Cert.Reals

variable (m : (ℓ : Loc nD τ sig) → Buf (Elt Ideal) ℓ) (c : Dev nD)

/-- The row of the whole arrays that is row `r` of point `t`'s blocks, its batch, and its position in the sequence. -/
def row (t : Fin cfg0.N) (r : Fin 256) : Fin 4096 :=
  ⟨256 * t.val + r.val, by have := t.isLt; have : cfg0.N = 16 := N_0; omega⟩
def bat (i : Fin 4096) : Fin 2 := ⟨i.val / 2048, by omega⟩
def pos (i : Fin 4096) : Fin 2048 := ⟨i.val % 2048, by omega⟩

abbrev argUv : Vec Ideal S2x2048x1024 .f32 := m (c.tc.loc main_arg0)
abbrev argLw : Vec Ideal S1x8x64 .f32 := m (c.tc.loc main_arg1)
abbrev argLb : Vec Ideal S1x8x64 .f32 := m (c.tc.loc main_arg2)
abbrev argWs : Vec Ideal S1x8x128x128 .f32 := m (c.tc.loc main_arg3)
abbrev argBs : Vec Ideal S1x8x128 .f32 := m (c.tc.loc main_arg4)
abbrev argDy : Vec Ideal S2x2048x512 .f32 := m (c.tc.loc main_arg5)

theorem index_rows : ∀ t : Fin grid0.N, (win0_0.index t 0 = t.val ∧ win0_0.index t 1 = 0) ∧ (win0_1.index t 0 = t.val ∧ win0_1.index t 1 = 0) := by decide +kernel
theorem index_whole : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by decide +kernel

/-- The floor of a lane's number over 64, as the host computes it. -/
theorem floor_at : ∀ d : Fin 512, Scalar.select
    (IntOp.andi
      (IntOp.cmpi .ne (if BitVec.ofNat 32 d.val = 0 then (0 : BitVec 32) else if (BitVec.ofNat 32 d.val).msb = true then (-1 : BitVec 32) else 1)
        (if id (constantI S_ 32 64#32) ix0 = 0 then (0 : BitVec 32) else if BitVec.msb (id (constantI S_ 32 64#32) ix0) = true then (-1 : BitVec 32) else 1))
      (IntOp.cmpi .ne (IntOp.remsi .host (BitVec.ofNat 32 d.val) (id (constantI S_ 32 64#32) ix0)) 0#32))
    (IntOp.subi (IntOp.divsi .host (BitVec.ofNat 32 d.val) (id (constantI S_ 32 64#32) ix0)) 1#32)
    (IntOp.divsi .host (BitVec.ofNat 32 d.val) (id (constantI S_ 32 64#32) ix0)) = BitVec.ofNat 32 (d.val / 64) := by decide +kernel

/-- Whether a lane lies in a head, as the number one or zero. -/
theorem indicator_at (k : Fin 128) (d : Fin 512) : FloatOps.uitofp (F := Ideal) .bf16 (IntOp.cmpi .eq (BitVec.ofNat 32 k.val) (Scalar.select
    (IntOp.andi
      (IntOp.cmpi .ne (if BitVec.ofNat 32 d.val = 0 then (0 : BitVec 32) else if (BitVec.ofNat 32 d.val).msb = true then (-1 : BitVec 32) else 1)
        (if id (constantI S_ 32 64#32) ix0 = 0 then (0 : BitVec 32) else if BitVec.msb (id (constantI S_ 32 64#32) ix0) = true then (-1 : BitVec 32) else 1))
      (IntOp.cmpi .ne (IntOp.remsi .host (BitVec.ofNat 32 d.val) (id (constantI S_ 32 64#32) ix0)) 0#32))
    (IntOp.subi (IntOp.divsi .host (BitVec.ofNat 32 d.val) (id (constantI S_ 32 64#32) ix0)) 1#32)
    (IntOp.divsi .host (BitVec.ofNat 32 d.val) (id (constantI S_ 32 64#32) ix0)))) = (((if d.val / 64 = k.val then 1 else 0 : ℝ)) : EReal) := by
  rw [floor_at]
  by_cases e : d.val / 64 = k.val
  · rw [if_pos e, e]
    simp only [IntOp.cmpi, beq_self_eq_true]
    show (((1#1 : BitVec 1).toNat : ℝ) : EReal) = _
    simp
  · rw [if_neg e]
    have : BitVec.ofNat 32 k.val ≠ BitVec.ofNat 32 (d.val / 64) := fun q => e (by
      have := congrArg BitVec.toNat q
      simp only [BitVec.toNat_ofNat] at this
      omega)
    simp only [IntOp.cmpi, beq_eq_false_iff_ne.mpr this]
    show (((0#1 : BitVec 1).toNat : ℝ) : EReal) = _
    simp

theorem blk_0 (t : Fin cfg0.N) (r : Fin 256) (k : Fin 1024) : iblk m c 0 t (ix2 r k) = argUv m c (ix3 (bat (row t r)) (pos (row t r)) k) := by
  have e : iblk m c 0 t (ix2 r k) = (V m c main_v23 : Vec Ideal S4096x1024 .f32) (ix2 (row t r) k) := by
    unfold iblk
    rw [View.read_apply]
    refine congrArg (V m c main_v23 : Vec Ideal S4096x1024 .f32) (funext fun a => Fin.ext ?_)
    match a with
    | ⟨0, _⟩ => show win0_0.index t 0 * 256 + 1 * (r : Fin 256).val = 256 * t.val + r.val; rw [(index_rows t).1.1]; omega
    | ⟨1, _⟩ => show win0_0.index t 1 * 1024 + 1 * k.val = k.val; rw [(index_rows t).1.2]; omega
  rw [e]
  simp only [V]
  after_reads_at
  rfl

theorem blk_1 (t : Fin cfg0.N) (r : Fin 256) (k : Fin 512) : iblk m c 1 t (ix2 r k) = argDy m c (ix3 (bat (row t r)) (pos (row t r)) k) := by
  have e : iblk m c 1 t (ix2 r k) = (V m c main_v24 : Vec Ideal S4096x512 .f32) (ix2 (row t r) k) := by
    unfold iblk
    rw [View.read_apply]
    refine congrArg (V m c main_v24 : Vec Ideal S4096x512 .f32) (funext fun a => Fin.ext ?_)
    match a with
    | ⟨0, _⟩ => show win0_1.index t 0 * 256 + 1 * (r : Fin 256).val = 256 * t.val + r.val; rw [(index_rows t).2.1]; omega
    | ⟨1, _⟩ => show win0_1.index t 1 * 512 + 1 * k.val = k.val; rw [(index_rows t).2.2]; omega
  rw [e]
  simp only [V]
  after_reads_at
  rfl

theorem blk_2 (t : Fin cfg0.N) (k : Fin 512) : iblk m c 2 t (ix2 0 k) = argLw m c (ix3 0 ⟨k.val / 64, by omega⟩ ⟨k.val % 64, by omega⟩) := by
  have e : iblk m c 2 t (ix2 0 k) = (V m c main_v11 : Vec Ideal S1x512 .f32) (ix2 (0) k) := by
    unfold iblk
    rw [View.read_apply]
    refine congrArg (V m c main_v11 : Vec Ideal S1x512 .f32) (funext fun a => Fin.ext ?_)
    match a with
    | ⟨0, _⟩ => show win0_2.index t 0 * 1 + 1 * (0 : Fin 1).val = (0 : Fin 1).val; rw [(index_whole t).1.1]; omega
    | ⟨1, _⟩ => show win0_2.index t 1 * 512 + 1 * k.val = k.val; rw [(index_whole t).1.2]; omega
  rw [e]
  simp only [V]
  after_reads_at

theorem blk_3 (t : Fin cfg0.N) (k : Fin 512) : iblk m c 3 t (ix2 0 k) = argLb m c (ix3 0 ⟨k.val / 64, by omega⟩ ⟨k.val % 64, by omega⟩) := by
  have e : iblk m c 3 t (ix2 0 k) = (V m c main_v13 : Vec Ideal S1x512 .f32) (ix2 (0) k) := by
    unfold iblk
    rw [View.read_apply]
    refine congrArg (V m c main_v13 : Vec Ideal S1x512 .f32) (funext fun a => Fin.ext ?_)
    match a with
    | ⟨0, _⟩ => show win0_3.index t 0 * 1 + 1 * (0 : Fin 1).val = (0 : Fin 1).val; rw [(index_whole t).2.1.1]; omega
    | ⟨1, _⟩ => show win0_3.index t 1 * 512 + 1 * k.val = k.val; rw [(index_whole t).2.1.2]; omega
  rw [e]
  simp only [V]
  after_reads_at

theorem blk_4 (t : Fin cfg0.N) (k : Fin 128) (d : Fin 512) : iblk m c 4 t (ix2 k d) = (((if d.val / 64 = k.val then 1 else 0 : ℝ)) : EReal) := by
  have e : iblk m c 4 t (ix2 k d) = (V m c main_v8 : Vec Ideal S128x512 .bf16) (ix2 (k) d) := by
    unfold iblk
    rw [View.read_apply]
    refine congrArg (V m c main_v8 : Vec Ideal S128x512 .bf16) (funext fun a => Fin.ext ?_)
    match a with
    | ⟨0, _⟩ => show win0_4.index t 0 * 128 + 1 * (k : Fin 128).val = (k : Fin 128).val; rw [(index_whole t).2.2.1.1]; omega
    | ⟨1, _⟩ => show win0_4.index t 1 * 512 + 1 * d.val = d.val; rw [(index_whole t).2.2.1.2]; omega
  rw [e]
  simp only [V]
  after_reads_at
  exact indicator_at k d

theorem blk_5 (t : Fin cfg0.N) (d : Fin 512) (k : Fin 128) : iblk m c 5 t (ix2 d k) = (((if d.val / 64 = k.val then 1 else 0 : ℝ)) : EReal) := by
  have e : iblk m c 5 t (ix2 d k) = (V m c main_v9 : Vec Ideal S512x128 .bf16) (ix2 (d) k) := by
    unfold iblk
    rw [View.read_apply]
    refine congrArg (V m c main_v9 : Vec Ideal S512x128 .bf16) (funext fun a => Fin.ext ?_)
    match a with
    | ⟨0, _⟩ => show win0_5.index t 0 * 512 + 1 * (d : Fin 512).val = (d : Fin 512).val; rw [(index_whole t).2.2.2.1.1]; omega
    | ⟨1, _⟩ => show win0_5.index t 1 * 128 + 1 * k.val = k.val; rw [(index_whole t).2.2.2.1.2]; omega
  rw [e]
  simp only [V]
  after_reads_at
  exact indicator_at k d

theorem blk_6 (t : Fin cfg0.N) (t' : Fin 128) (k : Fin 1024) : iblk m c 6 t (ix2 t' k) = argWs m c (ix4 0 ⟨k.val / 128, by omega⟩ t' ⟨k.val % 128, by omega⟩) := by
  have e : iblk m c 6 t (ix2 t' k) = (V m c main_v18 : Vec Ideal S128x1024 .f32) (ix2 (t') k) := by
    unfold iblk
    rw [View.read_apply]
    refine congrArg (V m c main_v18 : Vec Ideal S128x1024 .f32) (funext fun a => Fin.ext ?_)
    match a with
    | ⟨0, _⟩ => show win0_6.index t 0 * 128 + 1 * (t' : Fin 128).val = (t' : Fin 128).val; rw [(index_whole t).2.2.2.2.1.1]; omega
    | ⟨1, _⟩ => show win0_6.index t 1 * 1024 + 1 * k.val = k.val; rw [(index_whole t).2.2.2.2.1.2]; omega
  rw [e]
  simp only [V]
  after_reads_at

theorem blk_7 (t : Fin cfg0.N) (k : Fin 1024) (s : Fin 128) : iblk m c 7 t (ix2 k s) = argWs m c (ix4 0 ⟨k.val / 128, by omega⟩ ⟨k.val % 128, by omega⟩ s) := by
  have e : iblk m c 7 t (ix2 k s) = (V m c main_v15 : Vec Ideal S1024x128 .f32) (ix2 (k) s) := by
    unfold iblk
    rw [View.read_apply]
    refine congrArg (V m c main_v15 : Vec Ideal S1024x128 .f32) (funext fun a => Fin.ext ?_)
    match a with
    | ⟨0, _⟩ => show win0_7.index t 0 * 1024 + 1 * (k : Fin 1024).val = (k : Fin 1024).val; rw [(index_whole t).2.2.2.2.2.1.1]; omega
    | ⟨1, _⟩ => show win0_7.index t 1 * 128 + 1 * s.val = s.val; rw [(index_whole t).2.2.2.2.2.1.2]; omega
  rw [e]
  simp only [V]
  after_reads_at

theorem blk_8 (t : Fin cfg0.N) (t' : Fin 128) (d : Fin 512) : iblk m c 8 t (ix2 t' d) = argBs m c (ix3 0 ⟨d.val / 64, by omega⟩ t') := by
  have e : iblk m c 8 t (ix2 t' d) = (V m c main_v22 : Vec Ideal S128x512 .f32) (ix2 (t') d) := by
    unfold iblk
    rw [View.read_apply]
    refine congrArg (V m c main_v22 : Vec Ideal S128x512 .f32) (funext fun a => Fin.ext ?_)
    match a with
    | ⟨0, _⟩ => show win0_8.index t 0 * 128 + 1 * (t' : Fin 128).val = (t' : Fin 128).val; rw [(index_whole t).2.2.2.2.2.2.1]; omega
    | ⟨1, _⟩ => show win0_8.index t 1 * 512 + 1 * d.val = d.val; rw [(index_whole t).2.2.2.2.2.2.2]; omega
  rw [e]
  simp only [V]
  after_reads_at

end Cert.Gmlp

end
-- ==== Proof.GmlpBwdValue.lean ====
/-
  What the gated mixer's backward call leaves in its five results, over the reals: the gradient at the two halves by
  rows, and the gradients of the mixing weights, of their biases and of the layer norm's two weights summed over the
  32 chunks of the rows.
-/
module

public import proofs.«01_k».proof.Proof.GmlpBlocks

@[expose] public section

set_option maxRecDepth 16384

noncomputable section

namespace Cert.Gmlp

open Cert.GmlpBwdIdeal Cert.GmlpBwdIdeal.Gen Cert.GmlpBwdIdeal.Value Idealize.ShloMosaic Idealize.ShloMosaic.TcCoe Idealize.SL.Sem Cert.Reals

/-! ## The causal mask -/

/-- A signed comparison of two positions of a chunk. -/
theorem sge_at : ∀ a b : Fin 128, IntOp.cmpi .sge (BitVec.ofNat 32 a.val) (BitVec.ofNat 32 b.val) = if b.val ≤ a.val then 1#1 else 0#1 := by
  decide +kernel

/-- A masked weight. -/
theorem select_sge {α : Type} (a b : Fin 128) (x y : α) :
    Scalar.select (IntOp.cmpi .sge (BitVec.ofNat 32 a.val) (BitVec.ofNat 32 b.val)) x y = if b.val ≤ a.val then x else y := by
  rw [sge_at]
  split <;> rfl

theorem pay8_at (k : Fin 1024) (s : Fin 128) : k0_pay8 (ix2 k s) = BitVec.ofNat 32 (⟨k.val % 128, by omega⟩ : Fin 128).val := by
  pointwise [k0_pay8]
  revert k
  decide +kernel

theorem pay9_at (w : Vec Ideal S128x1024 .f32) (t : Fin 128) (k : Fin 1024) :
    k0_pay9 w (ix2 t k) = if k.val % 128 ≤ t.val then w (ix2 t k) else 0 := by
  pointwise [k0_pay9]
  refine Eq.trans (congrArg (fun z => Scalar.select (IntOp.cmpi .sge (BitVec.ofNat 32 t.val) z) (w (ix2 t k)) (0 : EReal)) (?_ : _ = k0_pay8 (ix2 k 0))) ?_
  · pointwise [k0_pay8]
  · rw [pay8_at]
    exact select_sge t ⟨k.val % 128, by omega⟩ _ _

theorem pay10_at (w : Vec Ideal S1024x128 .f32) (k : Fin 1024) (s : Fin 128) :
    k0_pay10 w (ix2 k s) = if s.val ≤ k.val % 128 then w (ix2 k s) else 0 := by
  pointwise [k0_pay10]
  rw [pay8_at, select_sge]

theorem pay1_at (a b : Vec Ideal S1024x128 .f32) (k : Fin 1024) (s : Fin 128) :
    k0_pay1 a (k0_pay154 b) (k0_pay155 k0_pay8 (iota .tc S1024x128 32 [1] iota_S1024x128_d1_w32)) (Scalar.ofBits .f32 0x00000000#32) (ix2 k s)
      = b (ix2 k s) + if s.val ≤ k.val % 128 then a (ix2 k s) else 0 := by
  pointwise [k0_pay1, k0_pay154, k0_pay155]
  rw [pay8_at, select_sge]

/-! ## The arguments as reals -/

section
variable (m : (ℓ : Loc nD τ sig) → Buf (Elt Ideal) ℓ) (c : Dev nD) (UV DY : ℕ → ℕ → ℝ) (LW LB : ℕ → ℝ) (WS : ℕ → ℕ → ℕ → ℝ) (BS : ℕ → ℕ → ℝ)

/-- A chunk's two halves and the gradient coming in, and the mixing weights under the causal mask. -/
def uC (UV : ℕ → ℕ → ℝ) (q r d : ℕ) : ℝ := UV (128 * q + r) d
def vC (UV : ℕ → ℕ → ℝ) (q r d : ℕ) : ℝ := UV (128 * q + r) (512 + d)
def yC (DY : ℕ → ℕ → ℝ) (q r d : ℕ) : ℝ := DY (128 * q + r) d
def mW (WS : ℕ → ℕ → ℕ → ℝ) (h t s : ℕ) : ℝ := if s ≤ t then WS h t s else 0

/-- The arguments hold these reals. -/
structure Holds : Prop where
  uv : ∀ (i : Fin 4096) (k : Fin 1024), argUv m c (ix3 (bat i) (pos i) k) = ((UV i k : ℝ) : EReal)
  dy : ∀ (i : Fin 4096) (k : Fin 512), argDy m c (ix3 (bat i) (pos i) k) = ((DY i k : ℝ) : EReal)
  lw : ∀ k : Fin 512, argLw m c (ix3 0 ⟨k.val / 64, by omega⟩ ⟨k.val % 64, by omega⟩) = ((LW k : ℝ) : EReal)
  lb : ∀ k : Fin 512, argLb m c (ix3 0 ⟨k.val / 64, by omega⟩ ⟨k.val % 64, by omega⟩) = ((LB k : ℝ) : EReal)
  ws : ∀ (h : Fin 8) (t s : Fin 128), argWs m c (ix4 0 h t s) = ((WS h t s : ℝ) : EReal)
  bs : ∀ (h : Fin 8) (t : Fin 128), argBs m c (ix3 0 h t) = ((BS h t : ℝ) : EReal)

variable {m c UV DY LW LB WS BS} (H : Holds m c UV DY LW LB WS BS)

theorem e_at (t : Fin cfg0.N) : IsE (eOf m c t) := fun k d => by
  pointwise [k0_pay12]
  exact blk_4 m c t k d
theorem et_at (t : Fin cfg0.N) : IsEt (etOf m c t) := fun d k => by
  pointwise [k0_pay13]
  exact blk_5 m c t d k

include H in
theorem lnw_at (t : Fin cfg0.N) (d : Fin 512) : lnwOf m c t (ix2 0 d) = ((LW d : ℝ) : EReal) := by
  pointwise [k0_pay11]
  exact (blk_2 m c t d).trans (H.lw d)
include H in
theorem lnb_at (t : Fin cfg0.N) (d : Fin 512) : lnbOf m c t (ix2 0 d) = ((LB d : ℝ) : EReal) := by
  pointwise [k0_pay15]
  exact (blk_3 m c t d).trans (H.lb d)
include H in
theorem bm_at (t : Fin cfg0.N) (t' : Fin 128) (d : Fin 512) : iblk m c 8 t (ix2 t' d) = ((BS (d / 64) t' : ℝ) : EReal) :=
  (blk_8 m c t t' d).trans (H.bs ⟨d.val / 64, by omega⟩ t')
include H in
theorem wm_at (t : Fin cfg0.N) (t' : Fin 128) (k : Fin 1024) : wmOf m c t (ix2 t' k) = ((mW WS (k / 128) t' (k % 128) : ℝ) : EReal) := by
  refine (pay9_at _ t' k).trans ?_
  rw [blk_6, H.ws, ite_coe]
  rfl
include H in
theorem wsm_at (t : Fin cfg0.N) (k : Fin 1024) (s : Fin 128) : wsmOf m c t (ix2 k s) = ((mW WS (k / 128) (k % 128) s : ℝ) : EReal) := by
  refine (pay10_at _ k s).trans ?_
  rw [blk_7, H.ws, ite_coe]
  rfl

include H in
theorem uA_at (t : Fin cfg0.N) (r : Fin 128) (d : Fin 512) : xA m c t (ix2 r ⟨d.val, by omega⟩) = ((uC UV (2 * t) r d : ℝ) : EReal) := by
  refine (congrArg (iblk m c 0 t : Vec Ideal S256x1024 .f32) (?_ : _ = ix2 (⟨r.val, by omega⟩ : Fin 256) ⟨d.val, by omega⟩)).trans ?_
  · exact funext fun a => Fin.ext (match a with
      | ⟨0, _⟩ => by show 0 + 1 * r.val = r.val; omega
      | ⟨1, _⟩ => by show 0 + 1 * d.val = d.val; omega)
  · rw [blk_0, H.uv]
    exact congrArg (fun n : ℕ => ((UV n d : ℝ) : EReal)) (by show 256 * t.val + r.val = 128 * (2 * t.val) + r.val; omega)
include H in
theorem vA_at (t : Fin cfg0.N) (r : Fin 128) (d : Fin 512) : xA m c t (ix2 r ⟨512 + d.val, by omega⟩) = ((vC UV (2 * t) r d : ℝ) : EReal) := by
  refine (congrArg (iblk m c 0 t : Vec Ideal S256x1024 .f32) (?_ : _ = ix2 (⟨r.val, by omega⟩ : Fin 256) ⟨512 + d.val, by omega⟩)).trans ?_
  · exact funext fun a => Fin.ext (match a with
      | ⟨0, _⟩ => by show 0 + 1 * r.val = r.val; omega
      | ⟨1, _⟩ => by show 0 + 1 * (512 + d.val) = 512 + d.val; omega)
  · rw [blk_0, H.uv]
    exact congrArg (fun n : ℕ => ((UV n (512 + d) : ℝ) : EReal)) (by show 256 * t.val + r.val = 128 * (2 * t.val) + r.val; omega)
include H in
theorem yA_at (t : Fin cfg0.N) (r : Fin 128) (d : Fin 512) : yA m c t (ix2 r d) = ((yC DY (2 * t) r d : ℝ) : EReal) := by
  refine (congrArg (iblk m c 1 t : Vec Ideal S256x512 .f32) (?_ : _ = ix2 (⟨r.val, by omega⟩ : Fin 256) d)).trans ?_
  · exact funext fun a => Fin.ext (match a with
      | ⟨0, _⟩ => by show 0 + 1 * r.val = r.val; omega
      | ⟨1, _⟩ => by show 0 + 1 * d.val = d.val; omega)
  · rw [blk_1, H.dy]
    exact congrArg (fun n : ℕ => ((DY n d : ℝ) : EReal)) (by show 256 * t.val + r.val = 128 * (2 * t.val) + r.val; omega)
include H in
theorem uB_at (t : Fin cfg0.N) (r : Fin 128) (d : Fin 512) : xB m c t (ix2 r ⟨d.val, by omega⟩) = ((uC UV (2 * t + 1) r d : ℝ) : EReal) := by
  refine (congrArg (iblk m c 0 t : Vec Ideal S256x1024 .f32) (?_ : _ = ix2 (⟨128 + r.val, by omega⟩ : Fin 256) ⟨d.val, by omega⟩)).trans ?_
  · exact funext fun a => Fin.ext (match a with
      | ⟨0, _⟩ => by show 128 + 1 * r.val = 128 + r.val; omega
      | ⟨1, _⟩ => by show 0 + 1 * d.val = d.val; omega)
  · rw [blk_0, H.uv]
    exact congrArg (fun n : ℕ => ((UV n d : ℝ) : EReal)) (by show 256 * t.val + (128 + r.val) = 128 * (2 * t.val + 1) + r.val; omega)
include H in
theorem vB_at (t : Fin cfg0.N) (r : Fin 128) (d : Fin 512) : xB m c t (ix2 r ⟨512 + d.val, by omega⟩) = ((vC UV (2 * t + 1) r d : ℝ) : EReal) := by
  refine (congrArg (iblk m c 0 t : Vec Ideal S256x1024 .f32) (?_ : _ = ix2 (⟨128 + r.val, by omega⟩ : Fin 256) ⟨512 + d.val, by omega⟩)).trans ?_
  · exact funext fun a => Fin.ext (match a with
      | ⟨0, _⟩ => by show 128 + 1 * r.val = 128 + r.val; omega
      | ⟨1, _⟩ => by show 0 + 1 * (512 + d.val) = 512 + d.val; omega)
  · rw [blk_0, H.uv]
    exact congrArg (fun n : ℕ => ((UV n (512 + d) : ℝ) : EReal)) (by show 256 * t.val + (128 + r.val) = 128 * (2 * t.val + 1) + r.val; omega)
include H in
theorem yB_at (t : Fin cfg0.N) (r : Fin 128) (d : Fin 512) : yB m c t (ix2 r d) = ((yC DY (2 * t + 1) r d : ℝ) : EReal) := by
  refine (congrArg (iblk m c 1 t : Vec Ideal S256x512 .f32) (?_ : _ = ix2 (⟨128 + r.val, by omega⟩ : Fin 256) d)).trans ?_
  · exact funext fun a => Fin.ext (match a with
      | ⟨0, _⟩ => by show 128 + 1 * r.val = 128 + r.val; omega
      | ⟨1, _⟩ => by show 0 + 1 * d.val = d.val; omega)
  · rw [blk_1, H.dy]
    exact congrArg (fun n : ℕ => ((DY n d : ℝ) : EReal)) (by show 256 * t.val + (128 + r.val) = 128 * (2 * t.val + 1) + r.val; omega)

include H in
/-- Every point has the mixing weights under the mask at hand. -/
theorem kept_at (n : ℕ) : ∀ h : n < cfg0.N,
    (∀ (t' : Fin 128) (k : Fin 1024), (outsAt0 m c n h).2.2.2.2.2.1 (ix2 t' k) = ((mW WS (k / 128) t' (k % 128) : ℝ) : EReal))
    ∧ ∀ (k : Fin 1024) (s : Fin 128), (outsAt0 m c n h).2.2.2.2.2.2 (ix2 k s) = ((mW WS (k / 128) (k % 128) s : ℝ) : EReal) := by
  induction n with
  | zero =>
    intro h
    have h0 := scr0_A m c ⟨0, h⟩ rfl
    have h1 := scr1_A m c ⟨0, h⟩ rfl
    dsimp only at h0 h1
    exact ⟨fun t' k => by rw [h0, wm_at H], fun k s => by rw [h1, wsm_at H]⟩
  | succ n ih =>
    intro h
    have hN : cfg0.N = 16 := N_0
    have h0 := scr0_B m c ⟨n + 1, h⟩ (by dsimp only; omega)
    have h1 := scr1_B m c ⟨n + 1, h⟩ (by dsimp only; omega)
    dsimp only at h0 h1
    exact ⟨fun t' k => by rw [h0]; exact (ih _).1 t' k, fun k s => by rw [h1]; exact (ih _).2 k s⟩

/-! ## The gradient at the two halves -/

/-- The gradient at a row's lane, over the whole arrays. -/
def duvR (UV DY : ℕ → ℕ → ℝ) (LW LB : ℕ → ℝ) (WS : ℕ → ℕ → ℕ → ℝ) (BS : ℕ → ℕ → ℝ) (q r k : ℕ) : ℝ :=
  if k < 512 then yC DY q r k * (mixR (mW WS) (fun t => vnR LW LB (vC UV q t)) r k + BS (k / 64) r) * gelu' (uC UV q r k)
  else dvR LW (vC UV q r) (dvnR (mW WS) (dmR (uC UV q) (yC DY q)) r) (k - 512)

include H in
theorem duv_at (t : Fin cfg0.N) {wm : Vec Ideal S128x1024 .bf16} {wsm : Vec Ideal S1024x128 .bf16}
    (hm : ∀ (t' : Fin 128) (k : Fin 1024), wm (ix2 t' k) = ((mW WS (k / 128) t' (k % 128) : ℝ) : EReal))
    (hs : ∀ (k : Fin 1024) (s : Fin 128), wsm (ix2 k s) = ((mW WS (k / 128) (k % 128) s : ℝ) : EReal)) (r : Fin 256) (k : Fin 1024) :
    duv m c t wm wsm (ix2 r k) = ((duvR UV DY LW LB WS BS ((256 * t.val + r.val) / 128) ((256 * t.val + r.val) % 128) k : ℝ) : EReal) := by
  unfold duv quad duvR
  by_cases hr : r.val < 128
  · rw [dif_pos (show (ix2 r k 0).val < 128 from hr), show (256 * t.val + r.val) / 128 = 2 * t.val by omega, show (256 * t.val + r.val) % 128 = r.val by omega]
    by_cases hk : k.val < 512
    · rw [dif_pos (show (ix2 r k 1).val < 512 from hk), if_pos hk]
      exact duC_at (uA_at H t) (vA_at H t) (yA_at H t) (lnw_at H t) (lnb_at H t) (e_at t) (et_at t) hm (bm_at H t) ⟨r.val, hr⟩ ⟨k.val, hk⟩
    · rw [dif_neg (show ¬ (ix2 r k 1).val < 512 from hk), if_neg hk]
      exact dvC_at (uA_at H t) (vA_at H t) (yA_at H t) (lnw_at H t) (e_at t) (et_at t) hs ⟨r.val, hr⟩ ⟨k.val - 512, by omega⟩
  · rw [dif_neg (show ¬ (ix2 r k 0).val < 128 from hr), show (256 * t.val + r.val) / 128 = 2 * t.val + 1 by omega, show (256 * t.val + r.val) % 128 = r.val - 128 by omega]
    by_cases hk : k.val < 512
    · rw [dif_pos (show (ix2 r k 1).val < 512 from hk), if_pos hk]
      exact duC_at (uB_at H t) (vB_at H t) (yB_at H t) (lnw_at H t) (lnb_at H t) (e_at t) (et_at t) hm (bm_at H t) ⟨r.val - 128, by omega⟩ ⟨k.val, hk⟩
    · rw [dif_neg (show ¬ (ix2 r k 1).val < 512 from hk), if_neg hk]
      exact dvC_at (uB_at H t) (vB_at H t) (yB_at H t) (lnw_at H t) (e_at t) (et_at t) hs ⟨r.val - 128, by omega⟩ ⟨k.val - 512, by omega⟩

include H in
theorem out9_at (t : Fin cfg0.N) (r : Fin 256) (k : Fin 1024) :
    (outsAt0 m c t.val t.isLt).1 (ix2 r k) = ((duvR UV DY LW LB WS BS ((256 * t.val + r.val) / 128) ((256 * t.val + r.val) % 128) k : ℝ) : EReal) := by
  by_cases h : t.val % 16 = 0
  · rw [out9_A m c t h]
    exact duv_at H t (wm_at H t) (wsm_at H t) r k
  · rw [out9_B m c t h]
    exact duv_at H t (kept_at H _ _).1 (kept_at H _ _).2 r k

/-- The grid point and the row within its block where a row of the whole array is computed. -/
def pt (i : Fin 4096) : Fin cfg0.N := ⟨i.val / 256, by rw [show cfg0.N = 16 from N_0]; omega⟩
def sub (i : Fin 4096) : Fin 256 := ⟨i.val % 256, by omega⟩

theorem index_out (t : Fin cfg0.N) : win0_9.index t 0 = t.val ∧ win0_9.index t 1 = 0 := by
  revert t; decide +kernel

include H in
theorem arr_9 (i : Fin 4096) (k : Fin 1024) : ((dats m 0 c).arrAt 9 cfg0.N : Vec Ideal S4096x1024 .bf16) (ix2 i k)
    = ((duvR UV DY LW LB WS BS (i / 128) (i % 128) k : ℝ) : EReal) := by
  have e := congrFun (blocks9 m c (pt i) (flush0_9 _)) (ix2 (sub i) k)
  rw [View.read_apply, flushed9] at e
  replace e := e.trans (out9_at H (pt i) (sub i) k)
  have hi := index_out (pt i)
  have hn : 256 * (pt i).val + (sub i).val = i.val := by show 256 * (i.val / 256) + i.val % 256 = i.val; omega
  rw [hn] at e
  refine Eq.trans ?_ e
  refine congrArg ((dats m 0 c).arrAt 9 cfg0.N : Vec Ideal S4096x1024 .bf16) (funext fun a => Fin.ext ?_)
  match a with
  | ⟨0, _⟩ => show i.val = win0_9.index (pt i) 0 * 256 + 1 * (i.val % 256); rw [hi.1]; show i.val = i.val / 256 * 256 + 1 * (i.val % 256); omega
  | ⟨1, _⟩ => show k.val = win0_9.index (pt i) 1 * 1024 + 1 * k.val; rw [hi.2]; omega

end

end Cert.Gmlp

end
-- ==== Proof.GmlpBwdSums.lean ====
/-
  The four weight gradients of the gated mixer's backward call: what each point adds, and the sums the last point leaves.
-/
module

public import proofs.«01_k».proof.Proof.GmlpBwdValue

@[expose] public section

set_option maxRecDepth 16384

noncomputable section

namespace Cert.Gmlp

open Cert.GmlpBwdIdeal Cert.GmlpBwdIdeal.Gen Cert.GmlpBwdIdeal.Value Idealize.ShloMosaic Idealize.ShloMosaic.TcCoe Idealize.SL.Sem Cert.Reals

/-! ## One chunk's parts -/

/-- A chunk's normalised half, the gradient at the mixed values and at the normalised half. -/
def vnQ (UV : ℕ → ℕ → ℝ) (LW LB : ℕ → ℝ) (q : ℕ) : ℕ → ℕ → ℝ := fun t => vnR LW LB (vC UV q t)
def dmQ (UV DY : ℕ → ℕ → ℝ) (q : ℕ) : ℕ → ℕ → ℝ := dmR (uC UV q) (yC DY q)
def dvnQ (UV DY : ℕ → ℕ → ℝ) (WS : ℕ → ℕ → ℕ → ℝ) (q : ℕ) : ℕ → ℕ → ℝ := dvnR (mW WS) (dmQ UV DY q)

/-- A chunk's part of each weight gradient. -/
def pW (UV DY : ℕ → ℕ → ℝ) (LW LB : ℕ → ℝ) (k s q : ℕ) : ℝ := if s ≤ k % 128 then dwR (dmQ UV DY q) (vnQ UV LW LB q) (k / 128) (k % 128) s else 0
def pB (UV DY : ℕ → ℕ → ℝ) (r k q : ℕ) : ℝ := seg (dmQ UV DY q r) k
def pLw (UV DY : ℕ → ℕ → ℝ) (WS : ℕ → ℕ → ℕ → ℝ) (d q : ℕ) : ℝ := ∑ s ∈ Finset.range 128, dvnQ UV DY WS q s d * xhR (vC UV q s) d
def pLb (UV DY : ℕ → ℕ → ℝ) (WS : ℕ → ℕ → ℕ → ℝ) (d q : ℕ) : ℝ := ∑ s ∈ Finset.range 128, dvnQ UV DY WS q s d

/-- What starts at zero and takes two chunks' parts at every point holds all 32 parts at the last. -/
theorem sum_chunks (v : (n : ℕ) → n < cfg0.N → EReal) (p : ℕ → ℝ) (h0 : ∀ h, v 0 h = ((p 0 : ℝ) : EReal) + ((p 1 : ℝ) : EReal))
    (hs : ∀ n (h : n + 1 < cfg0.N) (h' : n < cfg0.N), v (n + 1) h = v n h' + (((p (2 * (n + 1)) : ℝ) : EReal) + ((p (2 * (n + 1) + 1) : ℝ) : EReal)))
    (h : 15 < cfg0.N) : v 15 h = ((∑ q ∈ Finset.range 32, p q : ℝ) : EReal) := by
  refine (running_sum v (fun n => ∑ r ∈ Finset.range 2, p (2 * n + r)) ?_ ?_ 15 h).trans ?_
  · intro h
    rw [h0, ← EReal.coe_add]
    simp [Finset.sum_range_succ]
  · intro n h h'
    rw [hs n h h', ← EReal.coe_add]
    simp [Finset.sum_range_succ]
  · rw [sum_blocks 16 2 p]

section
variable {m : (ℓ : Loc nD τ sig) → Buf (Elt Ideal) ℓ} {c : Dev nD} {UV DY : ℕ → ℕ → ℝ} {LW LB : ℕ → ℝ} {WS : ℕ → ℕ → ℕ → ℝ} {BS : ℕ → ℕ → ℝ}
  (H : Holds m c UV DY LW LB WS BS)

/-- The last point. -/
theorem last_lt : 15 < cfg0.N := by rw [show cfg0.N = 16 from N_0]; decide

include H in
theorem dwAdd_at (t : Fin cfg0.N) (acc : Vec Ideal S1024x128 .f32) (k : Fin 1024) (s : Fin 128) :
    k0_pay1 (addf (dwC (xA m c t) (yA m c t) (lnwOf m c t) (lnbOf m c t) (eOf m c t) (etOf m c t)) (dwC (xB m c t) (yB m c t) (lnwOf m c t) (lnbOf m c t) (eOf m c t) (etOf m c t))) (k0_pay154 acc) (k0_pay155 k0_pay8 (iota .tc S1024x128 32 [1] iota_S1024x128_d1_w32)) (Scalar.ofBits .f32 0x00000000#32) (ix2 k s)
      = acc (ix2 k s) + (((pW UV DY LW LB k s (2 * t) : ℝ) : EReal) + ((pW UV DY LW LB k s (2 * t + 1) : ℝ) : EReal)) := by
  rw [pay1_at]
  refine congrArg (acc (ix2 k s) + ·) ?_
  unfold pW
  by_cases hk : s.val ≤ k.val % 128
  · rw [if_pos hk, if_pos hk, if_pos hk]
    pointwise []
    exact congrArg₂ (· + ·) (dwC_at (uA_at H t) (vA_at H t) (yA_at H t) (lnw_at H t) (lnb_at H t) (e_at t) (et_at t) k s)
      (dwC_at (uB_at H t) (vB_at H t) (yB_at H t) (lnw_at H t) (lnb_at H t) (e_at t) (et_at t) k s)
  · rw [if_neg hk, if_neg hk, if_neg hk]
    simp

include H in
theorem dbAdd_at (t : Fin cfg0.N) (acc : Vec Ideal S128x128 .f32) (r k : Fin 128) :
    k0_pay153 (dbC (xA m c t) (yA m c t) (etOf m c t)) (dbC (xB m c t) (yB m c t) (etOf m c t)) acc (ix2 r k)
      = acc (ix2 r k) + (((pB UV DY r k (2 * t) : ℝ) : EReal) + ((pB UV DY r k (2 * t + 1) : ℝ) : EReal)) := by
  pointwise [k0_pay153]
  rw [dbC_at (uA_at H t) (yA_at H t) (et_at t), dbC_at (uB_at H t) (yB_at H t) (et_at t)]
  rfl

include H in
theorem dlnwAdd_at (t : Fin cfg0.N) {wsm : Vec Ideal S1024x128 .bf16}
    (hs : ∀ (k : Fin 1024) (s : Fin 128), wsm (ix2 k s) = ((mW WS (k / 128) (k % 128) s : ℝ) : EReal)) (acc : Vec Ideal S1x512 .f32) (d : Fin 512) :
    k0_pay2 (addf (dlnwC (xA m c t) (yA m c t) (eOf m c t) (etOf m c t) wsm) (dlnwC (xB m c t) (yB m c t) (eOf m c t) (etOf m c t) wsm)) acc (ix2 0 d)
      = acc (ix2 0 d) + (((pLw UV DY WS d (2 * t) : ℝ) : EReal) + ((pLw UV DY WS d (2 * t + 1) : ℝ) : EReal)) := by
  pointwise [k0_pay2]
  rw [dlnwC_at (uA_at H t) (vA_at H t) (yA_at H t) (e_at t) (et_at t) hs, dlnwC_at (uB_at H t) (vB_at H t) (yB_at H t) (e_at t) (et_at t) hs]
  rfl

include H in
theorem dlnbAdd_at (t : Fin cfg0.N) {wsm : Vec Ideal S1024x128 .bf16}
    (hs : ∀ (k : Fin 1024) (s : Fin 128), wsm (ix2 k s) = ((mW WS (k / 128) (k % 128) s : ℝ) : EReal)) (acc : Vec Ideal S1x512 .f32) (d : Fin 512) :
    k0_pay3 (addf (dlnbC (xA m c t) (yA m c t) wsm) (dlnbC (xB m c t) (yB m c t) wsm)) acc (ix2 0 d)
      = acc (ix2 0 d) + (((pLb UV DY WS d (2 * t) : ℝ) : EReal) + ((pLb UV DY WS d (2 * t + 1) : ℝ) : EReal)) := by
  pointwise [k0_pay3]
  rw [dlnbC_at (uA_at H t) (yA_at H t) hs, dlnbC_at (uB_at H t) (yB_at H t) hs]
  rfl

include H in
theorem last_10 (k : Fin 1024) (s : Fin 128) : (outsAt0 m c 15 last_lt).2.1 (ix2 k s) = ((∑ q ∈ Finset.range 32, pW UV DY LW LB k s q : ℝ) : EReal) := by
  refine sum_chunks (fun n h => (outsAt0 m c n h).2.1 (ix2 k s)) (pW UV DY LW LB k s) (fun h => ?_) (fun n h h' => ?_) last_lt
  · have h0 := out10_A m c ⟨0, h⟩ rfl
    dsimp only at h0 ⊢
    rw [h0]
    refine (dwAdd_at H ⟨0, h⟩ _ k s).trans ?_
    pointwise [k0_pay4]
  · have h0 := out10_B m c ⟨n + 1, h⟩ (by have hN : cfg0.N = 16 := N_0; dsimp only; omega)
    dsimp only at h0 ⊢
    rw [h0]
    exact dwAdd_at H ⟨n + 1, h⟩ _ k s

theorem arr_10 : (dats m 0 c).arrAt 10 cfg0.N = (outsAt0 m c 15 last_lt).2.1 := by
  refine (dats m 0 c).arrAt_eq_of_cover 10 (outsAt0 m c 15 last_lt).2.1 (fun t hf => ?_) fun i => ⟨t0_15, (flush0_10 t0_15).mpr rfl, ?_⟩
  · have hN : cfg0.N = 16 := N_0
    have h7 : t.val = 15 := by have := (flush0_10 t).mp hf; have := t.isLt; omega
    obtain rfl : t = t0_15 := Fin.ext h7
    rw [flushed10]
    have hz' : (fun a => win0_10.index t0_15 a * main_v25_1.ty.shape.size a) = fun _ => 0 := funext fun a => by fin_cases a <;> decide
    exact (Memref.read_access_unit_zero (Elt Ideal) main_v25_1 hz' (fun a => by rw [congrFun hz' a]; simp) (outsAt0 m c 15 last_lt).2.1).symm
  · show i ∈ ((View.whole main_v25_1).slice (win0_10.rect t0_15)).set
    rw [View.set_slice_whole, Rect.mem_set_unit]
    intro a
    have h0 : (i 0 : Nat) < 1024 := (i 0).isLt
    have h1 : (i 1 : Nat) < 128 := (i 1).isLt
    match a with
    | ⟨0, _⟩ => show win0_10.index t0_15 0 * win0_10.size 0 ≤ (i 0 : Nat) ∧ (i 0 : Nat) < win0_10.index t0_15 0 * win0_10.size 0 + win0_10.xsize (grid0.coords t0_15) 0
                rw [show win0_10.index t0_15 0 * win0_10.size 0 = 0 from by decide +kernel, show win0_10.xsize (grid0.coords t0_15) 0 = 1024 from by decide +kernel]; omega
    | ⟨1, _⟩ => show win0_10.index t0_15 1 * win0_10.size 1 ≤ (i 1 : Nat) ∧ (i 1 : Nat) < win0_10.index t0_15 1 * win0_10.size 1 + win0_10.xsize (grid0.coords t0_15) 1
                rw [show win0_10.index t0_15 1 * win0_10.size 1 = 0 from by decide +kernel, show win0_10.xsize (grid0.coords t0_15) 1 = 128 from by decide +kernel]; omega

include H in
theorem last_11 (r k : Fin 128) : (outsAt0 m c 15 last_lt).2.2.1 (ix2 r k) = ((∑ q ∈ Finset.range 32, pB UV DY r k q : ℝ) : EReal) := by
  refine sum_chunks (fun n h => (outsAt0 m c n h).2.2.1 (ix2 r k)) (pB UV DY r k) (fun h => ?_) (fun n h h' => ?_) last_lt
  · have h0 := out11_A m c ⟨0, h⟩ rfl
    dsimp only at h0 ⊢
    rw [h0]
    refine (dbAdd_at H ⟨0, h⟩ _ r k).trans ?_
    pointwise [k0_pay5]
  · have h0 := out11_B m c ⟨n + 1, h⟩ (by have hN : cfg0.N = 16 := N_0; dsimp only; omega)
    dsimp only at h0 ⊢
    rw [h0]
    exact dbAdd_at H ⟨n + 1, h⟩ _ r k

theorem arr_11 : (dats m 0 c).arrAt 11 cfg0.N = (outsAt0 m c 15 last_lt).2.2.1 := by
  refine (dats m 0 c).arrAt_eq_of_cover 11 (outsAt0 m c 15 last_lt).2.2.1 (fun t hf => ?_) fun i => ⟨t0_15, (flush0_11 t0_15).mpr rfl, ?_⟩
  · have hN : cfg0.N = 16 := N_0
    have h7 : t.val = 15 := by have := (flush0_11 t).mp hf; have := t.isLt; omega
    obtain rfl : t = t0_15 := Fin.ext h7
    rw [flushed11]
    have hz' : (fun a => win0_11.index t0_15 a * main_v25_2.ty.shape.size a) = fun _ => 0 := funext fun a => by fin_cases a <;> decide
    exact (Memref.read_access_unit_zero (Elt Ideal) main_v25_2 hz' (fun a => by rw [congrFun hz' a]; simp) (outsAt0 m c 15 last_lt).2.2.1).symm
  · show i ∈ ((View.whole main_v25_2).slice (win0_11.rect t0_15)).set
    rw [View.set_slice_whole, Rect.mem_set_unit]
    intro a
    have h0 : (i 0 : Nat) < 128 := (i 0).isLt
    have h1 : (i 1 : Nat) < 128 := (i 1).isLt
    match a with
    | ⟨0, _⟩ => show win0_11.index t0_15 0 * win0_11.size 0 ≤ (i 0 : Nat) ∧ (i 0 : Nat) < win0_11.index t0_15 0 * win0_11.size 0 + win0_11.xsize (grid0.coords t0_15) 0
                rw [show win0_11.index t0_15 0 * win0_11.size 0 = 0 from by decide +kernel, show win0_11.xsize (grid0.coords t0_15) 0 = 128 from by decide +kernel]; omega
    | ⟨1, _⟩ => show win0_11.index t0_15 1 * win0_11.size 1 ≤ (i 1 : Nat) ∧ (i 1 : Nat) < win0_11.index t0_15 1 * win0_11.size 1 + win0_11.xsize (grid0.coords t0_15) 1
                rw [show win0_11.index t0_15 1 * win0_11.size 1 = 0 from by decide +kernel, show win0_11.xsize (grid0.coords t0_15) 1 = 128 from by decide +kernel]; omega

include H in
theorem last_12 (d : Fin 512) : (outsAt0 m c 15 last_lt).2.2.2.1 (ix2 0 d) = ((∑ q ∈ Finset.range 32, pLw UV DY WS d q : ℝ) : EReal) := by
  refine sum_chunks (fun n h => (outsAt0 m c n h).2.2.2.1 (ix2 0 d)) (pLw UV DY WS d) (fun h => ?_) (fun n h h' => ?_) last_lt
  · have h0 := out12_A m c ⟨0, h⟩ rfl
    dsimp only at h0 ⊢
    rw [h0]
    refine (dlnwAdd_at H ⟨0, h⟩ (wsm_at H _) _ d).trans ?_
    pointwise [k0_pay6]
  · have h0 := out12_B m c ⟨n + 1, h⟩ (by have hN : cfg0.N = 16 := N_0; dsimp only; omega)
    dsimp only at h0 ⊢
    rw [h0]
    exact dlnwAdd_at H ⟨n + 1, h⟩ (kept_at H _ _).2 _ d

theorem arr_12 : (dats m 0 c).arrAt 12 cfg0.N = (outsAt0 m c 15 last_lt).2.2.2.1 := by
  refine (dats m 0 c).arrAt_eq_of_cover 12 (outsAt0 m c 15 last_lt).2.2.2.1 (fun t hf => ?_) fun i => ⟨t0_15, (flush0_12 t0_15).mpr rfl, ?_⟩
  · have hN : cfg0.N = 16 := N_0
    have h7 : t.val = 15 := by have := (flush0_12 t).mp hf; have := t.isLt; omega
    obtain rfl : t = t0_15 := Fin.ext h7
    rw [flushed12]
    have hz' : (fun a => win0_12.index t0_15 a * main_v25_3.ty.shape.size a) = fun _ => 0 := funext fun a => by fin_cases a <;> decide
    exact (Memref.read_access_unit_zero (Elt Ideal) main_v25_3 hz' (fun a => by rw [congrFun hz' a]; simp) (outsAt0 m c 15 last_lt).2.2.2.1).symm
  · show i ∈ ((View.whole main_v25_3).slice (win0_12.rect t0_15)).set
    rw [View.set_slice_whole, Rect.mem_set_unit]
    intro a
    have h0 : (i 0 : Nat) < 1 := (i 0).isLt
    have h1 : (i 1 : Nat) < 512 := (i 1).isLt
    match a with
    | ⟨0, _⟩ => show win0_12.index t0_15 0 * win0_12.size 0 ≤ (i 0 : Nat) ∧ (i 0 : Nat) < win0_12.index t0_15 0 * win0_12.size 0 + win0_12.xsize (grid0.coords t0_15) 0
                rw [show win0_12.index t0_15 0 * win0_12.size 0 = 0 from by decide +kernel, show win0_12.xsize (grid0.coords t0_15) 0 = 1 from by decide +kernel]; omega
    | ⟨1, _⟩ => show win0_12.index t0_15 1 * win0_12.size 1 ≤ (i 1 : Nat) ∧ (i 1 : Nat) < win0_12.index t0_15 1 * win0_12.size 1 + win0_12.xsize (grid0.coords t0_15) 1
                rw [show win0_12.index t0_15 1 * win0_12.size 1 = 0 from by decide +kernel, show win0_12.xsize (grid0.coords t0_15) 1 = 512 from by decide +kernel]; omega

include H in
theorem last_13 (d : Fin 512) : (outsAt0 m c 15 last_lt).2.2.2.2.1 (ix2 0 d) = ((∑ q ∈ Finset.range 32, pLb UV DY WS d q : ℝ) : EReal) := by
  refine sum_chunks (fun n h => (outsAt0 m c n h).2.2.2.2.1 (ix2 0 d)) (pLb UV DY WS d) (fun h => ?_) (fun n h h' => ?_) last_lt
  · have h0 := out13_A m c ⟨0, h⟩ rfl
    dsimp only at h0 ⊢
    rw [h0]
    refine (dlnbAdd_at H ⟨0, h⟩ (wsm_at H _) _ d).trans ?_
    pointwise [k0_pay7]
  · have h0 := out13_B m c ⟨n + 1, h⟩ (by have hN : cfg0.N = 16 := N_0; dsimp only; omega)
    dsimp only at h0 ⊢
    rw [h0]
    exact dlnbAdd_at H ⟨n + 1, h⟩ (kept_at H _ _).2 _ d

theorem arr_13 : (dats m 0 c).arrAt 13 cfg0.N = (outsAt0 m c 15 last_lt).2.2.2.2.1 := by
  refine (dats m 0 c).arrAt_eq_of_cover 13 (outsAt0 m c 15 last_lt).2.2.2.2.1 (fun t hf => ?_) fun i => ⟨t0_15, (flush0_13 t0_15).mpr rfl, ?_⟩
  · have hN : cfg0.N = 16 := N_0
    have h7 : t.val = 15 := by have := (flush0_13 t).mp hf; have := t.isLt; omega
    obtain rfl : t = t0_15 := Fin.ext h7
    rw [flushed13]
    have hz' : (fun a => win0_13.index t0_15 a * main_v25_4.ty.shape.size a) = fun _ => 0 := funext fun a => by fin_cases a <;> decide
    exact (Memref.read_access_unit_zero (Elt Ideal) main_v25_4 hz' (fun a => by rw [congrFun hz' a]; simp) (outsAt0 m c 15 last_lt).2.2.2.2.1).symm
  · show i ∈ ((View.whole main_v25_4).slice (win0_13.rect t0_15)).set
    rw [View.set_slice_whole, Rect.mem_set_unit]
    intro a
    have h0 : (i 0 : Nat) < 1 := (i 0).isLt
    have h1 : (i 1 : Nat) < 512 := (i 1).isLt
    match a with
    | ⟨0, _⟩ => show win0_13.index t0_15 0 * win0_13.size 0 ≤ (i 0 : Nat) ∧ (i 0 : Nat) < win0_13.index t0_15 0 * win0_13.size 0 + win0_13.xsize (grid0.coords t0_15) 0
                rw [show win0_13.index t0_15 0 * win0_13.size 0 = 0 from by decide +kernel, show win0_13.xsize (grid0.coords t0_15) 0 = 1 from by decide +kernel]; omega
    | ⟨1, _⟩ => show win0_13.index t0_15 1 * win0_13.size 1 ≤ (i 1 : Nat) ∧ (i 1 : Nat) < win0_13.index t0_15 1 * win0_13.size 1 + win0_13.xsize (grid0.coords t0_15) 1
                rw [show win0_13.index t0_15 1 * win0_13.size 1 = 0 from by decide +kernel, show win0_13.xsize (grid0.coords t0_15) 1 = 512 from by decide +kernel]; omega
end

end Cert.Gmlp

end
-- ==== Proof.GmlpRefMath.lean ====
/-
  The mathematics of the gated mixer's reference: sums over several axes, and the chain rule through a head's norm.
-/
module

public import proofs.«01_k».proof.Proof.GmlpBwdSums

@[expose] public section

noncomputable section

namespace Cert.Gmlp.Ref

open Idealize.ShloMosaic Cert.Reals

/-- The sum over a head's lanes, by the lane's place in the head. -/
theorem seg_lanes (X : ℕ → ℝ) (h : ℕ) (hh : h < 8) : seg X h = ∑ p : Fin 64, X (64 * h + p) := by
  unfold seg
  rw [show 512 = 64 * 8 from rfl, ← sum_blocks 8 64 (fun d => if d / 64 = h then X d else 0), Finset.sum_eq_single h]
  · rw [Fin.sum_univ_eq_sum_range (fun p => X (64 * h + p)) 64]
    refine Finset.sum_congr rfl fun p hp => if_pos ?_
    have := Finset.mem_range.mp hp
    omega
  · intro a _ ha
    refine Finset.sum_eq_zero fun p hp => if_neg ?_
    have := Finset.mem_range.mp hp
    omega
  · intro h'
    exact absurd (Finset.mem_range.mpr hh) h'

/-- No lane belongs to a head past the eighth. -/
theorem seg_none (X : ℕ → ℝ) (h : ℕ) (hh : 8 ≤ h) : seg X h = 0 :=
  Finset.sum_eq_zero fun d hd => if_neg (by have := Finset.mem_range.mp hd; omega)

/-- A head's mean, at one of its lanes. -/
theorem mean_lanes (X : ℕ → ℝ) (h : Fin 8) (p : Fin 64) : mean X (64 * h + p) = (∑ p : Fin 64, X (64 * h + p)) / 64 := by
  unfold mean
  rw [show (64 * h.val + p.val) / 64 = h.val by omega, seg_lanes X h h.isLt]
  ring

/-- A head's mean square, plus epsilon. -/
def msq (v : ℕ → ℝ) (d : ℕ) : ℝ := mean (fun d => xcR v d * xcR v d) d + eps

theorem xcR_lane (v : ℕ → ℝ) (h : Fin 8) (p : Fin 64) : xcR v (64 * h + p) = gelu (v (64 * h + p)) - (∑ p : Fin 64, gelu (v (64 * h + p))) / 64 := by
  unfold xcR
  rw [mean_lanes]

/-- The centred lanes of a head sum to zero. -/
theorem sum_xcR (v : ℕ → ℝ) (h : Fin 8) : ∑ p : Fin 64, xcR v (64 * h + p) = 0 := by
  rw [Finset.sum_congr rfl fun p _ => xcR_lane v h p, Finset.sum_sub_distrib, Finset.sum_const, Finset.card_univ, Fintype.card_fin]
  simp
  ring

theorem rsR_lane (v : ℕ → ℝ) (h : Fin 8) (p p' : Fin 64) : rsR v (64 * h + p) = rsR v (64 * h + p') := by
  unfold rsR
  rw [mean_lanes, mean_lanes]

theorem rsR_sq (v : ℕ → ℝ) (d : ℕ) : rsR v d * rsR v d = (msq v d)⁻¹ := by
  rw [rsR, ← mul_inv, Real.mul_self_sqrt (mean_sq_pos v d).le]
  rfl

/-- The gradient of a head's norm by the chain rule, one operation at a time: through the reciprocal root of the mean
    square (the square's derivative doubles the centred lane) and through the mean. -/
theorem dn_chain (lw v dvn : ℕ → ℝ) (h : Fin 8) (p : Fin 64) (R A : ℝ) (hR : R = rsR v (64 * h + p)) (hA : A = -(1 / 2) * (R / msq v (64 * h + p))) :
    dvn (64 * h + p) * lw (64 * h + p) * R + (∑ p : Fin 64, xcR v (64 * h + p) * (dvn (64 * h + p) * lw (64 * h + p))) * A / 64 * (2 * xcR v (64 * h + p))
      + (∑ p : Fin 64, -(dvn (64 * h + p) * lw (64 * h + p) * R)
        + ∑ p : Fin 64, -((∑ p : Fin 64, xcR v (64 * h + p) * (dvn (64 * h + p) * lw (64 * h + p))) * A / 64 * (2 * xcR v (64 * h + p)))) / 64
    = rsR v (64 * h + p) * dnR lw (xhR v) dvn (64 * h + p) := by
  have e : R / msq v (64 * h + p) = R * R * R := by rw [div_eq_mul_inv, ← rsR_sq, hR]; ring
  have z : ∀ c : ℝ, ∑ p : Fin 64, -(c * (2 * xcR v (64 * h + p))) = 0 := fun c => by
    rw [Finset.sum_congr rfl fun p _ => show -(c * (2 * xcR v (64 * h.val + p.val))) = -(c * 2) * xcR v (64 * h.val + p.val) by ring, ← Finset.mul_sum, sum_xcR, mul_zero]
  have s : ∑ p : Fin 64, dvn (64 * h + p) * lw (64 * h + p) * xhR v (64 * h + p) = (∑ p : Fin 64, xcR v (64 * h + p) * (dvn (64 * h + p) * lw (64 * h + p))) * R := by
    rw [Finset.sum_mul]
    refine Finset.sum_congr rfl fun p' _ => ?_
    unfold xhR
    rw [rsR_lane v h p' p, ← hR]
    ring
  rw [z, hA, e, dnR, mean_lanes, mean_lanes, s, Finset.sum_neg_distrib, ← Finset.sum_mul, xhR, ← hR]
  ring

/-- A sum over two batches of sixteen chunks is the sum over the thirty-two chunks. -/
theorem sum_chunks32 (f : ℕ → ℝ) : ∑ b : Fin 2, ∑ q : Fin 16, f (16 * b + q) = ∑ q ∈ Finset.range 32, f q := by
  rw [show (32 : ℕ) = 16 * 2 from rfl, ← sum_blocks 2 16 f, Fin.sum_univ_eq_sum_range (fun b => ∑ q : Fin 16, f (16 * b + q)) 2]
  exact Finset.sum_congr rfl fun b _ => Fin.sum_univ_eq_sum_range (fun q => f (16 * b + q)) 16

/-- A sum over two batches of 2048 rows, by chunks of 128 rows. -/
theorem sum_rows32 (f : ℕ → ℝ) : ∑ b : Fin 2, ∑ s : Fin 2048, f (2048 * b + s) = ∑ q ∈ Finset.range 32, ∑ s ∈ Finset.range 128, f (128 * q + s) := by
  rw [sum_blocks 32 128 f, show 128 * 32 = 2048 * 2 from rfl, ← sum_blocks 2 2048 f, Fin.sum_univ_eq_sum_range (fun b => ∑ s : Fin 2048, f (2048 * b + s)) 2]
  exact Finset.sum_congr rfl fun b _ => Fin.sum_univ_eq_sum_range (fun s => f (2048 * b + s)) 2048

/-! ## Sums over several axes -/

theorem drop_4_01 {n0 n1 n2 n3 : Nat} (h : (⟨4, ![n0, n1, n2, n3]⟩ : Shape).ReducesTo [0, 1] ⟨2, ![n2, n3]⟩) (j : (⟨2, ![n2, n3]⟩ : Shape).Idx)
    (i : (⟨4, ![n0, n1, n2, n3]⟩ : Shape).Idx) : h.drop i = j ↔ ∃ k : Fin n0 × Fin n1, ix4 k.1 k.2 (j 0) (j 1) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

/-- A host sum over the two leading axes of a block of rank four, at an index. -/
theorem reduce_4_01 {n0 n1 n2 n3 : Nat} (h : (⟨4, ![n0, n1, n2, n3]⟩ : Shape).ReducesTo [0, 1] ⟨2, ![n2, n3]⟩)
    (v : (⟨4, ![n0, n1, n2, n3]⟩ : Shape).Idx → EReal) (init : EReal) (j : (⟨2, ![n2, n3]⟩ : Shape).Idx) :
    Ideal.hostReduceAdd h v init j = init + ∑ a : Fin n0, ∑ b : Fin n1, v (ix4 a b (j 0) (j 1)) := by
  refine congrArg (init + ·) (Eq.trans ?_ (Fintype.sum_prod_type' (fun (a : Fin n0) (b : Fin n1) => v (ix4 a b (j 0) (j 1)))))
  exact @Finset.sum_filter_eq_sum_of_fiber _ _ _ _ _ _ _ (fun i => h.drop i = j) _ (fun k : Fin n0 × Fin n1 => ix4 k.1 k.2 (j 0) (j 1))
    (fun x y e => Prod.ext (congrFun e 0) (congrFun e 1)) (drop_4_01 h j) v

theorem drop_5_014 {n0 n1 n2 n3 n4 : Nat} (h : (⟨5, ![n0, n1, n2, n3, n4]⟩ : Shape).ReducesTo [0, 1, 4] ⟨2, ![n2, n3]⟩) (j : (⟨2, ![n2, n3]⟩ : Shape).Idx)
    (i : (⟨5, ![n0, n1, n2, n3, n4]⟩ : Shape).Idx) : h.drop i = j ↔ ∃ k : Fin n0 × Fin n1 × Fin n4, ix5 k.1 k.2.1 (j 0) (j 1) k.2.2 = i := by
  constructor
  · intro e
    refine ⟨(i 0, i 1, i 4), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b
    apply Fin.ext
    match b with
    | ⟨0, _⟩ => rfl
    | ⟨1, _⟩ => rfl

/-- A host sum over the two leading axes and the last one of a block of rank five, at an index. -/
theorem reduce_5_014 {n0 n1 n2 n3 n4 : Nat} (h : (⟨5, ![n0, n1, n2, n3, n4]⟩ : Shape).ReducesTo [0, 1, 4] ⟨2, ![n2, n3]⟩)
    (v : (⟨5, ![n0, n1, n2, n3, n4]⟩ : Shape).Idx → EReal) (init : EReal) (j : (⟨2, ![n2, n3]⟩ : Shape).Idx) :
    Ideal.hostReduceAdd h v init j = init + ∑ a : Fin n0, ∑ b : Fin n1, ∑ p : Fin n4, v (ix5 a b (j 0) (j 1) p) := by
  refine congrArg (init + ·) (Eq.trans ?_ ((Fintype.sum_prod_type' (fun (a : Fin n0) (k : Fin n1 × Fin n4) => v (ix5 a k.1 (j 0) (j 1) k.2))).trans
    (Finset.sum_congr rfl fun a _ => Fintype.sum_prod_type' (fun (b : Fin n1) (p : Fin n4) => v (ix5 a b (j 0) (j 1) p)))))
  exact @Finset.sum_filter_eq_sum_of_fiber _ _ _ _ _ _ _ (fun i => h.drop i = j) _ (fun k : Fin n0 × Fin n1 × Fin n4 => ix5 k.1 k.2.1 (j 0) (j 1) k.2.2)
    (fun x y e => Prod.ext (congrFun e 0) (Prod.ext (congrFun e 1) (congrFun e 4))) (drop_5_014 h j) v

end Cert.Gmlp.Ref

end
-- ==== Proof.GmlpRefValue.lean ====
/-
  What the reference of the gated mixer's backward pass computes, over the reals: the forward lines row by row, and the
  gradient at the two halves.
-/
module

public import proofs.«01_k».proof.Proof.GmlpRefMath
public import proofs.«01_k».proof.Proof.Gen.GmlpRefIdeal.Read

@[expose] public section

set_option maxRecDepth 16384

noncomputable section

namespace Cert.Gmlp.Ref

open Cert.GmlpRefIdeal Cert.GmlpRefIdeal.Gen Cert.GmlpRefIdeal.Read Idealize.ShloMosaic Cert.Reals

/-! ## Facts over the reals -/

theorem ofBits_64 : Ideal.ofBits .f32 0x42800000#32 = ((64 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num

theorem maskOf_at : ∀ t s : Fin 128, Scalar.select (IntOp.cmpi .sge (IntOp.addi (BitVec.ofNat 32 t.val) 0#32) (BitVec.ofNat 32 s.val)) (1#1 : BitVec 1) 0#1
    = if s.val ≤ t.val then 1#1 else 0#1 := by decide +kernel

section
variable {x : Vec Ideal S2x2048x1024 .f32} {lw lb : Vec Ideal S1x8x64 .f32} {ws : Vec Ideal S1x8x128x128 .f32} {bs : Vec Ideal S1x8x128 .f32}
  {dy : Vec Ideal S2x2048x512 .f32} {UV DY : ℕ → ℕ → ℝ} {LW LB : ℕ → ℝ} {WS : ℕ → ℕ → ℕ → ℝ} {BS : ℕ → ℕ → ℝ}
  (hx : ∀ (b : Fin 2) (s : Fin 2048) (k : Fin 1024), x (ix3 b s k) = ((UV (2048 * b + s) k : ℝ) : EReal))
  (hy : ∀ (b : Fin 2) (s : Fin 2048) (k : Fin 512), dy (ix3 b s k) = ((DY (2048 * b + s) k : ℝ) : EReal))
  (hlw : ∀ (h : Fin 8) (p : Fin 64), lw (ix3 0 h p) = ((LW (64 * h + p) : ℝ) : EReal))
  (hlb : ∀ (h : Fin 8) (p : Fin 64), lb (ix3 0 h p) = ((LB (64 * h + p) : ℝ) : EReal))
  (hws : ∀ (h : Fin 8) (t s : Fin 128), ws (ix4 0 h t s) = ((WS h t s : ℝ) : EReal))
  (hbs : ∀ (h : Fin 8) (t : Fin 128), bs (ix3 0 h t) = ((BS h t : ℝ) : EReal))

/-- The second half of a row. -/
def vh (UV : ℕ → ℕ → ℝ) (n d : ℕ) : ℝ := UV n (512 + d)

include hx in
theorem u_at (b : Fin 2) (s : Fin 2048) (d : Fin 512) : val_main_v0 (F := Ideal) x (ix3 b s d) = ((UV (2048 * b + s) d : ℝ) : EReal) := by
  pointwise [val_main_v0]
  exact hx b s ⟨d.val, lo_lt d⟩
include hx in
theorem v_at (b : Fin 2) (s : Fin 2048) (d : Fin 512) : val_main_v1 (F := Ideal) x (ix3 b s d) = ((vh UV (2048 * b + s) d : ℝ) : EReal) := by
  pointwise [val_main_v1]
  exact hx b s ⟨512 + d.val, hi_lt d⟩

include hx in
theorem tanhU_at (b : Fin 2) (s : Fin 2048) (d : Fin 512) : val_main_v18 (F := Ideal) x (ix3 b s d) = ((gT (UV (2048 * b + s) d) : ℝ) : EReal) := by
  pointwise [val_main_v18, val_main_v17, val_main_v16, val_main_v15, val_main_v14, val_main_v13, val_main_v12, val_main_v11, val_main_v7, val_main_v6, val_main_cst_0, val_main_cst_1, val_main_cst_2]
  simp only [u_at hx, ofBits_44715, ofBits_million, ofBits_gC, ← EReal.coe_mul, ← EReal.coe_add, div_real (show (1000000:ℝ) ≠ 0 by norm_num), Ideal.tanh_coe]
  rw [EReal.coe_eq_coe_iff]; unfold gT gA; ring_nf
include hx in
theorem tanhV_at (b : Fin 2) (s : Fin 2048) (d : Fin 512) : val_main_v41 (F := Ideal) x (ix3 b s d) = ((gT (vh UV (2048 * b + s) d) : ℝ) : EReal) := by
  pointwise [val_main_v41, val_main_v40, val_main_v39, val_main_v38, val_main_v37, val_main_v36, val_main_v35, val_main_v34, val_main_v30, val_main_v29, val_main_cst_8, val_main_cst_9, val_main_cst_10]
  simp only [v_at hx, ofBits_44715, ofBits_million, ofBits_gC, ← EReal.coe_mul, ← EReal.coe_add, div_real (show (1000000:ℝ) ≠ 0 by norm_num), Ideal.tanh_coe]
  rw [EReal.coe_eq_coe_iff]; unfold gT gA; ring_nf

include hx in
theorem geluU_at (b : Fin 2) (s : Fin 2048) (d : Fin 512) : val_main_v28 (F := Ideal) x (ix3 b s d) = ((gelu (UV (2048 * b + s) d) : ℝ) : EReal) := by
  pointwise [val_main_v28, val_main_v27, val_main_v26, val_main_v25, val_main_v24, val_main_cst_5, val_main_cst_6]
  simp only [u_at hx, tanhU_at hx, ofBits_half, ← EReal.coe_one, ← EReal.coe_mul, ← EReal.coe_add]
  rw [EReal.coe_eq_coe_iff]; unfold gelu; ring
include hx in
theorem geluV_at (b : Fin 2) (s : Fin 2048) (d : Fin 512) : val_main_v51 (F := Ideal) x (ix3 b s d) = ((gelu (vh UV (2048 * b + s) d) : ℝ) : EReal) := by
  pointwise [val_main_v51, val_main_v50, val_main_v49, val_main_v48, val_main_v47, val_main_cst_13, val_main_cst_14]
  simp only [v_at hx, tanhV_at hx, ofBits_half, ← EReal.coe_one, ← EReal.coe_mul, ← EReal.coe_add]
  rw [EReal.coe_eq_coe_iff]; unfold gelu; ring

include hx in
theorem gv_at (b : Fin 2) (s : Fin 2048) (h : Fin 8) (p : Fin 64) : val_main_v52 (F := Ideal) x (ix4 b s h p) = ((gelu (vh UV (2048 * b + s) (64 * h + p)) : ℝ) : EReal) := by
  pointwise [val_main_v52]
  rw [geluV_at hx]
  show ((gelu (vh UV _ (h.val * 64 + p.val)) : ℝ) : EReal) = _
  rw [Nat.mul_comm h.val 64]

include hx in
theorem mu_at (b : Fin 2) (s : Fin 2048) (h : Fin 8) : val_main_v56 (F := Ideal) x (ix4 b s h 0) = (((∑ p : Fin 64, gelu (vh UV (2048 * b + s) (64 * h + p))) / 64 : ℝ) : EReal) := by
  pointwise [val_main_v56, val_main_v55, val_main_v54, val_main_v53, val_main_cst_15, val_main_cst_16]
  simp only [gv_at hx, ofBits_64, ← coe_sum, div_real (show (64:ℝ) ≠ 0 by norm_num)]

include hx in
theorem xc_at (b : Fin 2) (s : Fin 2048) (h : Fin 8) (p : Fin 64) : val_main_v67 (F := Ideal) x (ix4 b s h p) = ((xcR (vh UV (2048 * b + s)) (64 * h + p) : ℝ) : EReal) := by
  pointwise [val_main_v67, val_main_v66]
  rw [gv_at hx, mu_at hx, ← EReal.coe_sub]
  unfold xcR
  rw [mean_lanes]

include hx in
theorem xc2_at (b : Fin 2) (s : Fin 2048) (h : Fin 8) (p : Fin 64) : val_main_v61 (F := Ideal) x (ix4 b s h p) = ((2 * xcR (vh UV (2048 * b + s)) (64 * h + p) : ℝ) : EReal) := by
  pointwise [val_main_v61, val_main_v60, val_main_v58, val_main_v57, val_main_cst_17]
  rw [gv_at hx, mu_at hx, ← EReal.coe_sub, ofBits_two, ← EReal.coe_mul]
  unfold xcR
  rw [mean_lanes]

include hx in
theorem msq_at (b : Fin 2) (s : Fin 2048) (h : Fin 8) (p : Fin 64) : val_main_v69 (F := Ideal) x (ix4 b s h 0) = ((msq (vh UV (2048 * b + s)) (64 * h + p) : ℝ) : EReal) := by
  pointwise [val_main_v69, val_main_v68, val_main_v65, val_main_v64, val_main_v63, val_main_v62, val_main_v59, val_main_v58, val_main_v57, val_main_cst_18, val_main_cst_19, val_main_cst_20]
  simp only [gv_at hx, mu_at hx, ofBits_64, ofBits_eps, ← EReal.coe_sub, ← EReal.coe_mul, ← coe_sum, div_real (show (64:ℝ) ≠ 0 by norm_num), ← EReal.coe_add]
  unfold msq
  rw [mean_lanes]
  refine congrArg _ (congrArg (fun z : ℝ => z / 64 + eps) (Finset.sum_congr rfl fun p _ => ?_))
  unfold xcR
  rw [mean_lanes]

include hx in
theorem rs_at (b : Fin 2) (s : Fin 2048) (h : Fin 8) (p : Fin 64) : val_main_v70 (F := Ideal) x (ix4 b s h 0) = ((rsR (vh UV (2048 * b + s)) (64 * h + p) : ℝ) : EReal) := by
  pointwise [val_main_v70]
  rw [msq_at hx b s h p]
  exact rsqrt_real (mean_sq_pos _ _)

include hx in
theorem xh_at (b : Fin 2) (s : Fin 2048) (h : Fin 8) (p : Fin 64) : val_main_v75 (F := Ideal) x (ix4 b s h p) = ((xhR (vh UV (2048 * b + s)) (64 * h + p) : ℝ) : EReal) := by
  pointwise [val_main_v75, val_main_v74]
  rw [xc_at hx, rs_at hx b s h p, ← EReal.coe_mul]
  rfl

include hx hlw hlb in
theorem vn_at (b : Fin 2) (s : Fin 2048) (h : Fin 8) (p : Fin 64) : val_main_v81 (F := Ideal) x lw lb (ix4 b s h p)
    = ((vnR LW LB (vh UV (2048 * b + s)) (64 * h + p) : ℝ) : EReal) := by
  pointwise [val_main_v81, val_main_v80, val_main_v79, val_main_v78, val_main_v77, val_main_v76, val_main_v2, val_main_v3]
  rw [xh_at hx, hlw, hlb, ← EReal.coe_mul, ← EReal.coe_add]
  rfl

include hx hlw hlb in
theorem vn5_at (b : Fin 2) (q : Fin 16) (r : Fin 128) (h : Fin 8) (p : Fin 64) : val_main_v82 (F := Ideal) x lw lb (ix5 b q r h p)
    = ((vnR LW LB (vh UV (2048 * b + (128 * q + r))) (64 * h + p) : ℝ) : EReal) := by
  pointwise [val_main_v82]
  rw [vn_at hx hlw hlb]
  show ((vnR LW LB (vh UV (2048 * b.val + (q.val * 128 + r.val))) _ : ℝ) : EReal) = _
  rw [Nat.mul_comm q.val 128]

theorem mask_at (h : Fin 8) (t s : Fin 128) : val_main_v86_1 (F := Ideal) (ix3 h t s) = if s.val ≤ t.val then 1#1 else 0#1 := by
  pointwise [val_main_v86_1, val_main_v85, val_main_v84, val_main_v83, val_main_c, val_main_call0_v0, val_main_call0_v1, val_main_call0_v2, val_main_call0_v3, val_main_call0_v4, val_main_call0_v5, val_main_call0_c, val_main_call0_c_0]
  exact maskOf_at t s

include hws in
theorem w_at (h : Fin 8) (t s : Fin 128) : val_main_v86_0 (F := Ideal) ws (ix3 h t s) = ((mW WS h t s : ℝ) : EReal) := by
  pointwise [val_main_v86_0, val_main_call1_v1, val_main_cst_22]
  rw [mask_at]
  pointwise [val_main_v4]
  unfold mW
  split
  · exact hws h t s
  · rfl

theorem vh_row (UV : ℕ → ℕ → ℝ) (b q r : ℕ) : vh UV (2048 * b + (128 * q + r)) = vC UV (16 * b + q) r := by
  funext d
  unfold vh vC
  rw [show 2048 * b + (128 * q + r) = 128 * (16 * b + q) + r by ring]

theorem lane_head (h : Fin 8) (p : Fin 64) : (64 * h.val + p.val) / 64 = h.val := by omega

include hx hlw hlb hws in
/-- The mixed lanes of a chunk, before the bias. -/
theorem mix_at (b : Fin 2) (q : Fin 16) (r : Fin 128) (h : Fin 8) (p : Fin 64) : val_main_v88 (F := Ideal) x lw lb ws (ix5 b q r h p)
    = ((mixR (mW WS) (fun t => vnR LW LB (vC UV (16 * b + q) t)) r (64 * h + p) : ℝ) : EReal) := by
  pointwise [val_main_v88, val_main_v87]
  simp only [vn5_at hx hlw hlb, w_at hws, vh_row, ← EReal.coe_mul, ← coe_sum]
  rw [EReal.coe_eq_coe_iff, mixR, lane_head, ← Fin.sum_univ_eq_sum_range (fun s => mW WS h r s * vnR LW LB (vC UV (16 * b + q) s) (64 * h + p)) 128]
  exact Finset.sum_congr rfl fun s _ => mul_comm _ _

include hx hy in
theorem dm_at (b : Fin 2) (q : Fin 16) (r : Fin 128) (h : Fin 8) (p : Fin 64) : val_main_v97 (F := Ideal) x dy (ix5 b q r h p)
    = ((dmQ UV DY (16 * b + q) r (64 * h + p) : ℝ) : EReal) := by
  pointwise [val_main_v97, val_main_v95]
  rw [geluU_at hx, hy, ← EReal.coe_mul, EReal.coe_eq_coe_iff]
  show gelu (UV (2048 * b.val + (q.val * 128 + r.val)) (h.val * 64 + p.val)) * DY (2048 * b.val + (q.val * 128 + r.val)) (h.val * 64 + p.val) = _
  unfold dmQ dmR uC yC
  rw [show 2048 * b.val + (q.val * 128 + r.val) = 128 * (16 * b.val + q.val) + r.val by ring, Nat.mul_comm h.val 64]
  exact mul_comm _ _

include hx hy hws in
theorem dvn_at (b : Fin 2) (q : Fin 16) (r : Fin 128) (h : Fin 8) (p : Fin 64) : val_main_v105 (F := Ideal) x ws dy (ix5 b q r h p)
    = ((dvnQ UV DY WS (16 * b + q) r (64 * h + p) : ℝ) : EReal) := by
  pointwise [val_main_v105, val_main_v104, val_main_v102]
  simp only [dm_at hx hy, w_at hws, ← EReal.coe_mul, ← coe_sum]
  rw [EReal.coe_eq_coe_iff, dvnQ, dvnR, lane_head, ← Fin.sum_univ_eq_sum_range (fun t => mW WS h t r * dmQ UV DY (16 * b + q) t (64 * h + p)) 128]
  exact Finset.sum_congr rfl fun s _ => mul_comm _ _

/-- The chunk of a row and the row's place in it. -/
def chunk (b : Fin 2) (s : Fin 2048) : ℕ := 16 * b + s / 128
theorem div_lt (s : Fin 2048) : s.val / 128 < 16 := by omega
theorem mod_lt (s : Fin 2048) : s.val % 128 < 128 := by omega
theorem vh_chunk (UV : ℕ → ℕ → ℝ) (b : Fin 2) (s : Fin 2048) : vh UV (2048 * b + s) = vC UV (chunk b s) (s.val % 128) := by
  rw [chunk, ← vh_row, show 128 * (s.val / 128) + s.val % 128 = s.val by omega]

include hx hy hws in
theorem dvn4_at (b : Fin 2) (s : Fin 2048) (h : Fin 8) (p : Fin 64) : val_main_v107 (F := Ideal) x ws dy (ix4 b s h p)
    = ((dvnQ UV DY WS (chunk b s) (s.val % 128) (64 * h + p) : ℝ) : EReal) := by
  pointwise [val_main_v107]
  exact dvn_at hx hy hws b ⟨s.val / 128, div_lt s⟩ ⟨s.val % 128, mod_lt s⟩ h p

include hx hy hws hlw in
theorem g_at (b : Fin 2) (s : Fin 2048) (h : Fin 8) (p : Fin 64) : val_main_v115 (F := Ideal) x lw ws dy (ix4 b s h p)
    = ((dvnQ UV DY WS (chunk b s) (s.val % 128) (64 * h + p) * LW (64 * h + p) : ℝ) : EReal) := by
  pointwise [val_main_v115, val_main_v114, val_main_v76, val_main_v2]
  rw [dvn4_at hx hy hws, hlw, ← EReal.coe_mul]

include hx in
theorem drs_at (b : Fin 2) (s : Fin 2048) (h : Fin 8) (p : Fin 64) : val_main_v73 (F := Ideal) x (ix4 b s h 0)
    = ((-(1 / 2) * (rsR (vh UV (2048 * b + s)) (64 * h + p) / msq (vh UV (2048 * b + s)) (64 * h + p)) : ℝ) : EReal) := by
  pointwise [val_main_v73, val_main_v72, val_main_v71, val_main_cst_21]
  rw [rs_at hx b s h p, msq_at hx b s h p, ofBits_neg_half, div_real (show msq (vh UV (2048 * b + s)) (64 * h + p) ≠ 0 from (mean_sq_pos _ _).ne'), ← EReal.coe_mul]

include hx hy hws hlw in
/-- The gradient at the second half's gelu. -/
theorem dgv_at (b : Fin 2) (s : Fin 2048) (h : Fin 8) (p : Fin 64) : val_main_v140 (F := Ideal) x lw ws dy (ix4 b s h p)
    = ((rsR (vh UV (2048 * b + s)) (64 * h + p) * dnR LW (xhR (vh UV (2048 * b + s))) (dvnQ UV DY WS (chunk b s) (s.val % 128)) (64 * h + p) : ℝ) : EReal) := by
  pointwise [val_main_v140, val_main_v139, val_main_v138, val_main_v137, val_main_v136, val_main_v135, val_main_v134, val_main_v133, val_main_v132, val_main_v131,
    val_main_v130, val_main_v129, val_main_v128, val_main_v127, val_main_v126, val_main_v125, val_main_v124, val_main_v123, val_main_v122, val_main_v121, val_main_v120,
    val_main_v119, val_main_v118, val_main_v117, val_main_cst_29, val_main_cst_30, val_main_cst_31, val_main_cst_32, val_main_cst_33, val_main_cst_34, val_main_cst_35]
  have h1 := rs_at hx b s h p
  have h2 := drs_at hx b s h p
  simp only [g_at hx hy hlw hws, xc_at hx, xc2_at hx, Fin.sum_univ_one, h1, h2, ofBits_64, ← EReal.coe_mul, ← EReal.coe_add, ← EReal.coe_neg, ← coe_sum,
    div_real (show (64:ℝ) ≠ 0 by norm_num)]
  rw [EReal.coe_eq_coe_iff]
  exact dn_chain LW _ (dvnQ UV DY WS (chunk b s) (s.val % 128)) h p _ _ rfl rfl

theorem div64_lt (d : Fin 512) : d.val / 64 < 8 := by omega
theorem mod64_lt (d : Fin 512) : d.val % 64 < 64 := by omega

include hx hy hws hlw in
theorem dgv3_at (b : Fin 2) (s : Fin 2048) (d : Fin 512) : val_main_v141 (F := Ideal) x lw ws dy (ix3 b s d)
    = ((rsR (vh UV (2048 * b + s)) d * dnR LW (xhR (vh UV (2048 * b + s))) (dvnQ UV DY WS (chunk b s) (s.val % 128)) d : ℝ) : EReal) := by
  pointwise [val_main_v141]
  refine (dgv_at hx hy hlw hws b s ⟨d.val / 64, div64_lt d⟩ ⟨d.val % 64, mod64_lt d⟩).trans ?_
  rw [show 64 * (d.val / 64) + d.val % 64 = d.val by omega]

include hx hy hws hlw in
/-- The gradient at the second half. -/
theorem dv_at (b : Fin 2) (s : Fin 2048) (d : Fin 512) : val_main_v155 (F := Ideal) x lw ws dy (ix3 b s d)
    = ((dvR LW (vC UV (chunk b s) (s.val % 128)) (dvnQ UV DY WS (chunk b s) (s.val % 128)) d : ℝ) : EReal) := by
  pointwise [val_main_v155, val_main_v154, val_main_v153, val_main_v152, val_main_v151, val_main_v150, val_main_v149, val_main_v148, val_main_v147, val_main_v146,
    val_main_v145, val_main_v144, val_main_v143, val_main_v142, val_main_v50, val_main_v49, val_main_v48, val_main_v47, val_main_v46, val_main_v45, val_main_v44,
    val_main_v43, val_main_v42, val_main_v33, val_main_v32, val_main_v31, val_main_cst_7, val_main_cst_11, val_main_cst_12, val_main_cst_13, val_main_cst_14,
    val_main_cst_36, val_main_cst_37, val_main_cst_38, val_main_cst_39]
  simp only [dgv3_at hx hy hlw hws, v_at hx, tanhV_at hx, ofBits_half, ofBits_three, ofBits_44715, ofBits_million, ofBits_gC, ← EReal.coe_one, ← EReal.coe_mul, ← EReal.coe_add, ← EReal.coe_sub,
    div_real (show (1000000:ℝ) ≠ 0 by norm_num)]
  rw [EReal.coe_eq_coe_iff, dvR, ← vh_chunk]
  unfold gelu' vh
  ring

include hx hlw hlb hws hbs in
/-- The mixed lanes of a row, with the bias. -/
theorem mixed_at (b : Fin 2) (s : Fin 2048) (d : Fin 512) : val_main_v93 (F := Ideal) x lw lb ws bs (ix3 b s d)
    = ((mixR (mW WS) (fun t => vnR LW LB (vC UV (chunk b s) t)) (s.val % 128) d + BS (d / 64) (s.val % 128) : ℝ) : EReal) := by
  pointwise [val_main_v93, val_main_v92, val_main_v91, val_main_v90, val_main_v89, val_main_v5]
  refine (congrArg₂ (· + ·) (mix_at hx hlw hlb hws b ⟨s.val / 128, div_lt s⟩ ⟨s.val % 128, mod_lt s⟩ ⟨d.val / 64, div64_lt d⟩ ⟨d.val % 64, mod64_lt d⟩)
    (hbs ⟨d.val / 64, div64_lt d⟩ ⟨s.val % 128, mod_lt s⟩)).trans ?_
  rw [← EReal.coe_add]
  show ((mixR (mW WS) (fun t => vnR LW LB (vC UV (chunk b s) t)) (s.val % 128) (64 * (d.val / 64) + d.val % 64) + BS (d.val / 64) (s.val % 128) : ℝ) : EReal) = _
  rw [show 64 * (d.val / 64) + d.val % 64 = d.val by omega]

include hx hy hlw hlb hws hbs in
/-- The gradient at the first half. -/
theorem du_at (b : Fin 2) (s : Fin 2048) (d : Fin 512) : val_main_v169 (F := Ideal) x lw lb ws bs dy (ix3 b s d)
    = ((yC DY (chunk b s) (s.val % 128) d * (mixR (mW WS) (fun t => vnR LW LB (vC UV (chunk b s) t)) (s.val % 128) d + BS (d / 64) (s.val % 128))
      * gelu' (uC UV (chunk b s) (s.val % 128) d) : ℝ) : EReal) := by
  pointwise [val_main_v169, val_main_v168, val_main_v167, val_main_v166, val_main_v165, val_main_v164, val_main_v163, val_main_v162, val_main_v161, val_main_v160,
    val_main_v159, val_main_v158, val_main_v157, val_main_v156, val_main_v96, val_main_v27, val_main_v26, val_main_v25, val_main_v24, val_main_v23, val_main_v22,
    val_main_v21, val_main_v20, val_main_v19, val_main_v10, val_main_v9, val_main_v8, val_main_cst, val_main_cst_3, val_main_cst_4, val_main_cst_5, val_main_cst_6,
    val_main_cst_40, val_main_cst_41, val_main_cst_42, val_main_cst_43]
  simp only [mixed_at hx hlw hlb hws hbs, hy, u_at hx, tanhU_at hx, ofBits_half, ofBits_three, ofBits_44715, ofBits_million, ofBits_gC, ← EReal.coe_one, ← EReal.coe_mul, ← EReal.coe_add, ← EReal.coe_sub,
    div_real (show (1000000:ℝ) ≠ 0 by norm_num)]
  have e : 128 * chunk b s + s.val % 128 = 2048 * b.val + s.val := by unfold chunk; omega
  rw [EReal.coe_eq_coe_iff, yC, uC, e]
  unfold gelu'
  ring

theorem bat_lt (i : Fin 4096) : i.val / 2048 < 2 := by omega
theorem pos_lt (i : Fin 4096) : i.val % 2048 < 2048 := by omega

include hx hy hlw hlb hws hbs in
theorem guv_at (i : Fin 4096) (k : Fin 1024) : val_main_v176 (F := Ideal) x lw lb ws bs dy (ix2 i k)
    = ((duvR UV DY LW LB WS BS (i / 128) (i % 128) k : ℝ) : EReal) := by
  pointwise [val_main_v176, val_main_v175, val_main_v174]
  have e1 : 16 * (i.val / 2048) + i.val % 2048 / 128 = i.val / 128 := by omega
  have e2 : i.val % 2048 % 128 = i.val % 128 := by omega
  unfold duvR
  split
  · rename_i hk
    refine (du_at hx hy hlw hlb hws hbs ⟨i.val / 2048, bat_lt i⟩ ⟨i.val % 2048, pos_lt i⟩ ⟨k.val, hk⟩).trans ?_
    simp only [chunk, e1, e2]
  · rename_i hk
    refine (dv_at hx hy hlw hws ⟨i.val / 2048, bat_lt i⟩ ⟨i.val % 2048, pos_lt i⟩ ⟨k.val - 512, by omega⟩).trans ?_
    simp only [chunk, e1, e2]
    rfl

end
end Cert.Gmlp.Ref

end
-- ==== Proof.GmlpRefSums.lean ====
/-
  What the reference of the gated mixer's backward pass computes, over the reals: the gradients of the norm's weight
  and bias, of the mixing matrices and of their bias, each a sum over all rows.
-/
module

public import proofs.«01_k».proof.Proof.GmlpRefValue

@[expose] public section

set_option maxRecDepth 16384

noncomputable section

namespace Cert.Gmlp.Ref

open Cert.GmlpRefIdeal Cert.GmlpRefIdeal.Gen Cert.GmlpRefIdeal.Read Idealize.ShloMosaic Cert.Reals

/-- The product that sums over the batch, the chunk and the lane. -/
abbrev dotW := dot_S8x2x16x64x128_S2x16x128x8x64_S8x128x128_123_014_4_2_0_3

/-- Its summation index, by batch, chunk and lane. -/
def tri (k : Fin 2 × Fin 16 × Fin 64) : dotW.contr.Idx := fun (a : Fin 3) => match a with
  | 0 => k.1
  | 1 => k.2.1
  | 2 => k.2.2

theorem tri_bijective : Function.Bijective tri :=
  ⟨fun x y e => Prod.ext (congrFun e (0 : Fin 3)) (Prod.ext (congrFun e (1 : Fin 3)) (congrFun e (2 : Fin 3))),
    fun i => ⟨(i (0 : Fin 3), i (1 : Fin 3), i (2 : Fin 3)), funext fun (a : Fin 3) => match a with
      | 0 => rfl
      | 1 => rfl
      | 2 => rfl⟩⟩

theorem dotW_lhs (h : Fin 8) (t s : Fin 128) (k : Fin 2 × Fin 16 × Fin 64) : dotW.lhsIdx (ix3 h t s) (tri k) = ix5 h k.1 k.2.1 k.2.2 t := by
  funext a
  apply Fin.ext
  match a with
  | ⟨0, _⟩ => rfl
  | ⟨1, _⟩ => rfl
  | ⟨2, _⟩ => rfl
  | ⟨3, _⟩ => rfl
  | ⟨4, _⟩ => rfl
theorem dotW_rhs (h : Fin 8) (t s : Fin 128) (k : Fin 2 × Fin 16 × Fin 64) : dotW.rhsIdx (ix3 h t s) (tri k) = ix5 k.1 k.2.1 s h k.2.2 := by
  funext a
  apply Fin.ext
  match a with
  | ⟨0, _⟩ => rfl
  | ⟨1, _⟩ => rfl
  | ⟨2, _⟩ => rfl
  | ⟨3, _⟩ => rfl
  | ⟨4, _⟩ => rfl

theorem dotW_at (l : FVec Ideal S8x2x16x64x128 .f32) (r : FVec Ideal S2x16x128x8x64 .f32) (h : Fin 8) (t s : Fin 128) :
    Host.dotGeneral dotW none l r (ix3 h t s) = ∑ b : Fin 2, ∑ q : Fin 16, ∑ p : Fin 64, l (ix5 h b q p t) * r (ix5 b q s h p) := by
  refine (Ideal.dotGeneral_apply dotW none _ l r (ix3 h t s)).trans ?_
  rw [← Function.Bijective.sum_comp tri_bijective fun k => l (dotW.lhsIdx (ix3 h t s) k) * r (dotW.rhsIdx (ix3 h t s) k)]
  simp only [dotW_lhs, dotW_rhs]
  rw [Fintype.sum_prod_type' (fun (b : Fin 2) (k : Fin 16 × Fin 64) => l (ix5 h b k.1 k.2 t) * r (ix5 b k.1 s h k.2))]
  exact Finset.sum_congr rfl fun b _ => Fintype.sum_prod_type' (fun (q : Fin 16) (p : Fin 64) => l (ix5 h b q p t) * r (ix5 b q s h p))

/-- A sum over the rows of both batches, by chunk and place. -/
theorem by_row (f : ℕ → ℕ → ℝ) : ∑ b : Fin 2, ∑ s : Fin 2048, f (chunk b s) (s.val % 128) = ∑ q ∈ Finset.range 32, ∑ s ∈ Finset.range 128, f q s := by
  have e : ∀ (b : Fin 2) (s : Fin 2048), f (chunk b s) (s.val % 128) = (fun n => f (n / 128) (n % 128)) (2048 * b + s) := fun b s => by
    show _ = f ((2048 * b.val + s.val) / 128) ((2048 * b.val + s.val) % 128)
    rw [chunk, show 16 * b.val + s.val / 128 = (2048 * b.val + s.val) / 128 by omega, show s.val % 128 = (2048 * b.val + s.val) % 128 by omega]
  simp only [e]
  rw [sum_rows32 (fun n => f (n / 128) (n % 128))]
  refine Finset.sum_congr rfl fun q _ => Finset.sum_congr rfl fun s hs => ?_
  have := Finset.mem_range.mp hs
  show f ((128 * q + s) / 128) ((128 * q + s) % 128) = f q s
  rw [show (128 * q + s) / 128 = q by omega, show (128 * q + s) % 128 = s by omega]

section
variable {x : Vec Ideal S2x2048x1024 .f32} {lw lb : Vec Ideal S1x8x64 .f32} {ws : Vec Ideal S1x8x128x128 .f32} {bs : Vec Ideal S1x8x128 .f32}
  {dy : Vec Ideal S2x2048x512 .f32} {UV DY : ℕ → ℕ → ℝ} {LW LB : ℕ → ℝ} {WS : ℕ → ℕ → ℕ → ℝ} {BS : ℕ → ℕ → ℝ}
  (hx : ∀ (b : Fin 2) (s : Fin 2048) (k : Fin 1024), x (ix3 b s k) = ((UV (2048 * b + s) k : ℝ) : EReal))
  (hy : ∀ (b : Fin 2) (s : Fin 2048) (k : Fin 512), dy (ix3 b s k) = ((DY (2048 * b + s) k : ℝ) : EReal))
  (hlw : ∀ (h : Fin 8) (p : Fin 64), lw (ix3 0 h p) = ((LW (64 * h + p) : ℝ) : EReal))
  (hlb : ∀ (h : Fin 8) (p : Fin 64), lb (ix3 0 h p) = ((LB (64 * h + p) : ℝ) : EReal))
  (hws : ∀ (h : Fin 8) (t s : Fin 128), ws (ix4 0 h t s) = ((WS h t s : ℝ) : EReal))

include hx hy hlw hlb in
theorem gws3_at (h : Fin 8) (t s : Fin 128) : val_main_v106 (F := Ideal) x lw lb dy (ix3 h t s)
    = ((∑ q ∈ Finset.range 32, pW UV DY LW LB (128 * h + t) s q : ℝ) : EReal) := by
  pointwise [val_main_v106, val_main_call2_v0, val_main_call2_cst]
  rw [mask_at]
  unfold pW
  simp only [show (128 * h.val + t.val) % 128 = t.val by omega, show (128 * h.val + t.val) / 128 = h.val by omega]
  by_cases c : s.val ≤ t.val
  · simp only [if_pos c]
    refine (dotW_at _ _ h t s).trans ?_
    rw [← sum_chunks32]
    have e : ∀ (b : Fin 2) (q : Fin 16), (∑ p : Fin 64, val_main_v102 (F := Ideal) x dy (ix5 h b q p t) * val_main_v82 (F := Ideal) x lw lb (ix5 b q s h p))
        = ((dwR (dmQ UV DY (16 * b + q)) (vnQ UV LW LB (16 * b + q)) h t s : ℝ) : EReal) := by
      intro b q
      rw [dwR, seg_lanes _ _ h.isLt, coe_sum]
      refine Finset.sum_congr rfl fun p _ => ?_
      rw [vn5_at hx hlw hlb, vh_row, EReal.coe_mul, ← dm_at hx hy b q t h p]
      refine congrArg (· * _) ?_
      pointwise [val_main_v102]
    simp only [e, ← coe_sum]
  · simp only [if_neg c, Finset.sum_const_zero]
    rfl

include hx hy hlw hlb in
theorem gws_at (k : Fin 1024) (s : Fin 128) : val_main_v177 (F := Ideal) x lw lb dy (ix2 k s)
    = ((∑ q ∈ Finset.range 32, pW UV DY LW LB k s q : ℝ) : EReal) := by
  pointwise [val_main_v177, val_main_v171]
  refine (gws3_at hx hy hlw hlb ⟨k.val / 128, by omega⟩ ⟨k.val % 128, by omega⟩ s).trans ?_
  rw [show 128 * (k.val / 128) + k.val % 128 = k.val by omega]

include hx hy in
theorem gbs1_at (t : Fin 128) (h : Fin 8) : val_main_v98 (F := Ideal) x dy (ix2 t h) = ((∑ q ∈ Finset.range 32, pB UV DY t h q : ℝ) : EReal) := by
  pointwise [val_main_v98, val_main_cst_23]
  rw [reduce_5_014, zero_add]
  show ∑ b : Fin 2, ∑ q : Fin 16, ∑ p : Fin 64, val_main_v97 (F := Ideal) x dy (ix5 b q t h p) = _
  simp only [dm_at hx hy, ← coe_sum]
  rw [← sum_chunks32]
  unfold pB
  simp only [seg_lanes _ _ h.isLt]

include hx hy in
theorem gbs2_at (t : Fin 128) (h : Fin 8) : val_main_v100 (F := Ideal) x dy (ix2 t h) = ((∑ q ∈ Finset.range 32, pB UV DY t h q : ℝ) : EReal) := by
  unfold val_main_v100
  pointwise [val_main_cst_24]
  rw [reduce_5_014, zero_add]
  show ∑ b : Fin 1, ∑ q : Fin 1, ∑ p : Fin 1, val_main_v99 (F := Ideal) x dy (ix5 b q t h p) = _
  simp only [Fin.sum_univ_one]
  rw [← gbs1_at hx hy t h]
  pointwise [val_main_v99]

include hx hy in
theorem gbs_at (t k : Fin 128) : val_main_v180 (F := Ideal) x dy (ix2 t k) = ((∑ q ∈ Finset.range 32, pB UV DY t k q : ℝ) : EReal) := by
  pointwise [val_main_v180, val_main_v179, val_main_v178, val_main_v170, val_main_v101, val_main_call3_v0, val_main_c_44]
  split
  · exact gbs2_at hx hy t ⟨k.val, by assumption⟩
  · unfold pB
    rw [Finset.sum_congr rfl fun q _ => seg_none _ k.val (by omega), Finset.sum_const_zero]
    simp [FloatOps.sitofp]

include hx hy hws in
theorem glb1_at (h : Fin 8) (p : Fin 64) : val_main_v108 (F := Ideal) x ws dy (ix2 h p)
    = ((∑ q ∈ Finset.range 32, pLb UV DY WS (64 * h + p) q : ℝ) : EReal) := by
  pointwise [val_main_v108, val_main_cst_25]
  rw [reduce_4_01, zero_add]
  show ∑ b : Fin 2, ∑ s : Fin 2048, val_main_v107 (F := Ideal) x ws dy (ix4 b s h p) = _
  simp only [dvn4_at hx hy hws, ← coe_sum]
  unfold pLb
  rw [EReal.coe_eq_coe_iff, ← by_row (fun q s => dvnQ UV DY WS q s (64 * h + p))]

include hx hy hws in
theorem glb_at (d : Fin 512) : val_main_v182 (F := Ideal) x ws dy (ix2 0 d)
    = ((∑ q ∈ Finset.range 32, pLb UV DY WS d q : ℝ) : EReal) := by
  pointwise [val_main_v182, val_main_v172]
  unfold val_main_v110
  pointwise [val_main_cst_26]
  rw [reduce_4_01, zero_add]
  show ∑ b : Fin 1, ∑ s : Fin 1, val_main_v109 (F := Ideal) x ws dy (ix4 b s ⟨d.val / 64, div64_lt d⟩ ⟨d.val % 64, mod64_lt d⟩) = _
  simp only [Fin.sum_univ_one]
  pointwise [val_main_v109]
  refine (glb1_at hx hy hws ⟨d.val / 64, div64_lt d⟩ ⟨d.val % 64, mod64_lt d⟩).trans ?_
  rw [show 64 * (d.val / 64) + d.val % 64 = d.val by omega]

include hx hy hws in
theorem glw1_at (h : Fin 8) (p : Fin 64) : val_main_v112 (F := Ideal) x ws dy (ix2 h p)
    = ((∑ q ∈ Finset.range 32, pLw UV DY WS (64 * h + p) q : ℝ) : EReal) := by
  pointwise [val_main_v112, val_main_cst_27]
  rw [reduce_4_01, zero_add]
  show ∑ b : Fin 2, ∑ s : Fin 2048, val_main_v111 (F := Ideal) x ws dy (ix4 b s h p) = _
  have e : ∀ (b : Fin 2) (s : Fin 2048), val_main_v111 (F := Ideal) x ws dy (ix4 b s h p)
      = ((dvnQ UV DY WS (chunk b s) (s.val % 128) (64 * h + p) * xhR (vC UV (chunk b s) (s.val % 128)) (64 * h + p) : ℝ) : EReal) := by
    intro b s
    pointwise [val_main_v111]
    rw [dvn4_at hx hy hws, xh_at hx, vh_chunk, ← EReal.coe_mul, mul_comm]
  simp only [e, ← coe_sum]
  unfold pLw
  rw [EReal.coe_eq_coe_iff, ← by_row (fun q s => dvnQ UV DY WS q s (64 * h + p) * xhR (vC UV q s) (64 * h + p))]

include hx hy hws in
theorem glw_at (d : Fin 512) : val_main_v181 (F := Ideal) x ws dy (ix2 0 d)
    = ((∑ q ∈ Finset.range 32, pLw UV DY WS d q : ℝ) : EReal) := by
  pointwise [val_main_v181, val_main_v173]
  unfold val_main_v116
  pointwise [val_main_cst_28]
  rw [reduce_4_01, zero_add]
  show ∑ b : Fin 1, ∑ s : Fin 1, val_main_v113 (F := Ideal) x ws dy (ix4 b s ⟨d.val / 64, div64_lt d⟩ ⟨d.val % 64, mod64_lt d⟩) = _
  simp only [Fin.sum_univ_one]
  pointwise [val_main_v113]
  refine (glw1_at hx hy hws ⟨d.val / 64, div64_lt d⟩ ⟨d.val % 64, mod64_lt d⟩).trans ?_
  rw [show 64 * (d.val / 64) + d.val % 64 = d.val by omega]

end
end Cert.Gmlp.Ref

end
-- ==== Proof.Gmlp.lean ====
/-
  The gated mixer's backward pass: the reference's run, the named constants, and the equality of the reference's
  results with the kernel's.
-/
module

public import proofs.«01_k».proof.Defs
public import proofs.«01_k».proof.Proof.GmlpRefSums
public import proofs.«01_k».proof.Proof.Gen.GmlpBwd.Frame
public import proofs.«01_k».proof.Proof.Gen.GmlpRefIdeal.Run
public import proofs.«01_k».proof.Proof.Gen.Pre_finite_gmlp
public import Idealize.ShloMosaic.Adequacy
public import Idealize.ShloMosaic.Init

@[expose] public section

set_option maxRecDepth 16384

noncomputable section

namespace Cert.Gmlp

open Idealize.ShloMosaic Idealize.SL.Sem Cert.Reals

theorem frame_ref : Cert.quiescent_GmlpRefIdeal (hGmlpRefIdeal := GmlpRefIdeal.Gen.facts) := fun m ρ _ =>
  (θ_run GmlpRefIdeal.defs _ _).mono (fun r h => ⟨fun c => (h c).2.2.2.2.2, sem_eq_zero_of_no_sems (by decide) r.2⟩)
    (GmlpRefIdeal.Value.run (F := Ideal) m ρ)

theorem preserves : Cert.preserves_GmlpBwd_GmlpBwdIdeal :=
  ⟨IdealRules.named_const.statement Cert.GmlpBwdIdeal.κ "gelu_a" .f32 0x3D372713#32 ((8943 / 200000 : ℝ) : EReal) rfl,
    IdealRules.named_const.statement Cert.GmlpBwdIdeal.κ "gelu_3a" .f32 0x3E095D4F#32 ((26829 / 200000 : ℝ) : EReal) rfl⟩

/-! ## The arguments as real numbers, by row and lane -/

theorem ix3_congr {n0 n1 n2 : ℕ} {a a' : Fin n0} {b b' : Fin n1} {d d' : Fin n2} (ha : a = a') (hb : b = b') (hd : d = d') : ix3 a b d = ix3 a' b' d' := by
  rw [ha, hb, hd]
theorem ix4_congr {n1 n2 n3 : ℕ} {a a' : Fin n1} {b b' : Fin n2} {d d' : Fin n3} (ha : a = a') (hb : b = b') (hd : d = d') :
    ix4 (0 : Fin 1) a b d = ix4 (0 : Fin 1) a' b' d' := by
  rw [ha, hb, hd]

section
variable (x : Vec Ideal GmlpRefIdeal.S2x2048x1024 .f32) (w : Vec Ideal GmlpRefIdeal.S1x8x64 .f32) (ws : Vec Ideal GmlpRefIdeal.S1x8x128x128 .f32)
  (bs : Vec Ideal GmlpRefIdeal.S1x8x128 .f32) (dy : Vec Ideal GmlpRefIdeal.S2x2048x512 .f32)

def uvN (n k : ℕ) : ℝ := (x (ix3 ⟨n / 2048 % 2, Nat.mod_lt _ (by decide)⟩ ⟨n % 2048, Nat.mod_lt _ (by decide)⟩ ⟨k % 1024, Nat.mod_lt _ (by decide)⟩)).toReal
def dyN (n k : ℕ) : ℝ := (dy (ix3 ⟨n / 2048 % 2, Nat.mod_lt _ (by decide)⟩ ⟨n % 2048, Nat.mod_lt _ (by decide)⟩ ⟨k % 512, Nat.mod_lt _ (by decide)⟩)).toReal
def lnN (k : ℕ) : ℝ := (w (ix3 0 ⟨k / 64 % 8, Nat.mod_lt _ (by decide)⟩ ⟨k % 64, Nat.mod_lt _ (by decide)⟩)).toReal
def wsN (h t s : ℕ) : ℝ := (ws (ix4 0 ⟨h % 8, Nat.mod_lt _ (by decide)⟩ ⟨t % 128, Nat.mod_lt _ (by decide)⟩ ⟨s % 128, Nat.mod_lt _ (by decide)⟩)).toReal
def bsN (h t : ℕ) : ℝ := (bs (ix3 0 ⟨h % 8, Nat.mod_lt _ (by decide)⟩ ⟨t % 128, Nat.mod_lt _ (by decide)⟩)).toReal

variable {x w ws bs dy}

theorem uvN_at (hx : ∀ i, x i = (((x i).toReal : ℝ) : EReal)) (b : Fin 2) (s : Fin 2048) (k : Fin 1024) (n : ℕ) (hn : n = 2048 * b + s) :
    x (ix3 b s k) = ((uvN x n k : ℝ) : EReal) := by
  subst hn
  refine (hx _).trans (congrArg (fun i => (((x i).toReal : ℝ) : EReal)) ?_)
  refine ix3_congr (Fin.ext ?_) (Fin.ext ?_) (Fin.ext ?_)
  · show b.val = (2048 * b.val + s.val) / 2048 % 2; omega
  · show s.val = (2048 * b.val + s.val) % 2048; omega
  · show k.val = k.val % 1024; omega
theorem dyN_at (hx : ∀ i, dy i = (((dy i).toReal : ℝ) : EReal)) (b : Fin 2) (s : Fin 2048) (k : Fin 512) (n : ℕ) (hn : n = 2048 * b + s) :
    dy (ix3 b s k) = ((dyN dy n k : ℝ) : EReal) := by
  subst hn
  refine (hx _).trans (congrArg (fun i => (((dy i).toReal : ℝ) : EReal)) ?_)
  refine ix3_congr (Fin.ext ?_) (Fin.ext ?_) (Fin.ext ?_)
  · show b.val = (2048 * b.val + s.val) / 2048 % 2; omega
  · show s.val = (2048 * b.val + s.val) % 2048; omega
  · show k.val = k.val % 512; omega
theorem lnN_at (hx : ∀ i, w i = (((w i).toReal : ℝ) : EReal)) (h : Fin 8) (p : Fin 64) (n : ℕ) (hn : n = 64 * h + p) :
    w (ix3 0 h p) = ((lnN w n : ℝ) : EReal) := by
  subst hn
  refine (hx _).trans (congrArg (fun i => (((w i).toReal : ℝ) : EReal)) ?_)
  refine congrArg₂ (fun (h : Fin 8) (p : Fin 64) => ix3 (0 : Fin 1) h p) (Fin.ext ?_) (Fin.ext ?_)
  · show h.val = (64 * h.val + p.val) / 64 % 8; omega
  · show p.val = (64 * h.val + p.val) % 64; omega
theorem wsN_at (hx : ∀ i, ws i = (((ws i).toReal : ℝ) : EReal)) (h : Fin 8) (t s : Fin 128) : ws (ix4 0 h t s) = ((wsN ws h t s : ℝ) : EReal) := by
  refine (hx _).trans (congrArg (fun i => (((ws i).toReal : ℝ) : EReal)) ?_)
  refine ix4_congr (Fin.ext ?_) (Fin.ext ?_) (Fin.ext ?_)
  · show h.val = h.val % 8; omega
  · show t.val = t.val % 128; omega
  · show s.val = s.val % 128; omega
theorem bsN_at (hx : ∀ i, bs i = (((bs i).toReal : ℝ) : EReal)) (h : Fin 8) (t : Fin 128) : bs (ix3 0 h t) = ((bsN bs h t : ℝ) : EReal) := by
  refine (hx _).trans (congrArg (fun i => (((bs i).toReal : ℝ) : EReal)) ?_)
  refine congrArg₂ (fun (h : Fin 8) (p : Fin 128) => ix3 (0 : Fin 1) h p) (Fin.ext ?_) (Fin.ext ?_)
  · show h.val = h.val % 8; omega
  · show t.val = t.val % 128; omega
end

/-- On arguments that are real numbers, the reference's five results are the kernel's. -/
theorem results_eq (x : Vec Ideal GmlpRefIdeal.S2x2048x1024 .f32) (lw lb : Vec Ideal GmlpRefIdeal.S1x8x64 .f32) (ws : Vec Ideal GmlpRefIdeal.S1x8x128x128 .f32)
    (bs : Vec Ideal GmlpRefIdeal.S1x8x128 .f32) (dy : Vec Ideal GmlpRefIdeal.S2x2048x512 .f32)
    (m : (ℓ : Loc GmlpBwdIdeal.nD GmlpBwdIdeal.τ GmlpBwdIdeal.sig) → Buf (Elt Ideal) ℓ) (c : Dev GmlpBwdIdeal.nD)
    (e : x = argUv m c ∧ lw = argLw m c ∧ lb = argLb m c ∧ ws = argWs m c ∧ bs = argBs m c ∧ dy = argDy m c)
    (hx : ∀ i, x i = (((x i).toReal : ℝ) : EReal)) (hlw : ∀ i, lw i = (((lw i).toReal : ℝ) : EReal)) (hlb : ∀ i, lb i = (((lb i).toReal : ℝ) : EReal))
    (hws : ∀ i, ws i = (((ws i).toReal : ℝ) : EReal)) (hbs : ∀ i, bs i = (((bs i).toReal : ℝ) : EReal)) (hdy : ∀ i, dy i = (((dy i).toReal : ℝ) : EReal)) :
    GmlpRefIdeal.Read.val_main_v176 (F := Ideal) x lw lb ws bs dy = (GmlpBwdIdeal.Gen.dats m 0 c).arrAt 9 GmlpBwdIdeal.cfg0.N
    ∧ GmlpRefIdeal.Read.val_main_v177 (F := Ideal) x lw lb dy = (GmlpBwdIdeal.Gen.dats m 0 c).arrAt 10 GmlpBwdIdeal.cfg0.N
    ∧ GmlpRefIdeal.Read.val_main_v180 (F := Ideal) x dy = (GmlpBwdIdeal.Gen.dats m 0 c).arrAt 11 GmlpBwdIdeal.cfg0.N
    ∧ GmlpRefIdeal.Read.val_main_v181 (F := Ideal) x ws dy = (GmlpBwdIdeal.Gen.dats m 0 c).arrAt 12 GmlpBwdIdeal.cfg0.N
    ∧ GmlpRefIdeal.Read.val_main_v182 (F := Ideal) x ws dy = (GmlpBwdIdeal.Gen.dats m 0 c).arrAt 13 GmlpBwdIdeal.cfg0.N := by
  obtain ⟨rfl, rfl, rfl, rfl, rfl, rfl⟩ := e
  have H : Holds m c (uvN (argUv m c)) (dyN (argDy m c)) (lnN (argLw m c)) (lnN (argLb m c)) (wsN (argWs m c)) (bsN (argBs m c)) :=
    { uv := fun i k => uvN_at hx _ _ k i (by show i.val = 2048 * (i.val / 2048) + i.val % 2048; omega)
      dy := fun i k => dyN_at hdy _ _ k i (by show i.val = 2048 * (i.val / 2048) + i.val % 2048; omega)
      lw := fun k => lnN_at hlw _ _ k (by show k.val = 64 * (k.val / 64) + k.val % 64; omega)
      lb := fun k => lnN_at hlb _ _ k (by show k.val = 64 * (k.val / 64) + k.val % 64; omega)
      ws := wsN_at hws
      bs := bsN_at hbs }
  have hx' := fun b s k => uvN_at hx b s k _ rfl
  have hdy' := fun b s k => dyN_at hdy b s k _ rfl
  have hlw' := fun h p => lnN_at hlw h p _ rfl
  have hlb' := fun h p => lnN_at hlb h p _ rfl
  refine ⟨?_, ?_, ?_, ?_, ?_⟩
  · refine funext fun (i : GmlpBwdIdeal.S4096x1024.Idx) => ?_
    obtain ⟨b, d, rfl⟩ := exists_ix2 i
    exact (Ref.guv_at hx' hdy' hlw' hlb' (wsN_at hws) (bsN_at hbs) b d).trans (arr_9 H b d).symm
  · rw [arr_10]
    refine funext fun (i : GmlpBwdIdeal.S1024x128.Idx) => ?_
    obtain ⟨b, d, rfl⟩ := exists_ix2 i
    exact (Ref.gws_at hx' hdy' hlw' hlb' b d).trans (last_10 H b d).symm
  · rw [arr_11]
    refine funext fun (i : GmlpBwdIdeal.S128x128.Idx) => ?_
    obtain ⟨b, d, rfl⟩ := exists_ix2 i
    exact (Ref.gbs_at hx' hdy' b d).trans (last_11 H b d).symm
  · rw [arr_12]
    refine funext fun (i : GmlpBwdIdeal.S1x512.Idx) => ?_
    obtain ⟨b, d, rfl⟩ := exists_ix2 i
    obtain rfl : b = 0 := Subsingleton.elim _ _
    exact (Ref.glw_at hx' hdy' (wsN_at hws) d).trans (last_12 H d).symm
  · rw [arr_13]
    refine funext fun (i : GmlpBwdIdeal.S1x512.Idx) => ?_
    obtain ⟨b, d, rfl⟩ := exists_ix2 i
    obtain rfl : b = 0 := Subsingleton.elim _ _
    exact (Ref.glb_at hx' hdy' (wsN_at hws) d).trans (last_13 H d).symm

theorem algebraic : Cert.algebraic_GmlpBwdIdeal_GmlpRefIdeal_pre_finite_gmlp (hGmlpBwdIdeal := GmlpBwdIdeal.Gen.facts)
    (hGmlpRefIdeal := GmlpRefIdeal.Gen.facts) (hPre_finite_gmlp := Pre_finite_gmlp.Gen.facts) := by
  intro m ρ m' ρ' hpre hag
  refine ⟨_, _, _, _, _, GmlpBwdIdeal.Value.run_blocks (F := Ideal) m ρ, (θ_run GmlpRefIdeal.defs _ _).mono (fun r h c => ?_)
    (GmlpRefIdeal.Value.run (F := Ideal) m' ρ')⟩
  have hc := h c
  obtain ⟨a0, a1, a2, a3, a4, a5⟩ := hag c
  obtain ⟨p0, p1, p2, p3, p4, p5⟩ := hpre c
  obtain ⟨r0, r1, r2, r3, r4⟩ := results_eq _ _ _ _ _ _ m c ⟨a0, a1, a2, a3, a4, a5⟩ (by rw [a0]; exact real_of_finite p0) (by rw [a1]; exact real_of_finite p1)
    (by rw [a2]; exact real_of_finite p2) (by rw [a3]; exact real_of_finite p3) (by rw [a4]; exact real_of_finite p4) (by rw [a5]; exact real_of_finite p5)
  exact ⟨hc.1.trans ((GmlpRefIdeal.Read.val_main_v176_eq _).trans r0), hc.2.1.trans ((GmlpRefIdeal.Read.val_main_v177_eq _).trans r1),
    hc.2.2.1.trans ((GmlpRefIdeal.Read.val_main_v180_eq _).trans r2), hc.2.2.2.1.trans ((GmlpRefIdeal.Read.val_main_v181_eq _).trans r3),
    hc.2.2.2.2.1.trans ((GmlpRefIdeal.Read.val_main_v182_eq _).trans r4), hc.2.2.2.2.2⟩

end Cert.Gmlp

end
-- ==== Proof.MlpMath.lean ====
/-
  The feed-forward block over the reals: its hidden units, what it adds to a row, and the gradient of the hidden units.
-/
module

public import proofs.«01_k».proof.Proof.Reals

@[expose] public section

noncomputable section

namespace Cert.Mlp

open Cert.Reals

/-- The hidden units of one row, before their squared rectifier: the normed row times the up projection. -/
def unit (x nw : Fin 1024 → ℝ) (WU : Fin 1024 → Fin 4096 → ℝ) (k : Fin 4096) : ℝ := ∑ d, x d * rms x * nw d * WU d k

/-- What the down projection makes of the squared rectified units. -/
def down (x nw : Fin 1024 → ℝ) (WU : Fin 1024 → Fin 4096 → ℝ) (WD : Fin 4096 → Fin 1024 → ℝ) (d : Fin 1024) : ℝ :=
  ∑ k, max (unit x nw WU k) 0 * max (unit x nw WU k) 0 * WD k d

/-- Their gradient: what comes back through the down projection, times twice the rectified unit. -/
def unitGrad (x nw : Fin 1024 → ℝ) (WU : Fin 1024 → Fin 4096 → ℝ) (WD : Fin 4096 → Fin 1024 → ℝ) (dd : Fin 1024 → ℝ) (k : Fin 4096) : ℝ :=
  rowDot dd WD k * (2 * max (unit x nw WU k) 0)

theorem ofBits_two : Idealize.ShloMosaic.Ideal.ofBits .f32 0x40000000#32 = ((2 : ℝ) : EReal) := by
  simp [Idealize.ShloMosaic.Ideal.ofBits, Idealize.ShloMosaic.Ideal.ieee, -EReal.coe_mul]; norm_num

/-- The larger of a real number and zero. -/
theorem max_zero_real (x : ℝ) : max (x : EReal) 0 = ((max x 0 : ℝ) : EReal) :=
  (EReal.coe_strictMono.monotone.map_max (a := x) (b := 0)).symm

/-- A sum over the 4096 hidden units, one tile of 512 after another, each tile's sum added to what stands. -/
theorem sum_tiles (f : Fin 4096 → EReal) :
    (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩) + (∑ k : Fin 512, f ⟨2560 + k.val, by omega⟩)
      + (∑ k : Fin 512, f ⟨3072 + k.val, by omega⟩) + (∑ k : Fin 512, f ⟨3584 + k.val, by omega⟩) = ∑ k, f k := by
  set g : ℕ → EReal := fun n => if h : n < 4096 then f ⟨n, h⟩ else 0 with hg
  have hf : ∀ (n : ℕ) (h : n < 4096), f ⟨n, h⟩ = g n := fun n h => by simp [hg, h]
  simp only [hf]
  rw [Fin.sum_univ_eq_sum_range (fun n => g n) 512, Fin.sum_univ_eq_sum_range (fun n => g (512 + n)) 512,
    Fin.sum_univ_eq_sum_range (fun n => g (1024 + n)) 512, Fin.sum_univ_eq_sum_range (fun n => g (1536 + n)) 512,
    Fin.sum_univ_eq_sum_range (fun n => g (2048 + n)) 512, Fin.sum_univ_eq_sum_range (fun n => g (2560 + n)) 512,
    Fin.sum_univ_eq_sum_range (fun n => g (3072 + n)) 512, Fin.sum_univ_eq_sum_range (fun n => g (3584 + n)) 512,
    Fin.sum_univ_eq_sum_range (fun n => g n) 4096]
  rw [show (4096 : ℕ) = 512 + 512 + 512 + 512 + 512 + 512 + 512 + 512 from rfl, Finset.sum_range_add, Finset.sum_range_add, Finset.sum_range_add,
    Finset.sum_range_add, Finset.sum_range_add, Finset.sum_range_add, Finset.sum_range_add]

end Cert.Mlp

end
-- ==== Proof.MlpBwdPoint.lean ====
/-
  One grid point of the feed-forward block's backward pass.
-/
module

public import proofs.«01_k».proof.Proof.MlpMath
public import proofs.«01_k».proof.Proof.Gen.MlpBwdIdeal.Value
public import Idealize.ShloMosaic.Lib.Pointwise
public import Idealize.ShloMosaic.Lib.StableHlo.ReadAt

@[expose] public section

set_option maxRecDepth 16384

noncomputable section

namespace Cert.Mlp

open Cert.MlpBwdIdeal Cert.MlpBwdIdeal.Gen Idealize.ShloMosaic Idealize.ShloMosaic.TcCoe Idealize.SL.Sem Cert.Reals

section
variable (m : (ℓ : Loc nD τ sig) → Buf (Elt Ideal) ℓ) (c : Dev nD)

theorem hz : (![0, 0] : Fin 2 → Nat) = fun _ => 0 := funext fun a => by fin_cases a <;> rfl

theorem read_sc1 (x : Vec Ideal S4x1024x1024 .bf16) : View.read (Elt Ideal) (View.whole cc0_scratch1) ((Memref.isWhole_whole cc0_scratch1).unread x) = x := (Memref.isWhole_whole cc0_scratch1).read_unread x
theorem read_sc2 (x : Vec Ideal S4x512x1024 .bf16) : View.read (Elt Ideal) (View.whole cc0_scratch2) ((Memref.isWhole_whole cc0_scratch2).unread x) = x := (Memref.isWhole_whole cc0_scratch2).read_unread x
theorem read_sc3 (x : Vec Ideal S4x512x1024 .bf16) : View.read (Elt Ideal) (View.whole cc0_scratch3) ((Memref.isWhole_whole cc0_scratch3).unread x) = x := (Memref.isWhole_whole cc0_scratch3).read_unread x

abbrev argX : Vec Ideal S2x2048x1024 .f32 := m (c.tc.loc main_arg0)
abbrev argNw : Vec Ideal S1x1024 .f32 := m (c.tc.loc main_arg1)
abbrev argWu : Vec Ideal S1x1024x4096 .f32 := m (c.tc.loc main_arg2)
abbrev argWd : Vec Ideal S1x4096x1024 .f32 := m (c.tc.loc main_arg3)
abbrev argDd : Vec Ideal S2x2048x1024 .f32 := m (c.tc.loc main_arg4)
abbrev argDy : Vec Ideal S2x2048x1024 .f32 := m (c.tc.loc main_arg5)

abbrev ddBlk (t : Fin cfg0.N) : Vec Ideal S256x1024 .bf16 := iblk m c 0 t
abbrev fBlk (t : Fin cfg0.N) : Vec Ideal S256x4096 .bf16 := iblk m c 1 t

/-- One entry of the point's block of the hidden units' gradient. -/
def duAt (t : Fin cfg0.N) (r : Fin 256) (k : Fin 4096) : EReal :=
  (∑ e : Fin 1024, ddBlk m c t (ix2 r e) * argWd m c (ix3 0 k e)) * (Ideal.ofBits .f32 0x40000000#32 * Ideal.sqrt (fBlk m c t (ix2 r k)))

/-- The point's block of the hidden units' gradient. -/
def duOf (t : Fin cfg0.N) : Vec Ideal S256x4096 .bf16 := fun y => duAt m c t (y 0) (y 1)

theorem duOf_tile (t : Fin cfg0.N) (o : Nat) (h : ∀ a : Fin S256x4096.rank, (![0, o] : Fin 2 → Nat) a + (![256, 512] : Fin 2 → Nat) a ≤ S256x4096.size a) (r : Fin 256) (k : Fin 512) (hk : o + k.val < 4096) :
    duOf m c t ((Rect.unit (s := S256x4096) ![0, o] ![256, 512] h).emb (ix2 r k)) = duAt m c t r ⟨o + k.val, hk⟩ := by
  unfold duOf
  congr 1
  · exact Fin.ext (by show 0 + 1 * r.val = r.val; omega)
  · exact Fin.ext (by show o + 1 * k.val = o + k.val; omega)

/-- The up projection as the kernel keeps it in scratch memory. -/
def upOf : Vec Ideal S4x1024x1024 .bf16 := fun y => argWu m c (ix3 0 (y 1) ⟨1024 * (y 0).val + (y 2).val, by have := (y 0).isLt; have := (y 2).isLt; dsimp at *; omega⟩)
/-- The two halves of the down projection as the kernel keeps them in scratch memory. -/
def downAOf : Vec Ideal S4x512x1024 .bf16 := fun y => argWd m c (ix3 0 ⟨1024 * (y 0).val + (y 1).val, by have := (y 0).isLt; have := (y 1).isLt; dsimp at *; omega⟩ (y 2))
def downBOf : Vec Ideal S4x512x1024 .bf16 := fun y => argWd m c (ix3 0 ⟨1024 * (y 0).val + 512 + (y 1).val, by have := (y 0).isLt; have := (y 1).isLt; dsimp at *; omega⟩ (y 2))

theorem upOf_at (a : Fin 4) (d k : Fin 1024) (n : Fin 4096) (h : 1024 * a.val + k.val = n.val) :
    upOf m c (ix3 a d k) = argWu m c (ix3 0 d n) := congrArg (fun n => argWu m c (ix3 0 d n)) (Fin.ext h)

theorem duAt_A (t : Fin cfg0.N) (r : Fin 256) (a : Fin 4) (k : Fin 512) (n : Fin 4096) (h : 1024 * a.val + k.val = n.val) :
    (∑ e : Fin 1024, ddBlk m c t (ix2 r e) * downAOf m c (ix3 a k e)) * (Ideal.ofBits .f32 0x40000000#32 * Ideal.sqrt (fBlk m c t (ix2 r n)))
      = duAt m c t r n :=
  congrArg (fun j => (∑ e : Fin 1024, ddBlk m c t (ix2 r e) * argWd m c (ix3 0 j e)) * (Ideal.ofBits .f32 0x40000000#32 * Ideal.sqrt (fBlk m c t (ix2 r n)))) (Fin.ext h)

theorem duAt_B (t : Fin cfg0.N) (r : Fin 256) (a : Fin 4) (k : Fin 512) (n : Fin 4096) (h : 1024 * a.val + 512 + k.val = n.val) :
    (∑ e : Fin 1024, ddBlk m c t (ix2 r e) * downBOf m c (ix3 a k e)) * (Ideal.ofBits .f32 0x40000000#32 * Ideal.sqrt (fBlk m c t (ix2 r n)))
      = duAt m c t r n :=
  congrArg (fun j => (∑ e : Fin 1024, ddBlk m c t (ix2 r e) * argWd m c (ix3 0 j e)) * (Ideal.ofBits .f32 0x40000000#32 * Ideal.sqrt (fBlk m c t (ix2 r n)))) (Fin.ext h)

attribute [local irreducible] upOf downAOf downBOf duAt duOf

set_option maxHeartbeats 400000 in
theorem du_B (t : Fin cfg0.N) (h0 : ¬t.val % 17 = 0) (h1 : 1 ≤ t.val % 17 ∧ t.val % 17 ≤ 15) (h2 : ¬t.val % 17 = 16)
    (e1 : (outsAt0 m c (t.val - 1) (by have := t.isLt; omega)).2.2.2.2.1 = upOf m c)
    (e2 : (outsAt0 m c (t.val - 1) (by have := t.isLt; omega)).2.2.2.2.2.1 = downAOf m c)
    (e3 : (outsAt0 m c (t.val - 1) (by have := t.isLt; omega)).2.2.2.2.2.2 = downBOf m c) :
    (outsAt0 m c t.val t.isLt).1 = duOf m c t := by
  rw [outsAt0_B m c t h0 h1 h2]
  dsimp only
  unfold out0_B_5
  rw [View.read_writes_eq_canon _ _ _ (fun y => cover0_B_5 (y := y) ..)]
  funext y
  refine View.canon_apply_of_pieces (duOf m c t) _ ?_ y (cover0_B_5 (y := y) ..)
  unfold kernelRun0_B
  dsimp only
  sl_unfold_words
  simp only [View.readAt_eq_ld, (hs0_0 t).read_unread, (hs0_1 t).read_unread, View.ld_unit_zero (S := S256x1024) hz]
  rw [e2, e3]
  simp only [read_sc2, read_sc3]
  simp only [List.forall_mem_cons]
  refine ⟨?b3, ?a3, ?b2, ?a2, ?b1, ?a1, ?b0, ?a0, List.forall_mem_nil _⟩
  all_goals
    intro x
    obtain ⟨r, k, rfl⟩ := exists_ix2 (n0 := 256) (n1 := 512) x
    pointwise [k0_pay22, k0_pay23, k0_pay25, k0_pay26, k0_pay28, k0_pay29, k0_pay31, k0_pay32, k0_pay34]
    refine Eq.trans ?_ (duOf_tile m c t _ _ r k (by omega)).symm
  case a0 => exact (duAt_A m c t r 0 k ⟨k.val, by omega⟩ (by show 1024 * 0 + k.val = k.val; omega)).trans (congrArg (duAt m c t r) (Fin.ext (Nat.zero_add k.val).symm))
  case b0 => exact duAt_B m c t r 0 k _ (by show 1024 * 0 + 512 + k.val = 512 + k.val; omega)
  case a1 => exact duAt_A m c t r 1 k _ (by show 1024 * 1 + k.val = 1024 + k.val; omega)
  case b1 => exact duAt_B m c t r 1 k _ (by show 1024 * 1 + 512 + k.val = 1536 + k.val; omega)
  case a2 => exact duAt_A m c t r 2 k _ (by show 1024 * 2 + k.val = 2048 + k.val; omega)
  case b2 => exact duAt_B m c t r 2 k _ (by show 1024 * 2 + 512 + k.val = 2560 + k.val; omega)
  case a3 => exact duAt_A m c t r 3 k _ (by show 1024 * 3 + k.val = 3072 + k.val; omega)
  case b3 => exact duAt_B m c t r 3 k _ (by show 1024 * 3 + 512 + k.val = 3584 + k.val; omega)

set_option maxHeartbeats 400000 in
theorem acc_B (t : Fin cfg0.N) (h0 : ¬t.val % 17 = 0) (h1 : 1 ≤ t.val % 17 ∧ t.val % 17 ≤ 15) (h2 : ¬t.val % 17 = 16)
    (e1 : (outsAt0 m c (t.val - 1) (by have := t.isLt; omega)).2.2.2.2.1 = upOf m c)
    (e2 : (outsAt0 m c (t.val - 1) (by have := t.isLt; omega)).2.2.2.2.2.1 = downAOf m c)
    (e3 : (outsAt0 m c (t.val - 1) (by have := t.isLt; omega)).2.2.2.2.2.2 = downBOf m c) (r : Fin 256) (d : Fin 1024) :
    (outsAt0 m c t.val t.isLt).2.2.2.1 (ix2 r d) = ∑ k, duAt m c t r k * argWu m c (ix3 0 d k) := by
  rw [outsAt0_B m c t h0 h1 h2]
  dsimp only
  unfold sout0_B_0
  rw [View.read_writes_eq_canon _ _ _ (fun y => scover0_B_0 (y := y) ..)]
  unfold kernelRun0_B
  dsimp only
  sl_unfold_words
  rw [View.canon_unit_zero hz]
  simp only [View.readAt_eq_ld, (hs0_0 t).read_unread, (hs0_1 t).read_unread, View.ld_unit_zero (S := S256x1024) hz]
  rw [e1, e2, e3]
  simp only [read_sc1, read_sc2, read_sc3]
  pointwise [k0_pay1, k0_pay22, k0_pay23, k0_pay24, k0_pay25, k0_pay26, k0_pay27, k0_pay28, k0_pay29, k0_pay30, k0_pay31, k0_pay32, k0_pay33, k0_pay34, k0_pay35]
  rw [← sum_tiles]
  refine congrArg₂ (· + ·) (congrArg₂ (· + ·) (congrArg₂ (· + ·) (congrArg₂ (· + ·) (congrArg₂ (· + ·) (congrArg₂ (· + ·) (congrArg₂ (· + ·) ?a0 ?b0) ?a1) ?b1) ?a2) ?b2) ?a3) ?b3
  case a0 => refine Finset.sum_congr rfl fun k _ => congrArg₂ (· * ·) (duAt_A m c t r 0 k _ (by show 1024 * 0 + k.val = k.val; omega)) (upOf_at m c 0 d _ _ (by show 1024 * 0 + k.val = k.val; omega))
  case b0 => refine Finset.sum_congr rfl fun k _ => congrArg₂ (· * ·) (duAt_B m c t r 0 k _ (by show 1024 * 0 + 512 + k.val = 512 + k.val; omega)) (upOf_at m c 0 d _ _ (by show 1024 * 0 + (512 + k.val) = 512 + k.val; omega))
  case a1 => refine Finset.sum_congr rfl fun k _ => congrArg₂ (· * ·) (duAt_A m c t r 1 k _ (by show 1024 * 1 + k.val = 1024 + k.val; omega)) (upOf_at m c 1 d _ _ (by show 1024 * 1 + k.val = 1024 + k.val; omega))
  case b1 => refine Finset.sum_congr rfl fun k _ => congrArg₂ (· * ·) (duAt_B m c t r 1 k _ (by show 1024 * 1 + 512 + k.val = 1536 + k.val; omega)) (upOf_at m c 1 d _ _ (by show 1024 * 1 + (512 + k.val) = 1536 + k.val; omega))
  case a2 => refine Finset.sum_congr rfl fun k _ => congrArg₂ (· * ·) (duAt_A m c t r 2 k _ (by show 1024 * 2 + k.val = 2048 + k.val; omega)) (upOf_at m c 2 d _ _ (by show 1024 * 2 + k.val = 2048 + k.val; omega))
  case b2 => refine Finset.sum_congr rfl fun k _ => congrArg₂ (· * ·) (duAt_B m c t r 2 k _ (by show 1024 * 2 + 512 + k.val = 2560 + k.val; omega)) (upOf_at m c 2 d _ _ (by show 1024 * 2 + (512 + k.val) = 2560 + k.val; omega))
  case a3 => refine Finset.sum_congr rfl fun k _ => congrArg₂ (· * ·) (duAt_A m c t r 3 k _ (by show 1024 * 3 + k.val = 3072 + k.val; omega)) (upOf_at m c 3 d _ _ (by show 1024 * 3 + k.val = 3072 + k.val; omega))
  case b3 => refine Finset.sum_congr rfl fun k _ => congrArg₂ (· * ·) (duAt_B m c t r 3 k _ (by show 1024 * 3 + 512 + k.val = 3584 + k.val; omega)) (upOf_at m c 3 d _ _ (by show 1024 * 3 + (512 + k.val) = 3584 + k.val; omega))
end
end Cert.Mlp
end
-- ==== Proof.Pieces.lean ====
/-
  Memory filled piece by piece with the parts of one array.
-/
module

public import Idealize.ShloMosaic.Lib.Pipeline.FrameBody
public import proofs.«01_k».proof.Proof.Reals

@[expose] public section

noncomputable section

namespace Cert.Reals

open Idealize.ShloMosaic

/-- A read of memory filled by pieces of one array is that part of the array. -/
theorem readCov_pieces {sig : RefSig} {κ : Kind} {sp : Space} {s : Shape} {e : EltTy} (v : View sig κ sp s e) (G : s.Idx → Elt Ideal e) (L : List (View.Piece (Elt Ideal) s e)) (r : Rect s)
    (h : ∀ p ∈ L, ∀ x : p.1.shape.Idx, p.2 x = G (p.1.emb x)) (hc : ∀ y, ∃ p ∈ L, y ∈ p.1.set) : v.readCov L r.toLoadRect = View.ld G r := by
  rw [View.readCov_eq_canon']
  funext j
  exact View.canon_apply_of_pieces G L h _ (hc _)

end Cert.Reals

end
-- ==== Proof.MlpBwdFirst.lean ====
/-
  The first grid point of the feed-forward block's backward pass, which copies the weights in.
-/
module

public import proofs.«01_k».proof.Proof.MlpBwdPoint
public import proofs.«01_k».proof.Proof.Pieces

@[expose] public section

set_option maxRecDepth 16384

noncomputable section

namespace Cert.Mlp

open Cert.MlpBwdIdeal Cert.MlpBwdIdeal.Gen Idealize.ShloMosaic Idealize.ShloMosaic.TcCoe Idealize.SL.Sem Cert.Reals

section
variable (m : (ℓ : Loc nD τ sig) → Buf (Elt Ideal) ℓ) (c : Dev nD)

/-- The eight pieces in which the up projection is copied in. -/
def upCopies (X : Vec Ideal S4x1024x1024 .bf16) : List (View.Piece (Elt Ideal) S4x1024x1024 .bf16) :=
  [⟨Rect.unit ![3, 0, 512] ![1, 1024, 512] inb_S4x1024x1024_S1x1024x512_3_0_512, ReadAs.same.apply (View.read (Elt Ideal) ((View.whole main_v13).slice (Rect.unit ![3, 0, 512] ![1, 1024, 512] inb_S4x1024x1024_S1x1024x512_3_0_512)) X)⟩,
      ⟨Rect.unit ![3, 0, 0] ![1, 1024, 512] inb_S4x1024x1024_S1x1024x512_3_0_0, ReadAs.same.apply (View.read (Elt Ideal) ((View.whole main_v13).slice (Rect.unit ![3, 0, 0] ![1, 1024, 512] inb_S4x1024x1024_S1x1024x512_3_0_0)) X)⟩,
      ⟨Rect.unit ![2, 0, 512] ![1, 1024, 512] inb_S4x1024x1024_S1x1024x512_2_0_512, ReadAs.same.apply (View.read (Elt Ideal) ((View.whole main_v13).slice (Rect.unit ![2, 0, 512] ![1, 1024, 512] inb_S4x1024x1024_S1x1024x512_2_0_512)) X)⟩,
      ⟨Rect.unit ![2, 0, 0] ![1, 1024, 512] inb_S4x1024x1024_S1x1024x512_2_0_0, ReadAs.same.apply (View.read (Elt Ideal) ((View.whole main_v13).slice (Rect.unit ![2, 0, 0] ![1, 1024, 512] inb_S4x1024x1024_S1x1024x512_2_0_0)) X)⟩,
      ⟨Rect.unit ![1, 0, 512] ![1, 1024, 512] inb_S4x1024x1024_S1x1024x512_1_0_512, ReadAs.same.apply (View.read (Elt Ideal) ((View.whole main_v13).slice (Rect.unit ![1, 0, 512] ![1, 1024, 512] inb_S4x1024x1024_S1x1024x512_1_0_512)) X)⟩,
      ⟨Rect.unit ![1, 0, 0] ![1, 1024, 512] inb_S4x1024x1024_S1x1024x512_1_0_0, ReadAs.same.apply (View.read (Elt Ideal) ((View.whole main_v13).slice (Rect.unit ![1, 0, 0] ![1, 1024, 512] inb_S4x1024x1024_S1x1024x512_1_0_0)) X)⟩,
      ⟨Rect.unit ![0, 0, 512] ![1, 1024, 512] inb_S4x1024x1024_S1x1024x512_0_0_512, ReadAs.same.apply (View.read (Elt Ideal) ((View.whole main_v13).slice (Rect.unit ![0, 0, 512] ![1, 1024, 512] inb_S4x1024x1024_S1x1024x512_0_0_512)) X)⟩,
      ⟨Rect.unit ![0, 0, 0] ![1, 1024, 512] inb_S4x1024x1024_S1x1024x512_0_0_0, ReadAs.same.apply (View.read (Elt Ideal) ((View.whole main_v13).slice (Rect.unit ![0, 0, 0] ![1, 1024, 512] inb_S4x1024x1024_S1x1024x512_0_0_0)) X)⟩]
/-- The four pieces in which each half of the down projection is copied in. -/
def downACopies (X : Vec Ideal S4x512x1024 .bf16) : List (View.Piece (Elt Ideal) S4x512x1024 .bf16) :=
  [⟨Rect.unit ![3, 0, 0] ![1, 512, 1024] inb_S4x512x1024_S1x512x1024_3_0_0, ReadAs.same.apply (View.read (Elt Ideal) ((View.whole main_v17).slice (Rect.unit ![3, 0, 0] ![1, 512, 1024] inb_S4x512x1024_S1x512x1024_3_0_0)) X)⟩,
      ⟨Rect.unit ![2, 0, 0] ![1, 512, 1024] inb_S4x512x1024_S1x512x1024_2_0_0, ReadAs.same.apply (View.read (Elt Ideal) ((View.whole main_v17).slice (Rect.unit ![2, 0, 0] ![1, 512, 1024] inb_S4x512x1024_S1x512x1024_2_0_0)) X)⟩,
      ⟨Rect.unit ![1, 0, 0] ![1, 512, 1024] inb_S4x512x1024_S1x512x1024_1_0_0, ReadAs.same.apply (View.read (Elt Ideal) ((View.whole main_v17).slice (Rect.unit ![1, 0, 0] ![1, 512, 1024] inb_S4x512x1024_S1x512x1024_1_0_0)) X)⟩,
      ⟨Rect.unit ![0, 0, 0] ![1, 512, 1024] inb_S4x512x1024_S1x512x1024_0_0_0, ReadAs.same.apply (View.read (Elt Ideal) ((View.whole main_v17).slice (Rect.unit ![0, 0, 0] ![1, 512, 1024] inb_S4x512x1024_S1x512x1024_0_0_0)) X)⟩]
def downBCopies (X : Vec Ideal S4x512x1024 .bf16) : List (View.Piece (Elt Ideal) S4x512x1024 .bf16) :=
  [⟨Rect.unit ![3, 0, 0] ![1, 512, 1024] inb_S4x512x1024_S1x512x1024_3_0_0, ReadAs.same.apply (View.read (Elt Ideal) ((View.whole main_v18).slice (Rect.unit ![3, 0, 0] ![1, 512, 1024] inb_S4x512x1024_S1x512x1024_3_0_0)) X)⟩,
      ⟨Rect.unit ![2, 0, 0] ![1, 512, 1024] inb_S4x512x1024_S1x512x1024_2_0_0, ReadAs.same.apply (View.read (Elt Ideal) ((View.whole main_v18).slice (Rect.unit ![2, 0, 0] ![1, 512, 1024] inb_S4x512x1024_S1x512x1024_2_0_0)) X)⟩,
      ⟨Rect.unit ![1, 0, 0] ![1, 512, 1024] inb_S4x512x1024_S1x512x1024_1_0_0, ReadAs.same.apply (View.read (Elt Ideal) ((View.whole main_v18).slice (Rect.unit ![1, 0, 0] ![1, 512, 1024] inb_S4x512x1024_S1x512x1024_1_0_0)) X)⟩,
      ⟨Rect.unit ![0, 0, 0] ![1, 512, 1024] inb_S4x512x1024_S1x512x1024_0_0_0, ReadAs.same.apply (View.read (Elt Ideal) ((View.whole main_v18).slice (Rect.unit ![0, 0, 0] ![1, 512, 1024] inb_S4x512x1024_S1x512x1024_0_0_0)) X)⟩]

theorem upCopies_cover (X : Vec Ideal S4x1024x1024 .bf16) (y : S4x1024x1024.Idx) : ∃ p ∈ upCopies X, y ∈ p.1.set := View.cover_of_tiledL (upCopies X) S1x1024x512.size (by sl_kernel_rfl) y
theorem downACopies_cover (X : Vec Ideal S4x512x1024 .bf16) (y : S4x512x1024.Idx) : ∃ p ∈ downACopies X, y ∈ p.1.set := View.cover_of_tiledL (downACopies X) S1x512x1024.size (by sl_kernel_rfl) y
theorem downBCopies_cover (X : Vec Ideal S4x512x1024 .bf16) (y : S4x512x1024.Idx) : ∃ p ∈ downBCopies X, y ∈ p.1.set := View.cover_of_tiledL (downBCopies X) S1x512x1024.size (by sl_kernel_rfl) y

theorem upCopies_eq (X : Vec Ideal S4x1024x1024 .bf16) : ∀ p ∈ upCopies X, ∀ x : p.1.shape.Idx, p.2 x = X (p.1.emb x) := by
  unfold upCopies
  simp only [List.forall_mem_cons]
  exact ⟨fun _ => rfl, fun _ => rfl, fun _ => rfl, fun _ => rfl, fun _ => rfl, fun _ => rfl, fun _ => rfl, fun _ => rfl, List.forall_mem_nil _⟩
theorem downACopies_eq (X : Vec Ideal S4x512x1024 .bf16) : ∀ p ∈ downACopies X, ∀ x : p.1.shape.Idx, p.2 x = X (p.1.emb x) := by
  unfold downACopies
  simp only [List.forall_mem_cons]
  exact ⟨fun _ => rfl, fun _ => rfl, fun _ => rfl, fun _ => rfl, List.forall_mem_nil _⟩
theorem downBCopies_eq (X : Vec Ideal S4x512x1024 .bf16) : ∀ p ∈ downBCopies X, ∀ x : p.1.shape.Idx, p.2 x = X (p.1.emb x) := by
  unfold downBCopies
  simp only [List.forall_mem_cons]
  exact ⟨fun _ => rfl, fun _ => rfl, fun _ => rfl, fun _ => rfl, List.forall_mem_nil _⟩

/-- What is read of the copied weights is that part of the weights. -/
theorem read_up (X : Vec Ideal S4x1024x1024 .bf16) (r : Rect S4x1024x1024) : (View.whole cc0_scratch1).readCov (upCopies X) r.toLoadRect = View.ld (Val := Elt Ideal) X r := readCov_pieces _ X _ r (upCopies_eq X) (upCopies_cover X)
theorem read_downA (X : Vec Ideal S4x512x1024 .bf16) (r : Rect S4x512x1024) : (View.whole cc0_scratch2).readCov (downACopies X) r.toLoadRect = View.ld (Val := Elt Ideal) X r := readCov_pieces _ X _ r (downACopies_eq X) (downACopies_cover X)
theorem read_downB (X : Vec Ideal S4x512x1024 .bf16) (r : Rect S4x512x1024) : (View.whole cc0_scratch3).readCov (downBCopies X) r.toLoadRect = View.ld (Val := Elt Ideal) X r := readCov_pieces _ X _ r (downBCopies_eq X) (downBCopies_cover X)

attribute [local irreducible] upOf downAOf downBOf duAt duOf

theorem keep1_A (t : Fin cfg0.N) (h0 : t.val % 17 = 0) (h1 : ¬(1 ≤ t.val % 17 ∧ t.val % 17 ≤ 15)) (h2 : ¬t.val % 17 = 16) (e : (V m c main_v13 : Vec Ideal S4x1024x1024 .bf16) = upOf m c) :
    (outsAt0 m c t.val t.isLt).2.2.2.2.1 = upOf m c := by
  rw [outsAt0_A m c t h0 h1 h2]
  dsimp only
  unfold sout0_A_1
  rw [View.read_writes_eq_canon _ _ _ (fun y => scover0_A_1 (y := y) ..)]
  funext y
  refine View.canon_apply_of_pieces (upOf m c) _ ?_ y (scover0_A_1 (y := y) ..)
  unfold kernelRun0_A
  dsimp only
  sl_unfold_words
  rw [e]
  exact upCopies_eq (upOf m c)

theorem keep2_A (t : Fin cfg0.N) (h0 : t.val % 17 = 0) (h1 : ¬(1 ≤ t.val % 17 ∧ t.val % 17 ≤ 15)) (h2 : ¬t.val % 17 = 16) (e : (V m c main_v17 : Vec Ideal S4x512x1024 .bf16) = downAOf m c) :
    (outsAt0 m c t.val t.isLt).2.2.2.2.2.1 = downAOf m c := by
  rw [outsAt0_A m c t h0 h1 h2]
  dsimp only
  unfold sout0_A_2
  rw [View.read_writes_eq_canon _ _ _ (fun y => scover0_A_2 (y := y) ..)]
  funext y
  refine View.canon_apply_of_pieces (downAOf m c) _ ?_ y (scover0_A_2 (y := y) ..)
  unfold kernelRun0_A
  dsimp only
  sl_unfold_words
  rw [e]
  exact downACopies_eq (downAOf m c)

theorem keep3_A (t : Fin cfg0.N) (h0 : t.val % 17 = 0) (h1 : ¬(1 ≤ t.val % 17 ∧ t.val % 17 ≤ 15)) (h2 : ¬t.val % 17 = 16) (e : (V m c main_v18 : Vec Ideal S4x512x1024 .bf16) = downBOf m c) :
    (outsAt0 m c t.val t.isLt).2.2.2.2.2.2 = downBOf m c := by
  rw [outsAt0_A m c t h0 h1 h2]
  dsimp only
  unfold sout0_A_3
  rw [View.read_writes_eq_canon _ _ _ (fun y => scover0_A_3 (y := y) ..)]
  funext y
  refine View.canon_apply_of_pieces (downBOf m c) _ ?_ y (scover0_A_3 (y := y) ..)
  unfold kernelRun0_A
  dsimp only
  sl_unfold_words
  rw [e]
  exact downBCopies_eq (downBOf m c)

set_option maxHeartbeats 400000 in
theorem du_A (t : Fin cfg0.N) (h0 : t.val % 17 = 0) (h1 : ¬(1 ≤ t.val % 17 ∧ t.val % 17 ≤ 15)) (h2 : ¬t.val % 17 = 16)
    (eu : (V m c main_v13 : Vec Ideal S4x1024x1024 .bf16) = upOf m c) (ea : (V m c main_v17 : Vec Ideal S4x512x1024 .bf16) = downAOf m c) (eb : (V m c main_v18 : Vec Ideal S4x512x1024 .bf16) = downBOf m c) :
    (outsAt0 m c t.val t.isLt).1 = duOf m c t := by
  rw [outsAt0_A m c t h0 h1 h2]
  dsimp only
  unfold out0_A_5
  rw [View.read_writes_eq_canon _ _ _ (fun y => cover0_A_5 (y := y) ..)]
  funext y
  refine View.canon_apply_of_pieces (duOf m c t) _ ?_ y (cover0_A_5 (y := y) ..)
  unfold kernelRun0_A
  dsimp only
  sl_unfold_words
  simp only [View.readAt_eq_ld, (hs0_0 t).read_unread, (hs0_1 t).read_unread, View.ld_unit_zero (S := S256x1024) hz]
  rw [ea, eb]
  have ra := read_downA (downAOf m c)
  have rb := read_downB (downBOf m c)
  unfold downACopies at ra
  unfold downBCopies at rb
  simp only [ra, rb]
  simp only [List.forall_mem_cons]
  refine ⟨?b3, ?a3, ?b2, ?a2, ?b1, ?a1, ?b0, ?a0, List.forall_mem_nil _⟩
  all_goals
    intro x
    obtain ⟨r, k, rfl⟩ := exists_ix2 (n0 := 256) (n1 := 512) x
    pointwise [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21]
    refine Eq.trans ?_ (duOf_tile m c t _ _ r k (by omega)).symm
  case a0 => exact (duAt_A m c t r 0 k ⟨k.val, by omega⟩ (by show 1024 * 0 + k.val = k.val; omega)).trans (congrArg (duAt m c t r) (Fin.ext (Nat.zero_add k.val).symm))
  case b0 => exact duAt_B m c t r 0 k _ (by show 1024 * 0 + 512 + k.val = 512 + k.val; omega)
  case a1 => exact duAt_A m c t r 1 k _ (by show 1024 * 1 + k.val = 1024 + k.val; omega)
  case b1 => exact duAt_B m c t r 1 k _ (by show 1024 * 1 + 512 + k.val = 1536 + k.val; omega)
  case a2 => exact duAt_A m c t r 2 k _ (by show 1024 * 2 + k.val = 2048 + k.val; omega)
  case b2 => exact duAt_B m c t r 2 k _ (by show 1024 * 2 + 512 + k.val = 2560 + k.val; omega)
  case a3 => exact duAt_A m c t r 3 k _ (by show 1024 * 3 + k.val = 3072 + k.val; omega)
  case b3 => exact duAt_B m c t r 3 k _ (by show 1024 * 3 + 512 + k.val = 3584 + k.val; omega)

set_option maxHeartbeats 400000 in
theorem acc_A (t : Fin cfg0.N) (h0 : t.val % 17 = 0) (h1 : ¬(1 ≤ t.val % 17 ∧ t.val % 17 ≤ 15)) (h2 : ¬t.val % 17 = 16)
    (eu : (V m c main_v13 : Vec Ideal S4x1024x1024 .bf16) = upOf m c) (ea : (V m c main_v17 : Vec Ideal S4x512x1024 .bf16) = downAOf m c) (eb : (V m c main_v18 : Vec Ideal S4x512x1024 .bf16) = downBOf m c) (r : Fin 256) (d : Fin 1024) :
    (outsAt0 m c t.val t.isLt).2.2.2.1 (ix2 r d) = ∑ k, duAt m c t r k * argWu m c (ix3 0 d k) := by
  rw [outsAt0_A m c t h0 h1 h2]
  dsimp only
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 t).read_unread, (hs0_1 t).read_unread, View.ld_unit_zero (S := S256x1024) hz]
  rw [eu, ea, eb]
  have ru := read_up (upOf m c)
  have ra := read_downA (downAOf m c)
  have rb := read_downB (downBOf m c)
  unfold upCopies at ru
  unfold downACopies at ra
  unfold downBCopies at rb
  simp only [ru, ra, rb]
  pointwise [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21]
  rw [← sum_tiles]
  refine congrArg₂ (· + ·) (congrArg₂ (· + ·) (congrArg₂ (· + ·) (congrArg₂ (· + ·) (congrArg₂ (· + ·) (congrArg₂ (· + ·) (congrArg₂ (· + ·) ?a0 ?b0) ?a1) ?b1) ?a2) ?b2) ?a3) ?b3
  case a0 => refine Finset.sum_congr rfl fun k _ => congrArg₂ (· * ·) (duAt_A m c t r 0 k _ (by show 1024 * 0 + k.val = k.val; omega)) (upOf_at m c 0 d _ _ (by show 1024 * 0 + k.val = k.val; omega))
  case b0 => refine Finset.sum_congr rfl fun k _ => congrArg₂ (· * ·) (duAt_B m c t r 0 k _ (by show 1024 * 0 + 512 + k.val = 512 + k.val; omega)) (upOf_at m c 0 d _ _ (by show 1024 * 0 + (512 + k.val) = 512 + k.val; omega))
  case a1 => refine Finset.sum_congr rfl fun k _ => congrArg₂ (· * ·) (duAt_A m c t r 1 k _ (by show 1024 * 1 + k.val = 1024 + k.val; omega)) (upOf_at m c 1 d _ _ (by show 1024 * 1 + k.val = 1024 + k.val; omega))
  case b1 => refine Finset.sum_congr rfl fun k _ => congrArg₂ (· * ·) (duAt_B m c t r 1 k _ (by show 1024 * 1 + 512 + k.val = 1536 + k.val; omega)) (upOf_at m c 1 d _ _ (by show 1024 * 1 + (512 + k.val) = 1536 + k.val; omega))
  case a2 => refine Finset.sum_congr rfl fun k _ => congrArg₂ (· * ·) (duAt_A m c t r 2 k _ (by show 1024 * 2 + k.val = 2048 + k.val; omega)) (upOf_at m c 2 d _ _ (by show 1024 * 2 + k.val = 2048 + k.val; omega))
  case b2 => refine Finset.sum_congr rfl fun k _ => congrArg₂ (· * ·) (duAt_B m c t r 2 k _ (by show 1024 * 2 + 512 + k.val = 2560 + k.val; omega)) (upOf_at m c 2 d _ _ (by show 1024 * 2 + (512 + k.val) = 2560 + k.val; omega))
  case a3 => refine Finset.sum_congr rfl fun k _ => congrArg₂ (· * ·) (duAt_A m c t r 3 k _ (by show 1024 * 3 + k.val = 3072 + k.val; omega)) (upOf_at m c 3 d _ _ (by show 1024 * 3 + k.val = 3072 + k.val; omega))
  case b3 => refine Finset.sum_congr rfl fun k _ => congrArg₂ (· * ·) (duAt_B m c t r 3 k _ (by show 1024 * 3 + 512 + k.val = 3584 + k.val; omega)) (upOf_at m c 3 d _ _ (by show 1024 * 3 + (512 + k.val) = 3584 + k.val; omega))

set_option maxHeartbeats 400000 in
theorem du_C (t : Fin cfg0.N) (h0 : ¬t.val % 17 = 0) (h1 : ¬(1 ≤ t.val % 17 ∧ t.val % 17 ≤ 15)) (h2 : t.val % 17 = 16)
    (e1 : (outsAt0 m c (t.val - 1) (by have := t.isLt; omega)).2.2.2.2.1 = upOf m c)
    (e2 : (outsAt0 m c (t.val - 1) (by have := t.isLt; omega)).2.2.2.2.2.1 = downAOf m c)
    (e3 : (outsAt0 m c (t.val - 1) (by have := t.isLt; omega)).2.2.2.2.2.2 = downBOf m c) :
    (outsAt0 m c t.val t.isLt).1 = duOf m c t := by
  rw [outsAt0_C m c t h0 h1 h2]
  dsimp only
  unfold out0_C_5
  rw [View.read_writes_eq_canon _ _ _ (fun y => cover0_C_5 (y := y) ..)]
  funext y
  refine View.canon_apply_of_pieces (duOf m c t) _ ?_ y (cover0_C_5 (y := y) ..)
  unfold kernelRun0_C
  dsimp only
  sl_unfold_words
  simp only [View.readAt_eq_ld, (hs0_0 t).read_unread, (hs0_1 t).read_unread, View.ld_unit_zero (S := S256x1024) hz]
  rw [e2, e3]
  simp only [read_sc2, read_sc3]
  simp only [List.forall_mem_cons]
  refine ⟨?b3, ?a3, ?b2, ?a2, ?b1, ?a1, ?b0, ?a0, List.forall_mem_nil _⟩
  all_goals
    intro x
    obtain ⟨r, k, rfl⟩ := exists_ix2 (n0 := 256) (n1 := 512) x
    pointwise [k0_pay44, k0_pay45, k0_pay46, k0_pay47, k0_pay48, k0_pay49, k0_pay50, k0_pay51, k0_pay52, k0_pay53]
    refine Eq.trans ?_ (duOf_tile m c t _ _ r k (by omega)).symm
  case a0 => exact (duAt_A m c t r 0 k ⟨k.val, by omega⟩ (by show 1024 * 0 + k.val = k.val; omega)).trans (congrArg (duAt m c t r) (Fin.ext (Nat.zero_add k.val).symm))
  case b0 => exact duAt_B m c t r 0 k _ (by show 1024 * 0 + 512 + k.val = 512 + k.val; omega)
  case a1 => exact duAt_A m c t r 1 k _ (by show 1024 * 1 + k.val = 1024 + k.val; omega)
  case b1 => exact duAt_B m c t r 1 k _ (by show 1024 * 1 + 512 + k.val = 1536 + k.val; omega)
  case a2 => exact duAt_A m c t r 2 k _ (by show 1024 * 2 + k.val = 2048 + k.val; omega)
  case b2 => exact duAt_B m c t r 2 k _ (by show 1024 * 2 + 512 + k.val = 2560 + k.val; omega)
  case a3 => exact duAt_A m c t r 3 k _ (by show 1024 * 3 + k.val = 3072 + k.val; omega)
  case b3 => exact duAt_B m c t r 3 k _ (by show 1024 * 3 + 512 + k.val = 3584 + k.val; omega)

end
end Cert.Mlp
end
-- ==== Proof.MlpBwdLag.lean ====
/-
  One grid point of the feed-forward block's backward pass: what it makes of the block before.
-/
module

public import proofs.«01_k».proof.Proof.MlpBwdPoint

@[expose] public section

set_option maxRecDepth 16384

noncomputable section

namespace Cert.Mlp

open Cert.MlpBwdIdeal Cert.MlpBwdIdeal.Gen Idealize.ShloMosaic Idealize.ShloMosaic.TcCoe Idealize.SL.Sem Cert.Reals

section
variable (m : (ℓ : Loc nD τ sig) → Buf (Elt Ideal) ℓ) (c : Dev nD)

abbrev xBlk (t : Fin cfg0.N) : Vec Ideal S256x1024 .f32 := iblk m c 2 t
abbrev dyBlk (t : Fin cfg0.N) : Vec Ideal S256x1024 .f32 := iblk m c 3 t
abbrev nwBlk (t : Fin cfg0.N) : Vec Ideal S1x1024 .f32 := iblk m c 4 t

/-- The residual stream's gradient of the block before, from the normed rows' gradient the point before left. -/
def gxOf (t : Fin cfg0.N) (acc : Vec Ideal S256x1024 .f32) : Vec Ideal S256x1024 .f32 := k0_pay42 acc (xBlk m c t) (nwBlk m c t) (dyBlk m c t)
/-- The norm weight's gradient summed up to the block before. -/
def gwOf (t : Fin cfg0.N) (acc : Vec Ideal S256x1024 .f32) (g : Vec Ideal S1x1024 .f32) : Vec Ideal S1x1024 .f32 := k0_pay43 acc (xBlk m c t) g

theorem gx_B (t : Fin cfg0.N) (h0 : ¬t.val % 17 = 0) (h1 : 1 ≤ t.val % 17 ∧ t.val % 17 ≤ 15) (h2 : ¬t.val % 17 = 16) :
    (outsAt0 m c t.val t.isLt).2.1 = gxOf m c t (outsAt0 m c (t.val - 1) (by have := t.isLt; omega)).2.2.2.1 := by
  rw [outsAt0_B m c t h0 h1 h2]
  dsimp only
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_2 t).read_unread, (hs0_3 t).read_unread, (hs0_4 t).read_unread, (Memref.isWhole_whole cc0_scratch0).read_unread, View.ld_unit_zero (S := S256x1024) hz, View.ld_unit_zero (S := S1x1024) hz]
  rfl

theorem gw_B (t : Fin cfg0.N) (h0 : ¬t.val % 17 = 0) (h1 : 1 ≤ t.val % 17 ∧ t.val % 17 ≤ 15) (h2 : ¬t.val % 17 = 16) :
    (outsAt0 m c t.val t.isLt).2.2.1 = gwOf m c t (outsAt0 m c (t.val - 1) (by have := t.isLt; omega)).2.2.2.1 (outsAt0 m c (t.val - 1) (by have := t.isLt; omega)).2.2.1 := by
  rw [outsAt0_B m c t h0 h1 h2]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_2 t).read_unread, (hs0_7 t).read_unread, (Memref.isWhole_whole cc0_scratch0).read_unread, View.ld_unit_zero (S := S256x1024) hz, View.ld_unit_zero (S := S1x1024) hz]
  rfl

theorem gx_C (t : Fin cfg0.N) (h0 : ¬t.val % 17 = 0) (h1 : ¬(1 ≤ t.val % 17 ∧ t.val % 17 ≤ 15)) (h2 : t.val % 17 = 16) :
    (outsAt0 m c t.val t.isLt).2.1 = gxOf m c t (outsAt0 m c (t.val - 1) (by have := t.isLt; omega)).2.2.2.1 := by
  rw [outsAt0_C m c t h0 h1 h2]
  dsimp only
  unfold out0_C_6
  rw [View.read_writes_eq_canon _ _ _ (fun y => cover0_C_6 (y := y) ..)]
  unfold kernelRun0_C
  dsimp only
  sl_unfold_words
  rw [View.canon_unit_zero hz]
  simp only [View.readAt_eq_ld, (hs0_2 t).read_unread, (hs0_3 t).read_unread, (hs0_4 t).read_unread, (Memref.isWhole_whole cc0_scratch0).read_unread, View.ld_unit_zero (S := S256x1024) hz, View.ld_unit_zero (S := S1x1024) hz]
  rfl

theorem gw_C (t : Fin cfg0.N) (h0 : ¬t.val % 17 = 0) (h1 : ¬(1 ≤ t.val % 17 ∧ t.val % 17 ≤ 15)) (h2 : t.val % 17 = 16) :
    (outsAt0 m c t.val t.isLt).2.2.1 = gwOf m c t (outsAt0 m c (t.val - 1) (by have := t.isLt; omega)).2.2.2.1 (outsAt0 m c (t.val - 1) (by have := t.isLt; omega)).2.2.1 := by
  rw [outsAt0_C m c t h0 h1 h2]
  dsimp only
  unfold out0_C_7
  rw [View.read_writes_eq_canon _ _ _ (fun y => cover0_C_7 (y := y) ..)]
  unfold kernelRun0_C
  dsimp only
  sl_unfold_words
  rw [View.canon_unit_zero hz]
  simp only [View.readAt_eq_ld, (hs0_2 t).read_unread, (hs0_7 t).read_unread, (Memref.isWhole_whole cc0_scratch0).read_unread, View.ld_unit_zero (S := S256x1024) hz, View.ld_unit_zero (S := S1x1024) hz]
  rfl

theorem gw_A (t : Fin cfg0.N) (h0 : t.val % 17 = 0) (h1 : ¬(1 ≤ t.val % 17 ∧ t.val % 17 ≤ 15)) (h2 : ¬t.val % 17 = 16) :
    (outsAt0 m c t.val t.isLt).2.2.1 = k0_pay4 (F := Ideal) := by
  rw [outsAt0_A m c t h0 h1 h2]
  dsimp only
  unfold out0_A_7
  rw [View.read_writes_eq_canon _ _ _ (fun y => cover0_A_7 (y := y) ..)]
  unfold kernelRun0_A
  dsimp only
  sl_unfold_words
  rw [View.canon_unit_zero hz]

/-- The weights once copied in stay where they are. -/
theorem keep_BC (t : Fin cfg0.N) (h0 : ¬t.val % 17 = 0) :
    (outsAt0 m c t.val t.isLt).2.2.2.2 = (outsAt0 m c (t.val - 1) (by have := t.isLt; omega)).2.2.2.2 := by
  have hN : cfg0.N = 17 := N_0
  have ht := t.isLt
  by_cases h1 : 1 ≤ t.val % 17 ∧ t.val % 17 ≤ 15
  · rw [outsAt0_B m c t h0 h1 (by omega)]; rfl
  · rw [outsAt0_C m c t h0 h1 (by omega)]; rfl
end
end Cert.Mlp
end
-- ==== Proof.MlpBwdBlocks.lean ====
/-
  The blocks of the feed-forward block's backward pass as parts of its arguments.
-/
module

public import proofs.«01_k».proof.Proof.MlpBwdLag

@[expose] public section

set_option maxRecDepth 16384

noncomputable section

namespace Cert.Mlp

open Cert.MlpBwdIdeal Cert.MlpBwdIdeal.Gen Idealize.ShloMosaic Idealize.ShloMosaic.TcCoe Idealize.SL.Sem Cert.Reals

/-- One row's squared rectified units, as the forward lines compute them. -/
theorem units_real (x nw : Fin 1024 → ℝ) (WU : Fin 1024 → Fin 4096 → ℝ) (k : Fin 4096) :
    max (∑ d, (x d : EReal) * Ideal.rsqrt (Ideal.div (∑ e, (x e : EReal) * (x e : EReal)) (Ideal.ofBits .f32 0x44800000#32) + Ideal.ofBits .f32 0x358637BD#32) * (nw d : EReal) * (WU d k : EReal)) 0
      * max (∑ d, (x d : EReal) * Ideal.rsqrt (Ideal.div (∑ e, (x e : EReal) * (x e : EReal)) (Ideal.ofBits .f32 0x44800000#32) + Ideal.ofBits .f32 0x358637BD#32) * (nw d : EReal) * (WU d k : EReal)) 0
    = ((max (unit x nw WU k) 0 * max (unit x nw WU k) 0 : ℝ) : EReal) := by
  have hr := rsqrt_real (meanSq_pos x)
  unfold meanSq at hr
  simp only [ofBits_1024, ofBits_eps, ← EReal.coe_mul, ← coe_sum, div_real (show (1024:ℝ) ≠ 0 by norm_num), ← EReal.coe_add]
  rw [hr]
  simp only [← EReal.coe_mul, ← coe_sum, max_zero_real]
  rfl

theorem sqrt_sq_real {y : ℝ} (h : 0 ≤ y) : Ideal.sqrt ((y * y : ℝ) : EReal) = ((y : ℝ) : EReal) := by
  show (if y * y < 0 then ⊥ else ((Real.sqrt (y * y) : ℝ) : EReal)) = _
  rw [if_neg (not_lt.mpr (mul_self_nonneg y)), Real.sqrt_mul_self h]

section
variable (m : (ℓ : Loc nD τ sig) → Buf (Elt Ideal) ℓ) (c : Dev nD)

/-- The row of the whole arrays that is row `r` of the block point `t` computes. -/
def leadRow (t : Fin cfg0.N) (r : Fin 256) : Fin 4096 := ⟨256 * min t.val 15 + r.val, by omega⟩
/-- The row of the whole arrays that is row `r` of the block before, which point `t` finishes. -/
def lagRow (t : Fin cfg0.N) (r : Fin 256) : Fin 4096 := ⟨256 * (t.val - 1) + r.val, by have := t.isLt; have : cfg0.N = 17 := N_0; omega⟩

/-- The batch of a row, and its position in the sequence. -/
def bat (i : Fin 4096) : Fin 2 := ⟨i.val / 2048, by omega⟩
def pos (i : Fin 4096) : Fin 2048 := ⟨i.val % 2048, by omega⟩

theorem index_lead : ∀ t : Fin grid0.N, (win0_0.index t 0 = min t.val 15 ∧ win0_0.index t 1 = 0) ∧ (win0_1.index t 0 = min t.val 15 ∧ win0_1.index t 1 = 0)
    ∧ (win0_5.index t 0 = min t.val 15 ∧ win0_5.index t 1 = 0) := by decide +kernel
theorem index_lag : ∀ t : Fin grid0.N, (win0_2.index t 0 = t.val - 1 ∧ win0_2.index t 1 = 0) ∧ (win0_3.index t 0 = t.val - 1 ∧ win0_3.index t 1 = 0)
    ∧ (win0_6.index t 0 = t.val - 1 ∧ win0_6.index t 1 = 0) := by decide +kernel
theorem index_whole : ∀ t : Fin grid0.N, (win0_4.index t 0 = 0 ∧ win0_4.index t 1 = 0) ∧ (win0_7.index t 0 = 0 ∧ win0_7.index t 1 = 0) := by decide +kernel

theorem blk_0 (t : Fin cfg0.N) (r : Fin 256) (k : Fin 1024) : (iblk m c 0 t : Vec Ideal S256x1024 .bf16) (ix2 r k) = argDd m c (ix3 (bat (leadRow t r)) (pos (leadRow t r)) k) := by
  have e : (iblk m c 0 t : Vec Ideal S256x1024 .bf16) (ix2 r k) = (V m c main_v38 : Vec Ideal S4096x1024 .bf16) (ix2 (leadRow t r) k) := by
    unfold iblk
    rw [View.read_apply]
    refine congrArg (V m c main_v38 : Vec Ideal S4096x1024 .bf16) (funext fun a => Fin.ext ?_)
    match a with
    | ⟨0, _⟩ => show win0_0.index t 0 * 256 + 1 * r.val = (leadRow t r).val; rw [((index_lead t).1).1]; unfold leadRow; dsimp only; omega
    | ⟨1, _⟩ => show win0_0.index t 1 * 1024 + 1 * k.val = k.val; rw [((index_lead t).1).2]; omega
  rw [e]
  simp only [V]
  after_reads_at
  rfl

theorem blk_2 (t : Fin cfg0.N) (r : Fin 256) (k : Fin 1024) : (iblk m c 2 t : Vec Ideal S256x1024 .f32) (ix2 r k) = argX m c (ix3 (bat (lagRow t r)) (pos (lagRow t r)) k) := by
  have e : (iblk m c 2 t : Vec Ideal S256x1024 .f32) (ix2 r k) = (V m c main_v41 : Vec Ideal S4096x1024 .f32) (ix2 (lagRow t r) k) := by
    unfold iblk
    rw [View.read_apply]
    refine congrArg (V m c main_v41 : Vec Ideal S4096x1024 .f32) (funext fun a => Fin.ext ?_)
    match a with
    | ⟨0, _⟩ => show win0_2.index t 0 * 256 + 1 * r.val = (lagRow t r).val; rw [((index_lag t).1).1]; unfold lagRow; dsimp only; omega
    | ⟨1, _⟩ => show win0_2.index t 1 * 1024 + 1 * k.val = k.val; rw [((index_lag t).1).2]; omega
  rw [e]
  simp only [V]
  after_reads_at
  rfl

theorem blk_3 (t : Fin cfg0.N) (r : Fin 256) (k : Fin 1024) : (iblk m c 3 t : Vec Ideal S256x1024 .f32) (ix2 r k) = argDy m c (ix3 (bat (lagRow t r)) (pos (lagRow t r)) k) := by
  have e : (iblk m c 3 t : Vec Ideal S256x1024 .f32) (ix2 r k) = (V m c main_v42 : Vec Ideal S4096x1024 .f32) (ix2 (lagRow t r) k) := by
    unfold iblk
    rw [View.read_apply]
    refine congrArg (V m c main_v42 : Vec Ideal S4096x1024 .f32) (funext fun a => Fin.ext ?_)
    match a with
    | ⟨0, _⟩ => show win0_3.index t 0 * 256 + 1 * r.val = (lagRow t r).val; rw [((index_lag t).2.1).1]; unfold lagRow; dsimp only; omega
    | ⟨1, _⟩ => show win0_3.index t 1 * 1024 + 1 * k.val = k.val; rw [((index_lag t).2.1).2]; omega
  rw [e]
  simp only [V]
  after_reads_at
  rfl

theorem blk_4 (t : Fin cfg0.N) (r : Fin 1) (k : Fin 1024) : (iblk m c 4 t : Vec Ideal S1x1024 .f32) (ix2 r k) = argNw m c (ix2 r k) := by
  have e : (iblk m c 4 t : Vec Ideal S1x1024 .f32) (ix2 r k) = (V m c main_arg1 : Vec Ideal S1x1024 .f32) (ix2 r k) := by
    unfold iblk
    rw [View.read_apply]
    refine congrArg (V m c main_arg1 : Vec Ideal S1x1024 .f32) (funext fun a => Fin.ext ?_)
    match a with
    | ⟨0, _⟩ => show win0_4.index t 0 * 1 + 1 * r.val = r.val; rw [(index_whole t).1.1]; omega
    | ⟨1, _⟩ => show win0_4.index t 1 * 1024 + 1 * k.val = k.val; rw [(index_whole t).1.2]; omega
  rw [e, V_main_arg1]

theorem up_copied : (V m c main_v13 : Vec Ideal S4x1024x1024 .bf16) = upOf m c := by
  refine funext fun (i : S4x1024x1024.Idx) => ?_
  obtain ⟨a, d, k, rfl⟩ := exists_ix3 i
  simp only [V]
  after_reads_at
  have ha := a.isLt
  split_ifs <;> after_reads_at
  all_goals
    refine Eq.trans ?_ (upOf_at m c a d k ⟨1024 * a.val + k.val, by omega⟩ rfl).symm
    exact congrArg (fun j => argWu m c (ix3 0 d j)) (Fin.ext (by dsimp only; omega))

theorem downA_copied : (V m c main_v17 : Vec Ideal S4x512x1024 .bf16) = downAOf m c := by
  refine funext fun (i : S4x512x1024.Idx) => ?_
  obtain ⟨a, d, k, rfl⟩ := exists_ix3 i
  simp only [V]
  after_reads_at
  exact congrArg (fun j => argWd m c (ix3 0 j k)) (Fin.ext (by show a.val * 1024 + d.val = 1024 * a.val + d.val; omega))

theorem downB_copied : (V m c main_v18 : Vec Ideal S4x512x1024 .bf16) = downBOf m c := by
  refine funext fun (i : S4x512x1024.Idx) => ?_
  obtain ⟨a, d, k, rfl⟩ := exists_ix3 i
  simp only [V]
  after_reads_at
  exact congrArg (fun j => argWd m c (ix3 0 j k)) (Fin.ext (by show a.val * 1024 + (512 + d.val) = 1024 * a.val + 512 + d.val; omega))

variable (X : Fin 2 → Fin 2048 → Fin 1024 → ℝ) (NW : Fin 1024 → ℝ) (WU : Fin 1024 → Fin 4096 → ℝ) (WD : Fin 4096 → Fin 1024 → ℝ) (DD : Fin 2 → Fin 2048 → Fin 1024 → ℝ)
  (hx : ∀ b s d, argX m c (ix3 b s d) = ((X b s d : ℝ) : EReal)) (hnw : ∀ d, argNw m c (ix2 0 d) = ((NW d : ℝ) : EReal))
  (hwu : ∀ d k, argWu m c (ix3 0 d k) = ((WU d k : ℝ) : EReal)) (hwd : ∀ k d, argWd m c (ix3 0 k d) = ((WD k d : ℝ) : EReal))
  (hdd : ∀ b s d, argDd m c (ix3 b s d) = ((DD b s d : ℝ) : EReal))

include hx hnw hwu in
/-- The squared rectified units the forward pass saved. -/
theorem blk_1 (t : Fin cfg0.N) (r : Fin 256) (k : Fin 4096) : (iblk m c 1 t : Vec Ideal S256x4096 .bf16) (ix2 r k) = ((max (unit (X (bat (leadRow t r)) (pos (leadRow t r))) NW WU k) 0 * max (unit (X (bat (leadRow t r)) (pos (leadRow t r))) NW WU k) 0 : ℝ) : EReal) := by
  have e : (iblk m c 1 t : Vec Ideal S256x4096 .bf16) (ix2 r k) = (V m c main_v40 : Vec Ideal S4096x4096 .bf16) (ix2 (leadRow t r) k) := by
    unfold iblk
    rw [View.read_apply]
    refine congrArg (V m c main_v40 : Vec Ideal S4096x4096 .bf16) (funext fun a => Fin.ext ?_)
    match a with
    | ⟨0, _⟩ => show win0_1.index t 0 * 256 + 1 * r.val = (leadRow t r).val; rw [((index_lead t).2.1).1]; unfold leadRow; dsimp only; omega
    | ⟨1, _⟩ => show win0_1.index t 1 * 4096 + 1 * k.val = k.val; rw [((index_lead t).2.1).2]; omega
  rw [e]
  have hx' : ∀ b s d, m (c, Proc.tc.devRef main_arg0) (ix3 b s d) = ((X b s d : ℝ) : EReal) := hx
  have hnw' : ∀ d, m (c, Proc.tc.devRef main_arg1) (ix2 0 d) = ((NW d : ℝ) : EReal) := hnw
  have hwu' : ∀ d k, m (c, Proc.tc.devRef main_arg2) (ix3 0 d k) = ((WU d k : ℝ) : EReal) := hwu
  simp only [V]
  after_reads_at
  simp only [hx', hnw', hwu']
  exact units_real (X (bat (leadRow t r)) (pos (leadRow t r))) NW WU k

include hx hnw hwu hwd hdd in
/-- The block of the hidden units' gradient. -/
theorem duAt_real (t : Fin cfg0.N) (r : Fin 256) (k : Fin 4096) :
    duAt m c t r k = ((unitGrad (X (bat (leadRow t r)) (pos (leadRow t r))) NW WU WD (DD (bat (leadRow t r)) (pos (leadRow t r))) k : ℝ) : EReal) := by
  unfold duAt
  rw [show fBlk m c t (ix2 r k) = _ from blk_1 m c X NW WU hx hnw hwu t r k]
  simp only [show ∀ e, ddBlk m c t (ix2 r e) = _ from fun e => blk_0 m c t r e, hdd, hwd, ofBits_two, ← EReal.coe_mul, ← coe_sum]
  rw [sqrt_sq_real (le_max_right _ _), ← EReal.coe_mul, ← EReal.coe_mul]
  rfl
end
end Cert.Mlp
end
-- ==== Proof.MlpBwdValue.lean ====
/-
  What the feed-forward block's backward pass leaves in its three results, over the reals: the hidden units' gradient,
  the residual stream's gradient, and the norm weight's gradient summed over the grid's points.
-/
module

public import proofs.«01_k».proof.Proof.MlpBwdFirst
public import proofs.«01_k».proof.Proof.MlpBwdBlocks

@[expose] public section

set_option maxRecDepth 16384

noncomputable section

namespace Cert.Mlp

open Cert.MlpBwdIdeal Cert.MlpBwdIdeal.Gen Cert.MlpBwdIdeal.Value Idealize.ShloMosaic Idealize.ShloMosaic.TcCoe Idealize.SL.Sem Cert.Reals

section
variable (m : (ℓ : Loc nD τ sig) → Buf (Elt Ideal) ℓ) (c : Dev nD)

attribute [local irreducible] upOf downAOf downBOf duAt duOf gxOf gwOf

/-- After every point the scratch memory holds the weights. -/
theorem kept (n : ℕ) (hn : n < cfg0.N) : (outsAt0 m c n hn).2.2.2.2.1 = upOf m c ∧ (outsAt0 m c n hn).2.2.2.2.2.1 = downAOf m c
    ∧ (outsAt0 m c n hn).2.2.2.2.2.2 = downBOf m c := by
  have hN : cfg0.N = 17 := N_0
  induction n with
  | zero => exact ⟨keep1_A m c ⟨0, hn⟩ rfl (by dsimp only; omega) (by dsimp only; omega) (up_copied m c), keep2_A m c ⟨0, hn⟩ rfl (by dsimp only; omega) (by dsimp only; omega) (downA_copied m c),
      keep3_A m c ⟨0, hn⟩ rfl (by dsimp only; omega) (by dsimp only; omega) (downB_copied m c)⟩
  | succ n ih =>
    have e := keep_BC m c ⟨n + 1, hn⟩ (by dsimp only; omega)
    have h := ih (by omega)
    dsimp only at e
    rw [e]
    exact h

theorem du_point (t : Fin cfg0.N) : (outsAt0 m c t.val t.isLt).1 = duOf m c t := by
  have hN : cfg0.N = 17 := N_0
  have ht := t.isLt
  by_cases h0 : t.val % 17 = 0
  · exact du_A m c t h0 (by omega) (by omega) (up_copied m c) (downA_copied m c) (downB_copied m c)
  · obtain ⟨e1, e2, e3⟩ := kept m c (t.val - 1) (by omega)
    by_cases h1 : 1 ≤ t.val % 17 ∧ t.val % 17 ≤ 15
    · exact du_B m c t h0 h1 (by omega) e1 e2 e3
    · exact du_C m c t h0 h1 (by omega) e1 e2 e3

theorem acc_point (t : Fin cfg0.N) (h : t.val ≤ 15) (r : Fin 256) (d : Fin 1024) :
    (outsAt0 m c t.val t.isLt).2.2.2.1 (ix2 r d) = ∑ k, duAt m c t r k * argWu m c (ix3 0 d k) := by
  have hN : cfg0.N = 17 := N_0
  have ht := t.isLt
  by_cases h0 : t.val % 17 = 0
  · exact acc_A m c t h0 (by omega) (by omega) (up_copied m c) (downA_copied m c) (downB_copied m c) r d
  · obtain ⟨e1, e2, e3⟩ := kept m c (t.val - 1) (by omega)
    exact acc_B m c t h0 (by omega) (by omega) e1 e2 e3 r d

theorem gx_point (t : Fin cfg0.N) (h : t.val ≠ 0) : (outsAt0 m c t.val t.isLt).2.1 = gxOf m c t (outsAt0 m c (t.val - 1) (by have := t.isLt; omega)).2.2.2.1 := by
  have hN : cfg0.N = 17 := N_0
  have ht := t.isLt
  by_cases h1 : 1 ≤ t.val % 17 ∧ t.val % 17 ≤ 15
  · exact gx_B m c t (by omega) h1 (by omega)
  · exact gx_C m c t (by omega) h1 (by omega)

theorem gw_point (t : Fin cfg0.N) (h : t.val ≠ 0) : (outsAt0 m c t.val t.isLt).2.2.1 = gwOf m c t (outsAt0 m c (t.val - 1) (by have := t.isLt; omega)).2.2.2.1 (outsAt0 m c (t.val - 1) (by have := t.isLt; omega)).2.2.1 := by
  have hN : cfg0.N = 17 := N_0
  have ht := t.isLt
  by_cases h1 : 1 ≤ t.val % 17 ∧ t.val % 17 ≤ 15
  · exact gw_B m c t (by omega) h1 (by omega)
  · exact gw_C m c t (by omega) h1 (by omega)

variable (X : Fin 2 → Fin 2048 → Fin 1024 → ℝ) (NW : Fin 1024 → ℝ) (WU : Fin 1024 → Fin 4096 → ℝ) (WD : Fin 4096 → Fin 1024 → ℝ) (DD : Fin 2 → Fin 2048 → Fin 1024 → ℝ)
  (hx : ∀ b s d, argX m c (ix3 b s d) = ((X b s d : ℝ) : EReal)) (hnw : ∀ d, argNw m c (ix2 0 d) = ((NW d : ℝ) : EReal))
  (hwu : ∀ d k, argWu m c (ix3 0 d k) = ((WU d k : ℝ) : EReal)) (hwd : ∀ k d, argWd m c (ix3 0 k d) = ((WD k d : ℝ) : EReal))
  (hdd : ∀ b s d, argDd m c (ix3 b s d) = ((DD b s d : ℝ) : EReal))

/-- The hidden units' gradient of a row, and what comes back through the up projection. -/
def duRow (i : Fin 4096) : Fin 4096 → ℝ := unitGrad (X (bat i) (pos i)) NW WU WD (DD (bat i) (pos i))
def dhRow (i : Fin 4096) : Fin 1024 → ℝ := rowDot (duRow X NW WU WD DD i) WU

include hx hnw hwu hwd hdd in
theorem acc_real (t : Fin cfg0.N) (h : t.val ≤ 15) (r : Fin 256) (d : Fin 1024) :
    (outsAt0 m c t.val t.isLt).2.2.2.1 (ix2 r d) = ((dhRow X NW WU WD DD (leadRow t r) d : ℝ) : EReal) := by
  rw [acc_point m c t h]
  simp only [duAt_real m c X NW WU WD DD hx hnw hwu hwd hdd, hwu, ← EReal.coe_mul, ← coe_sum]
  rfl

/-- What the point before left is the gradient of the rows this point finishes. -/
theorem lead_lag (t : Fin cfg0.N) (h : t.val ≠ 0) (r : Fin 256) : leadRow ⟨t.val - 1, by have := t.isLt; omega⟩ r = lagRow t r := by
  have hN : cfg0.N = 17 := N_0
  have ht := t.isLt
  exact Fin.ext (by show 256 * min (t.val - 1) 15 + r.val = 256 * (t.val - 1) + r.val; omega)

include hx hnw hwu hwd hdd in
theorem acc_prev (t : Fin cfg0.N) (h : t.val ≠ 0) (r : Fin 256) (d : Fin 1024) :
    (outsAt0 m c (t.val - 1) (by have := t.isLt; omega)).2.2.2.1 (ix2 r d) = ((dhRow X NW WU WD DD (lagRow t r) d : ℝ) : EReal) := by
  have hN : cfg0.N = 17 := N_0
  have ht := t.isLt
  rw [← lead_lag t h r]
  exact acc_real m c X NW WU WD DD hx hnw hwu hwd hdd ⟨t.val - 1, by omega⟩ (by dsimp only; omega) r d

include hx in
theorem rms_row (t : Fin cfg0.N) (r : Fin 256) :
    k0_pay41 (F := Ideal) (xBlk m c t) (ix2 r 0) = ((rms (X (bat (lagRow t r)) (pos (lagRow t r))) : ℝ) : EReal) := by
  pointwise [k0_pay41, k0_pay40]
  simp only [blk_2, hx, ofBits_1024, ofBits_eps, ← EReal.coe_mul, ← coe_sum, div_real (show (1024:ℝ) ≠ 0 by norm_num), ← EReal.coe_add]
  exact rsqrt_real (meanSq_pos _)

include hx hnw in
theorem gxOf_at (t : Fin cfg0.N) (acc : Vec Ideal S256x1024 .f32) (A : Fin 256 → Fin 1024 → ℝ) (ha : ∀ r d, acc (ix2 r d) = ((A r d : ℝ) : EReal)) (r : Fin 256) (d : Fin 1024) :
    gxOf m c t acc (ix2 r d) = argDy m c (ix3 (bat (lagRow t r)) (pos (lagRow t r)) d)
      + ((rmsBwd (X (bat (lagRow t r)) (pos (lagRow t r))) (fun e => A r e * NW e) d : ℝ) : EReal) := by
  unfold gxOf
  pointwise [k0_pay42, k0_pay40]
  simp only [rms_row m c X hx, ha, blk_2, blk_3, blk_4, hx, hnw, ofBits_1024, ← EReal.coe_mul, ← coe_sum, div_real (show (1024:ℝ) ≠ 0 by norm_num), ← EReal.coe_sub]
  rfl

include hx in
theorem gwOf_at (t : Fin cfg0.N) (acc : Vec Ideal S256x1024 .f32) (g : Vec Ideal S1x1024 .f32) (A : Fin 256 → Fin 1024 → ℝ) (ha : ∀ r d, acc (ix2 r d) = ((A r d : ℝ) : EReal)) (d : Fin 1024) :
    gwOf m c t acc g (ix2 0 d) = g (ix2 0 d) + ((∑ r : Fin 256, A r d * X (bat (lagRow t r)) (pos (lagRow t r)) d * rms (X (bat (lagRow t r)) (pos (lagRow t r))) : ℝ) : EReal) := by
  unfold gwOf
  pointwise [k0_pay43, k0_pay40]
  simp only [rms_row m c X hx, ha, blk_2, hx, ← EReal.coe_mul, ← coe_sum]
end
end Cert.Mlp
end
-- ==== Proof.MlpBwdFinal.lean ====
/-
  The three arrays the feed-forward block's backward pass returns.
-/
module

public import proofs.«01_k».proof.Proof.MlpBwdValue

@[expose] public section

set_option maxRecDepth 16384

noncomputable section

namespace Cert.Mlp

open Cert.MlpBwdIdeal Cert.MlpBwdIdeal.Gen Cert.MlpBwdIdeal.Value Idealize.ShloMosaic Idealize.ShloMosaic.TcCoe Idealize.SL.Sem Cert.Reals

section
variable (m : (ℓ : Loc nD τ sig) → Buf (Elt Ideal) ℓ) (c : Dev nD)

attribute [local irreducible] duAt gxOf gwOf

variable (X : Fin 2 → Fin 2048 → Fin 1024 → ℝ) (NW : Fin 1024 → ℝ) (WU : Fin 1024 → Fin 4096 → ℝ) (WD : Fin 4096 → Fin 1024 → ℝ) (DD : Fin 2 → Fin 2048 → Fin 1024 → ℝ)
  (hx : ∀ b s d, argX m c (ix3 b s d) = ((X b s d : ℝ) : EReal)) (hnw : ∀ d, argNw m c (ix2 0 d) = ((NW d : ℝ) : EReal))
  (hwu : ∀ d k, argWu m c (ix3 0 d k) = ((WU d k : ℝ) : EReal)) (hwd : ∀ k d, argWd m c (ix3 0 k d) = ((WD k d : ℝ) : EReal))
  (hdd : ∀ b s d, argDd m c (ix3 b s d) = ((DD b s d : ℝ) : EReal))

/-- The three results. -/
def duRes : Vec Ideal S4096x4096 .bf16 := fun i => ((duRow X NW WU WD DD (i 0) (i 1) : ℝ) : EReal)
def gxRes : Vec Ideal S4096x1024 .f32 := fun i => argDy m c (ix3 (bat (i 0)) (pos (i 0)) (i 1))
  + ((rmsBwd (X (bat (i 0)) (pos (i 0))) (fun e => dhRow X NW WU WD DD (i 0) e * NW e) (i 1) : ℝ) : EReal)
def gwRes : Vec Ideal S1x1024 .f32 := fun i => ((∑ b, ∑ s, X b s (i 1) * rms (X b s) * rowDot (unitGrad (X b s) NW WU WD (DD b s)) WU (i 1) : ℝ) : EReal)

theorem flush_5 : ∀ t : Fin cfg0.N, (cfg0.win 5).flush t = true ↔ t.val ≠ 15 := by decide +kernel
theorem flush_6 : ∀ t : Fin cfg0.N, (cfg0.win 6).flush t = true ↔ t.val ≠ 0 := by decide +kernel
theorem size_5 : ∀ t : Fin cfg0.N, win0_5.xsize (grid0.coords t) 0 = 256 ∧ win0_5.xsize (grid0.coords t) 1 = 4096 := by decide +kernel
theorem size_6 : ∀ t : Fin cfg0.N, win0_6.xsize (grid0.coords t) 0 = 256 ∧ win0_6.xsize (grid0.coords t) 1 = 1024 := by decide +kernel

/-- The point that writes back a row's block of the hidden units' gradient, and the one that writes back its block of the residual stream's. -/
def leadPt (i : Fin 4096) : Fin cfg0.N := ⟨if i.val / 256 = 15 then 16 else i.val / 256, by rw [show cfg0.N = 17 from N_0]; split_ifs <;> omega⟩
def lagPt (i : Fin 4096) : Fin cfg0.N := ⟨i.val / 256 + 1, by rw [show cfg0.N = 17 from N_0]; omega⟩

include hx hnw hwu hwd hdd in
theorem final_5 : (dats m 0 c).arrAt 5 cfg0.N = duRes X NW WU WD DD := by
  refine (dats m 0 c).arrAt_eq_of_cover 5 (duRes X NW WU WD DD) (fun t hf => ?_) fun i => ⟨leadPt (i 0), (flush_5 _).mpr ?_, ?_⟩
  · rw [flushed5, du_point]
    refine funext fun (y : S256x4096.Idx) => ?_
    obtain ⟨r, k, rfl⟩ := exists_ix2 y
    rw [View.read_apply]
    refine Eq.trans (b := ((duRow X NW WU WD DD (leadRow t r) k : ℝ) : EReal)) ?_ ?_
    · exact duAt_real m c X NW WU WD DD hx hnw hwu hwd hdd t r k
    · refine congrArg (duRes X NW WU WD DD) (a₁ := ix2 (leadRow t r) k) (funext fun a => Fin.ext ?_)
      match a with
      | ⟨0, _⟩ => show 256 * min t.val 15 + r.val = win0_5.index t 0 * 256 + 1 * r.val; rw [(index_lead t).2.2.1]; omega
      | ⟨1, _⟩ => show k.val = win0_5.index t 1 * 4096 + 1 * k.val; rw [(index_lead t).2.2.2]; omega
  · have h0 : (i 0 : Nat) < 4096 := (i 0).isLt
    show (if (i 0).val / 256 = 15 then 16 else (i 0).val / 256) ≠ 15
    split_ifs <;> omega
  · show i ∈ ((View.whole main_v43_0).slice (win0_5.rect (leadPt (i 0)))).set
    rw [View.set_slice_whole, Rect.mem_set_unit]
    intro a
    have h0 : (i 0 : Nat) < 4096 := (i 0).isLt
    have h1 : (i 1 : Nat) < 4096 := (i 1).isLt
    match a with
    | ⟨0, _⟩ => show win0_5.index (leadPt (i 0)) 0 * 256 ≤ (i 0 : Nat) ∧ (i 0 : Nat) < win0_5.index (leadPt (i 0)) 0 * 256 + win0_5.xsize (grid0.coords (leadPt (i 0))) 0
                rw [(index_lead _).2.2.1, (size_5 _).1]; unfold leadPt; dsimp only; split_ifs <;> omega
    | ⟨1, _⟩ => show win0_5.index (leadPt (i 0)) 1 * 4096 ≤ (i 1 : Nat) ∧ (i 1 : Nat) < win0_5.index (leadPt (i 0)) 1 * 4096 + win0_5.xsize (grid0.coords (leadPt (i 0))) 1
                rw [(index_lead _).2.2.2, (size_5 _).2]; omega

include hx hnw hwu hwd hdd in
theorem final_6 : (dats m 0 c).arrAt 6 cfg0.N = gxRes m c X NW WU WD DD := by
  refine (dats m 0 c).arrAt_eq_of_cover 6 (gxRes m c X NW WU WD DD) (fun t hf => ?_) fun i => ⟨lagPt (i 0), (flush_6 _).mpr ?_, ?_⟩
  · have ht := (flush_6 t).mp hf
    rw [flushed6, gx_point m c t ht]
    refine funext fun (y : S256x1024.Idx) => ?_
    obtain ⟨r, k, rfl⟩ := exists_ix2 y
    rw [View.read_apply]
    refine Eq.trans (b := gxRes m c X NW WU WD DD (ix2 (lagRow t r) k)) ?_ ?_
    · exact gxOf_at m c X NW hx hnw t _ (fun r => dhRow X NW WU WD DD (lagRow t r)) (acc_prev m c X NW WU WD DD hx hnw hwu hwd hdd t ht) r k
    · refine congrArg (gxRes m c X NW WU WD DD) (funext fun a => Fin.ext ?_)
      match a with
      | ⟨0, _⟩ => show 256 * (t.val - 1) + r.val = win0_6.index t 0 * 256 + 1 * r.val; rw [(index_lag t).2.2.1]; omega
      | ⟨1, _⟩ => show k.val = win0_6.index t 1 * 1024 + 1 * k.val; rw [(index_lag t).2.2.2]; omega
  · show (i 0).val / 256 + 1 ≠ 0
    omega
  · show i ∈ ((View.whole main_v43_1).slice (win0_6.rect (lagPt (i 0)))).set
    rw [View.set_slice_whole, Rect.mem_set_unit]
    intro a
    have h0 : (i 0 : Nat) < 4096 := (i 0).isLt
    have h1 : (i 1 : Nat) < 1024 := (i 1).isLt
    match a with
    | ⟨0, _⟩ => show win0_6.index (lagPt (i 0)) 0 * 256 ≤ (i 0 : Nat) ∧ (i 0 : Nat) < win0_6.index (lagPt (i 0)) 0 * 256 + win0_6.xsize (grid0.coords (lagPt (i 0))) 0
                rw [(index_lag _).2.2.1, (size_6 _).1]; unfold lagPt; dsimp only; omega
    | ⟨1, _⟩ => show win0_6.index (lagPt (i 0)) 1 * 1024 ≤ (i 1 : Nat) ∧ (i 1 : Nat) < win0_6.index (lagPt (i 0)) 1 * 1024 + win0_6.xsize (grid0.coords (lagPt (i 0))) 1
                rw [(index_lag _).2.2.2, (size_6 _).2]; omega

/-- The last point's running sum, as the contents of the norm weight's gradient. -/
abbrev gwLast : Vec Ideal S1x1024 .f32 := (outsAt0 m c 16 (by rw [show cfg0.N = 17 from N_0]; decide)).2.2.1

/-- The last point. -/
def lastPt : Fin cfg0.N := ⟨16, by decide⟩

theorem index_7 : win0_7.index lastPt 0 * win0_7.size 0 = 0 ∧ win0_7.index lastPt 1 * win0_7.size 1 = 0 ∧ win0_7.xsize (grid0.coords lastPt) 0 = 1 ∧ win0_7.xsize (grid0.coords lastPt) 1 = 1024 := by decide +kernel

theorem arr_7 : (dats m 0 c).arrAt 7 cfg0.N = gwLast m c := by
  refine (dats m 0 c).arrAt_eq_of_cover 7 (gwLast m c) (fun t hf => ?_) fun i => ⟨lastPt, (flush0_7 lastPt).mpr rfl, ?_⟩
  · have hN : cfg0.N = 17 := N_0
    have h7 : t.val = 16 := by have := (flush0_7 t).mp hf; have := t.isLt; omega
    obtain rfl : t = lastPt := Fin.ext h7
    rw [flushed7]
    have hz' : (fun a => win0_7.index lastPt a * main_v43_2.ty.shape.size a) = fun _ => 0 := funext fun a => by fin_cases a <;> decide
    exact (Memref.read_access_unit_zero (Elt Ideal) main_v43_2 hz' (fun a => by rw [congrFun hz' a]; simp) (gwLast m c)).symm
  · show i ∈ ((View.whole main_v43_2).slice (win0_7.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_7.index lastPt 0 * win0_7.size 0 ≤ (i 0 : Nat) ∧ (i 0 : Nat) < win0_7.index lastPt 0 * win0_7.size 0 + win0_7.xsize (grid0.coords lastPt) 0
                rw [index_7.1, index_7.2.2.1]; omega
    | ⟨1, _⟩ => show win0_7.index lastPt 1 * win0_7.size 1 ≤ (i 1 : Nat) ∧ (i 1 : Nat) < win0_7.index lastPt 1 * win0_7.size 1 + win0_7.xsize (grid0.coords lastPt) 1
                rw [index_7.2.1, index_7.2.2.2]; omega

/-- One row's part of the norm weight's gradient, over the running row number. -/
def gwPart (d : Fin 1024) (n : ℕ) : ℝ :=
  let b : Fin 2 := ⟨n / 2048 % 2, by omega⟩
  let s : Fin 2048 := ⟨n % 2048, by omega⟩
  rowDot (unitGrad (X b s) NW WU WD (DD b s)) WU d * X b s d * rms (X b s)

/-- One point's part: that of the block before, none at the first point. -/
def gwStep (d : Fin 1024) (n : ℕ) : ℝ := if n = 0 then 0 else ∑ r ∈ Finset.range 256, gwPart X NW WU WD DD d (256 * (n - 1) + r)

include hx hnw hwu hwd hdd in
theorem gw_step (t : Fin cfg0.N) (h : t.val ≠ 0) (d : Fin 1024) :
    (outsAt0 m c t.val t.isLt).2.2.1 (ix2 0 d) = (outsAt0 m c (t.val - 1) (by have := t.isLt; omega)).2.2.1 (ix2 0 d) + ((gwStep X NW WU WD DD d t.val : ℝ) : EReal) := by
  rw [gw_point m c t h, gwOf_at m c X hx t _ _ (fun r => dhRow X NW WU WD DD (lagRow t r)) (acc_prev m c X NW WU WD DD hx hnw hwu hwd hdd t h)]
  unfold gwStep
  rw [if_neg h, Finset.sum_range]
  have hN : cfg0.N = 17 := N_0
  have ht := t.isLt
  refine congrArg (fun z : ℝ => (outsAt0 m c (t.val - 1) (by have := t.isLt; omega)).2.2.1 (ix2 0 d) + (z : EReal)) (Finset.sum_congr rfl fun r _ => ?_)
  have hb : (⟨(256 * (t.val - 1) + r.val) / 2048 % 2, by omega⟩ : Fin 2) = bat (lagRow t r) :=
    Fin.ext (by show (256 * (t.val - 1) + r.val) / 2048 % 2 = (256 * (t.val - 1) + r.val) / 2048; omega)
  unfold gwPart
  dsimp only
  rw [hb]
  rfl

include hx hnw hwu hwd hdd in
theorem gwLast_at (d : Fin 1024) :
    gwLast m c (ix2 0 d) = ((∑ b, ∑ s, X b s d * rms (X b s) * rowDot (unitGrad (X b s) NW WU WD (DD b s)) WU d : ℝ) : EReal) := by
  have hN : cfg0.N = 17 := N_0
  have key : gwLast m c (ix2 0 d) = _ := running_sum (fun n h => (outsAt0 m c n h).2.2.1 (ix2 0 d)) (gwStep X NW WU WD DD d) ?_ ?_ 16 (by omega)
  · refine key.trans (congrArg _ ?_)
    rw [Finset.sum_range_succ', show gwStep X NW WU WD DD d 0 = 0 from if_pos rfl, add_zero]
    rw [Finset.sum_congr rfl fun n _ => show gwStep X NW WU WD DD d (n + 1) = ∑ r ∈ Finset.range 256, gwPart X NW WU WD DD d (256 * n + r) from if_neg (Nat.succ_ne_zero n)]
    rw [sum_blocks 16 256 (gwPart X NW WU WD DD d), show 256 * 16 = 2048 * 2 from rfl, ← sum_blocks 2 2048, Finset.sum_range]
    refine Finset.sum_congr rfl fun b _ => ?_
    rw [Finset.sum_range]
    refine Finset.sum_congr rfl fun s _ => ?_
    have hb : (⟨(2048 * b.val + s.val) / 2048 % 2, by omega⟩ : Fin 2) = b := Fin.ext (by show (2048 * b.val + s.val) / 2048 % 2 = b.val; omega)
    have hs : (⟨(2048 * b.val + s.val) % 2048, by omega⟩ : Fin 2048) = s := Fin.ext (by show (2048 * b.val + s.val) % 2048 = s.val; omega)
    unfold gwPart
    dsimp only
    rw [hb, hs]
    ring
  · intro h
    have h0 := gw_A m c ⟨0, h⟩ rfl (by dsimp only; omega) (by dsimp only; omega)
    dsimp only at h0 ⊢
    rw [h0]
    pointwise [k0_pay4]
    rfl
  · intro n h h'
    exact gw_step m c X NW WU WD DD hx hnw hwu hwd hdd ⟨n + 1, h⟩ (Nat.succ_ne_zero n) d

include hx hnw hwu hwd hdd in
theorem final_7 : (dats m 0 c).arrAt 7 cfg0.N = gwRes X NW WU WD DD := by
  rw [arr_7]
  refine funext fun (i : S1x1024.Idx) => ?_
  obtain ⟨a, d, rfl⟩ := exists_ix2 i
  obtain rfl : a = 0 := Subsingleton.elim _ _
  exact gwLast_at m c X NW WU WD DD hx hnw hwu hwd hdd d
end
end Cert.Mlp
end
-- ==== Proof.MlpRefValue.lean ====
/-
  What the reference of the feed-forward block's backward pass computes, over the reals: the gradient of the hidden
  units, the gradient of the residual stream, and the gradient of the norm's weight.
-/
module

public import proofs.«01_k».proof.Proof.MlpMath
public import proofs.«01_k».proof.Proof.Gen.MlpRefIdeal.Read

@[expose] public section

set_option maxRecDepth 16384

noncomputable section

namespace Cert.Mlp.Ref

open Cert.MlpRefIdeal Cert.MlpRefIdeal.Gen Cert.MlpRefIdeal.Read Idealize.ShloMosaic Cert.Reals

section
variable (x : Vec Ideal S2x2048x1024 .f32) (nw : Vec Ideal S1x1024 .f32) (wu : Vec Ideal S1x1024x4096 .f32)
  (wd : Vec Ideal S1x4096x1024 .f32) (dd dy : Vec Ideal S2x2048x1024 .f32)
  (X : Fin 2 → Fin 2048 → Fin 1024 → ℝ) (NW : Fin 1024 → ℝ) (WU : Fin 1024 → Fin 4096 → ℝ) (WD : Fin 4096 → Fin 1024 → ℝ)
  (DD : Fin 2 → Fin 2048 → Fin 1024 → ℝ)
  (hx : ∀ b s d, x (ix3 b s d) = ((X b s d : ℝ) : EReal)) (hnw : ∀ d, nw (ix2 0 d) = ((NW d : ℝ) : EReal))
  (hwu : ∀ d k, wu (ix3 0 d k) = ((WU d k : ℝ) : EReal)) (hwd : ∀ k d, wd (ix3 0 k d) = ((WD k d : ℝ) : EReal))
  (hdd : ∀ b s d, dd (ix3 b s d) = ((DD b s d : ℝ) : EReal))

include hx in
theorem meanSq_at (b : Fin 2) (s : Fin 2048) : (val_main_v7 (F := Ideal) x : Vec Ideal S2x2048x1 .f32) (ix3 b s 0) = ((meanSq (X b s) : ℝ) : EReal) := by
  pointwise [val_main_v7, val_main_v5, val_main_v3, val_main_v2, val_main_v1, val_main_v4, val_main_v6, val_main_cst, val_main_cst_0, val_main_cst_1]
  simp only [hx, ofBits_1024, ofBits_eps, ← EReal.coe_mul, ← coe_sum, div_real (show (1024:ℝ) ≠ 0 by norm_num), ← EReal.coe_add]
  rfl

include hx in
theorem rms_at (b : Fin 2) (s : Fin 2048) : (val_main_v8 (F := Ideal) x : Vec Ideal S2x2048x1 .f32) (ix3 b s 0) = ((rms (X b s) : ℝ) : EReal) := by
  pointwise [val_main_v8]
  rw [meanSq_at x X hx, rsqrt_real (meanSq_pos _)]
  rfl

include hx hnw hwu in
theorem unit_at (b : Fin 2) (s : Fin 2048) (k : Fin 4096) :
    (val_main_v18 (F := Ideal) x nw wu : Vec Ideal S2x2048x4096 .f32) (ix3 b s k) = ((unit (X b s) NW WU k : ℝ) : EReal) := by
  pointwise [val_main_v18, val_main_v17, val_main_v16, val_main_v15, val_main_v14, val_main_v13, val_main_v12, val_main_v0]
  simp only [hx, hnw, hwu, rms_at x X hx, ← EReal.coe_mul, ← coe_sum]
  rfl

include hwd hdd in
theorem back_at (b : Fin 2) (s : Fin 2048) (k : Fin 4096) :
    (val_main_v28 (F := Ideal) wd dd : Vec Ideal S2x2048x4096 .f32) (ix3 b s k) = ((rowDot (DD b s) WD k : ℝ) : EReal) := by
  pointwise [val_main_v28, val_main_v26]
  simp only [hwd, hdd, ← EReal.coe_mul, ← coe_sum]
  rfl

include hx hnw hwu hwd hdd in
theorem du_at (b : Fin 2) (s : Fin 2048) (k : Fin 4096) :
    (val_main_v31 (F := Ideal) x nw wu wd dd : Vec Ideal S2x2048x4096 .f32) (ix3 b s k) = ((unitGrad (X b s) NW WU WD (DD b s) k : ℝ) : EReal) := by
  pointwise [val_main_v31, val_main_v30, val_main_v29, val_main_v25, val_main_v24, val_main_v21, val_main_v20, val_main_v19, val_main_call0_v0, val_main_call0_cst, val_main_cst_3, val_main_cst_5, val_main_cst_6]
  rw [unit_at x nw wu X NW WU hx hnw hwu, back_at wd dd WD DD hwd hdd]
  rw [ofBits_two]
  by_cases h : 0 < unit (X b s) NW WU k
  · rw [if_pos (by rwa [← EReal.coe_zero, EReal.coe_lt_coe_iff])]
    simp only [max_zero_real, ← EReal.coe_mul]
    rfl
  · rw [if_neg (by rwa [← EReal.coe_zero, EReal.coe_lt_coe_iff]), unitGrad, max_eq_right (not_lt.mp h), mul_zero, mul_zero, EReal.coe_zero]

include hx hnw hwu hwd hdd in
theorem dh_at (b : Fin 2) (s : Fin 2048) (d : Fin 1024) : (val_main_v32 (F := Ideal) x nw wu wd dd : Vec Ideal S2x2048x1024 .f32) (ix3 b s d)
    = ((rowDot (unitGrad (X b s) NW WU WD (DD b s)) WU d : ℝ) : EReal) := by
  pointwise [val_main_v32, val_main_v17]
  simp only [hwu, du_at x nw wu wd dd X NW WU WD DD hx hnw hwu hwd hdd, ← EReal.coe_mul, ← coe_sum]
  rfl

include hx hnw hwu hwd hdd in
theorem gx_at (b : Fin 2) (s : Fin 2048) (d : Fin 1024) : (val_main_v53 (F := Ideal) x nw wu wd dd dy : Vec Ideal S2x2048x1024 .f32) (ix3 b s d)
    = dy (ix3 b s d) + ((rmsBwd (X b s) (fun e => rowDot (unitGrad (X b s) NW WU WD (DD b s)) WU e * NW e) d : ℝ) : EReal) := by
  pointwise [val_main_v53, val_main_v52, val_main_v51, val_main_v50, val_main_v49, val_main_v48, val_main_v47, val_main_v46, val_main_v45, val_main_v44, val_main_v43, val_main_v42, val_main_v41, val_main_v40, val_main_v39, val_main_v37, val_main_v36, val_main_v14, val_main_v0, val_main_v11, val_main_v10, val_main_v9, val_main_cst_2, val_main_cst_9, val_main_cst_10, val_main_cst_11]
  simp only [Fin.sum_univ_one, hx, hnw, meanSq_at x X hx, rms_at x X hx, dh_at x nw wu wd dd X NW WU WD DD hx hnw hwu hwd hdd, ofBits_1024, ofBits_neg_half, ← EReal.coe_mul, ← coe_sum,
    div_real (show (1024:ℝ) ≠ 0 by norm_num), div_real (meanSq_pos _).ne', add_assoc, ← EReal.coe_add]
  rw [← rmsBwd_chain, add_assoc]

include hx hnw hwu hwd hdd in
theorem gw_at (d : Fin 1024) : (val_main_v54 (F := Ideal) x nw wu wd dd : Vec Ideal S1x1024 .f32) (ix2 0 d)
    = ((∑ b, ∑ s, X b s d * rms (X b s) * rowDot (unitGrad (X b s) NW WU WD (DD b s)) WU d : ℝ) : EReal) := by
  pointwise [val_main_v54, val_main_v38, val_main_v35, val_main_v34, val_main_v33, val_main_v13, val_main_v12, hostReduceAdd_lead2, val_main_cst_7, val_main_cst_8]
  simp only [Fin.sum_univ_one, hx, rms_at x X hx, dh_at x nw wu wd dd X NW WU WD DD hx hnw hwu hwd hdd, ← EReal.coe_mul, ← coe_sum]

include hx hnw hwu hwd hdd in
theorem res_du (i : Fin 4096) (k : Fin 4096) : (val_main_v56 (F := Ideal) x nw wu wd dd : Vec Ideal S4096x4096 .bf16) (ix2 i k)
    = ((unitGrad (X ⟨i.val / 2048, by omega⟩ ⟨i.val % 2048, by omega⟩) NW WU WD (DD ⟨i.val / 2048, by omega⟩ ⟨i.val % 2048, by omega⟩) k : ℝ) : EReal) := by
  pointwise [val_main_v56, val_main_v55]
  exact du_at x nw wu wd dd X NW WU WD DD hx hnw hwu hwd hdd _ _ _

include hx hnw hwu hwd hdd in
theorem res_gx (i : Fin 4096) (d : Fin 1024) : (val_main_v57 (F := Ideal) x nw wu wd dd dy : Vec Ideal S4096x1024 .f32) (ix2 i d)
    = dy (ix3 ⟨i.val / 2048, by omega⟩ ⟨i.val % 2048, by omega⟩ d)
      + ((rmsBwd (X ⟨i.val / 2048, by omega⟩ ⟨i.val % 2048, by omega⟩)
        (fun e => rowDot (unitGrad (X ⟨i.val / 2048, by omega⟩ ⟨i.val % 2048, by omega⟩) NW WU WD (DD ⟨i.val / 2048, by omega⟩ ⟨i.val % 2048, by omega⟩)) WU e * NW e) d : ℝ) : EReal) := by
  pointwise [val_main_v57]
  exact gx_at x nw wu wd dd dy X NW WU WD DD hx hnw hwu hwd hdd _ _ _
end

end Cert.Mlp.Ref

end
-- ==== Proof.Mlp.lean ====
/-
  The feed-forward block's backward pass: its runs, the reference's runs, and the equality of their results.
-/
module

public import proofs.«01_k».proof.Defs
public import proofs.«01_k».proof.Proof.MlpBwdFinal
public import proofs.«01_k».proof.Proof.MlpRefValue
public import proofs.«01_k».proof.Proof.Gen.MlpBwd.Frame
public import proofs.«01_k».proof.Proof.Gen.MlpRefIdeal.Run
public import proofs.«01_k».proof.Proof.Gen.Pre_finite_mlp
public import Idealize.ShloMosaic.Adequacy
public import Idealize.ShloMosaic.Init

@[expose] public section

set_option maxRecDepth 16384

noncomputable section

namespace Cert.Mlp

open Idealize.ShloMosaic Idealize.SL.Sem Cert.Reals

theorem frame_ref : Cert.quiescent_MlpRefIdeal (hMlpRefIdeal := MlpRefIdeal.Gen.facts) := fun m ρ _ =>
  (θ_run MlpRefIdeal.defs _ _).mono (fun r h => ⟨fun c => (h c).2.2.2, sem_eq_zero_of_no_sems (by decide) r.2⟩)
    (MlpRefIdeal.Value.run (F := Ideal) m ρ)

/-- On arguments that are real numbers, the reference's three results are the kernel's. -/
theorem results_eq (x : Vec Ideal MlpRefIdeal.S2x2048x1024 .f32) (nw : Vec Ideal MlpRefIdeal.S1x1024 .f32)
    (wu : Vec Ideal MlpRefIdeal.S1x1024x4096 .f32) (wd : Vec Ideal MlpRefIdeal.S1x4096x1024 .f32) (dd dy : Vec Ideal MlpRefIdeal.S2x2048x1024 .f32)
    (m : (ℓ : Loc MlpBwdIdeal.nD MlpBwdIdeal.τ MlpBwdIdeal.sig) → Buf (Elt Ideal) ℓ) (c : Dev MlpBwdIdeal.nD)
    (e : x = argX m c ∧ nw = argNw m c ∧ wu = argWu m c ∧ wd = argWd m c ∧ dd = argDd m c ∧ dy = argDy m c)
    (hx : ∀ i, x i = (((x i).toReal : ℝ) : EReal)) (hnw : ∀ i, nw i = (((nw i).toReal : ℝ) : EReal))
    (hwu : ∀ i, wu i = (((wu i).toReal : ℝ) : EReal)) (hwd : ∀ i, wd i = (((wd i).toReal : ℝ) : EReal))
    (hdd : ∀ i, dd i = (((dd i).toReal : ℝ) : EReal)) :
    MlpRefIdeal.Read.val_main_v56 (F := Ideal) x nw wu wd dd = (MlpBwdIdeal.Gen.dats m 0 c).arrAt 5 MlpBwdIdeal.cfg0.N
    ∧ MlpRefIdeal.Read.val_main_v57 (F := Ideal) x nw wu wd dd dy = (MlpBwdIdeal.Gen.dats m 0 c).arrAt 6 MlpBwdIdeal.cfg0.N
    ∧ MlpRefIdeal.Read.val_main_v54 (F := Ideal) x nw wu wd dd = (MlpBwdIdeal.Gen.dats m 0 c).arrAt 7 MlpBwdIdeal.cfg0.N := by
  obtain ⟨rfl, rfl, rfl, rfl, rfl, rfl⟩ := e
  have hx' := fun b s d => hx (ix3 b s d)
  have hnw' := fun d => hnw (ix2 0 d)
  have hwu' := fun d k => hwu (ix3 0 d k)
  have hwd' := fun k d => hwd (ix3 0 k d)
  have hdd' := fun b s d => hdd (ix3 b s d)
  refine ⟨?_, ?_, ?_⟩
  · rw [final_5 m c _ _ _ _ _ hx' hnw' hwu' hwd' hdd']
    refine funext fun (i : MlpBwdIdeal.S4096x4096.Idx) => ?_
    obtain ⟨a, k, rfl⟩ := exists_ix2 i
    exact Ref.res_du _ _ _ _ _ _ _ _ _ _ hx' hnw' hwu' hwd' hdd' a k
  · rw [final_6 m c _ _ _ _ _ hx' hnw' hwu' hwd' hdd']
    refine funext fun (i : MlpBwdIdeal.S4096x1024.Idx) => ?_
    obtain ⟨a, d, rfl⟩ := exists_ix2 i
    exact Ref.res_gx _ _ _ _ _ _ _ _ _ _ _ hx' hnw' hwu' hwd' hdd' a d
  · rw [final_7 m c _ _ _ _ _ hx' hnw' hwu' hwd' hdd']
    refine funext fun (i : MlpBwdIdeal.S1x1024.Idx) => ?_
    obtain ⟨a, d, rfl⟩ := exists_ix2 i
    obtain rfl : a = 0 := Subsingleton.elim _ _
    exact Ref.gw_at _ _ _ _ _ _ _ _ _ _ hx' hnw' hwu' hwd' hdd' d

theorem algebraic : Cert.algebraic_MlpBwdIdeal_MlpRefIdeal_pre_finite_mlp (hMlpBwdIdeal := MlpBwdIdeal.Gen.facts)
    (hMlpRefIdeal := MlpRefIdeal.Gen.facts) (hPre_finite_mlp := Pre_finite_mlp.Gen.facts) := by
  intro m ρ m' ρ' hpre hag
  refine ⟨_, _, _, MlpBwdIdeal.Value.run_blocks (F := Ideal) m ρ, (θ_run MlpRefIdeal.defs _ _).mono (fun r h c => ?_)
    (MlpRefIdeal.Value.run (F := Ideal) m' ρ')⟩
  have hc := h c
  obtain ⟨a0, a1, a2, a3, a4, a5⟩ := hag c
  obtain ⟨p0, p1, p2, p3, p4⟩ := hpre c
  obtain ⟨r0, r1, r2⟩ := results_eq _ _ _ _ _ _ m c ⟨a0, a1, a2, a3, a4, a5⟩ (by rw [a0]; exact real_of_finite p0) (by rw [a1]; exact real_of_finite p1)
    (by rw [a2]; exact real_of_finite p2) (by rw [a3]; exact real_of_finite p3) (by rw [a4]; exact real_of_finite p4)
  exact ⟨hc.1.trans ((MlpRefIdeal.Read.val_main_v56_eq _ _ _ _ _).trans r0), hc.2.1.trans ((MlpRefIdeal.Read.val_main_v57_eq _ _).trans r1),
    hc.2.2.1.trans ((MlpRefIdeal.Read.val_main_v54_eq _ _ _ _ _).trans r2), hc.2.2.2⟩

end Cert.Mlp

end
-- ==== Proof.Infwd.lean ====
/-
  The input projection's forward pass: each grid point's four products of its normed rows with the four groups of the
  projection's columns, and the equality of the four results with the reference's. No argument has to be finite: kernel and
  reference form the same products, and the padding columns are zero times the rows.
-/
module

public import proofs.«01_k».proof.Defs
public import proofs.«01_k».proof.Proof.Reals
public import proofs.«01_k».proof.Proof.Gen.InprojFwdIdeal.Value
public import proofs.«01_k».proof.Proof.Gen.InfwdRefIdeal.Run
public import proofs.«01_k».proof.Proof.Gen.InfwdRefIdeal.Read
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

namespace Cert.Infwd

open Cert.InprojFwdIdeal Cert.InprojFwdIdeal.Gen Cert.InprojFwdIdeal.Value Idealize.ShloMosaic Idealize.ShloMosaic.TcCoe Idealize.SL.Sem Cert.Reals

/-- One entry of the projection: the normed row times one column. -/
def projAt (x : Fin 1024 → EReal) (nw w : Fin 1024 → EReal) : EReal :=
  ∑ d, x d * Ideal.rsqrt (Ideal.div (∑ e, x e * x e) (Ideal.ofBits .f32 0x44800000#32) + Ideal.ofBits .f32 0x358637BD#32) * nw d * w d

section
variable (m : (ℓ : Loc nD τ sig) → Buf (Elt Ideal) ℓ) (c : Dev nD)

theorem hz : (![0, 0] : Fin 2 → Nat) = fun _ => 0 := funext fun a => by fin_cases a <;> rfl

/-- The row of the whole arrays that is row `r` of point `t`'s blocks; its batch and its position in the sequence. -/
def row (t : Fin cfg0.N) (r : Fin 256) : Fin 4096 :=
  ⟨256 * t.val + r.val, by have := t.isLt; have : cfg0.N = 16 := N_0; omega⟩
def bat (i : Fin 4096) : Fin 2 := ⟨i.val / 2048, by omega⟩
def pos (i : Fin 4096) : Fin 2048 := ⟨i.val % 2048, by omega⟩

abbrev argX : Vec Ideal S2x2048x1024 .f32 := m (c.tc.loc main_arg0)
abbrev argNw : Vec Ideal S1x1024 .f32 := m (c.tc.loc main_arg1)
abbrev argW : Vec Ideal S1x1024x2568 .f32 := m (c.tc.loc main_arg2)

theorem sitofp_zero (φ : FTy) : FloatOps.sitofp (F := Ideal) φ 0#32 = 0 := by
  show (((0#32 : BitVec 32).toInt : ℝ) : EReal) = 0
  simp

theorem index_rows : ∀ t : Fin grid0.N, (win0_0.index t 0 = t.val ∧ win0_0.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) := by decide +kernel
theorem index_whole : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) := by decide +kernel

theorem blk_0 (t : Fin cfg0.N) (r : Fin 256) (k : Fin 1024) : iblk m c 0 t (ix2 r k) = argX m c (ix3 (bat (row t r)) (pos (row t r)) k) := by
  have e : iblk m c 0 t (ix2 r k) = (V m c main_v41 : Vec Ideal S4096x1024 .f32) (ix2 (row t r) k) := by
    unfold iblk
    rw [View.read_apply]
    refine congrArg (V m c main_v41 : Vec Ideal S4096x1024 .f32) (funext fun a => Fin.ext ?_)
    match a with
    | ⟨0, _⟩ => show win0_0.index t 0 * 256 + 1 * r.val = 256 * t.val + r.val; rw [(index_rows t).1.1]; omega
    | ⟨1, _⟩ => show win0_0.index t 1 * 1024 + 1 * k.val = k.val; rw [(index_rows t).1.2]; omega
  rw [e]
  simp only [V]
  after_reads_at
  rfl
theorem blk_1 (t : Fin cfg0.N) (r : Fin 1) (k : Fin 1024) : iblk m c 1 t (ix2 r k) = argNw m c (ix2 r k) := by
  have e : iblk m c 1 t (ix2 r k) = (V m c main_arg1 : Vec Ideal S1x1024 .f32) (ix2 r k) := by
    unfold iblk
    rw [View.read_apply]
    refine congrArg (V m c main_arg1 : Vec Ideal S1x1024 .f32) (funext fun a => Fin.ext ?_)
    match a with
    | ⟨0, _⟩ => show win0_1.index t 0 * 1 + 1 * r.val = r.val; rw [(index_whole t).1.1]; omega
    | ⟨1, _⟩ => show win0_1.index t 1 * 1024 + 1 * k.val = k.val; rw [(index_whole t).1.2]; omega
  rw [e, V_main_arg1]
theorem blk_2 (t : Fin cfg0.N) (r : Fin 1024) (k : Fin 1024) : iblk m c 2 t (ix2 r k) = argW m c (ix3 0 r ⟨k.val, by omega⟩) := by
  have e : iblk m c 2 t (ix2 r k) = (V m c main_v22 : Vec Ideal S1024x1024 .bf16) (ix2 r k) := by
    unfold iblk
    rw [View.read_apply]
    refine congrArg (V m c main_v22 : Vec Ideal S1024x1024 .bf16) (funext fun a => Fin.ext ?_)
    match a with
    | ⟨0, _⟩ => show win0_2.index t 0 * 1024 + 1 * r.val = r.val; rw [(index_whole t).2.1.1]; omega
    | ⟨1, _⟩ => show win0_2.index t 1 * 1024 + 1 * k.val = k.val; rw [(index_whole t).2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_3 (t : Fin cfg0.N) (r : Fin 1024) (k : Fin 1024) : iblk m c 3 t (ix2 r k) = argW m c (ix3 0 r ⟨k.val + 1536, by omega⟩) := by
  have e : iblk m c 3 t (ix2 r k) = (V m c main_v36 : Vec Ideal S1024x1024 .bf16) (ix2 r k) := by
    unfold iblk
    rw [View.read_apply]
    refine congrArg (V m c main_v36 : Vec Ideal S1024x1024 .bf16) (funext fun a => Fin.ext ?_)
    match a with
    | ⟨0, _⟩ => show win0_3.index t 0 * 1024 + 1 * r.val = r.val; rw [(index_whole t).2.2.1.1]; omega
    | ⟨1, _⟩ => show win0_3.index t 1 * 1024 + 1 * k.val = k.val; rw [(index_whole t).2.2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_4 (t : Fin cfg0.N) (r : Fin 1024) (k : Fin 512) : iblk m c 4 t (ix2 r k) = argW m c (ix3 0 r ⟨k.val + 1024, by omega⟩) := by
  have e : iblk m c 4 t (ix2 r k) = (V m c main_v29 : Vec Ideal S1024x512 .bf16) (ix2 r k) := by
    unfold iblk
    rw [View.read_apply]
    refine congrArg (V m c main_v29 : Vec Ideal S1024x512 .bf16) (funext fun a => Fin.ext ?_)
    match a with
    | ⟨0, _⟩ => show win0_4.index t 0 * 1024 + 1 * r.val = r.val; rw [(index_whole t).2.2.2.1.1]; omega
    | ⟨1, _⟩ => show win0_4.index t 1 * 512 + 1 * k.val = k.val; rw [(index_whole t).2.2.2.1.2]; omega
  rw [e]
  simp only [V]
  after_reads_at
  split_ifs <;> try after_reads_at
  all_goals first
    | rfl
    | exact congrArg (fun j => argW m c (ix3 0 r j)) (Fin.ext (by dsimp only; omega))
    | exact sitofp_zero .bf16
theorem blk_5 (t : Fin cfg0.N) (r : Fin 1024) (k : Fin 128) : iblk m c 5 t (ix2 r k) = (if h : k.val < 8 then argW m c (ix3 0 r ⟨k.val + 2560, by omega⟩) else 0) := by
  have e : iblk m c 5 t (ix2 r k) = (V m c main_v40 : Vec Ideal S1024x128 .bf16) (ix2 r k) := by
    unfold iblk
    rw [View.read_apply]
    refine congrArg (V m c main_v40 : Vec Ideal S1024x128 .bf16) (funext fun a => Fin.ext ?_)
    match a with
    | ⟨0, _⟩ => show win0_5.index t 0 * 1024 + 1 * r.val = r.val; rw [(index_whole t).2.2.2.2.1]; omega
    | ⟨1, _⟩ => show win0_5.index t 1 * 128 + 1 * k.val = k.val; rw [(index_whole t).2.2.2.2.2]; omega
  rw [e]
  simp only [V]
  after_reads_at
  split_ifs <;> try after_reads_at
  all_goals first
    | rfl
    | exact congrArg (fun j => argW m c (ix3 0 r j)) (Fin.ext (by dsimp only; omega))
    | exact sitofp_zero .bf16

/-- The grid point and the row within its block where a row of the whole array is computed. -/
def pt (i : Fin 4096) : Fin cfg0.N := ⟨i.val / 256, by rw [show cfg0.N = 16 from N_0]; omega⟩
def sub (i : Fin 4096) : Fin 256 := ⟨i.val % 256, by omega⟩

theorem row_pt (i : Fin 4096) : row (pt i) (sub i) = i := Fin.ext (by show 256 * (i.val / 256) + i.val % 256 = i.val; omega)

theorem normed (t : Fin cfg0.N) (r : Fin 256) (d : Fin 1024) : (k0_pay1 (F := Ideal) (iblk m c 0 t) (iblk m c 1 t) : Vec Ideal S256x1024 .bf16) (ix2 r d)
    = argX m c (ix3 (bat (row t r)) (pos (row t r)) d) * Ideal.rsqrt (Ideal.div (∑ e, argX m c (ix3 (bat (row t r)) (pos (row t r)) e) * argX m c (ix3 (bat (row t r)) (pos (row t r)) e))
      (Ideal.ofBits .f32 0x44800000#32) + Ideal.ofBits .f32 0x358637BD#32) * argNw m c (ix2 0 d) := by
  pointwise [k0_pay1]
  simp only [blk_0, blk_1]

theorem arr_6 (i : Fin 4096) (k : Fin 1024) : ((dats m 0 c).arrAt 6 cfg0.N : Vec Ideal S4096x1024 .f32) (ix2 i k)
    = projAt (fun d => argX m c (ix3 (bat i) (pos i) d)) (fun d => argNw m c (ix2 0 d)) (fun d => iblk m c 2 (pt i) (ix2 d k)) := by
  have e := congrFun (blocks6 m c (pt i) (flush0_6 _)) (ix2 (sub i) k)
  rw [View.read_apply, flushed6] at e
  refine Eq.trans (b := (k0_pay2 (F := Ideal) (iblk m c 0 (pt i)) (iblk m c 1 (pt i)) (iblk m c 2 (pt i)) : Vec Ideal S256x1024 .f32) (ix2 (sub i) k)) (Eq.trans ?_ (e.trans ?_)) ?_
  · refine congrArg ((dats m 0 c).arrAt 6 cfg0.N : Vec Ideal S4096x1024 .f32) (funext fun a => Fin.ext ?_)
    match a with
    | ⟨0, _⟩ => show i.val = win0_6.index (pt i) 0 * 256 + 1 * (i.val % 256); rw [(index_rows (pt i)).2.1.1]; show i.val = i.val / 256 * 256 + 1 * (i.val % 256); omega
    | ⟨1, _⟩ => show k.val = win0_6.index (pt i) 1 * 1024 + 1 * k.val; rw [(index_rows (pt i)).2.1.2]; omega
  · unfold out0_6
    rw [View.canon_unit_zero hz]
    simp only [View.ld_unit_zero (S := S256x1024) hz, View.ld_unit_zero (S := S1x1024) hz, View.ld_unit_zero (S := S1024x1024) hz]
    rfl
  · pointwise [k0_pay2]
    simp only [normed, row_pt]
    rfl

theorem arr_7 (i : Fin 4096) (k : Fin 1024) : ((dats m 0 c).arrAt 7 cfg0.N : Vec Ideal S4096x1024 .f32) (ix2 i k)
    = projAt (fun d => argX m c (ix3 (bat i) (pos i) d)) (fun d => argNw m c (ix2 0 d)) (fun d => iblk m c 3 (pt i) (ix2 d k)) := by
  have e := congrFun (blocks7 m c (pt i) (flush0_7 _)) (ix2 (sub i) k)
  rw [View.read_apply, flushed7] at e
  refine Eq.trans (b := (k0_pay3 (F := Ideal) (iblk m c 0 (pt i)) (iblk m c 1 (pt i)) (iblk m c 3 (pt i)) : Vec Ideal S256x1024 .f32) (ix2 (sub i) k)) (Eq.trans ?_ (e.trans ?_)) ?_
  · refine congrArg ((dats m 0 c).arrAt 7 cfg0.N : Vec Ideal S4096x1024 .f32) (funext fun a => Fin.ext ?_)
    match a with
    | ⟨0, _⟩ => show i.val = win0_7.index (pt i) 0 * 256 + 1 * (i.val % 256); rw [(index_rows (pt i)).2.2.1.1]; show i.val = i.val / 256 * 256 + 1 * (i.val % 256); omega
    | ⟨1, _⟩ => show k.val = win0_7.index (pt i) 1 * 1024 + 1 * k.val; rw [(index_rows (pt i)).2.2.1.2]; omega
  · unfold out0_7
    rw [View.canon_unit_zero hz]
    simp only [View.ld_unit_zero (S := S256x1024) hz, View.ld_unit_zero (S := S1x1024) hz, View.ld_unit_zero (S := S1024x1024) hz]
    rfl
  · pointwise [k0_pay3]
    simp only [normed, row_pt]
    rfl

theorem arr_8 (i : Fin 4096) (k : Fin 512) : ((dats m 0 c).arrAt 8 cfg0.N : Vec Ideal S4096x512 .f32) (ix2 i k)
    = projAt (fun d => argX m c (ix3 (bat i) (pos i) d)) (fun d => argNw m c (ix2 0 d)) (fun d => iblk m c 4 (pt i) (ix2 d k)) := by
  have e := congrFun (blocks8 m c (pt i) (flush0_8 _)) (ix2 (sub i) k)
  rw [View.read_apply, flushed8] at e
  refine Eq.trans (b := (k0_pay4 (F := Ideal) (iblk m c 0 (pt i)) (iblk m c 1 (pt i)) (iblk m c 4 (pt i)) : Vec Ideal S256x512 .f32) (ix2 (sub i) k)) (Eq.trans ?_ (e.trans ?_)) ?_
  · refine congrArg ((dats m 0 c).arrAt 8 cfg0.N : Vec Ideal S4096x512 .f32) (funext fun a => Fin.ext ?_)
    match a with
    | ⟨0, _⟩ => show i.val = win0_8.index (pt i) 0 * 256 + 1 * (i.val % 256); rw [(index_rows (pt i)).2.2.2.1.1]; show i.val = i.val / 256 * 256 + 1 * (i.val % 256); omega
    | ⟨1, _⟩ => show k.val = win0_8.index (pt i) 1 * 512 + 1 * k.val; rw [(index_rows (pt i)).2.2.2.1.2]; omega
  · unfold out0_8
    rw [View.canon_unit_zero hz]
    simp only [View.ld_unit_zero (S := S256x1024) hz, View.ld_unit_zero (S := S1x1024) hz, View.ld_unit_zero (S := S1024x512) hz]
    rfl
  · pointwise [k0_pay4]
    simp only [normed, row_pt]
    rfl

theorem arr_9 (i : Fin 4096) (k : Fin 128) : ((dats m 0 c).arrAt 9 cfg0.N : Vec Ideal S4096x128 .f32) (ix2 i k)
    = projAt (fun d => argX m c (ix3 (bat i) (pos i) d)) (fun d => argNw m c (ix2 0 d)) (fun d => iblk m c 5 (pt i) (ix2 d k)) := by
  have e := congrFun (blocks9 m c (pt i) (flush0_9 _)) (ix2 (sub i) k)
  rw [View.read_apply, flushed9] at e
  refine Eq.trans (b := (k0_pay5 (F := Ideal) (iblk m c 0 (pt i)) (iblk m c 1 (pt i)) (iblk m c 5 (pt i)) : Vec Ideal S256x128 .f32) (ix2 (sub i) k)) (Eq.trans ?_ (e.trans ?_)) ?_
  · refine congrArg ((dats m 0 c).arrAt 9 cfg0.N : Vec Ideal S4096x128 .f32) (funext fun a => Fin.ext ?_)
    match a with
    | ⟨0, _⟩ => show i.val = win0_9.index (pt i) 0 * 256 + 1 * (i.val % 256); rw [(index_rows (pt i)).2.2.2.2.1]; show i.val = i.val / 256 * 256 + 1 * (i.val % 256); omega
    | ⟨1, _⟩ => show k.val = win0_9.index (pt i) 1 * 128 + 1 * k.val; rw [(index_rows (pt i)).2.2.2.2.2]; omega
  · unfold out0_9
    rw [View.canon_unit_zero hz]
    simp only [View.ld_unit_zero (S := S256x1024) hz, View.ld_unit_zero (S := S1x1024) hz, View.ld_unit_zero (S := S1024x128) hz]
    rfl
  · pointwise [k0_pay5]
    simp only [normed, row_pt]
    rfl

end

/-! ## The reference -/

namespace Ref
open Cert.InfwdRefIdeal Cert.InfwdRefIdeal.Gen Cert.InfwdRefIdeal.Read

variable (x : Vec Ideal Cert.InfwdRefIdeal.S2x2048x1024 .f32) (nw : Vec Ideal Cert.InfwdRefIdeal.S1x1024 .f32) (w : Vec Ideal Cert.InfwdRefIdeal.S1x1024x2568 .f32)

theorem proj_at (i : Fin 4096) (k : Fin 2568) : (val_main_v16 (F := Ideal) x nw w : Vec Ideal Cert.InfwdRefIdeal.S4096x2568 .f32) (ix2 i k)
    = projAt (fun d => x (ix3 (bat i) (pos i) d)) (fun d => nw (ix2 0 d)) (fun d => w (ix3 0 d k)) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem uv_at (i : Fin 4096) (k : Fin 1024) : (val_main_v17 (F := Ideal) x nw w : Vec Ideal Cert.InfwdRefIdeal.S4096x1024 .f32) (ix2 i k)
    = projAt (fun d => x (ix3 (bat i) (pos i) d)) (fun d => nw (ix2 0 d)) (fun d => w (ix3 0 d ⟨k.val, by omega⟩)) := by
  pointwise [val_main_v17]
  exact proj_at x nw w i _

theorem z_at (i : Fin 4096) (k : Fin 512) : (val_main_v18 (F := Ideal) x nw w : Vec Ideal Cert.InfwdRefIdeal.S4096x512 .f32) (ix2 i k)
    = projAt (fun d => x (ix3 (bat i) (pos i) d)) (fun d => nw (ix2 0 d)) (fun d => w (ix3 0 d ⟨k.val + 1024, by omega⟩)) := by
  pointwise [val_main_v18]
  refine (proj_at x nw w i _).trans ?_
  exact congrArg (fun j => projAt (fun d => x (ix3 (bat i) (pos i) d)) (fun d => nw (ix2 0 d)) (fun d => w (ix3 0 d j))) (Fin.ext (Nat.add_comm _ _))

theorem xbc_at (i : Fin 4096) (k : Fin 1024) : (val_main_v19 (F := Ideal) x nw w : Vec Ideal Cert.InfwdRefIdeal.S4096x1024 .f32) (ix2 i k)
    = projAt (fun d => x (ix3 (bat i) (pos i) d)) (fun d => nw (ix2 0 d)) (fun d => w (ix3 0 d ⟨k.val + 1536, by omega⟩)) := by
  pointwise [val_main_v19]
  refine (proj_at x nw w i _).trans ?_
  exact congrArg (fun j => projAt (fun d => x (ix3 (bat i) (pos i) d)) (fun d => nw (ix2 0 d)) (fun d => w (ix3 0 d j))) (Fin.ext (Nat.add_comm _ _))

theorem dt_at (i : Fin 4096) (k : Fin 128) : (val_main_v21 (F := Ideal) x nw w : Vec Ideal Cert.InfwdRefIdeal.S4096x128 .f32) (ix2 i k)
    = projAt (fun d => x (ix3 (bat i) (pos i) d)) (fun d => nw (ix2 0 d)) (fun d => if h : k.val < 8 then w (ix3 0 d ⟨k.val + 2560, by omega⟩) else 0) := by
  by_cases h : k.val < 8
  · simp only [dif_pos h]
    pointwise [val_main_v21, val_main_v20]
    rw [dif_pos h]
    refine (proj_at x nw w i _).trans ?_
    exact congrArg (fun j => projAt (fun d => x (ix3 (bat i) (pos i) d)) (fun d => nw (ix2 0 d)) (fun d => w (ix3 0 d j))) (Fin.ext (Nat.add_comm _ _))
  · simp only [dif_neg h]
    pointwise [val_main_v21, val_main_call0_v0, val_main_c]
    rw [dif_neg h]
    unfold projAt
    simp only [mul_zero, Finset.sum_const_zero]
    exact sitofp_zero .f32
end Ref

/-! ## The two programs -/

theorem frame_ref : Cert.quiescent_InfwdRefIdeal (hInfwdRefIdeal := InfwdRefIdeal.Gen.facts) := fun m ρ _ =>
  (θ_run InfwdRefIdeal.defs _ _).mono (fun r h => ⟨fun c => (h c).2.2.2.2, sem_eq_zero_of_no_sems (by decide) r.2⟩)
    (InfwdRefIdeal.Value.run (F := Ideal) m ρ)

theorem results_eq (x : Vec Ideal InfwdRefIdeal.S2x2048x1024 .f32) (nw : Vec Ideal InfwdRefIdeal.S1x1024 .f32) (w : Vec Ideal InfwdRefIdeal.S1x1024x2568 .f32)
    (m : (ℓ : Loc nD τ sig) → Buf (Elt Ideal) ℓ) (c : Dev nD) (e : x = argX m c ∧ nw = argNw m c ∧ w = argW m c) :
    InfwdRefIdeal.Read.val_main_v17 (F := Ideal) x nw w = (dats m 0 c).arrAt 6 cfg0.N
    ∧ InfwdRefIdeal.Read.val_main_v19 (F := Ideal) x nw w = (dats m 0 c).arrAt 7 cfg0.N
    ∧ InfwdRefIdeal.Read.val_main_v18 (F := Ideal) x nw w = (dats m 0 c).arrAt 8 cfg0.N
    ∧ InfwdRefIdeal.Read.val_main_v21 (F := Ideal) x nw w = (dats m 0 c).arrAt 9 cfg0.N := by
  obtain ⟨rfl, rfl, rfl⟩ := e
  refine ⟨?_, ?_, ?_, ?_⟩
  · refine funext fun (i : S4096x1024.Idx) => ?_
    obtain ⟨a, k, rfl⟩ := exists_ix2 i
    refine (Ref.uv_at _ _ _ a k).trans ((arr_6 m c a k).trans ?_).symm
    simp only [blk_2]
  · refine funext fun (i : S4096x1024.Idx) => ?_
    obtain ⟨a, k, rfl⟩ := exists_ix2 i
    refine (Ref.xbc_at _ _ _ a k).trans ((arr_7 m c a k).trans ?_).symm
    simp only [blk_3]
  · refine funext fun (i : S4096x512.Idx) => ?_
    obtain ⟨a, k, rfl⟩ := exists_ix2 i
    refine (Ref.z_at _ _ _ a k).trans ((arr_8 m c a k).trans ?_).symm
    simp only [blk_4]
  · refine funext fun (i : S4096x128.Idx) => ?_
    obtain ⟨a, k, rfl⟩ := exists_ix2 i
    refine (Ref.dt_at _ _ _ a k).trans ((arr_9 m c a k).trans ?_).symm
    simp only [blk_5]

theorem algebraic : Cert.algebraic_InprojFwdIdeal_InfwdRefIdeal (hInprojFwdIdeal := InprojFwdIdeal.Gen.facts) (hInfwdRefIdeal := InfwdRefIdeal.Gen.facts) := by
  intro m ρ m' ρ' hpre hag
  refine ⟨_, _, _, _, run_blocks (F := Ideal) m ρ, (θ_run InfwdRefIdeal.defs _ _).mono (fun r h c => ?_)
    (InfwdRefIdeal.Value.run (F := Ideal) m' ρ')⟩
  have hc := h c
  obtain ⟨a0, a1, a2⟩ := hag c
  obtain ⟨r0, r1, r2, r3⟩ := results_eq _ _ _ m c ⟨a0, a1, a2⟩
  exact ⟨hc.1.trans ((InfwdRefIdeal.Read.val_main_v17_eq _ _ _).trans r0), hc.2.1.trans ((InfwdRefIdeal.Read.val_main_v19_eq _ _ _).trans r1),
    hc.2.2.1.trans ((InfwdRefIdeal.Read.val_main_v18_eq _ _ _).trans r2), hc.2.2.2.1.trans ((InfwdRefIdeal.Read.val_main_v21_eq _ _ _).trans r3), hc.2.2.2.2⟩

end Cert.Infwd

end
-- ==== Proof.TailMath.lean ====
/-
  The loss of one row over the reals, and its gradients: the row's error against the target, the gradient of the
  residual stream, and that of the feed-forward block's output behind its norm.
-/
module

public import proofs.«01_k».proof.Proof.MlpMath

@[expose] public section

noncomputable section

namespace Cert.Tail

open Cert.Reals Idealize.ShloMosaic

/-- The error of one row: the residual stream plus the normed output of the feed-forward block, less the target. -/
def err (x D NW T : Fin 1024 → ℝ) (d : Fin 1024) : ℝ := x d + D d * rms D * NW d - T d

/-- The gradient of the residual stream: the error over the number of columns. -/
def dyRow (x D NW T : Fin 1024 → ℝ) (d : Fin 1024) : ℝ := err x D NW T d * (1 / 1024)

/-- The gradient of the feed-forward block's output: that of the residual stream through the norm. -/
def ddRow (x D NW T : Fin 1024 → ℝ) (d : Fin 1024) : ℝ := rmsBwd D (fun e => dyRow x D NW T e * NW e) d

/-- One row's part of the loss, before its factor. -/
def sqRow (x D NW T : Fin 1024 → ℝ) : ℝ := ∑ d, err x D NW T d * err x D NW T d

theorem ofBits_half : Ideal.ofBits .f32 0x3F000000#32 = ((1 / 2 : ℝ) : EReal) := by
  simp [Ideal.ofBits, Ideal.ieee, -EReal.coe_mul]; norm_num

theorem ofBits_1_2048 : Ideal.ofBits .f32 0x3A000000#32 = ((1 / 2048 : ℝ) : EReal) := by
  simp [Ideal.ofBits, Ideal.ieee, -EReal.coe_mul]; norm_num

theorem ofBits_1_1024 : Ideal.ofBits .f32 0x3A800000#32 = ((1 / 1024 : ℝ) : EReal) := by
  simp [Ideal.ofBits, Ideal.ieee, -EReal.coe_mul]; norm_num

end Cert.Tail

end
-- ==== Proof.TailPoint.lean ====
/-
  One grid point of the loss and its gradients.
-/
module

public import proofs.«01_k».proof.Proof.TailMath
public import proofs.«01_k».proof.Proof.Gen.LossTailIdeal.Frame
public import Idealize.ShloMosaic.Lib.Pipeline.Value
public import Idealize.ShloMosaic.Lib.Pointwise
public import Idealize.ShloMosaic.Lib.StableHlo.ReadAt

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

theorem hz : (![0, 0] : Fin 2 → Nat) = fun _ => 0 := funext fun a => by fin_cases a <;> rfl

theorem read_sc1 (x : Vec Ideal S4x1024x1024 .bf16) : View.read (Elt Ideal) (View.whole cc0_scratch1) ((Memref.isWhole_whole cc0_scratch1).unread x) = x := (Memref.isWhole_whole cc0_scratch1).read_unread x
theorem read_sc2 (x : Vec Ideal S4x512x1024 .bf16) : View.read (Elt Ideal) (View.whole cc0_scratch2) ((Memref.isWhole_whole cc0_scratch2).unread x) = x := (Memref.isWhole_whole cc0_scratch2).read_unread x
theorem read_sc3 (x : Vec Ideal S4x512x1024 .bf16) : View.read (Elt Ideal) (View.whole cc0_scratch3) ((Memref.isWhole_whole cc0_scratch3).unread x) = x := (Memref.isWhole_whole cc0_scratch3).read_unread x

abbrev argX : Vec Ideal S2x2048x1024 .f32 := m (c.tc.loc main_arg0)
abbrev argNf : Vec Ideal S1x1024 .f32 := m (c.tc.loc main_arg1)
abbrev argWu : Vec Ideal S1x1024x4096 .f32 := m (c.tc.loc main_arg2)
abbrev argWd : Vec Ideal S1x4096x1024 .f32 := m (c.tc.loc main_arg3)
abbrev argNw : Vec Ideal S1x1024 .f32 := m (c.tc.loc main_arg4)
abbrev argT : Vec Ideal S2x2048x1024 .f32 := m (c.tc.loc main_arg5)

abbrev hBlk (t : Fin cfg0.N) : Vec Ideal S512x1024 .bf16 := iblk m c 0 t

/-- One entry of the point's block of squared rectified units. -/
def fAt (t : Fin cfg0.N) (r : Fin 512) (k : Fin 4096) : EReal :=
  max (∑ e : Fin 1024, hBlk m c t (ix2 r e) * argWu m c (ix3 0 e k)) 0 * max (∑ e : Fin 1024, hBlk m c t (ix2 r e) * argWu m c (ix3 0 e k)) 0

/-- The point's block of squared rectified units. -/
def fOf (t : Fin cfg0.N) : Vec Ideal S512x4096 .bf16 := fun y => fAt m c t (y 0) (y 1)

theorem fOf_tile (t : Fin cfg0.N) (o : Nat) (h : ∀ a : Fin S512x4096.rank, (![0, o] : Fin 2 → Nat) a + (![512, 512] : Fin 2 → Nat) a ≤ S512x4096.size a) (r : Fin 512) (k : Fin 512) (hk : o + k.val < 4096) :
    fOf m c t ((Rect.unit (s := S512x4096) ![0, o] ![512, 512] h).emb (ix2 r k)) = fAt m c t r ⟨o + k.val, hk⟩ := by
  unfold fOf
  congr 1
  · exact Fin.ext (by show 0 + 1 * r.val = r.val; omega)
  · exact Fin.ext (by show o + 1 * k.val = o + k.val; omega)

/-- The up projection as the kernel keeps it in scratch memory. -/
def upOf : Vec Ideal S4x1024x1024 .bf16 := fun y => argWu m c (ix3 0 (y 1) ⟨1024 * (y 0).val + (y 2).val, by have := (y 0).isLt; have := (y 2).isLt; dsimp at *; omega⟩)
/-- The two halves of the down projection as the kernel keeps them in scratch memory. -/
def downAOf : Vec Ideal S4x512x1024 .bf16 := fun y => argWd m c (ix3 0 ⟨1024 * (y 0).val + (y 1).val, by have := (y 0).isLt; have := (y 1).isLt; dsimp at *; omega⟩ (y 2))
def downBOf : Vec Ideal S4x512x1024 .bf16 := fun y => argWd m c (ix3 0 ⟨1024 * (y 0).val + 512 + (y 1).val, by have := (y 0).isLt; have := (y 1).isLt; dsimp at *; omega⟩ (y 2))

theorem upOf_at (a : Fin 4) (d k : Fin 1024) (n : Fin 4096) (h : 1024 * a.val + k.val = n.val) :
    upOf m c (ix3 a d k) = argWu m c (ix3 0 d n) := congrArg (fun n => argWu m c (ix3 0 d n)) (Fin.ext h)

theorem downAOf_at (a : Fin 4) (k : Fin 512) (d : Fin 1024) (n : Fin 4096) (h : 1024 * a.val + k.val = n.val) :
    downAOf m c (ix3 a k d) = argWd m c (ix3 0 n d) := congrArg (fun n => argWd m c (ix3 0 n d)) (Fin.ext h)

theorem downBOf_at (a : Fin 4) (k : Fin 512) (d : Fin 1024) (n : Fin 4096) (h : 1024 * a.val + 512 + k.val = n.val) :
    downBOf m c (ix3 a k d) = argWd m c (ix3 0 n d) := congrArg (fun n => argWd m c (ix3 0 n d)) (Fin.ext h)

theorem fAt_up (t : Fin cfg0.N) (r : Fin 512) (a : Fin 4) (k : Fin 1024) (n : Fin 4096) (h : 1024 * a.val + k.val = n.val) :
    max (∑ e : Fin 1024, hBlk m c t (ix2 r e) * upOf m c (ix3 a e k)) 0 * max (∑ e : Fin 1024, hBlk m c t (ix2 r e) * upOf m c (ix3 a e k)) 0 = fAt m c t r n := by
  simp only [upOf_at m c a _ k n h]
  rfl

attribute [local irreducible] upOf downAOf downBOf fAt fOf

set_option maxHeartbeats 4000000 in
theorem f_B (t : Fin cfg0.N) (h0 : ¬t.val % 9 = 0) (h1 : 1 ≤ t.val)
    (e1 : (outsAt0 m c (t.val - 1) (by have := t.isLt; omega)).2.2.2.2.2.2.1 = upOf m c)
    (e2 : (outsAt0 m c (t.val - 1) (by have := t.isLt; omega)).2.2.2.2.2.2.2.1 = downAOf m c)
    (e3 : (outsAt0 m c (t.val - 1) (by have := t.isLt; omega)).2.2.2.2.2.2.2.2 = downBOf m c) :
    (outsAt0 m c t.val t.isLt).1 = fOf m c t := by
  rw [outsAt0_B m c t h0 h1]
  dsimp only
  unfold out0_B_4
  rw [View.read_writes_eq_canon _ _ _ (fun y => cover0_B_4 (y := y) ..)]
  funext y
  refine View.canon_apply_of_pieces (fOf m c t) _ ?_ y (cover0_B_4 (y := y) ..)
  unfold kernelRun0_B
  dsimp only
  sl_unfold_words
  simp only [View.readAt_eq_ld, (hs0_0 t).read_unread, View.ld_unit_zero (S := S512x1024) hz]
  rw [e1]
  simp only [read_sc1]
  simp only [List.forall_mem_cons]
  refine ⟨?b3, ?a3, ?b2, ?a2, ?b1, ?a1, ?b0, ?a0, List.forall_mem_nil _⟩
  all_goals
    intro x
    obtain ⟨r, k, rfl⟩ := exists_ix2 (n0 := 512) (n1 := 512) x
    pointwise [k0_pay20, k0_pay21, k0_pay22, k0_pay23, k0_pay24, k0_pay25, k0_pay26, k0_pay27, k0_pay28, k0_pay29, k0_pay30, k0_pay31, k0_pay32]
    refine Eq.trans ?_ (fOf_tile m c t _ _ r k (by omega)).symm
  case a0 => exact fAt_up m c t r 0 _ _ (by show 1024 * 0 + k.val = 0 + k.val; omega)
  case b0 => exact fAt_up m c t r 0 _ _ (by show 1024 * 0 + (512 + k.val) = 512 + k.val; omega)
  case a1 => exact fAt_up m c t r 1 _ _ (by show 1024 * 1 + k.val = 1024 + k.val; omega)
  case b1 => exact fAt_up m c t r 1 _ _ (by show 1024 * 1 + (512 + k.val) = 1536 + k.val; omega)
  case a2 => exact fAt_up m c t r 2 _ _ (by show 1024 * 2 + k.val = 2048 + k.val; omega)
  case b2 => exact fAt_up m c t r 2 _ _ (by show 1024 * 2 + (512 + k.val) = 2560 + k.val; omega)
  case a3 => exact fAt_up m c t r 3 _ _ (by show 1024 * 3 + k.val = 3072 + k.val; omega)
  case b3 => exact fAt_up m c t r 3 _ _ (by show 1024 * 3 + (512 + k.val) = 3584 + k.val; omega)

set_option maxHeartbeats 4000000 in
theorem acc_B (t : Fin cfg0.N) (h0 : ¬t.val % 9 = 0) (h1 : 1 ≤ t.val)
    (e1 : (outsAt0 m c (t.val - 1) (by have := t.isLt; omega)).2.2.2.2.2.2.1 = upOf m c)
    (e2 : (outsAt0 m c (t.val - 1) (by have := t.isLt; omega)).2.2.2.2.2.2.2.1 = downAOf m c)
    (e3 : (outsAt0 m c (t.val - 1) (by have := t.isLt; omega)).2.2.2.2.2.2.2.2 = downBOf m c) (r : Fin 512) (d : Fin 1024) :
    (outsAt0 m c t.val t.isLt).2.2.2.2.2.1 (ix2 r d) = ∑ k, fAt m c t r k * argWd m c (ix3 0 k d) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero hz]
  simp only [View.readAt_eq_ld, (hs0_0 t).read_unread, View.ld_unit_zero (S := S512x1024) hz]
  rw [e1, e2, e3]
  simp only [read_sc1, read_sc2, read_sc3]
  pointwise [k0_pay20, k0_pay21, k0_pay22, k0_pay23, k0_pay24, k0_pay25, k0_pay26, k0_pay27, k0_pay28, k0_pay29, k0_pay30, k0_pay31, k0_pay32]
  rw [← sum_tiles]
  refine congrArg₂ (· + ·) (congrArg₂ (· + ·) (congrArg₂ (· + ·) (congrArg₂ (· + ·) (congrArg₂ (· + ·) (congrArg₂ (· + ·) (congrArg₂ (· + ·) ?a0 ?b0) ?a1) ?b1) ?a2) ?b2) ?a3) ?b3
  case a0 => refine Finset.sum_congr rfl fun k _ => congrArg₂ (· * ·) (fAt_up m c t r 0 _ _ (by show 1024 * 0 + k.val = k.val; omega)) (downAOf_at m c 0 k d _ (by show 1024 * 0 + k.val = k.val; omega))
  case b0 => refine Finset.sum_congr rfl fun k _ => congrArg₂ (· * ·) (fAt_up m c t r 0 _ _ (by show 1024 * 0 + (512 + k.val) = 512 + k.val; omega)) (downBOf_at m c 0 k d _ (by show 1024 * 0 + 512 + k.val = 512 + k.val; omega))
  case a1 => refine Finset.sum_congr rfl fun k _ => congrArg₂ (· * ·) (fAt_up m c t r 1 _ _ (by show 1024 * 1 + k.val = 1024 + k.val; omega)) (downAOf_at m c 1 k d _ (by show 1024 * 1 + k.val = 1024 + k.val; omega))
  case b1 => refine Finset.sum_congr rfl fun k _ => congrArg₂ (· * ·) (fAt_up m c t r 1 _ _ (by show 1024 * 1 + (512 + k.val) = 1536 + k.val; omega)) (downBOf_at m c 1 k d _ (by show 1024 * 1 + 512 + k.val = 1536 + k.val; omega))
  case a2 => refine Finset.sum_congr rfl fun k _ => congrArg₂ (· * ·) (fAt_up m c t r 2 _ _ (by show 1024 * 2 + k.val = 2048 + k.val; omega)) (downAOf_at m c 2 k d _ (by show 1024 * 2 + k.val = 2048 + k.val; omega))
  case b2 => refine Finset.sum_congr rfl fun k _ => congrArg₂ (· * ·) (fAt_up m c t r 2 _ _ (by show 1024 * 2 + (512 + k.val) = 2560 + k.val; omega)) (downBOf_at m c 2 k d _ (by show 1024 * 2 + 512 + k.val = 2560 + k.val; omega))
  case a3 => refine Finset.sum_congr rfl fun k _ => congrArg₂ (· * ·) (fAt_up m c t r 3 _ _ (by show 1024 * 3 + k.val = 3072 + k.val; omega)) (downAOf_at m c 3 k d _ (by show 1024 * 3 + k.val = 3072 + k.val; omega))
  case b3 => refine Finset.sum_congr rfl fun k _ => congrArg₂ (· * ·) (fAt_up m c t r 3 _ _ (by show 1024 * 3 + (512 + k.val) = 3584 + k.val; omega)) (downBOf_at m c 3 k d _ (by show 1024 * 3 + 512 + k.val = 3584 + k.val; omega))
end
end Cert.Tail
end
-- ==== Proof.TailFirst.lean ====
/-
  The first grid point of the loss and its gradients, which copies the weights in.
-/
module

public import proofs.«01_k».proof.Proof.TailPoint
public import proofs.«01_k».proof.Proof.Pieces

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

/-- The eight pieces in which the up projection is copied in. -/
def upCopies (X : Vec Ideal S4x1024x1024 .bf16) : List (View.Piece (Elt Ideal) S4x1024x1024 .bf16) :=
  [⟨Rect.unit ![3, 0, 512] ![1, 1024, 512] inb_S4x1024x1024_S1x1024x512_3_0_512, ReadAs.same.apply (View.read (Elt Ideal) ((View.whole main_v13).slice (Rect.unit ![3, 0, 512] ![1, 1024, 512] inb_S4x1024x1024_S1x1024x512_3_0_512)) X)⟩,
      ⟨Rect.unit ![3, 0, 0] ![1, 1024, 512] inb_S4x1024x1024_S1x1024x512_3_0_0, ReadAs.same.apply (View.read (Elt Ideal) ((View.whole main_v13).slice (Rect.unit ![3, 0, 0] ![1, 1024, 512] inb_S4x1024x1024_S1x1024x512_3_0_0)) X)⟩,
      ⟨Rect.unit ![2, 0, 512] ![1, 1024, 512] inb_S4x1024x1024_S1x1024x512_2_0_512, ReadAs.same.apply (View.read (Elt Ideal) ((View.whole main_v13).slice (Rect.unit ![2, 0, 512] ![1, 1024, 512] inb_S4x1024x1024_S1x1024x512_2_0_512)) X)⟩,
      ⟨Rect.unit ![2, 0, 0] ![1, 1024, 512] inb_S4x1024x1024_S1x1024x512_2_0_0, ReadAs.same.apply (View.read (Elt Ideal) ((View.whole main_v13).slice (Rect.unit ![2, 0, 0] ![1, 1024, 512] inb_S4x1024x1024_S1x1024x512_2_0_0)) X)⟩,
      ⟨Rect.unit ![1, 0, 512] ![1, 1024, 512] inb_S4x1024x1024_S1x1024x512_1_0_512, ReadAs.same.apply (View.read (Elt Ideal) ((View.whole main_v13).slice (Rect.unit ![1, 0, 512] ![1, 1024, 512] inb_S4x1024x1024_S1x1024x512_1_0_512)) X)⟩,
      ⟨Rect.unit ![1, 0, 0] ![1, 1024, 512] inb_S4x1024x1024_S1x1024x512_1_0_0, ReadAs.same.apply (View.read (Elt Ideal) ((View.whole main_v13).slice (Rect.unit ![1, 0, 0] ![1, 1024, 512] inb_S4x1024x1024_S1x1024x512_1_0_0)) X)⟩,
      ⟨Rect.unit ![0, 0, 512] ![1, 1024, 512] inb_S4x1024x1024_S1x1024x512_0_0_512, ReadAs.same.apply (View.read (Elt Ideal) ((View.whole main_v13).slice (Rect.unit ![0, 0, 512] ![1, 1024, 512] inb_S4x1024x1024_S1x1024x512_0_0_512)) X)⟩,
      ⟨Rect.unit ![0, 0, 0] ![1, 1024, 512] inb_S4x1024x1024_S1x1024x512_0_0_0, ReadAs.same.apply (View.read (Elt Ideal) ((View.whole main_v13).slice (Rect.unit ![0, 0, 0] ![1, 1024, 512] inb_S4x1024x1024_S1x1024x512_0_0_0)) X)⟩]
/-- The four pieces in which each half of the down projection is copied in. -/
def downACopies (X : Vec Ideal S4x512x1024 .bf16) : List (View.Piece (Elt Ideal) S4x512x1024 .bf16) :=
  [⟨Rect.unit ![3, 0, 0] ![1, 512, 1024] inb_S4x512x1024_S1x512x1024_3_0_0, ReadAs.same.apply (View.read (Elt Ideal) ((View.whole main_v17).slice (Rect.unit ![3, 0, 0] ![1, 512, 1024] inb_S4x512x1024_S1x512x1024_3_0_0)) X)⟩,
      ⟨Rect.unit ![2, 0, 0] ![1, 512, 1024] inb_S4x512x1024_S1x512x1024_2_0_0, ReadAs.same.apply (View.read (Elt Ideal) ((View.whole main_v17).slice (Rect.unit ![2, 0, 0] ![1, 512, 1024] inb_S4x512x1024_S1x512x1024_2_0_0)) X)⟩,
      ⟨Rect.unit ![1, 0, 0] ![1, 512, 1024] inb_S4x512x1024_S1x512x1024_1_0_0, ReadAs.same.apply (View.read (Elt Ideal) ((View.whole main_v17).slice (Rect.unit ![1, 0, 0] ![1, 512, 1024] inb_S4x512x1024_S1x512x1024_1_0_0)) X)⟩,
      ⟨Rect.unit ![0, 0, 0] ![1, 512, 1024] inb_S4x512x1024_S1x512x1024_0_0_0, ReadAs.same.apply (View.read (Elt Ideal) ((View.whole main_v17).slice (Rect.unit ![0, 0, 0] ![1, 512, 1024] inb_S4x512x1024_S1x512x1024_0_0_0)) X)⟩]
def downBCopies (X : Vec Ideal S4x512x1024 .bf16) : List (View.Piece (Elt Ideal) S4x512x1024 .bf16) :=
  [⟨Rect.unit ![3, 0, 0] ![1, 512, 1024] inb_S4x512x1024_S1x512x1024_3_0_0, ReadAs.same.apply (View.read (Elt Ideal) ((View.whole main_v18).slice (Rect.unit ![3, 0, 0] ![1, 512, 1024] inb_S4x512x1024_S1x512x1024_3_0_0)) X)⟩,
      ⟨Rect.unit ![2, 0, 0] ![1, 512, 1024] inb_S4x512x1024_S1x512x1024_2_0_0, ReadAs.same.apply (View.read (Elt Ideal) ((View.whole main_v18).slice (Rect.unit ![2, 0, 0] ![1, 512, 1024] inb_S4x512x1024_S1x512x1024_2_0_0)) X)⟩,
      ⟨Rect.unit ![1, 0, 0] ![1, 512, 1024] inb_S4x512x1024_S1x512x1024_1_0_0, ReadAs.same.apply (View.read (Elt Ideal) ((View.whole main_v18).slice (Rect.unit ![1, 0, 0] ![1, 512, 1024] inb_S4x512x1024_S1x512x1024_1_0_0)) X)⟩,
      ⟨Rect.unit ![0, 0, 0] ![1, 512, 1024] inb_S4x512x1024_S1x512x1024_0_0_0, ReadAs.same.apply (View.read (Elt Ideal) ((View.whole main_v18).slice (Rect.unit ![0, 0, 0] ![1, 512, 1024] inb_S4x512x1024_S1x512x1024_0_0_0)) X)⟩]

theorem upCopies_cover (X : Vec Ideal S4x1024x1024 .bf16) (y : S4x1024x1024.Idx) : ∃ p ∈ upCopies X, y ∈ p.1.set := View.cover_of_tiledL (upCopies X) S1x1024x512.size (by sl_kernel_rfl) y
theorem downACopies_cover (X : Vec Ideal S4x512x1024 .bf16) (y : S4x512x1024.Idx) : ∃ p ∈ downACopies X, y ∈ p.1.set := View.cover_of_tiledL (downACopies X) S1x512x1024.size (by sl_kernel_rfl) y
theorem downBCopies_cover (X : Vec Ideal S4x512x1024 .bf16) (y : S4x512x1024.Idx) : ∃ p ∈ downBCopies X, y ∈ p.1.set := View.cover_of_tiledL (downBCopies X) S1x512x1024.size (by sl_kernel_rfl) y

theorem upCopies_eq (X : Vec Ideal S4x1024x1024 .bf16) : ∀ p ∈ upCopies X, ∀ x : p.1.shape.Idx, p.2 x = X (p.1.emb x) := by
  unfold upCopies
  simp only [List.forall_mem_cons]
  exact ⟨fun _ => rfl, fun _ => rfl, fun _ => rfl, fun _ => rfl, fun _ => rfl, fun _ => rfl, fun _ => rfl, fun _ => rfl, List.forall_mem_nil _⟩
theorem downACopies_eq (X : Vec Ideal S4x512x1024 .bf16) : ∀ p ∈ downACopies X, ∀ x : p.1.shape.Idx, p.2 x = X (p.1.emb x) := by
  unfold downACopies
  simp only [List.forall_mem_cons]
  exact ⟨fun _ => rfl, fun _ => rfl, fun _ => rfl, fun _ => rfl, List.forall_mem_nil _⟩
theorem downBCopies_eq (X : Vec Ideal S4x512x1024 .bf16) : ∀ p ∈ downBCopies X, ∀ x : p.1.shape.Idx, p.2 x = X (p.1.emb x) := by
  unfold downBCopies
  simp only [List.forall_mem_cons]
  exact ⟨fun _ => rfl, fun _ => rfl, fun _ => rfl, fun _ => rfl, List.forall_mem_nil _⟩

/-- What is read of the copied weights is that part of the weights. -/
theorem read_up (X : Vec Ideal S4x1024x1024 .bf16) (r : Rect S4x1024x1024) : (View.whole cc0_scratch1).readCov (upCopies X) r.toLoadRect = View.ld (Val := Elt Ideal) X r := readCov_pieces _ X _ r (upCopies_eq X) (upCopies_cover X)
theorem read_downA (X : Vec Ideal S4x512x1024 .bf16) (r : Rect S4x512x1024) : (View.whole cc0_scratch2).readCov (downACopies X) r.toLoadRect = View.ld (Val := Elt Ideal) X r := readCov_pieces _ X _ r (downACopies_eq X) (downACopies_cover X)
theorem read_downB (X : Vec Ideal S4x512x1024 .bf16) (r : Rect S4x512x1024) : (View.whole cc0_scratch3).readCov (downBCopies X) r.toLoadRect = View.ld (Val := Elt Ideal) X r := readCov_pieces _ X _ r (downBCopies_eq X) (downBCopies_cover X)

attribute [local irreducible] upOf downAOf downBOf fAt fOf

theorem keep1_A (t : Fin cfg0.N) (h0 : t.val % 9 = 0) (h1 : ¬1 ≤ t.val) (e : (V m c main_v13 : Vec Ideal S4x1024x1024 .bf16) = upOf m c) :
    (outsAt0 m c t.val t.isLt).2.2.2.2.2.2.1 = upOf m c := by
  rw [outsAt0_A m c t h0 h1]
  dsimp only
  unfold sout0_A_1
  rw [View.read_writes_eq_canon _ _ _ (fun y => scover0_A_1 (y := y) ..)]
  funext y
  refine View.canon_apply_of_pieces (upOf m c) _ ?_ y (scover0_A_1 (y := y) ..)
  unfold kernelRun0_A
  dsimp only
  sl_unfold_words
  rw [e]
  exact upCopies_eq (upOf m c)

theorem keep2_A (t : Fin cfg0.N) (h0 : t.val % 9 = 0) (h1 : ¬1 ≤ t.val) (e : (V m c main_v17 : Vec Ideal S4x512x1024 .bf16) = downAOf m c) :
    (outsAt0 m c t.val t.isLt).2.2.2.2.2.2.2.1 = downAOf m c := by
  rw [outsAt0_A m c t h0 h1]
  dsimp only
  unfold sout0_A_2
  rw [View.read_writes_eq_canon _ _ _ (fun y => scover0_A_2 (y := y) ..)]
  funext y
  refine View.canon_apply_of_pieces (downAOf m c) _ ?_ y (scover0_A_2 (y := y) ..)
  unfold kernelRun0_A
  dsimp only
  sl_unfold_words
  rw [e]
  exact downACopies_eq (downAOf m c)

theorem keep3_A (t : Fin cfg0.N) (h0 : t.val % 9 = 0) (h1 : ¬1 ≤ t.val) (e : (V m c main_v18 : Vec Ideal S4x512x1024 .bf16) = downBOf m c) :
    (outsAt0 m c t.val t.isLt).2.2.2.2.2.2.2.2 = downBOf m c := by
  rw [outsAt0_A m c t h0 h1]
  dsimp only
  unfold sout0_A_3
  rw [View.read_writes_eq_canon _ _ _ (fun y => scover0_A_3 (y := y) ..)]
  funext y
  refine View.canon_apply_of_pieces (downBOf m c) _ ?_ y (scover0_A_3 (y := y) ..)
  unfold kernelRun0_A
  dsimp only
  sl_unfold_words
  rw [e]
  exact downBCopies_eq (downBOf m c)

set_option maxHeartbeats 4000000 in
theorem f_A (t : Fin cfg0.N) (h0 : t.val % 9 = 0) (h1 : ¬1 ≤ t.val) (eu : (V m c main_v13 : Vec Ideal S4x1024x1024 .bf16) = upOf m c) :
    (outsAt0 m c t.val t.isLt).1 = fOf m c t := by
  rw [outsAt0_A m c t h0 h1]
  dsimp only
  unfold out0_A_4
  rw [View.read_writes_eq_canon _ _ _ (fun y => cover0_A_4 (y := y) ..)]
  funext y
  refine View.canon_apply_of_pieces (fOf m c t) _ ?_ y (cover0_A_4 (y := y) ..)
  unfold kernelRun0_A
  dsimp only
  sl_unfold_words
  simp only [View.readAt_eq_ld, (hs0_0 t).read_unread, View.ld_unit_zero (S := S512x1024) hz]
  rw [eu]
  have ru := read_up (upOf m c)
  unfold upCopies at ru
  simp only [ru]
  simp only [List.forall_mem_cons]
  refine ⟨?b3, ?a3, ?b2, ?a2, ?b1, ?a1, ?b0, ?a0, List.forall_mem_nil _⟩
  all_goals
    intro x
    obtain ⟨r, k, rfl⟩ := exists_ix2 (n0 := 512) (n1 := 512) x
    pointwise [k0_pay1, k0_pay2, k0_pay5, k0_pay6, k0_pay7, k0_pay8, k0_pay9, k0_pay10, k0_pay11, k0_pay12, k0_pay13, k0_pay14, k0_pay15, k0_pay16, k0_pay17, k0_pay18, k0_pay19]
    refine Eq.trans ?_ (fOf_tile m c t _ _ r k (by omega)).symm
  case a0 => exact fAt_up m c t r 0 _ _ (by show 1024 * 0 + k.val = 0 + k.val; omega)
  case b0 => exact fAt_up m c t r 0 _ _ (by show 1024 * 0 + (512 + k.val) = 512 + k.val; omega)
  case a1 => exact fAt_up m c t r 1 _ _ (by show 1024 * 1 + k.val = 1024 + k.val; omega)
  case b1 => exact fAt_up m c t r 1 _ _ (by show 1024 * 1 + (512 + k.val) = 1536 + k.val; omega)
  case a2 => exact fAt_up m c t r 2 _ _ (by show 1024 * 2 + k.val = 2048 + k.val; omega)
  case b2 => exact fAt_up m c t r 2 _ _ (by show 1024 * 2 + (512 + k.val) = 2560 + k.val; omega)
  case a3 => exact fAt_up m c t r 3 _ _ (by show 1024 * 3 + k.val = 3072 + k.val; omega)
  case b3 => exact fAt_up m c t r 3 _ _ (by show 1024 * 3 + (512 + k.val) = 3584 + k.val; omega)

set_option maxHeartbeats 4000000 in
theorem acc_A (t : Fin cfg0.N) (h0 : t.val % 9 = 0) (h1 : ¬1 ≤ t.val)
    (eu : (V m c main_v13 : Vec Ideal S4x1024x1024 .bf16) = upOf m c) (ea : (V m c main_v17 : Vec Ideal S4x512x1024 .bf16) = downAOf m c)
    (eb : (V m c main_v18 : Vec Ideal S4x512x1024 .bf16) = downBOf m c) (r : Fin 512) (d : Fin 1024) :
    (outsAt0 m c t.val t.isLt).2.2.2.2.2.1 (ix2 r d) = ∑ k, fAt m c t r k * argWd m c (ix3 0 k d) := by
  rw [outsAt0_A m c t h0 h1]
  dsimp only
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 t).read_unread, View.ld_unit_zero (S := S512x1024) hz]
  rw [eu, ea, eb]
  have ru := read_up (upOf m c)
  have ra := read_downA (downAOf m c)
  have rb := read_downB (downBOf m c)
  unfold upCopies at ru
  unfold downACopies at ra
  unfold downBCopies at rb
  simp only [ru, ra, rb]
  pointwise [k0_pay1, k0_pay2, k0_pay5, k0_pay6, k0_pay7, k0_pay8, k0_pay9, k0_pay10, k0_pay11, k0_pay12, k0_pay13, k0_pay14, k0_pay15, k0_pay16, k0_pay17, k0_pay18, k0_pay19]
  rw [← sum_tiles]
  refine congrArg₂ (· + ·) (congrArg₂ (· + ·) (congrArg₂ (· + ·) (congrArg₂ (· + ·) (congrArg₂ (· + ·) (congrArg₂ (· + ·) (congrArg₂ (· + ·) ?a0 ?b0) ?a1) ?b1) ?a2) ?b2) ?a3) ?b3
  case a0 => refine Finset.sum_congr rfl fun k _ => congrArg₂ (· * ·) (fAt_up m c t r 0 _ _ (by show 1024 * 0 + k.val = k.val; omega)) (downAOf_at m c 0 k d _ (by show 1024 * 0 + k.val = k.val; omega))
  case b0 => refine Finset.sum_congr rfl fun k _ => congrArg₂ (· * ·) (fAt_up m c t r 0 _ _ (by show 1024 * 0 + (512 + k.val) = 512 + k.val; omega)) (downBOf_at m c 0 k d _ (by show 1024 * 0 + 512 + k.val = 512 + k.val; omega))
  case a1 => refine Finset.sum_congr rfl fun k _ => congrArg₂ (· * ·) (fAt_up m c t r 1 _ _ (by show 1024 * 1 + k.val = 1024 + k.val; omega)) (downAOf_at m c 1 k d _ (by show 1024 * 1 + k.val = 1024 + k.val; omega))
  case b1 => refine Finset.sum_congr rfl fun k _ => congrArg₂ (· * ·) (fAt_up m c t r 1 _ _ (by show 1024 * 1 + (512 + k.val) = 1536 + k.val; omega)) (downBOf_at m c 1 k d _ (by show 1024 * 1 + 512 + k.val = 1536 + k.val; omega))
  case a2 => refine Finset.sum_congr rfl fun k _ => congrArg₂ (· * ·) (fAt_up m c t r 2 _ _ (by show 1024 * 2 + k.val = 2048 + k.val; omega)) (downAOf_at m c 2 k d _ (by show 1024 * 2 + k.val = 2048 + k.val; omega))
  case b2 => refine Finset.sum_congr rfl fun k _ => congrArg₂ (· * ·) (fAt_up m c t r 2 _ _ (by show 1024 * 2 + (512 + k.val) = 2560 + k.val; omega)) (downBOf_at m c 2 k d _ (by show 1024 * 2 + 512 + k.val = 2560 + k.val; omega))
  case a3 => refine Finset.sum_congr rfl fun k _ => congrArg₂ (· * ·) (fAt_up m c t r 3 _ _ (by show 1024 * 3 + k.val = 3072 + k.val; omega)) (downAOf_at m c 3 k d _ (by show 1024 * 3 + k.val = 3072 + k.val; omega))
  case b3 => refine Finset.sum_congr rfl fun k _ => congrArg₂ (· * ·) (fAt_up m c t r 3 _ _ (by show 1024 * 3 + (512 + k.val) = 3584 + k.val; omega)) (downBOf_at m c 3 k d _ (by show 1024 * 3 + 512 + k.val = 3584 + k.val; omega))
end
end Cert.Tail
end
-- ==== Proof.TailLag.lean ====
/-
  One grid point of the loss and its gradients: what it makes of the block before.
-/
module

public import proofs.«01_k».proof.Proof.TailPoint

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

abbrev xBlk (t : Fin cfg0.N) : Vec Ideal S512x1024 .f32 := iblk m c 1 t
abbrev tBlk (t : Fin cfg0.N) : Vec Ideal S512x1024 .f32 := iblk m c 2 t
abbrev nwBlk (t : Fin cfg0.N) : Vec Ideal S1x1024 .f32 := iblk m c 3 t

/-- The errors of the rows of the block before, from the feed-forward block's output the point before left. -/
def errOf (t : Fin cfg0.N) (acc : Vec Ideal S512x1024 .f32) : Vec Ideal S512x1024 .f32 := k0_pay34 acc (nwBlk m c t) (xBlk m c t) (tBlk m c t)
/-- The gradient of that output. -/
def ddOf (t : Fin cfg0.N) (acc : Vec Ideal S512x1024 .f32) : Vec Ideal S512x1024 .bf16 := k0_pay39 acc (k0_pay33 acc) (errOf m c t acc) (nwBlk m c t)
/-- The gradient of the residual stream. -/
def dyOf (t : Fin cfg0.N) (acc : Vec Ideal S512x1024 .f32) : Vec Ideal S512x1024 .f32 := k0_pay38 (F := Ideal) (errOf m c t acc)
/-- The loss summed up to the block before. -/
def lossOf (t : Fin cfg0.N) (acc : Vec Ideal S512x1024 .f32) (l : Vec Ideal S8x128 .f32) : Vec Ideal S8x128 .f32 :=
  k0_pay37 (k0_pay35 l) (k0_pay36 acc (nwBlk m c t) (xBlk m c t) (tBlk m c t))
/-- The norm weight's gradient summed up to the block before. -/
def gwOf (t : Fin cfg0.N) (acc : Vec Ideal S512x1024 .f32) (g : Vec Ideal S1x1024 .f32) : Vec Ideal S1x1024 .f32 := k0_pay40 acc (k0_pay33 acc) (errOf m c t acc) g

theorem dd_B (t : Fin cfg0.N) (h0 : ¬t.val % 9 = 0) (h1 : 1 ≤ t.val) :
    (outsAt0 m c t.val t.isLt).2.1 = ddOf m c t (outsAt0 m c (t.val - 1) (by have := t.isLt; omega)).2.2.2.2.2.1 := by
  rw [outsAt0_B m c t h0 h1]
  dsimp only
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_1 t).read_unread, (hs0_2 t).read_unread, (hs0_3 t).read_unread, (Memref.isWhole_whole cc0_scratch0).read_unread, View.ld_unit_zero (S := S512x1024) hz, View.ld_unit_zero (S := S1x1024) hz, View.ld_unit_zero (S := S8x128) hz]
  rfl

theorem dy_B (t : Fin cfg0.N) (h0 : ¬t.val % 9 = 0) (h1 : 1 ≤ t.val) :
    (outsAt0 m c t.val t.isLt).2.2.1 = dyOf m c t (outsAt0 m c (t.val - 1) (by have := t.isLt; omega)).2.2.2.2.2.1 := by
  rw [outsAt0_B m c t h0 h1]
  dsimp only
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_1 t).read_unread, (hs0_2 t).read_unread, (hs0_3 t).read_unread, (Memref.isWhole_whole cc0_scratch0).read_unread, View.ld_unit_zero (S := S512x1024) hz, View.ld_unit_zero (S := S1x1024) hz, View.ld_unit_zero (S := S8x128) hz]
  rfl

theorem loss_B (t : Fin cfg0.N) (h0 : ¬t.val % 9 = 0) (h1 : 1 ≤ t.val) :
    (outsAt0 m c t.val t.isLt).2.2.2.1 = lossOf m c t (outsAt0 m c (t.val - 1) (by have := t.isLt; omega)).2.2.2.2.2.1 (outsAt0 m c (t.val - 1) (by have := t.isLt; omega)).2.2.2.1 := by
  rw [outsAt0_B m c t h0 h1]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_1 t).read_unread, (hs0_2 t).read_unread, (hs0_3 t).read_unread, (hs0_7 t).read_unread, (Memref.isWhole_whole cc0_scratch0).read_unread, View.ld_unit_zero (S := S512x1024) hz, View.ld_unit_zero (S := S1x1024) hz, View.ld_unit_zero (S := S8x128) hz]
  rfl

theorem gw_B (t : Fin cfg0.N) (h0 : ¬t.val % 9 = 0) (h1 : 1 ≤ t.val) :
    (outsAt0 m c t.val t.isLt).2.2.2.2.1 = gwOf m c t (outsAt0 m c (t.val - 1) (by have := t.isLt; omega)).2.2.2.2.2.1 (outsAt0 m c (t.val - 1) (by have := t.isLt; omega)).2.2.2.2.1 := by
  rw [outsAt0_B m c t h0 h1]
  dsimp only
  unfold out0_B_8
  rw [View.read_writes_eq_canon _ _ _ (fun y => cover0_B_8 (y := y) ..)]
  unfold kernelRun0_B
  dsimp only
  sl_unfold_words
  rw [View.canon_unit_zero hz]
  simp only [View.readAt_eq_ld, (hs0_1 t).read_unread, (hs0_2 t).read_unread, (hs0_3 t).read_unread, (hs0_8 t).read_unread, (Memref.isWhole_whole cc0_scratch0).read_unread, View.ld_unit_zero (S := S512x1024) hz, View.ld_unit_zero (S := S1x1024) hz, View.ld_unit_zero (S := S8x128) hz]
  rfl

theorem loss_A (t : Fin cfg0.N) (h0 : t.val % 9 = 0) (h1 : ¬1 ≤ t.val) : (outsAt0 m c t.val t.isLt).2.2.2.1 = k0_pay3 (F := Ideal) := by
  rw [outsAt0_A m c t h0 h1]
  dsimp only
  unfold out0_A_7
  rw [View.read_writes_eq_canon _ _ _ (fun y => cover0_A_7 (y := y) ..)]
  unfold kernelRun0_A
  dsimp only
  sl_unfold_words
  rw [View.canon_unit_zero hz]

theorem gw_A (t : Fin cfg0.N) (h0 : t.val % 9 = 0) (h1 : ¬1 ≤ t.val) : (outsAt0 m c t.val t.isLt).2.2.2.2.1 = k0_pay4 (F := Ideal) := by
  rw [outsAt0_A m c t h0 h1]
  dsimp only
  unfold out0_A_8
  rw [View.read_writes_eq_canon _ _ _ (fun y => cover0_A_8 (y := y) ..)]
  unfold kernelRun0_A
  dsimp only
  sl_unfold_words
  rw [View.canon_unit_zero hz]

/-- The weights once copied in stay where they are. -/
theorem keep_B (t : Fin cfg0.N) (h0 : ¬t.val % 9 = 0) (h1 : 1 ≤ t.val) :
    (outsAt0 m c t.val t.isLt).2.2.2.2.2.2 = (outsAt0 m c (t.val - 1) (by have := t.isLt; omega)).2.2.2.2.2.2 := by
  rw [outsAt0_B m c t h0 h1]
  rfl

end
end Cert.Tail
end
-- ==== Proof.TailBlocks.lean ====
/-
  The blocks of the loss and its gradients as parts of the arguments.
-/
module

public import proofs.«01_k».proof.Proof.TailLag

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

/-- The row of the whole arrays that is row `r` of the block point `t` computes. -/
def leadRow (t : Fin cfg0.N) (r : Fin 512) : Fin 4096 := ⟨512 * min t.val 7 + r.val, by omega⟩
/-- The row of the whole arrays that is row `r` of the block before, which point `t` finishes. -/
def lagRow (t : Fin cfg0.N) (r : Fin 512) : Fin 4096 := ⟨512 * (t.val - 1) + r.val, by have := t.isLt; have : cfg0.N = 9 := N_0; omega⟩

/-- The batch of a row, and its position in the sequence. -/
def bat (i : Fin 4096) : Fin 2 := ⟨i.val / 2048, by omega⟩
def pos (i : Fin 4096) : Fin 2048 := ⟨i.val % 2048, by omega⟩

theorem index_lead : ∀ t : Fin grid0.N, (win0_0.index t 0 = min t.val 7 ∧ win0_0.index t 1 = 0) ∧ (win0_4.index t 0 = min t.val 7 ∧ win0_4.index t 1 = 0) := by decide +kernel
theorem index_lag : ∀ t : Fin grid0.N, (win0_1.index t 0 = t.val - 1 ∧ win0_1.index t 1 = 0) ∧ (win0_2.index t 0 = t.val - 1 ∧ win0_2.index t 1 = 0)
    ∧ (win0_5.index t 0 = t.val - 1 ∧ win0_5.index t 1 = 0) ∧ (win0_6.index t 0 = t.val - 1 ∧ win0_6.index t 1 = 0) := by decide +kernel
theorem index_whole : ∀ t : Fin grid0.N, win0_3.index t 0 = 0 ∧ win0_3.index t 1 = 0 := by decide +kernel

theorem blk_1 (t : Fin cfg0.N) (r : Fin 512) (k : Fin 1024) : (iblk m c 1 t : Vec Ideal S512x1024 .f32) (ix2 r k) = argX m c (ix3 (bat (lagRow t r)) (pos (lagRow t r)) k) := by
  have e : (iblk m c 1 t : Vec Ideal S512x1024 .f32) (ix2 r k) = (V m c main_v35 : Vec Ideal S4096x1024 .f32) (ix2 (lagRow t r) k) := by
    unfold iblk
    rw [View.read_apply]
    refine congrArg (V m c main_v35 : Vec Ideal S4096x1024 .f32) (funext fun a => Fin.ext ?_)
    match a with
    | ⟨0, _⟩ => show win0_1.index t 0 * 512 + 1 * r.val = (lagRow t r).val; rw [(index_lag t).1.1]; unfold lagRow; dsimp only; omega
    | ⟨1, _⟩ => show win0_1.index t 1 * 1024 + 1 * k.val = k.val; rw [(index_lag t).1.2]; omega
  rw [e]
  simp only [V]
  after_reads_at
  rfl

theorem blk_2 (t : Fin cfg0.N) (r : Fin 512) (k : Fin 1024) : (iblk m c 2 t : Vec Ideal S512x1024 .f32) (ix2 r k) = argT m c (ix3 (bat (lagRow t r)) (pos (lagRow t r)) k) := by
  have e : (iblk m c 2 t : Vec Ideal S512x1024 .f32) (ix2 r k) = (V m c main_v36 : Vec Ideal S4096x1024 .f32) (ix2 (lagRow t r) k) := by
    unfold iblk
    rw [View.read_apply]
    refine congrArg (V m c main_v36 : Vec Ideal S4096x1024 .f32) (funext fun a => Fin.ext ?_)
    match a with
    | ⟨0, _⟩ => show win0_2.index t 0 * 512 + 1 * r.val = (lagRow t r).val; rw [(index_lag t).2.1.1]; unfold lagRow; dsimp only; omega
    | ⟨1, _⟩ => show win0_2.index t 1 * 1024 + 1 * k.val = k.val; rw [(index_lag t).2.1.2]; omega
  rw [e]
  simp only [V]
  after_reads_at
  rfl

theorem blk_3 (t : Fin cfg0.N) (r : Fin 1) (k : Fin 1024) : (iblk m c 3 t : Vec Ideal S1x1024 .f32) (ix2 r k) = argNw m c (ix2 r k) := by
  have e : (iblk m c 3 t : Vec Ideal S1x1024 .f32) (ix2 r k) = (V m c main_arg4 : Vec Ideal S1x1024 .f32) (ix2 r k) := by
    unfold iblk
    rw [View.read_apply]
    refine congrArg (V m c main_arg4 : Vec Ideal S1x1024 .f32) (funext fun a => Fin.ext ?_)
    match a with
    | ⟨0, _⟩ => show win0_3.index t 0 * 1 + 1 * r.val = r.val; rw [(index_whole t).1]; omega
    | ⟨1, _⟩ => show win0_3.index t 1 * 1024 + 1 * k.val = k.val; rw [(index_whole t).2]; omega
  rw [e, V_main_arg4]

theorem up_copied : (V m c main_v13 : Vec Ideal S4x1024x1024 .bf16) = upOf m c := by
  refine funext fun (i : S4x1024x1024.Idx) => ?_
  obtain ⟨a, d, k, rfl⟩ := exists_ix3 i
  simp only [V]
  after_reads_at
  have ha := a.isLt
  split_ifs <;> after_reads_at
  all_goals
    refine Eq.trans ?_ (upOf_at m c a d k ⟨1024 * a.val + k.val, by omega⟩ rfl).symm
    exact congrArg (fun j => argWu m c (ix3 0 d j)) (Fin.ext (by dsimp only; omega))

theorem downA_copied : (V m c main_v17 : Vec Ideal S4x512x1024 .bf16) = downAOf m c := by
  refine funext fun (i : S4x512x1024.Idx) => ?_
  obtain ⟨a, d, k, rfl⟩ := exists_ix3 i
  simp only [V]
  after_reads_at
  exact congrArg (fun j => argWd m c (ix3 0 j k)) (Fin.ext (by show a.val * 1024 + d.val = 1024 * a.val + d.val; omega))

theorem downB_copied : (V m c main_v18 : Vec Ideal S4x512x1024 .bf16) = downBOf m c := by
  refine funext fun (i : S4x512x1024.Idx) => ?_
  obtain ⟨a, d, k, rfl⟩ := exists_ix3 i
  simp only [V]
  after_reads_at
  exact congrArg (fun j => argWd m c (ix3 0 j k)) (Fin.ext (by show a.val * 1024 + (512 + d.val) = 1024 * a.val + 512 + d.val; omega))

variable (X : Fin 2 → Fin 2048 → Fin 1024 → ℝ) (NF : Fin 1024 → ℝ) (WU : Fin 1024 → Fin 4096 → ℝ) (WD : Fin 4096 → Fin 1024 → ℝ) (NW : Fin 1024 → ℝ) (T : Fin 2 → Fin 2048 → Fin 1024 → ℝ)
  (hx : ∀ b s d, argX m c (ix3 b s d) = ((X b s d : ℝ) : EReal)) (hnf : ∀ d, argNf m c (ix2 0 d) = ((NF d : ℝ) : EReal))
  (hwu : ∀ d k, argWu m c (ix3 0 d k) = ((WU d k : ℝ) : EReal)) (hwd : ∀ k d, argWd m c (ix3 0 k d) = ((WD k d : ℝ) : EReal))
  (hnw : ∀ d, argNw m c (ix2 0 d) = ((NW d : ℝ) : EReal)) (ht : ∀ b s d, argT m c (ix3 b s d) = ((T b s d : ℝ) : EReal))

include hx hnf in
/-- The normed rows the host lines prepare. -/
theorem blk_0 (t : Fin cfg0.N) (r : Fin 512) (d : Fin 1024) : (iblk m c 0 t : Vec Ideal S512x1024 .bf16) (ix2 r d)
    = ((X (bat (leadRow t r)) (pos (leadRow t r)) d * rms (X (bat (leadRow t r)) (pos (leadRow t r))) * NF d : ℝ) : EReal) := by
  have e : (iblk m c 0 t : Vec Ideal S512x1024 .bf16) (ix2 r d) = (V m c main_v34 : Vec Ideal S4096x1024 .bf16) (ix2 (leadRow t r) d) := by
    unfold iblk
    rw [View.read_apply]
    refine congrArg (V m c main_v34 : Vec Ideal S4096x1024 .bf16) (funext fun a => Fin.ext ?_)
    match a with
    | ⟨0, _⟩ => show win0_0.index t 0 * 512 + 1 * r.val = (leadRow t r).val; rw [((index_lead t).1).1]; unfold leadRow; dsimp only; omega
    | ⟨1, _⟩ => show win0_0.index t 1 * 1024 + 1 * d.val = d.val; rw [((index_lead t).1).2]; omega
  rw [e]
  have hx' : ∀ b s d, m (c, Proc.tc.devRef main_arg0) (ix3 b s d) = ((X b s d : ℝ) : EReal) := hx
  have hnf' : ∀ d, m (c, Proc.tc.devRef main_arg1) (ix2 0 d) = ((NF d : ℝ) : EReal) := hnf
  simp only [V]
  after_reads_at
  simp only [hx', hnf']
  have hr := rsqrt_real (meanSq_pos (X (bat (leadRow t r)) (pos (leadRow t r))))
  unfold meanSq at hr
  simp only [ofBits_1024, ofBits_eps, ← EReal.coe_mul, ← coe_sum, div_real (show (1024:ℝ) ≠ 0 by norm_num), ← EReal.coe_add]
  exact congrArg (fun z => ((X (bat (leadRow t r)) (pos (leadRow t r)) d : ℝ) : EReal) * z * ((NF d : ℝ) : EReal)) hr |>.trans (by simp only [← EReal.coe_mul]; rfl)

include hx hnf hwu in
theorem fAt_real (t : Fin cfg0.N) (r : Fin 512) (k : Fin 4096) :
    fAt m c t r k = ((max (unit (X (bat (leadRow t r)) (pos (leadRow t r))) NF WU k) 0 * max (unit (X (bat (leadRow t r)) (pos (leadRow t r))) NF WU k) 0 : ℝ) : EReal) := by
  unfold fAt
  simp only [show ∀ e, hBlk m c t (ix2 r e) = _ from fun e => blk_0 m c X NF hx hnf t r e, hwu, ← EReal.coe_mul, ← coe_sum, max_zero_real]
  rfl
end
end Cert.Tail
end
-- ==== Proof.TailValue.lean ====
/-
  What one grid point of the loss and its gradients leaves, over the reals.
-/
module

public import proofs.«01_k».proof.Proof.TailFirst
public import proofs.«01_k».proof.Proof.TailBlocks

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

attribute [local irreducible] upOf downAOf downBOf fAt fOf ddOf dyOf lossOf gwOf

/-- After every point the scratch memory holds the weights. -/
theorem kept (n : ℕ) (hn : n < cfg0.N) : (outsAt0 m c n hn).2.2.2.2.2.2.1 = upOf m c ∧ (outsAt0 m c n hn).2.2.2.2.2.2.2.1 = downAOf m c
    ∧ (outsAt0 m c n hn).2.2.2.2.2.2.2.2 = downBOf m c := by
  have hN : cfg0.N = 9 := N_0
  induction n with
  | zero => exact ⟨keep1_A m c ⟨0, hn⟩ rfl (by dsimp only; omega) (up_copied m c), keep2_A m c ⟨0, hn⟩ rfl (by dsimp only; omega) (downA_copied m c),
      keep3_A m c ⟨0, hn⟩ rfl (by dsimp only; omega) (downB_copied m c)⟩
  | succ n ih =>
    have e := keep_B m c ⟨n + 1, hn⟩ (by dsimp only; omega) (by dsimp only; omega)
    have h := ih (by omega)
    dsimp only at e
    rw [e]
    exact h

theorem f_point (t : Fin cfg0.N) : (outsAt0 m c t.val t.isLt).1 = fOf m c t := by
  have hN : cfg0.N = 9 := N_0
  have ht := t.isLt
  by_cases h0 : t.val % 9 = 0
  · exact f_A m c t h0 (by omega) (up_copied m c)
  · obtain ⟨e1, e2, e3⟩ := kept m c (t.val - 1) (by omega)
    exact f_B m c t h0 (by omega) e1 e2 e3

theorem acc_point (t : Fin cfg0.N) (r : Fin 512) (d : Fin 1024) :
    (outsAt0 m c t.val t.isLt).2.2.2.2.2.1 (ix2 r d) = ∑ k, fAt m c t r k * argWd m c (ix3 0 k d) := by
  have hN : cfg0.N = 9 := N_0
  have ht := t.isLt
  by_cases h0 : t.val % 9 = 0
  · exact acc_A m c t h0 (by omega) (up_copied m c) (downA_copied m c) (downB_copied m c) r d
  · obtain ⟨e1, e2, e3⟩ := kept m c (t.val - 1) (by omega)
    exact acc_B m c t h0 (by omega) e1 e2 e3 r d

theorem pt_mod (t : Fin cfg0.N) (h : t.val ≠ 0) : ¬t.val % 9 = 0 ∧ 1 ≤ t.val := by
  have hN : cfg0.N = 9 := N_0
  have ht := t.isLt
  omega

variable (X : Fin 2 → Fin 2048 → Fin 1024 → ℝ) (NF : Fin 1024 → ℝ) (WU : Fin 1024 → Fin 4096 → ℝ) (WD : Fin 4096 → Fin 1024 → ℝ) (NW : Fin 1024 → ℝ) (T : Fin 2 → Fin 2048 → Fin 1024 → ℝ)
  (hx : ∀ b s d, argX m c (ix3 b s d) = ((X b s d : ℝ) : EReal)) (hnf : ∀ d, argNf m c (ix2 0 d) = ((NF d : ℝ) : EReal))
  (hwu : ∀ d k, argWu m c (ix3 0 d k) = ((WU d k : ℝ) : EReal)) (hwd : ∀ k d, argWd m c (ix3 0 k d) = ((WD k d : ℝ) : EReal))
  (hnw : ∀ d, argNw m c (ix2 0 d) = ((NW d : ℝ) : EReal)) (ht : ∀ b s d, argT m c (ix3 b s d) = ((T b s d : ℝ) : EReal))

/-- The feed-forward block's output on one row of the whole arrays. -/
def dRow (i : Fin 4096) : Fin 1024 → ℝ := down (X (bat i) (pos i)) NF WU WD

include hx hnf hwu hwd in
theorem acc_real (t : Fin cfg0.N) (r : Fin 512) (d : Fin 1024) :
    (outsAt0 m c t.val t.isLt).2.2.2.2.2.1 (ix2 r d) = ((dRow X NF WU WD (leadRow t r) d : ℝ) : EReal) := by
  rw [acc_point m c t]
  simp only [fAt_real m c X NF WU hx hnf hwu, hwd, ← EReal.coe_mul, ← coe_sum]
  rfl

/-- What the point before left belongs to the rows this point finishes. -/
theorem lead_lag (t : Fin cfg0.N) (h : t.val ≠ 0) (r : Fin 512) : leadRow ⟨t.val - 1, by have := t.isLt; omega⟩ r = lagRow t r := by
  have hN : cfg0.N = 9 := N_0
  have ht := t.isLt
  exact Fin.ext (by show 512 * min (t.val - 1) 7 + r.val = 512 * (t.val - 1) + r.val; omega)

include hx hnf hwu hwd in
theorem acc_prev (t : Fin cfg0.N) (h : t.val ≠ 0) (r : Fin 512) (d : Fin 1024) :
    (outsAt0 m c (t.val - 1) (by have := t.isLt; omega)).2.2.2.2.2.1 (ix2 r d) = ((dRow X NF WU WD (lagRow t r) d : ℝ) : EReal) := by
  rw [← lead_lag t h r]
  exact acc_real m c X NF WU WD hx hnf hwu hwd ⟨t.val - 1, by have := t.isLt; omega⟩ r d

section
variable (t : Fin cfg0.N) (acc : Vec Ideal S512x1024 .f32) (A : Fin 512 → Fin 1024 → ℝ) (ha : ∀ r d, acc (ix2 r d) = ((A r d : ℝ) : EReal))

include ha in
theorem rms_acc (r : Fin 512) : k0_pay33 (F := Ideal) acc (ix2 r 0) = ((rms (A r) : ℝ) : EReal) := by
  pointwise [k0_pay33]
  simp only [ha, ofBits_1024, ofBits_eps, ← EReal.coe_mul, ← coe_sum, div_real (show (1024:ℝ) ≠ 0 by norm_num), ← EReal.coe_add]
  exact rsqrt_real (meanSq_pos _)

include hx hnw ht ha in
theorem errOf_at (r : Fin 512) (d : Fin 1024) :
    errOf m c t acc (ix2 r d) = ((err (X (bat (lagRow t r)) (pos (lagRow t r))) (A r) NW (T (bat (lagRow t r)) (pos (lagRow t r))) d : ℝ) : EReal) := by
  unfold errOf
  pointwise [k0_pay34]
  simp only [rms_acc acc A ha, ha, blk_1, blk_2, blk_3, hx, hnw, ht, ← EReal.coe_mul, ← EReal.coe_add, ← EReal.coe_sub]
  rfl

include hx hnw ht ha in
theorem dyOf_at (r : Fin 512) (d : Fin 1024) :
    dyOf m c t acc (ix2 r d) = ((dyRow (X (bat (lagRow t r)) (pos (lagRow t r))) (A r) NW (T (bat (lagRow t r)) (pos (lagRow t r))) d : ℝ) : EReal) := by
  unfold dyOf
  pointwise [k0_pay38]
  rw [errOf_at m c X NW T hx hnw ht t acc A ha, ofBits_1_1024, ← EReal.coe_mul]
  rfl

include hx hnw ht ha in
theorem ddOf_at (r : Fin 512) (d : Fin 1024) :
    ddOf m c t acc (ix2 r d) = ((ddRow (X (bat (lagRow t r)) (pos (lagRow t r))) (A r) NW (T (bat (lagRow t r)) (pos (lagRow t r))) d : ℝ) : EReal) := by
  unfold ddOf
  pointwise [k0_pay39, k0_pay38]
  simp only [errOf_at m c X NW T hx hnw ht t acc A ha, rms_acc acc A ha, ha, blk_3, hnw, ofBits_1_1024, ofBits_1024, ← EReal.coe_mul, ← coe_sum, div_real (show (1024:ℝ) ≠ 0 by norm_num), ← EReal.coe_sub]
  rfl

include hx hnw ht ha in
theorem gwOf_at (g : Vec Ideal S1x1024 .f32) (d : Fin 1024) : gwOf m c t acc g (ix2 0 d) = g (ix2 0 d)
    + ((∑ r : Fin 512, dyRow (X (bat (lagRow t r)) (pos (lagRow t r))) (A r) NW (T (bat (lagRow t r)) (pos (lagRow t r))) d * A r d * rms (A r) : ℝ) : EReal) := by
  unfold gwOf
  pointwise [k0_pay40, k0_pay38]
  simp only [errOf_at m c X NW T hx hnw ht t acc A ha, rms_acc acc A ha, ha, ofBits_1_1024, ← EReal.coe_mul, ← coe_sum]
  rfl

include hx hnw ht ha in
theorem lossOf_at (l : Vec Ideal S8x128 .f32) (i : Fin 8) (j : Fin 128) : lossOf m c t acc l (ix2 i j) = l (ix2 i j)
    + ((∑ r : Fin 512, 1 / 2048 * sqRow (X (bat (lagRow t r)) (pos (lagRow t r))) (A r) NW (T (bat (lagRow t r)) (pos (lagRow t r))) : ℝ) : EReal) := by
  have h36 : ∀ r d, (k0_pay36 (F := Ideal) acc (nwBlk m c t) (xBlk m c t) (tBlk m c t) : Vec Ideal S512x1024 .f32) (ix2 r d) = _ := fun r d =>
    (show _ = errOf m c t acc (ix2 r d) * errOf m c t acc (ix2 r d) from rfl).trans (by rw [errOf_at m c X NW T hx hnw ht t acc A ha, ← EReal.coe_mul])
  unfold lossOf
  pointwise [k0_pay37, k0_pay35]
  simp only [h36, ofBits_1_2048, Fin.sum_univ_one, ← EReal.coe_mul, ← coe_sum]
  rw [Finset.mul_sum]
  rfl
end
end
end Cert.Tail
end
-- ==== Proof.TailFinal.lean ====
/-
  The five arrays the loss and its gradients' call returns.
-/
module

public import proofs.«01_k».proof.Proof.TailValue

@[expose] public section

set_option maxRecDepth 16384

noncomputable section

namespace Cert.Tail

open Cert.LossTailIdeal Cert.LossTailIdeal.Gen Idealize.ShloMosaic Idealize.ShloMosaic.TcCoe Idealize.SL.Sem Cert.Reals Cert.Mlp

section
variable (m : (ℓ : Loc nD τ sig) → Buf (Elt Ideal) ℓ) (c : Dev nD)

attribute [local irreducible] fAt ddOf dyOf lossOf gwOf

variable (X : Fin 2 → Fin 2048 → Fin 1024 → ℝ) (NF : Fin 1024 → ℝ) (WU : Fin 1024 → Fin 4096 → ℝ) (WD : Fin 4096 → Fin 1024 → ℝ) (NW : Fin 1024 → ℝ) (T : Fin 2 → Fin 2048 → Fin 1024 → ℝ)
  (hx : ∀ b s d, argX m c (ix3 b s d) = ((X b s d : ℝ) : EReal)) (hnf : ∀ d, argNf m c (ix2 0 d) = ((NF d : ℝ) : EReal))
  (hwu : ∀ d k, argWu m c (ix3 0 d k) = ((WU d k : ℝ) : EReal)) (hwd : ∀ k d, argWd m c (ix3 0 k d) = ((WD k d : ℝ) : EReal))
  (hnw : ∀ d, argNw m c (ix2 0 d) = ((NW d : ℝ) : EReal)) (ht : ∀ b s d, argT m c (ix3 b s d) = ((T b s d : ℝ) : EReal))

/-- The five results. -/
def fRes : Vec Ideal S4096x4096 .bf16 := fun i => ((max (unit (X (bat (i 0)) (pos (i 0))) NF WU (i 1)) 0 * max (unit (X (bat (i 0)) (pos (i 0))) NF WU (i 1)) 0 : ℝ) : EReal)
def ddRes : Vec Ideal S4096x1024 .bf16 := fun i => ((ddRow (X (bat (i 0)) (pos (i 0))) (dRow X NF WU WD (i 0)) NW (T (bat (i 0)) (pos (i 0))) (i 1) : ℝ) : EReal)
def dyRes : Vec Ideal S4096x1024 .f32 := fun i => ((dyRow (X (bat (i 0)) (pos (i 0))) (dRow X NF WU WD (i 0)) NW (T (bat (i 0)) (pos (i 0))) (i 1) : ℝ) : EReal)
/-- One row's part of the loss, and of the norm weight's gradient. -/
def lossPart (b : Fin 2) (s : Fin 2048) : ℝ := 1 / 2048 * sqRow (X b s) (down (X b s) NF WU WD) NW (T b s)
def gwPart (d : Fin 1024) (b : Fin 2) (s : Fin 2048) : ℝ := dyRow (X b s) (down (X b s) NF WU WD) NW (T b s) d * down (X b s) NF WU WD d * rms (down (X b s) NF WU WD)

theorem flush_4 : ∀ t : Fin cfg0.N, (cfg0.win 4).flush t = true ↔ t.val ≠ 7 := by decide +kernel
theorem flush_5 : ∀ t : Fin cfg0.N, (cfg0.win 5).flush t = true ↔ t.val ≠ 0 := by decide +kernel
theorem flush_6 : ∀ t : Fin cfg0.N, (cfg0.win 6).flush t = true ↔ t.val ≠ 0 := by decide +kernel
theorem size_4 : ∀ t : Fin cfg0.N, win0_4.xsize (grid0.coords t) 0 = 512 ∧ win0_4.xsize (grid0.coords t) 1 = 4096 := by decide +kernel
theorem size_5 : ∀ t : Fin cfg0.N, win0_5.xsize (grid0.coords t) 0 = 512 ∧ win0_5.xsize (grid0.coords t) 1 = 1024 := by decide +kernel
theorem size_6 : ∀ t : Fin cfg0.N, win0_6.xsize (grid0.coords t) 0 = 512 ∧ win0_6.xsize (grid0.coords t) 1 = 1024 := by decide +kernel

theorem flushed_4 (t : Fin cfg0.N) : (dats m 0 c).flushed 4 t = (cfg0.win 4).cut (grid0.coords t) ((outsAt0 m c t.val t.isLt).1) := by
  show (cfg0.win 4).cut (grid0.coords t) ((dats m 0 c).after 4 t) = _
  rw [after0_4]

theorem flushed_5 (t : Fin cfg0.N) : (dats m 0 c).flushed 5 t = (cfg0.win 5).cut (grid0.coords t) ((outsAt0 m c t.val t.isLt).2.1) := by
  show (cfg0.win 5).cut (grid0.coords t) ((dats m 0 c).after 5 t) = _
  rw [after0_5]

theorem flushed_6 (t : Fin cfg0.N) : (dats m 0 c).flushed 6 t = (cfg0.win 6).cut (grid0.coords t) ((outsAt0 m c t.val t.isLt).2.2.1) := by
  show (cfg0.win 6).cut (grid0.coords t) ((dats m 0 c).after 6 t) = _
  rw [after0_6]

theorem flushed_7 (t : Fin cfg0.N) : (dats m 0 c).flushed 7 t = (cfg0.win 7).cut (grid0.coords t) ((outsAt0 m c t.val t.isLt).2.2.2.1) := by
  show (cfg0.win 7).cut (grid0.coords t) ((dats m 0 c).after 7 t) = _
  rw [after0_7]

theorem flushed_8 (t : Fin cfg0.N) : (dats m 0 c).flushed 8 t = (cfg0.win 8).cut (grid0.coords t) ((outsAt0 m c t.val t.isLt).2.2.2.2.1) := by
  show (cfg0.win 8).cut (grid0.coords t) ((dats m 0 c).after 8 t) = _
  rw [after0_8]

/-- The point that writes back a row's block of squared units last, and the one that writes back its other rows. -/
def leadPt (i : Fin 4096) : Fin cfg0.N := ⟨if i.val / 512 = 7 then 8 else i.val / 512, by rw [show cfg0.N = 9 from N_0]; split_ifs <;> omega⟩
def lagPt (i : Fin 4096) : Fin cfg0.N := ⟨i.val / 512 + 1, by rw [show cfg0.N = 9 from N_0]; omega⟩

include hx hnf hwu in
theorem final_4 : (dats m 0 c).arrAt 4 cfg0.N = fRes X NF WU := by
  refine (dats m 0 c).arrAt_eq_of_cover 4 (fRes X NF WU) (fun t hf => ?_) fun i => ⟨leadPt (i 0), (flush_4 _).mpr ?_, ?_⟩
  · rw [flushed_4, f_point]
    refine funext fun (y : S512x4096.Idx) => ?_
    obtain ⟨r, k, rfl⟩ := exists_ix2 y
    rw [View.read_apply]
    refine Eq.trans (b := fRes X NF WU (ix2 (leadRow t r) k)) ?_ ?_
    · exact fAt_real m c X NF WU hx hnf hwu t r k
    · refine congrArg (fRes X NF WU) (a₁ := ix2 (leadRow t r) k) (funext fun a => Fin.ext ?_)
      match a with
      | ⟨0, _⟩ => show 512 * min t.val 7 + r.val = win0_4.index t 0 * 512 + 1 * r.val; rw [(index_lead t).2.1]; omega
      | ⟨1, _⟩ => show k.val = win0_4.index t 1 * 4096 + 1 * k.val; rw [(index_lead t).2.2]; omega
  · have h0 : (i 0 : Nat) < 4096 := (i 0).isLt
    show (if (i 0).val / 512 = 7 then 8 else (i 0).val / 512) ≠ 7
    split_ifs <;> omega
  · show i ∈ ((View.whole main_v37_0).slice (win0_4.rect (leadPt (i 0)))).set
    rw [View.set_slice_whole, Rect.mem_set_unit]
    intro a
    have h0 : (i 0 : Nat) < 4096 := (i 0).isLt
    have h1 : (i 1 : Nat) < 4096 := (i 1).isLt
    match a with
    | ⟨0, _⟩ => show win0_4.index (leadPt (i 0)) 0 * 512 ≤ (i 0 : Nat) ∧ (i 0 : Nat) < win0_4.index (leadPt (i 0)) 0 * 512 + win0_4.xsize (grid0.coords (leadPt (i 0))) 0
                rw [(index_lead _).2.1, (size_4 _).1]; unfold leadPt; dsimp only; split_ifs <;> omega
    | ⟨1, _⟩ => show win0_4.index (leadPt (i 0)) 1 * 4096 ≤ (i 1 : Nat) ∧ (i 1 : Nat) < win0_4.index (leadPt (i 0)) 1 * 4096 + win0_4.xsize (grid0.coords (leadPt (i 0))) 1
                rw [(index_lead _).2.2, (size_4 _).2]; omega

include hx hnf hwu hwd hnw ht in
theorem final_5 : (dats m 0 c).arrAt 5 cfg0.N = ddRes X NF WU WD NW T := by
  refine (dats m 0 c).arrAt_eq_of_cover 5 (ddRes X NF WU WD NW T) (fun t hf => ?_) fun i => ⟨lagPt (i 0), (flush_5 _).mpr ?_, ?_⟩
  · have h := (flush_5 t).mp hf
    rw [flushed_5, dd_B m c t (pt_mod t h).1 (pt_mod t h).2]
    refine funext fun (y : S512x1024.Idx) => ?_
    obtain ⟨r, k, rfl⟩ := exists_ix2 y
    rw [View.read_apply]
    refine Eq.trans (b := ddRes X NF WU WD NW T (ix2 (lagRow t r) k)) ?_ ?_
    · exact ddOf_at m c X NW T hx hnw ht t _ (fun r => dRow X NF WU WD (lagRow t r)) (acc_prev m c X NF WU WD hx hnf hwu hwd t h) r k
    · refine congrArg (ddRes X NF WU WD NW T) (funext fun a => Fin.ext ?_)
      match a with
      | ⟨0, _⟩ => show 512 * (t.val - 1) + r.val = win0_5.index t 0 * 512 + 1 * r.val; rw [(index_lag t).2.2.1.1]; omega
      | ⟨1, _⟩ => show k.val = win0_5.index t 1 * 1024 + 1 * k.val; rw [(index_lag t).2.2.1.2]; omega
  · show (i 0).val / 512 + 1 ≠ 0
    omega
  · show i ∈ ((View.whole main_v37_1).slice (win0_5.rect (lagPt (i 0)))).set
    rw [View.set_slice_whole, Rect.mem_set_unit]
    intro a
    have h0 : (i 0 : Nat) < 4096 := (i 0).isLt
    have h1 : (i 1 : Nat) < 1024 := (i 1).isLt
    match a with
    | ⟨0, _⟩ => show win0_5.index (lagPt (i 0)) 0 * 512 ≤ (i 0 : Nat) ∧ (i 0 : Nat) < win0_5.index (lagPt (i 0)) 0 * 512 + win0_5.xsize (grid0.coords (lagPt (i 0))) 0
                rw [(index_lag _).2.2.1.1, (size_5 _).1]; unfold lagPt; dsimp only; omega
    | ⟨1, _⟩ => show win0_5.index (lagPt (i 0)) 1 * 1024 ≤ (i 1 : Nat) ∧ (i 1 : Nat) < win0_5.index (lagPt (i 0)) 1 * 1024 + win0_5.xsize (grid0.coords (lagPt (i 0))) 1
                rw [(index_lag _).2.2.1.2, (size_5 _).2]; omega

include hx hnf hwu hwd hnw ht in
theorem final_6 : (dats m 0 c).arrAt 6 cfg0.N = dyRes X NF WU WD NW T := by
  refine (dats m 0 c).arrAt_eq_of_cover 6 (dyRes X NF WU WD NW T) (fun t hf => ?_) fun i => ⟨lagPt (i 0), (flush_6 _).mpr ?_, ?_⟩
  · have h := (flush_6 t).mp hf
    rw [flushed_6, dy_B m c t (pt_mod t h).1 (pt_mod t h).2]
    refine funext fun (y : S512x1024.Idx) => ?_
    obtain ⟨r, k, rfl⟩ := exists_ix2 y
    rw [View.read_apply]
    refine Eq.trans (b := dyRes X NF WU WD NW T (ix2 (lagRow t r) k)) ?_ ?_
    · exact dyOf_at m c X NW T hx hnw ht t _ (fun r => dRow X NF WU WD (lagRow t r)) (acc_prev m c X NF WU WD hx hnf hwu hwd t h) r k
    · refine congrArg (dyRes X NF WU WD NW T) (funext fun a => Fin.ext ?_)
      match a with
      | ⟨0, _⟩ => show 512 * (t.val - 1) + r.val = win0_6.index t 0 * 512 + 1 * r.val; rw [(index_lag t).2.2.2.1]; omega
      | ⟨1, _⟩ => show k.val = win0_6.index t 1 * 1024 + 1 * k.val; rw [(index_lag t).2.2.2.2]; omega
  · show (i 0).val / 512 + 1 ≠ 0
    omega
  · show i ∈ ((View.whole main_v37_2).slice (win0_6.rect (lagPt (i 0)))).set
    rw [View.set_slice_whole, Rect.mem_set_unit]
    intro a
    have h0 : (i 0 : Nat) < 4096 := (i 0).isLt
    have h1 : (i 1 : Nat) < 1024 := (i 1).isLt
    match a with
    | ⟨0, _⟩ => show win0_6.index (lagPt (i 0)) 0 * 512 ≤ (i 0 : Nat) ∧ (i 0 : Nat) < win0_6.index (lagPt (i 0)) 0 * 512 + win0_6.xsize (grid0.coords (lagPt (i 0))) 0
                rw [(index_lag _).2.2.2.1, (size_6 _).1]; unfold lagPt; dsimp only; omega
    | ⟨1, _⟩ => show win0_6.index (lagPt (i 0)) 1 * 1024 ≤ (i 1 : Nat) ∧ (i 1 : Nat) < win0_6.index (lagPt (i 0)) 1 * 1024 + win0_6.xsize (grid0.coords (lagPt (i 0))) 1
                rw [(index_lag _).2.2.2.2, (size_6 _).2]; omega

/-- The last point, and what it leaves in the two running sums. -/
def lastPt : Fin cfg0.N := ⟨8, by decide⟩
abbrev lossLast : Vec Ideal S8x128 .f32 := (outsAt0 m c 8 (by rw [show cfg0.N = 9 from N_0]; decide)).2.2.2.1
abbrev gwLast : Vec Ideal S1x1024 .f32 := (outsAt0 m c 8 (by rw [show cfg0.N = 9 from N_0]; decide)).2.2.2.2.1

theorem index_7 : win0_7.index lastPt 0 * win0_7.size 0 = 0 ∧ win0_7.index lastPt 1 * win0_7.size 1 = 0 ∧ win0_7.xsize (grid0.coords lastPt) 0 = 8 ∧ win0_7.xsize (grid0.coords lastPt) 1 = 128 := by decide +kernel

theorem arr_7 : (dats m 0 c).arrAt 7 cfg0.N = lossLast m c := by
  refine (dats m 0 c).arrAt_eq_of_cover 7 (lossLast m c) (fun t hf => ?_) fun i => ⟨lastPt, (flush0_7 lastPt).mpr rfl, ?_⟩
  · have hN : cfg0.N = 9 := N_0
    have h7 : t.val = 8 := by have := (flush0_7 t).mp hf; have := t.isLt; omega
    obtain rfl : t = lastPt := Fin.ext h7
    rw [flushed_7]
    have hz' : (fun a => win0_7.index lastPt a * main_v37_3.ty.shape.size a) = fun _ => 0 := funext fun a => by fin_cases a <;> decide
    exact (Memref.read_access_unit_zero (Elt Ideal) main_v37_3 hz' (fun a => by rw [congrFun hz' a]; simp) (lossLast m c)).symm
  · show i ∈ ((View.whole main_v37_3).slice (win0_7.rect lastPt)).set
    rw [View.set_slice_whole, Rect.mem_set_unit]
    intro a
    have h0 : (i 0 : Nat) < 8 := (i 0).isLt
    have h1 : (i 1 : Nat) < 128 := (i 1).isLt
    match a with
    | ⟨0, _⟩ => show win0_7.index lastPt 0 * win0_7.size 0 ≤ (i 0 : Nat) ∧ (i 0 : Nat) < win0_7.index lastPt 0 * win0_7.size 0 + win0_7.xsize (grid0.coords lastPt) 0
                rw [index_7.1, index_7.2.2.1]; omega
    | ⟨1, _⟩ => show win0_7.index lastPt 1 * win0_7.size 1 ≤ (i 1 : Nat) ∧ (i 1 : Nat) < win0_7.index lastPt 1 * win0_7.size 1 + win0_7.xsize (grid0.coords lastPt) 1
                rw [index_7.2.1, index_7.2.2.2]; omega

theorem index_8 : win0_8.index lastPt 0 * win0_8.size 0 = 0 ∧ win0_8.index lastPt 1 * win0_8.size 1 = 0 ∧ win0_8.xsize (grid0.coords lastPt) 0 = 1 ∧ win0_8.xsize (grid0.coords lastPt) 1 = 1024 := by decide +kernel

theorem arr_8 : (dats m 0 c).arrAt 8 cfg0.N = gwLast m c := by
  refine (dats m 0 c).arrAt_eq_of_cover 8 (gwLast m c) (fun t hf => ?_) fun i => ⟨lastPt, (flush0_8 lastPt).mpr rfl, ?_⟩
  · have hN : cfg0.N = 9 := N_0
    have h7 : t.val = 8 := by have := (flush0_8 t).mp hf; have := t.isLt; omega
    obtain rfl : t = lastPt := Fin.ext h7
    rw [flushed_8]
    have hz' : (fun a => win0_8.index lastPt a * main_v37_4.ty.shape.size a) = fun _ => 0 := funext fun a => by fin_cases a <;> decide
    exact (Memref.read_access_unit_zero (Elt Ideal) main_v37_4 hz' (fun a => by rw [congrFun hz' a]; simp) (gwLast m c)).symm
  · show i ∈ ((View.whole main_v37_4).slice (win0_8.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_8.index lastPt 0 * win0_8.size 0 ≤ (i 0 : Nat) ∧ (i 0 : Nat) < win0_8.index lastPt 0 * win0_8.size 0 + win0_8.xsize (grid0.coords lastPt) 0
                rw [index_8.1, index_8.2.2.1]; omega
    | ⟨1, _⟩ => show win0_8.index lastPt 1 * win0_8.size 1 ≤ (i 1 : Nat) ∧ (i 1 : Nat) < win0_8.index lastPt 1 * win0_8.size 1 + win0_8.xsize (grid0.coords lastPt) 1
                rw [index_8.2.1, index_8.2.2.2]; omega

/-- One point's part of a sum over all rows: that of the block before, none at the first point. -/
def rowStep (f : Fin 2 → Fin 2048 → ℝ) (n : ℕ) : ℝ := if n = 0 then 0 else ∑ r ∈ Finset.range 512,
  f ⟨(512 * (n - 1) + r) / 2048 % 2, by omega⟩ ⟨(512 * (n - 1) + r) % 2048, by omega⟩

theorem rowStep_at (f : Fin 2 → Fin 2048 → ℝ) (t : Fin cfg0.N) (h : t.val ≠ 0) : rowStep f t.val = ∑ r : Fin 512, f (bat (lagRow t r)) (pos (lagRow t r)) := by
  unfold rowStep
  rw [if_neg h, Finset.sum_range]
  have hN : cfg0.N = 9 := N_0
  have ht := t.isLt
  refine Finset.sum_congr rfl fun r _ => ?_
  have hb : (⟨(512 * (t.val - 1) + r.val) / 2048 % 2, by omega⟩ : Fin 2) = bat (lagRow t r) :=
    Fin.ext (by show (512 * (t.val - 1) + r.val) / 2048 % 2 = (512 * (t.val - 1) + r.val) / 2048; omega)
  rw [hb]
  rfl

theorem rowStep_sum (f : Fin 2 → Fin 2048 → ℝ) : ∑ n ∈ Finset.range 9, rowStep f n = ∑ b, ∑ s, f b s := by
  let g : ℕ → ℝ := fun n => f ⟨n / 2048 % 2, by omega⟩ ⟨n % 2048, by omega⟩
  rw [Finset.sum_range_succ', show rowStep f 0 = 0 from if_pos rfl, add_zero]
  rw [Finset.sum_congr rfl fun n _ => show rowStep f (n + 1) = ∑ r ∈ Finset.range 512, g (512 * n + r) from if_neg (Nat.succ_ne_zero n)]
  rw [sum_blocks 8 512 g, show 512 * 8 = 2048 * 2 from rfl, ← sum_blocks 2 2048, Finset.sum_range]
  refine Finset.sum_congr rfl fun b _ => ?_
  rw [Finset.sum_range]
  refine Finset.sum_congr rfl fun s _ => ?_
  have hb : (⟨(2048 * b.val + s.val) / 2048 % 2, by omega⟩ : Fin 2) = b := Fin.ext (by show (2048 * b.val + s.val) / 2048 % 2 = b.val; omega)
  have hs : (⟨(2048 * b.val + s.val) % 2048, by omega⟩ : Fin 2048) = s := Fin.ext (by show (2048 * b.val + s.val) % 2048 = s.val; omega)
  exact congrArg₂ f hb hs

include hx hnf hwu hwd hnw ht in
theorem loss_step (t : Fin cfg0.N) (h : t.val ≠ 0) (i : Fin 8) (j : Fin 128) :
    (outsAt0 m c t.val t.isLt).2.2.2.1 (ix2 i j) = (outsAt0 m c (t.val - 1) (by have := t.isLt; omega)).2.2.2.1 (ix2 i j) + ((rowStep (lossPart X NF WU WD NW T) t.val : ℝ) : EReal) := by
  rw [loss_B m c t (pt_mod t h).1 (pt_mod t h).2, lossOf_at m c X NW T hx hnw ht t _ (fun r => dRow X NF WU WD (lagRow t r)) (acc_prev m c X NF WU WD hx hnf hwu hwd t h), rowStep_at _ t h]
  rfl

include hx hnf hwu hwd hnw ht in
theorem lossLast_at (i : Fin 8) (j : Fin 128) : lossLast m c (ix2 i j) = ((∑ b, ∑ s, lossPart X NF WU WD NW T b s : ℝ) : EReal) := by
  have hN : cfg0.N = 9 := N_0
  have key : lossLast m c (ix2 i j) = _ := running_sum (fun n h => (outsAt0 m c n h).2.2.2.1 (ix2 i j)) (rowStep (lossPart X NF WU WD NW T)) ?_ ?_ 8 (by omega)
  · exact key.trans (congrArg _ (rowStep_sum _))
  · intro h
    have h0 := loss_A m c ⟨0, h⟩ rfl (by dsimp only; omega)
    dsimp only at h0 ⊢
    rw [h0]
    pointwise [k0_pay3]
    rfl
  · intro n h h'
    exact loss_step m c X NF WU WD NW T hx hnf hwu hwd hnw ht ⟨n + 1, h⟩ (Nat.succ_ne_zero n) i j

include hx hnf hwu hwd hnw ht in
theorem gw_step (t : Fin cfg0.N) (h : t.val ≠ 0) (d : Fin 1024) :
    (outsAt0 m c t.val t.isLt).2.2.2.2.1 (ix2 0 d) = (outsAt0 m c (t.val - 1) (by have := t.isLt; omega)).2.2.2.2.1 (ix2 0 d) + ((rowStep (gwPart X NF WU WD NW T d) t.val : ℝ) : EReal) := by
  rw [gw_B m c t (pt_mod t h).1 (pt_mod t h).2, gwOf_at m c X NW T hx hnw ht t _ (fun r => dRow X NF WU WD (lagRow t r)) (acc_prev m c X NF WU WD hx hnf hwu hwd t h), rowStep_at _ t h]
  rfl

include hx hnf hwu hwd hnw ht in
theorem gwLast_at (d : Fin 1024) : gwLast m c (ix2 0 d) = ((∑ b, ∑ s, gwPart X NF WU WD NW T d b s : ℝ) : EReal) := by
  have hN : cfg0.N = 9 := N_0
  have key : gwLast m c (ix2 0 d) = _ := running_sum (fun n h => (outsAt0 m c n h).2.2.2.2.1 (ix2 0 d)) (rowStep (gwPart X NF WU WD NW T d)) ?_ ?_ 8 (by omega)
  · exact key.trans (congrArg _ (rowStep_sum _))
  · intro h
    have h0 := gw_A m c ⟨0, h⟩ rfl (by dsimp only; omega)
    dsimp only at h0 ⊢
    rw [h0]
    pointwise [k0_pay4]
    rfl
  · intro n h h'
    exact gw_step m c X NF WU WD NW T hx hnf hwu hwd hnw ht ⟨n + 1, h⟩ (Nat.succ_ne_zero n) d

end
end Cert.Tail
end
-- ==== Proof.TailRefValue.lean ====
/-
  What the reference of the loss and its gradients computes, over the reals: the squared rectified units, the loss, the
  gradients of the residual stream and of the feed-forward block's output, and the gradient of the norm's weight.
-/
module

public import proofs.«01_k».proof.Proof.TailMath
public import proofs.«01_k».proof.Proof.Gen.LossRefIdeal.Read

@[expose] public section

set_option maxRecDepth 16384

noncomputable section

namespace Cert.Tail.Ref

open Cert.LossRefIdeal Cert.LossRefIdeal.Gen Cert.LossRefIdeal.Read Idealize.ShloMosaic Cert.Reals Cert.Mlp

section
variable (x : Vec Ideal S2x2048x1024 .f32) (nf : Vec Ideal S1x1024 .f32) (wu : Vec Ideal S1x1024x4096 .f32)
  (wd : Vec Ideal S1x4096x1024 .f32) (nw : Vec Ideal S1x1024 .f32) (tg : Vec Ideal S2x2048x1024 .f32)
  (X : Fin 2 → Fin 2048 → Fin 1024 → ℝ) (NF : Fin 1024 → ℝ) (WU : Fin 1024 → Fin 4096 → ℝ) (WD : Fin 4096 → Fin 1024 → ℝ)
  (NW : Fin 1024 → ℝ) (T : Fin 2 → Fin 2048 → Fin 1024 → ℝ)
  (hx : ∀ b s d, x (ix3 b s d) = ((X b s d : ℝ) : EReal)) (hnf : ∀ d, nf (ix2 0 d) = ((NF d : ℝ) : EReal))
  (hwu : ∀ d k, wu (ix3 0 d k) = ((WU d k : ℝ) : EReal)) (hwd : ∀ k d, wd (ix3 0 k d) = ((WD k d : ℝ) : EReal))
  (hnw : ∀ d, nw (ix2 0 d) = ((NW d : ℝ) : EReal)) (htg : ∀ b s d, tg (ix3 b s d) = ((T b s d : ℝ) : EReal))

include hx in
theorem rms_at (b : Fin 2) (s : Fin 2048) : (val_main_v8 (F := Ideal) x : Vec Ideal S2x2048x1 .f32) (ix3 b s 0) = ((rms (X b s) : ℝ) : EReal) := by
  pointwise [val_main_v8, val_main_v7, val_main_v5, val_main_v3, val_main_v2, val_main_v1, val_main_v4, val_main_v6, val_main_cst, val_main_cst_0, val_main_cst_1]
  simp only [hx, ofBits_1024, ofBits_eps, ← EReal.coe_mul, ← coe_sum, div_real (show (1024:ℝ) ≠ 0 by norm_num), ← EReal.coe_add]
  exact rsqrt_real (meanSq_pos (X b s))

include hx hnf hwu in
theorem sq_at (b : Fin 2) (s : Fin 2048) (k : Fin 4096) :
    (val_main_v17 (F := Ideal) x nf wu : Vec Ideal S2x2048x4096 .f32) (ix3 b s k) = ((max (unit (X b s) NF WU k) 0 * max (unit (X b s) NF WU k) 0 : ℝ) : EReal) := by
  pointwise [val_main_v17, val_main_v16, val_main_v15, val_main_v14, val_main_v13, val_main_v12, val_main_v11, val_main_v10, val_main_v9, val_main_v0, val_main_call0_v0, val_main_call0_cst]
  simp only [hx, hnf, hwu, rms_at x X hx, ← EReal.coe_mul, ← coe_sum, max_zero_real]
  rfl

include hx hnf hwu hwd in
theorem down_at (b : Fin 2) (s : Fin 2048) (d : Fin 1024) :
    (val_main_v19 (F := Ideal) x nf wu wd : Vec Ideal S2x2048x1024 .f32) (ix3 b s d) = ((down (X b s) NF WU WD d : ℝ) : EReal) := by
  pointwise [val_main_v19, val_main_v18]
  simp only [hwd, sq_at x nf wu X NF WU hx hnf hwu, ← EReal.coe_mul, ← coe_sum]
  rfl

include hx hnf hwu hwd in
theorem meanSq_down_at (b : Fin 2) (s : Fin 2048) :
    (val_main_v27 (F := Ideal) x nf wu wd : Vec Ideal S2x2048x1 .f32) (ix3 b s 0) = ((meanSq (down (X b s) NF WU WD) : ℝ) : EReal) := by
  pointwise [val_main_v27, val_main_v26, val_main_v25, val_main_v24, val_main_v23, val_main_v22, val_main_v21, val_main_cst_2, val_main_cst_3, val_main_cst_4]
  simp only [down_at x nf wu wd X NF WU WD hx hnf hwu hwd, ofBits_1024, ofBits_eps, ← EReal.coe_mul, ← coe_sum, div_real (show (1024:ℝ) ≠ 0 by norm_num), ← EReal.coe_add]
  rfl

include hx hnf hwu hwd in
theorem rms_down_at (b : Fin 2) (s : Fin 2048) :
    (val_main_v28 (F := Ideal) x nf wu wd : Vec Ideal S2x2048x1 .f32) (ix3 b s 0) = ((rms (down (X b s) NF WU WD) : ℝ) : EReal) := by
  pointwise [val_main_v28]
  rw [meanSq_down_at x nf wu wd X NF WU WD hx hnf hwu hwd, rsqrt_real (meanSq_pos _)]
  rfl

include hx hnf hwu hwd hnw htg in
theorem err_at (b : Fin 2) (s : Fin 2048) (d : Fin 1024) : (val_main_v38 (F := Ideal) x nf wu wd nw tg : Vec Ideal S2x2048x1024 .f32) (ix3 b s d)
    = ((err (X b s) (down (X b s) NF WU WD) NW (T b s) d : ℝ) : EReal) := by
  pointwise [val_main_v38, val_main_v37, val_main_v36, val_main_v35, val_main_v34, val_main_v33, val_main_v32, val_main_v20]
  rw [down_at x nf wu wd X NF WU WD hx hnf hwu hwd, rms_down_at x nf wu wd X NF WU WD hx hnf hwu hwd, hx, hnw, htg]
  simp only [← EReal.coe_mul, ← EReal.coe_add, ← EReal.coe_sub]
  rfl

include hx hnf hwu hwd hnw htg in
theorem dy_at (b : Fin 2) (s : Fin 2048) (d : Fin 1024) : (val_main_v52 (F := Ideal) x nf wu wd nw tg : Vec Ideal S2x2048x1024 .f32) (ix3 b s d)
    = ((dyRow (X b s) (down (X b s) NF WU WD) NW (T b s) d : ℝ) : EReal) := by
  pointwise [val_main_v52, val_main_v51, val_main_v50, val_main_v49, val_main_v48, val_main_v47, val_main_v41, val_main_v40, val_main_cst_6, val_main_cst_11, val_main_cst_12, val_main_cst_13]
  rw [err_at x nf wu wd nw tg X NF WU WD NW T hx hnf hwu hwd hnw htg, ofBits_half, ofBits_two, ofBits_1024]
  simp only [mul_one, div_real (show (1024:ℝ) ≠ 0 by norm_num), ← EReal.coe_mul]
  refine congrArg _ ?_
  unfold dyRow
  ring

include hx hnf hwu hwd hnw htg in
theorem loss_at : (val_main_v46 (F := Ideal) x nf wu wd nw tg : Vec Ideal S_ .f32) ix0
    = ((∑ b, ∑ s, 1 / 2048 * sqRow (X b s) (down (X b s) NF WU WD) NW (T b s) : ℝ) : EReal) := by
  pointwise [val_main_v46, val_main_v45, val_main_v44, val_main_v43, val_main_v42, val_main_v39, val_main_cst_7, val_main_cst_8, val_main_cst_9, val_main_cst_10]
  simp only [err_at x nf wu wd nw tg X NF WU WD NW T hx hnf hwu hwd hnw htg, ofBits_half, ofBits_1024, div_real (show (1024:ℝ) ≠ 0 by norm_num), ← EReal.coe_mul, ← coe_sum]
  refine congrArg _ ?_
  rw [Finset.mul_sum]
  refine Finset.sum_congr rfl fun b _ => ?_
  rw [Finset.mul_sum]
  refine Finset.sum_congr rfl fun s _ => ?_
  unfold sqRow
  ring

include hx hnf hwu hwd hnw htg in
theorem dd_at (b : Fin 2) (s : Fin 2048) (d : Fin 1024) : (val_main_v72 (F := Ideal) x nf wu wd nw tg : Vec Ideal S2x2048x1024 .f32) (ix3 b s d)
    = ((ddRow (X b s) (down (X b s) NF WU WD) NW (T b s) d : ℝ) : EReal) := by
  pointwise [val_main_v72, val_main_v71, val_main_v70, val_main_v69, val_main_v68, val_main_v67, val_main_v66, val_main_v65, val_main_v64, val_main_v63, val_main_v62, val_main_v61, val_main_v60, val_main_v59, val_main_v57, val_main_v56, val_main_v34, val_main_v20, val_main_v31, val_main_v30, val_main_v29, val_main_cst_5, val_main_cst_16, val_main_cst_17, val_main_cst_18]
  simp only [Fin.sum_univ_one, hnw, down_at x nf wu wd X NF WU WD hx hnf hwu hwd, meanSq_down_at x nf wu wd X NF WU WD hx hnf hwu hwd, rms_down_at x nf wu wd X NF WU WD hx hnf hwu hwd, dy_at x nf wu wd nw tg X NF WU WD NW T hx hnf hwu hwd hnw htg, ofBits_1024, ofBits_neg_half, ← EReal.coe_mul, ← coe_sum,
    div_real (show (1024:ℝ) ≠ 0 by norm_num), div_real (meanSq_pos _).ne', ← EReal.coe_add]
  exact congrArg _ (rmsBwd_chain (down (X b s) NF WU WD) (fun e => dyRow (X b s) (down (X b s) NF WU WD) NW (T b s) e * NW e) d)

include hx hnf hwu hwd hnw htg in
theorem gw_at (d : Fin 1024) : (val_main_v73 (F := Ideal) x nf wu wd nw tg : Vec Ideal S1x1024 .f32) (ix2 0 d)
    = ((∑ b, ∑ s, down (X b s) NF WU WD d * rms (down (X b s) NF WU WD) * dyRow (X b s) (down (X b s) NF WU WD) NW (T b s) d : ℝ) : EReal) := by
  pointwise [val_main_v73, val_main_v58, val_main_v55, val_main_v54, val_main_v53, val_main_v33, val_main_v32, hostReduceAdd_lead2, val_main_cst_14, val_main_cst_15]
  simp only [Fin.sum_univ_one, down_at x nf wu wd X NF WU WD hx hnf hwu hwd, rms_down_at x nf wu wd X NF WU WD hx hnf hwu hwd, dy_at x nf wu wd nw tg X NF WU WD NW T hx hnf hwu hwd hnw htg, ← EReal.coe_mul, ← coe_sum]

include hx hnf hwu in
theorem res_sq (i : Fin 4096) (k : Fin 4096) : (val_main_v75 (F := Ideal) x nf wu : Vec Ideal S4096x4096 .bf16) (ix2 i k)
    = ((max (unit (X ⟨i.val / 2048, by omega⟩ ⟨i.val % 2048, by omega⟩) NF WU k) 0 * max (unit (X ⟨i.val / 2048, by omega⟩ ⟨i.val % 2048, by omega⟩) NF WU k) 0 : ℝ) : EReal) := by
  pointwise [val_main_v75, val_main_v74]
  exact sq_at x nf wu X NF WU hx hnf hwu _ _ _

include hx hnf hwu hwd hnw htg in
theorem res_dd (i : Fin 4096) (d : Fin 1024) : (val_main_v77 (F := Ideal) x nf wu wd nw tg : Vec Ideal S4096x1024 .bf16) (ix2 i d)
    = ((ddRow (X ⟨i.val / 2048, by omega⟩ ⟨i.val % 2048, by omega⟩) (down (X ⟨i.val / 2048, by omega⟩ ⟨i.val % 2048, by omega⟩) NF WU WD) NW (T ⟨i.val / 2048, by omega⟩ ⟨i.val % 2048, by omega⟩) d : ℝ) : EReal) := by
  pointwise [val_main_v77, val_main_v76]
  exact dd_at x nf wu wd nw tg X NF WU WD NW T hx hnf hwu hwd hnw htg _ _ _

include hx hnf hwu hwd hnw htg in
theorem res_dy (i : Fin 4096) (d : Fin 1024) : (val_main_v78 (F := Ideal) x nf wu wd nw tg : Vec Ideal S4096x1024 .f32) (ix2 i d)
    = ((dyRow (X ⟨i.val / 2048, by omega⟩ ⟨i.val % 2048, by omega⟩) (down (X ⟨i.val / 2048, by omega⟩ ⟨i.val % 2048, by omega⟩) NF WU WD) NW (T ⟨i.val / 2048, by omega⟩ ⟨i.val % 2048, by omega⟩) d : ℝ) : EReal) := by
  pointwise [val_main_v78]
  exact dy_at x nf wu wd nw tg X NF WU WD NW T hx hnf hwu hwd hnw htg _ _ _

include hx hnf hwu hwd hnw htg in
theorem res_loss (i : Fin 8) (j : Fin 128) : (val_main_v79 (F := Ideal) x nf wu wd nw tg : Vec Ideal S8x128 .f32) (ix2 i j)
    = ((∑ b, ∑ s, 1 / 2048 * sqRow (X b s) (down (X b s) NF WU WD) NW (T b s) : ℝ) : EReal) := by
  pointwise [val_main_v79]
  exact loss_at x nf wu wd nw tg X NF WU WD NW T hx hnf hwu hwd hnw htg
end

end Cert.Tail.Ref

end
-- ==== Proof.Tail.lean ====
/-
  The loss and its gradients: the runs, the reference's runs, and the equality of their results.
-/
module

public import proofs.«01_k».proof.Defs
public import proofs.«01_k».proof.Proof.TailFinal
public import proofs.«01_k».proof.Proof.TailRefValue
public import proofs.«01_k».proof.Proof.Gen.LossTail.Frame
public import proofs.«01_k».proof.Proof.Gen.LossRefIdeal.Run
public import proofs.«01_k».proof.Proof.Gen.Pre_finite_tail
public import Idealize.ShloMosaic.Adequacy
public import Idealize.ShloMosaic.Init

@[expose] public section

set_option maxRecDepth 16384

noncomputable section

namespace Cert.Tail

open Idealize.ShloMosaic Idealize.SL.Sem Cert.Reals

theorem frame_ref : Cert.quiescent_LossRefIdeal (hLossRefIdeal := LossRefIdeal.Gen.facts) := fun m ρ _ =>
  (θ_run LossRefIdeal.defs _ _).mono (fun r h => ⟨fun c => (h c).2.2.2.2.2, sem_eq_zero_of_no_sems (by decide) r.2⟩)
    (LossRefIdeal.Value.run (F := Ideal) m ρ)

open LossTailIdeal LossTailIdeal.Gen TcCoe in
/-- The run with the arrays it leaves, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v37_0) = (dats m 0 c).arrAt 4 cfg0.N
        ∧ r.2.mem ((c : Thread nD τ).loc main_v37_1) = (dats m 0 c).arrAt 5 cfg0.N
        ∧ r.2.mem ((c : Thread nD τ).loc main_v37_2) = (dats m 0 c).arrAt 6 cfg0.N
        ∧ r.2.mem ((c : Thread nD τ).loc main_v37_3) = (dats m 0 c).arrAt 7 cfg0.N
        ∧ r.2.mem ((c : Thread nD τ).loc main_v37_4) = (dats m 0 c).arrAt 8 cfg0.N) :=
  (θ_run defs _ _).mono (fun r h c => ⟨(h c).1 4, (h c).1 5, (h c).1 6, (h c).1 7, (h c).1 8⟩) (run_main m ρ)

/-- On arguments that are real numbers, the reference's five results are the kernel's. -/
theorem results_eq (x : Vec Ideal LossRefIdeal.S2x2048x1024 .f32) (nf : Vec Ideal LossRefIdeal.S1x1024 .f32)
    (wu : Vec Ideal LossRefIdeal.S1x1024x4096 .f32) (wd : Vec Ideal LossRefIdeal.S1x4096x1024 .f32) (nw : Vec Ideal LossRefIdeal.S1x1024 .f32)
    (tg : Vec Ideal LossRefIdeal.S2x2048x1024 .f32)
    (m : (ℓ : Loc LossTailIdeal.nD LossTailIdeal.τ LossTailIdeal.sig) → Buf (Elt Ideal) ℓ) (c : Dev LossTailIdeal.nD)
    (e : x = argX m c ∧ nf = argNf m c ∧ wu = argWu m c ∧ wd = argWd m c ∧ nw = argNw m c ∧ tg = argT m c)
    (hx : ∀ i, x i = (((x i).toReal : ℝ) : EReal)) (hnf : ∀ i, nf i = (((nf i).toReal : ℝ) : EReal))
    (hwu : ∀ i, wu i = (((wu i).toReal : ℝ) : EReal)) (hwd : ∀ i, wd i = (((wd i).toReal : ℝ) : EReal))
    (hnw : ∀ i, nw i = (((nw i).toReal : ℝ) : EReal)) (htg : ∀ i, tg i = (((tg i).toReal : ℝ) : EReal)) :
    LossRefIdeal.Read.val_main_v75 (F := Ideal) x nf wu = (LossTailIdeal.Gen.dats m 0 c).arrAt 4 LossTailIdeal.cfg0.N
    ∧ LossRefIdeal.Read.val_main_v77 (F := Ideal) x nf wu wd nw tg = (LossTailIdeal.Gen.dats m 0 c).arrAt 5 LossTailIdeal.cfg0.N
    ∧ LossRefIdeal.Read.val_main_v78 (F := Ideal) x nf wu wd nw tg = (LossTailIdeal.Gen.dats m 0 c).arrAt 6 LossTailIdeal.cfg0.N
    ∧ LossRefIdeal.Read.val_main_v79 (F := Ideal) x nf wu wd nw tg = (LossTailIdeal.Gen.dats m 0 c).arrAt 7 LossTailIdeal.cfg0.N
    ∧ LossRefIdeal.Read.val_main_v73 (F := Ideal) x nf wu wd nw tg = (LossTailIdeal.Gen.dats m 0 c).arrAt 8 LossTailIdeal.cfg0.N := by
  obtain ⟨rfl, rfl, rfl, rfl, rfl, rfl⟩ := e
  have hx' := fun b s d => hx (ix3 b s d)
  have hnf' := fun d => hnf (ix2 0 d)
  have hwu' := fun d k => hwu (ix3 0 d k)
  have hwd' := fun k d => hwd (ix3 0 k d)
  have hnw' := fun d => hnw (ix2 0 d)
  have htg' := fun b s d => htg (ix3 b s d)
  refine ⟨?_, ?_, ?_, ?_, ?_⟩
  · rw [final_4 m c _ _ _ hx' hnf' hwu']
    refine funext fun (i : LossTailIdeal.S4096x4096.Idx) => ?_
    obtain ⟨a, k, rfl⟩ := exists_ix2 i
    exact Ref.res_sq _ _ _ _ _ _ hx' hnf' hwu' a k
  · rw [final_5 m c _ _ _ _ _ _ hx' hnf' hwu' hwd' hnw' htg']
    refine funext fun (i : LossTailIdeal.S4096x1024.Idx) => ?_
    obtain ⟨a, d, rfl⟩ := exists_ix2 i
    exact Ref.res_dd _ _ _ _ _ _ _ _ _ _ _ _ hx' hnf' hwu' hwd' hnw' htg' a d
  · rw [final_6 m c _ _ _ _ _ _ hx' hnf' hwu' hwd' hnw' htg']
    refine funext fun (i : LossTailIdeal.S4096x1024.Idx) => ?_
    obtain ⟨a, d, rfl⟩ := exists_ix2 i
    exact Ref.res_dy _ _ _ _ _ _ _ _ _ _ _ _ hx' hnf' hwu' hwd' hnw' htg' a d
  · rw [arr_7]
    refine funext fun (i : LossTailIdeal.S8x128.Idx) => ?_
    obtain ⟨a, d, rfl⟩ := exists_ix2 i
    exact (Ref.res_loss _ _ _ _ _ _ _ _ _ _ _ _ hx' hnf' hwu' hwd' hnw' htg' a d).trans (lossLast_at m c _ _ _ _ _ _ hx' hnf' hwu' hwd' hnw' htg' a d).symm
  · rw [arr_8]
    refine funext fun (i : LossTailIdeal.S1x1024.Idx) => ?_
    obtain ⟨a, d, rfl⟩ := exists_ix2 i
    obtain rfl : a = 0 := Subsingleton.elim _ _
    refine (Ref.gw_at _ _ _ _ _ _ _ _ _ _ _ _ hx' hnf' hwu' hwd' hnw' htg' d).trans (Eq.trans (congrArg _ ?_) (gwLast_at m c _ _ _ _ _ _ hx' hnf' hwu' hwd' hnw' htg' d).symm)
    refine Finset.sum_congr rfl fun b _ => Finset.sum_congr rfl fun s _ => ?_
    unfold gwPart
    ring

theorem algebraic : Cert.algebraic_LossTailIdeal_LossRefIdeal_pre_finite_tail (hLossTailIdeal := LossTailIdeal.Gen.facts)
    (hLossRefIdeal := LossRefIdeal.Gen.facts) (hPre_finite_tail := Pre_finite_tail.Gen.facts) := by
  intro m ρ m' ρ' hpre hag
  refine ⟨fun c => (LossTailIdeal.Gen.dats m 0 c).arrAt 4 LossTailIdeal.cfg0.N,
    fun c => (LossTailIdeal.Gen.dats m 0 c).arrAt 5 LossTailIdeal.cfg0.N,
    fun c => (LossTailIdeal.Gen.dats m 0 c).arrAt 6 LossTailIdeal.cfg0.N,
    fun c => (LossTailIdeal.Gen.dats m 0 c).arrAt 7 LossTailIdeal.cfg0.N,
    fun c => (LossTailIdeal.Gen.dats m 0 c).arrAt 8 LossTailIdeal.cfg0.N,
    (θ_run LossTailIdeal.defs _ _).mono (fun r h c => ?_) (θ_run_and (run_arrays m ρ) (LossTailIdeal.Gen.unchanged (F := Ideal) m ρ)),
    (θ_run LossRefIdeal.defs _ _).mono (fun r h c => ?_) (LossRefIdeal.Value.run (F := Ideal) m' ρ')⟩
  · exact ⟨(h.1 c).1, (h.1 c).2.1, (h.1 c).2.2.1, (h.1 c).2.2.2.1, (h.1 c).2.2.2.2, h.2 c⟩
  have hc := h c
  obtain ⟨a0, a1, a2, a3, a4, a5⟩ := hag c
  obtain ⟨p0, p1, p2, p3, p4, p5⟩ := hpre c
  obtain ⟨r0, r1, r2, r3, r4⟩ := results_eq _ _ _ _ _ _ m c ⟨a0, a1, a2, a3, a4, a5⟩ (by rw [a0]; exact real_of_finite p0) (by rw [a1]; exact real_of_finite p1)
    (by rw [a2]; exact real_of_finite p2) (by rw [a3]; exact real_of_finite p3) (by rw [a4]; exact real_of_finite p4) (by rw [a5]; exact real_of_finite p5)
  exact ⟨hc.1.trans ((LossRefIdeal.Read.val_main_v75_eq _ _ _).trans r0), hc.2.1.trans ((LossRefIdeal.Read.val_main_v77_eq _ _).trans r1),
    hc.2.2.1.trans ((LossRefIdeal.Read.val_main_v78_eq _ _).trans r2), hc.2.2.2.1.trans ((LossRefIdeal.Read.val_main_v79_eq _ _).trans r3),
    hc.2.2.2.2.1.trans ((LossRefIdeal.Read.val_main_v73_eq _ _).trans r4), hc.2.2.2.2.2⟩

end Cert.Tail

end
-- ==== Proof.WeightGrad.lean ====
/-
  The up projection's weight gradient: each block of its columns is a sum over two halves of the tokens, which is the sum over
  all of them. No argument has to be finite.
-/
module

public import proofs.«01_k».proof.Defs
public import proofs.«01_k».proof.Proof.Reals
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

namespace Cert.WeightGrad

open Cert.DwUpIdeal Cert.DwUpIdeal.Gen Cert.DwUpIdeal.Value Idealize.ShloMosaic Idealize.ShloMosaic.TcCoe Idealize.SL.Sem Cert.Reals

section
variable (m : (ℓ : Loc nD τ sig) → Buf (Elt Ideal) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

abbrev argH : Vec Ideal S2x2048x1024 .f32 := m (c.tc.loc main_arg0)
abbrev argD : Vec Ideal S2x2048x4096 .f32 := m (c.tc.loc main_arg1)

/-- The half of the tokens a point works on, which is a sequence of the batch, and the block of columns. -/
def half (t : Fin cfg0.N) : Fin 2 := ⟨t.val % 2, by omega⟩
def blk (t : Fin cfg0.N) : Fin 4 := ⟨t.val / 2, by have := t.isLt; have : cfg0.N = 8 := N_0; omega⟩
/-- A column of a block, as a column of the whole array. -/
def col (j : Fin 4) (k : Fin 1024) : Fin 4096 := ⟨1024 * j.val + k.val, by omega⟩

theorem index_in : ∀ t : Fin grid0.N, (win0_0.index t 0 = 0 ∧ win0_0.index t 1 = 0) ∧ (win0_1.index t 0 = t.val % 2 ∧ win0_1.index t 1 = t.val / 2) := by decide +kernel
theorem index_out : ∀ t : Fin grid0.N, win0_2.index t 0 = t.val / 2 ∧ win0_2.index t 1 = 0 ∧ win0_2.index t 2 = 0 := by decide +kernel
theorem coord_2 : ∀ t : Fin grid0.N, (grid0.coords t 2).val = t.val % 2 := by decide +kernel

theorem blk_0 (t : Fin cfg0.N) (r : Fin 4096) (k : Fin 1024) : iblk m c 0 t (ix2 r k) = argH m c (ix3 ⟨r.val / 2048, by omega⟩ ⟨r.val % 2048, by omega⟩ k) := by
  have e : iblk m c 0 t (ix2 r k) = (V m c main_v1 : Vec Ideal S4096x1024 .bf16) (ix2 r k) := by
    unfold iblk
    rw [View.read_apply]
    refine congrArg (V m c main_v1 : Vec Ideal S4096x1024 .bf16) (funext fun a => Fin.ext ?_)
    match a with
    | ⟨0, _⟩ => show win0_0.index t 0 * 4096 + 1 * r.val = r.val; rw [(index_in t).1.1]; omega
    | ⟨1, _⟩ => show win0_0.index t 1 * 1024 + 1 * k.val = k.val; rw [(index_in t).1.2]; omega
  rw [e]
  simp only [V]
  after_reads_at

theorem blk_1 (t : Fin cfg0.N) (r : Fin 2048) (k : Fin 1024) : iblk m c 1 t (ix2 r k) = argD m c (ix3 (half t) r (col (blk t) k)) := by
  have hN : cfg0.N = 8 := N_0
  have ht := t.isLt
  have e : iblk m c 1 t (ix2 r k) = (V m c main_v3 : Vec Ideal S4096x4096 .bf16) (ix2 (⟨2048 * (t.val % 2) + r.val, by omega⟩ : Fin 4096) (col (blk t) k)) := by
    unfold iblk
    rw [View.read_apply]
    refine congrArg (V m c main_v3 : Vec Ideal S4096x4096 .bf16) (funext fun a => Fin.ext ?_)
    match a with
    | ⟨0, _⟩ => show win0_1.index t 0 * 2048 + 1 * r.val = 2048 * (t.val % 2) + r.val; rw [(index_in t).2.1]; omega
    | ⟨1, _⟩ => show win0_1.index t 1 * 1024 + 1 * k.val = 1024 * (t.val / 2) + k.val; rw [(index_in t).2.2]; omega
  rw [e]
  simp only [V]
  after_reads_at
  refine congrArg (argD m c) (funext fun a => Fin.ext ?_)
  match a with
  | ⟨0, _⟩ => show (2048 * (t.val % 2) + r.val) / 2048 = t.val % 2; omega
  | ⟨1, _⟩ => show (2048 * (t.val % 2) + r.val) % 2048 = r.val; omega
  | ⟨2, _⟩ => rfl

/-- The rows of the resident operand a point reads. -/
abbrev rows (t : Fin cfg0.N) : Vec Ideal S2048x1024 .bf16 :=
  View.ld (S := S4096x1024) (iblk m c 0 t : Vec Ideal S4096x1024 .bf16) (Rect.unit (s := S4096x1024) (k0_off1 (grid0.coords t)) S2048x1024.size (k0_off1_inb _))

theorem rows_at (t : Fin cfg0.N) (r : Fin 2048) (k : Fin 1024) : rows m c t (ix2 r k) = argH m c (ix3 (half t) r k) := by
  refine Eq.trans (b := (iblk m c 0 t : Vec Ideal S4096x1024 .bf16) (ix2 (⟨2048 * (t.val % 2) + r.val, by omega⟩ : Fin 4096) k)) ?_ ?_
  · refine congrArg (iblk m c 0 t : Vec Ideal S4096x1024 .bf16) (funext fun a => Fin.ext ?_)
    match a with
    | ⟨0, _⟩ => show k0_off1 (grid0.coords t) 0 + 1 * r.val = 2048 * (t.val % 2) + r.val; rw [k0_off1_eq, ← coord_2 t]; show 2048 * (grid0.coords t 2).val + 1 * r.val = _; omega
    | ⟨1, _⟩ => show k0_off1 (grid0.coords t) 1 + 1 * k.val = k.val; rw [k0_off1_eq]; show 0 + 1 * k.val = _; omega
  · rw [blk_0]
    refine congrArg (argH m c) (funext fun a => Fin.ext ?_)
    match a with
    | ⟨0, _⟩ => show (2048 * (t.val % 2) + r.val) / 2048 = t.val % 2; omega
    | ⟨1, _⟩ => show (2048 * (t.val % 2) + r.val) % 2048 = r.val; omega
    | ⟨2, _⟩ => rfl

/-- One half's part of the gradient. -/
def part (b : Fin 2) (d : Fin 1024) (j : Fin 4096) : EReal := ∑ s, argH m c (ix3 b s d) * argD m c (ix3 b s j)

theorem part_at (t : Fin cfg0.N) (d : Fin 1024) (k : Fin 1024) :
    (k0_pay1 (F := Ideal) (rows m c t) (iblk m c 1 t) : Vec Ideal S1024x1024 .f32) (ix2 d k) = part m c (half t) d (col (blk t) k) := by
  pointwise [k0_pay1]
  simp only [rows_at, blk_1]
  rfl

theorem sum_first (t : Fin cfg0.N) (h : t.val % 2 = 0) : (outsAt0 m c t.val t.isLt).2 = k0_pay2 (F := Ideal) (rows m c t) (iblk m c 1 t) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 t).read_unread, (hs0_1 t).read_unread, View.ld_unit_zero (S := S2048x1024) hz]
  rfl

theorem out_second (t : Fin cfg0.N) (h : t.val % 2 = 1) : (outsAt0 m c t.val t.isLt).1
    = k0_pay4 (F := Ideal) (k0_pay3 (rows m c t) (iblk m c 1 t) (outsAt0 m c (t.val - 1) (by have := t.isLt; omega)).2) := by
  rw [outsAt0_B m c t (by omega) h h]
  dsimp only
  unfold out0_B_2
  rw [View.read_writes_eq_canon _ _ _ (fun y => cover0_B_2 (y := y) ..)]
  unfold kernelRun0_B
  dsimp only
  sl_unfold_words
  rw [View.canon_unit_zero hz3]
  simp only [View.readAt_eq_ld, (hs0_0 t).read_unread, (hs0_1 t).read_unread, (Memref.isWhole_whole cc0_scratch0).read_unread, View.readCov_unit_zero (S := S1024x1024) _ hz, View.ld_unit_zero (S := S2048x1024) hz, View.ld_unit_zero (S := S1024x1024) hz]
  rfl

/-- The whole gradient, one block of columns after the other. -/
def gradRes : Vec Ideal S4x1024x1024 .bf16 := fun i => part m c 0 (i 1) (col (i 0) (i 2)) + part m c 1 (i 1) (col (i 0) (i 2))

theorem out_at (t : Fin cfg0.N) (h : t.val % 2 = 1) (d : Fin 1024) (k : Fin 1024) :
    (outsAt0 m c t.val t.isLt).1 (ix3 0 d k) = gradRes m c (ix3 (blk t) d k) := by
  have hN : cfg0.N = 8 := N_0
  have ht := t.isLt
  rw [out_second m c t h, sum_first m c ⟨t.val - 1, by omega⟩ (by dsimp only; omega)]
  pointwise [k0_pay4, k0_pay3, k0_pay2]
  rw [part_at, part_at]
  have e1 : half ⟨t.val - 1, by omega⟩ = 0 := Fin.ext (by show (t.val - 1) % 2 = 0; omega)
  have e2 : half t = 1 := Fin.ext h
  have e3 : blk ⟨t.val - 1, by omega⟩ = blk t := Fin.ext (by show (t.val - 1) / 2 = t.val / 2; omega)
  rw [e1, e2, e3]
  rfl

/-- The point that writes back a block of columns. -/
def outPt (j : Fin 4) : Fin cfg0.N := ⟨2 * j.val + 1, by rw [show cfg0.N = 8 from N_0]; omega⟩

theorem size_2 : ∀ t : Fin cfg0.N, win0_2.xsize (grid0.coords t) 0 = 1 ∧ win0_2.xsize (grid0.coords t) 1 = 1024 ∧ win0_2.xsize (grid0.coords t) 2 = 1024 := by decide +kernel

theorem final_2 : (dats m 0 c).arrAt 2 cfg0.N = gradRes m c := by
  refine (dats m 0 c).arrAt_eq_of_cover 2 (gradRes m c) (fun t hf => ?_) fun i => ⟨outPt (i 0), (flush0_2 _).mpr (by show (2 * (i 0).val + 1) % 2 = 1; omega), ?_⟩
  · rw [flushed2]
    refine funext fun (y : S1x1024x1024.Idx) => ?_
    rw [View.read_apply]
    have hy : y = ix3 0 (y 1) (y 2) := funext fun a => Fin.ext (by
      match a with
      | ⟨0, _⟩ => have : (y 0).val < 1 := (y 0).isLt; show (y 0).val = 0; omega
      | ⟨1, _⟩ => rfl
      | ⟨2, _⟩ => rfl)
    refine Eq.trans (b := gradRes m c (ix3 (blk t) (y 1) (y 2))) ?_ ?_
    · refine (congrArg (outsAt0 m c t.val t.isLt).1 hy).trans ?_
      exact out_at m c t ((flush0_2 t).mp hf) (y 1) (y 2)
    · refine congrArg (gradRes m c) (funext fun a => Fin.ext ?_)
      have h0 : (y 0).val < 1 := (y 0).isLt
      match a with
      | ⟨0, _⟩ => show t.val / 2 = win0_2.index t 0 * 1 + 1 * (y 0).val; rw [(index_out t).1]; omega
      | ⟨1, _⟩ => show (y 1).val = win0_2.index t 1 * 1024 + 1 * (y 1).val; rw [(index_out t).2.1]; omega
      | ⟨2, _⟩ => show (y 2).val = win0_2.index t 2 * 1024 + 1 * (y 2).val; rw [(index_out t).2.2]; omega
  · show i ∈ ((View.whole main_v4).slice (win0_2.rect (outPt (i 0)))).set
    rw [View.set_slice_whole, Rect.mem_set_unit]
    intro a
    have h0 : (i 0 : Nat) < 4 := (i 0).isLt
    have h1 : (i 1 : Nat) < 1024 := (i 1).isLt
    have h2 : (i 2 : Nat) < 1024 := (i 2).isLt
    match a with
    | ⟨0, _⟩ => show win0_2.index (outPt (i 0)) 0 * 1 ≤ (i 0 : Nat) ∧ (i 0 : Nat) < win0_2.index (outPt (i 0)) 0 * 1 + win0_2.xsize (grid0.coords (outPt (i 0))) 0
                rw [(index_out _).1, (size_2 _).1]; unfold outPt; dsimp only; omega
    | ⟨1, _⟩ => show win0_2.index (outPt (i 0)) 1 * 1024 ≤ (i 1 : Nat) ∧ (i 1 : Nat) < win0_2.index (outPt (i 0)) 1 * 1024 + win0_2.xsize (grid0.coords (outPt (i 0))) 1
                rw [(index_out _).2.1, (size_2 _).2.1]; omega
    | ⟨2, _⟩ => show win0_2.index (outPt (i 0)) 2 * 1024 ≤ (i 2 : Nat) ∧ (i 2 : Nat) < win0_2.index (outPt (i 0)) 2 * 1024 + win0_2.xsize (grid0.coords (outPt (i 0))) 2
                rw [(index_out _).2.2, (size_2 _).2.2]; omega
end

/-! ## The reference -/

namespace Ref
open Cert.DwUpRefIdeal Cert.DwUpRefIdeal.Gen Cert.DwUpRefIdeal.Read

variable (x : Vec Ideal Cert.DwUpRefIdeal.S2x2048x1024 .f32) (d : Vec Ideal Cert.DwUpRefIdeal.S2x2048x4096 .f32)

theorem whole_at (e : Fin 1024) (k : Fin 4096) : (val_main_v3 (F := Ideal) x d : Vec Ideal Cert.DwUpRefIdeal.S1024x4096 .f32) (ix2 e k)
    = ∑ b : Fin 2, ∑ s : Fin 2048, d (ix3 b s k) * x (ix3 b s e) := by
  pointwise [val_main_v3, val_main_v2]

theorem res_at (j : Fin 4) (e : Fin 1024) (k : Fin 1024) : (val_main_v13 (F := Ideal) x d : Vec Ideal Cert.DwUpRefIdeal.S4x1024x1024 .bf16) (ix3 j e k)
    = ∑ b : Fin 2, ∑ s : Fin 2048, d (ix3 b s (col j k)) * x (ix3 b s e) := by
  rw [← whole_at x d e (col j k)]
  pointwise [val_main_v13, val_main_v12, val_main_v11, val_main_v10, val_main_v9, val_main_v8, val_main_v7, val_main_v6, val_main_v5, val_main_v4]
  have h := j.isLt
  split_ifs
  all_goals exact congrArg (fun q => val_main_v3 (F := Ideal) x d (ix2 e q)) (Fin.ext (by show _ = 1024 * j.val + k.val; dsimp only; omega))
end Ref

theorem frame_ref : Cert.quiescent_DwUpRefIdeal (hDwUpRefIdeal := DwUpRefIdeal.Gen.facts) := fun m ρ _ =>
  (θ_run DwUpRefIdeal.defs _ _).mono (fun r h => ⟨fun c => (h c).2, sem_eq_zero_of_no_sems (by decide) r.2⟩)
    (DwUpRefIdeal.Value.run (F := Ideal) m ρ)

theorem result_eq (x : Vec Ideal DwUpRefIdeal.S2x2048x1024 .f32) (d : Vec Ideal DwUpRefIdeal.S2x2048x4096 .f32)
    (m : (ℓ : Loc nD τ sig) → Buf (Elt Ideal) ℓ) (c : Dev nD) (e : x = argH m c ∧ d = argD m c) :
    DwUpRefIdeal.Read.val_main_v13 (F := Ideal) x d = (dats m 0 c).arrAt 2 cfg0.N := by
  obtain ⟨rfl, rfl⟩ := e
  rw [final_2]
  refine funext fun (i : S4x1024x1024.Idx) => ?_
  obtain ⟨j, a, k, rfl⟩ := exists_ix3 i
  refine (Ref.res_at _ _ j a k).trans ?_
  rw [Fin.sum_univ_two]
  simp only [mul_comm (argD m c _)]
  rfl

theorem algebraic : Cert.algebraic_DwUpIdeal_DwUpRefIdeal (hDwUpIdeal := DwUpIdeal.Gen.facts) (hDwUpRefIdeal := DwUpRefIdeal.Gen.facts) := by
  intro m ρ m' ρ' hpre hag
  refine ⟨_, run_blocks (F := Ideal) m ρ, (θ_run DwUpRefIdeal.defs _ _).mono (fun r h c => ?_)
    (DwUpRefIdeal.Value.run (F := Ideal) m' ρ')⟩
  have hc := h c
  exact ⟨hc.1.trans ((DwUpRefIdeal.Read.val_main_v13_eq _ _).trans (result_eq _ _ m c (hag c))), hc.2⟩

end Cert.WeightGrad

end
-- ==== Proof.Adam.lean ====
/-
  The optimiser's step of the feed-forward block's two weights: every entry of every result is computed from that entry's own
  weight, gradient and moments, the gradient taken from one of its two halves. No argument has to be finite.
-/
module

public import proofs.«01_k».proof.Defs
public import proofs.«01_k».proof.Proof.Reals
public import proofs.«01_k».proof.Proof.Gen.AdamHalvesIdeal.Value
public import proofs.«01_k».proof.Proof.Gen.AdamRefIdeal.Run
public import proofs.«01_k».proof.Proof.Gen.AdamRefIdeal.Read
public import Idealize.ShloMosaic.Lib.Pointwise
public import Idealize.ShloMosaic.Lib.StableHlo.ReadAt
public import Idealize.ShloMosaic.Adequacy
public import Idealize.ShloMosaic.Init

@[expose] public section

set_option maxRecDepth 16384

noncomputable section

namespace Cert.Adam

open Cert.AdamHalvesIdeal Cert.AdamHalvesIdeal.Gen Cert.AdamHalvesIdeal.Value Idealize.ShloMosaic Idealize.ShloMosaic.TcCoe Idealize.SL.Sem Cert.Reals

/-- The two moments' and the weight's step, of one entry. -/
def mean (g a : EReal) : EReal := Ideal.ofBits .f32 0x3F666666#32 * a + Ideal.ofBits .f32 0x3DCCCCCD#32 * g
def spread (g a : EReal) : EReal := Ideal.ofBits .f32 0x3F7FBE77#32 * a + Ideal.ofBits .f32 0x3A83126F#32 * (g * g)
def step (w g a b : EReal) : EReal := Ideal.ofBits .f32 0xBA83126F#32 * (Ideal.div (Ideal.div (mean g a) (Ideal.ofBits .f32 0x3F26BD02#32))
  (Ideal.sqrt (Ideal.div (spread g b) (Ideal.ofBits .f32 0x3C231ACC#32)) + Ideal.ofBits .f32 0x322BCC77#32) + Ideal.ofBits .f32 0x3C23D70A#32 * w)

section
variable (m : (ℓ : Loc nD τ sig) → Buf (Elt Ideal) ℓ) (c : Dev nD)

theorem hz : (![0, 0] : Fin 2 → Nat) = fun _ => 0 := funext fun a => by fin_cases a <;> rfl

abbrev arg (k : Fin 8) : Vec Ideal S1x1024x1024 .f32 := match k with
  | 0 => m (c.tc.loc main_arg0) | 1 => m (c.tc.loc main_arg1) | 2 => m (c.tc.loc main_arg2) | 3 => m (c.tc.loc main_arg3)
  | 4 => m (c.tc.loc main_arg4) | 5 => m (c.tc.loc main_arg5) | 6 => m (c.tc.loc main_arg6) | 7 => m (c.tc.loc main_arg7)

/-- A row of a point's block as a row of the whole array, and the row of a half's block it takes its gradient from. -/
def row (t : Fin cfg0.N) (r : Fin 256) : Fin 1024 := ⟨256 * t.val + r.val, by have := t.isLt; have : cfg0.N = 4 := N_0; omega⟩
def low (t : Fin cfg0.N) (r : Fin 256) : Fin 512 := ⟨256 * (t.val % 2) + r.val, by omega⟩

theorem index_full : ∀ t : Fin grid0.N, (win0_0.index t 0 = t.val ∧ win0_0.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_8.index t 0 = t.val ∧ win0_8.index t 1 = 0) ∧ (win0_9.index t 0 = t.val ∧ win0_9.index t 1 = 0) := by decide +kernel
theorem index_half : ∀ t : Fin grid0.N, (win0_1.index t 0 = t.val % 2 ∧ win0_1.index t 1 = 0) ∧ (win0_2.index t 0 = t.val % 2 ∧ win0_2.index t 1 = 0)
    ∧ (win0_6.index t 0 = t.val % 2 ∧ win0_6.index t 1 = 0) ∧ (win0_7.index t 0 = t.val % 2 ∧ win0_7.index t 1 = 0) := by decide +kernel
theorem index_out : ∀ t : Fin grid0.N, (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0)
    ∧ (win0_14.index t 0 = t.val ∧ win0_14.index t 1 = 0) ∧ (win0_15.index t 0 = t.val ∧ win0_15.index t 1 = 0)
    ∧ (win0_16.index t 0 = t.val ∧ win0_16.index t 1 = 0) ∧ (win0_17.index t 0 = t.val ∧ win0_17.index t 1 = 0) := by decide +kernel

/-! ## What a point reads -/

/-- A block whose rows begin at 256 times an index of the array's blocks, read at a row and a column. -/
theorem cellOf {n : ℕ} (A : (⟨2, ![n, 1024]⟩ : Shape).Idx → EReal) (B : S256x1024.Idx → EReal) (emb : S256x1024.Idx → (⟨2, ![n, 1024]⟩ : Shape).Idx)
    (h : ∀ y, A (emb y) = B y) (i : Fin n) (r : Fin 256) (k : Fin 1024) (p q : ℕ) (hp : p * 256 + 1 * r.val = i.val) (hq : q = 0)
    (h0 : (emb (ix2 r k) 0).val = p * 256 + 1 * r.val) (h1 : (emb (ix2 r k) 1).val = q * 1024 + 1 * k.val) : B (ix2 r k) = A (ix2 i k) := by
  rw [← h]
  refine congrArg A (funext fun a => Fin.ext ?_)
  match a with
  | ⟨0, _⟩ => exact h0.trans hp
  | ⟨1, _⟩ => exact h1.trans (show q * 1024 + 1 * k.val = k.val by rw [hq, Nat.zero_mul, Nat.zero_add, Nat.one_mul])

theorem blk_0 (t : Fin cfg0.N) (r : Fin 256) (k : Fin 1024) : iblk m c 0 t (ix2 r k) = arg m c 0 (ix3 0 (row t r) k) := by
  refine (cellOf (V m c main_v0 : Vec Ideal S1024x1024 .f32) (iblk m c 0 t) _ (fun _ => rfl) (row t r) r k (win0_0.index t 0) (win0_0.index t 1) (by rw [(index_full t).1.1]; show t.val * 256 + 1 * r.val = 256 * t.val + r.val; omega) (index_full t).1.2 rfl rfl).trans ?_
  simp only [V]
  after_reads_at
theorem blk_3 (t : Fin cfg0.N) (r : Fin 256) (k : Fin 1024) : iblk m c 3 t (ix2 r k) = arg m c 4 (ix3 0 (row t r) k) := by
  refine (cellOf (V m c main_v5 : Vec Ideal S1024x1024 .f32) (iblk m c 3 t) _ (fun _ => rfl) (row t r) r k (win0_3.index t 0) (win0_3.index t 1) (by rw [(index_full t).2.1.1]; show t.val * 256 + 1 * r.val = 256 * t.val + r.val; omega) (index_full t).2.1.2 rfl rfl).trans ?_
  simp only [V]
  after_reads_at
theorem blk_4 (t : Fin cfg0.N) (r : Fin 256) (k : Fin 1024) : iblk m c 4 t (ix2 r k) = arg m c 6 (ix3 0 (row t r) k) := by
  refine (cellOf (V m c main_v6 : Vec Ideal S1024x1024 .f32) (iblk m c 4 t) _ (fun _ => rfl) (row t r) r k (win0_4.index t 0) (win0_4.index t 1) (by rw [(index_full t).2.2.1.1]; show t.val * 256 + 1 * r.val = 256 * t.val + r.val; omega) (index_full t).2.2.1.2 rfl rfl).trans ?_
  simp only [V]
  after_reads_at
theorem blk_5 (t : Fin cfg0.N) (r : Fin 256) (k : Fin 1024) : iblk m c 5 t (ix2 r k) = arg m c 1 (ix3 0 (row t r) k) := by
  refine (cellOf (V m c main_v7 : Vec Ideal S1024x1024 .f32) (iblk m c 5 t) _ (fun _ => rfl) (row t r) r k (win0_5.index t 0) (win0_5.index t 1) (by rw [(index_full t).2.2.2.1.1]; show t.val * 256 + 1 * r.val = 256 * t.val + r.val; omega) (index_full t).2.2.2.1.2 rfl rfl).trans ?_
  simp only [V]
  after_reads_at
theorem blk_8 (t : Fin cfg0.N) (r : Fin 256) (k : Fin 1024) : iblk m c 8 t (ix2 r k) = arg m c 5 (ix3 0 (row t r) k) := by
  refine (cellOf (V m c main_v12 : Vec Ideal S1024x1024 .f32) (iblk m c 8 t) _ (fun _ => rfl) (row t r) r k (win0_8.index t 0) (win0_8.index t 1) (by rw [(index_full t).2.2.2.2.1.1]; show t.val * 256 + 1 * r.val = 256 * t.val + r.val; omega) (index_full t).2.2.2.2.1.2 rfl rfl).trans ?_
  simp only [V]
  after_reads_at
theorem blk_9 (t : Fin cfg0.N) (r : Fin 256) (k : Fin 1024) : iblk m c 9 t (ix2 r k) = arg m c 7 (ix3 0 (row t r) k) := by
  refine (cellOf (V m c main_v13 : Vec Ideal S1024x1024 .f32) (iblk m c 9 t) _ (fun _ => rfl) (row t r) r k (win0_9.index t 0) (win0_9.index t 1) (by rw [(index_full t).2.2.2.2.2.1]; show t.val * 256 + 1 * r.val = 256 * t.val + r.val; omega) (index_full t).2.2.2.2.2.2 rfl rfl).trans ?_
  simp only [V]
  after_reads_at
theorem blk_1 (t : Fin cfg0.N) (r : Fin 256) (k : Fin 1024) : iblk m c 1 t (ix2 r k) = arg m c 2 (ix3 0 ⟨(low t r).val, by have := (low t r).isLt; omega⟩ k) := by
  refine (cellOf (V m c main_v2 : Vec Ideal S512x1024 .f32) (iblk m c 1 t) _ (fun _ => rfl) (low t r) r k (win0_1.index t 0) (win0_1.index t 1) (by rw [(index_half t).1.1]; show t.val % 2 * 256 + 1 * r.val = 256 * (t.val % 2) + r.val; omega) (index_half t).1.2 rfl rfl).trans ?_
  simp only [V]
  after_reads_at
theorem blk_2 (t : Fin cfg0.N) (r : Fin 256) (k : Fin 1024) : iblk m c 2 t (ix2 r k) = arg m c 2 (ix3 0 ⟨512 + (low t r).val, by have := (low t r).isLt; omega⟩ k) := by
  refine (cellOf (V m c main_v4 : Vec Ideal S512x1024 .f32) (iblk m c 2 t) _ (fun _ => rfl) (low t r) r k (win0_2.index t 0) (win0_2.index t 1) (by rw [(index_half t).2.1.1]; show t.val % 2 * 256 + 1 * r.val = 256 * (t.val % 2) + r.val; omega) (index_half t).2.1.2 rfl rfl).trans ?_
  simp only [V]
  after_reads_at
theorem blk_6 (t : Fin cfg0.N) (r : Fin 256) (k : Fin 1024) : iblk m c 6 t (ix2 r k) = arg m c 3 (ix3 0 ⟨(low t r).val, by have := (low t r).isLt; omega⟩ k) := by
  refine (cellOf (V m c main_v9 : Vec Ideal S512x1024 .f32) (iblk m c 6 t) _ (fun _ => rfl) (low t r) r k (win0_6.index t 0) (win0_6.index t 1) (by rw [(index_half t).2.2.1.1]; show t.val % 2 * 256 + 1 * r.val = 256 * (t.val % 2) + r.val; omega) (index_half t).2.2.1.2 rfl rfl).trans ?_
  simp only [V]
  after_reads_at
theorem blk_7 (t : Fin cfg0.N) (r : Fin 256) (k : Fin 1024) : iblk m c 7 t (ix2 r k) = arg m c 3 (ix3 0 ⟨512 + (low t r).val, by have := (low t r).isLt; omega⟩ k) := by
  refine (cellOf (V m c main_v11 : Vec Ideal S512x1024 .f32) (iblk m c 7 t) _ (fun _ => rfl) (low t r) r k (win0_7.index t 0) (win0_7.index t 1) (by rw [(index_half t).2.2.2.1]; show t.val % 2 * 256 + 1 * r.val = 256 * (t.val % 2) + r.val; omega) (index_half t).2.2.2.2 rfl rfl).trans ?_
  simp only [V]
  after_reads_at

/-- Whether a point works on the first half of the rows. -/
def mine (i : grid0.Coords) : BitVec 1 :=
  Scalar.cmpi .eq (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32)))
    (Scalar.subi (Scalar.extui (Scalar.cmpi .sgt 2#32 0#32)) (Scalar.extui (Scalar.cmpi .slt 2#32 0#32)))) (Scalar.cmpi .ne (Scalar.remsi (BitVec.ofNat 32 (i 0).val) 2#32) 0#32))
    (Scalar.subi (Scalar.divsi (BitVec.ofNat 32 (i 0).val) 2#32) 1#32) (Scalar.divsi (BitVec.ofNat 32 (i 0).val) 2#32)) 0#32

theorem mine_eq : ∀ t : Fin grid0.N, mine (grid0.coords t) = if t.val < 2 then 1#1 else 0#1 := by decide +kernel

/-- The gradient blocks of the two weights. -/
abbrev gradU (t : Fin cfg0.N) : Vec Ideal S256x1024 .f32 := k0_pay11 (F := Ideal) (mine (grid0.coords t)) (iblk m c 1 t) (iblk m c 2 t)
abbrev gradD (t : Fin cfg0.N) : Vec Ideal S256x1024 .f32 := k0_pay11 (F := Ideal) (mine (grid0.coords t)) (iblk m c 6 t) (iblk m c 7 t)

theorem choose_at (t : Fin cfg0.N) (a b : Vec Ideal S256x1024 .f32) (A : Vec Ideal S1x1024x1024 .f32) (r : Fin 256) (k : Fin 1024)
    (ha : a (ix2 r k) = A (ix3 0 ⟨(low t r).val, by have := (low t r).isLt; omega⟩ k)) (hb : b (ix2 r k) = A (ix3 0 ⟨512 + (low t r).val, by have := (low t r).isLt; omega⟩ k)) :
    (k0_pay11 (F := Ideal) (mine (grid0.coords t)) a b : Vec Ideal S256x1024 .f32) (ix2 r k) = A (ix3 0 (row t r) k) := by
  have ht := t.isLt
  have hN : cfg0.N = 4 := N_0
  rw [mine_eq]
  by_cases h : t.val < 2
  · rw [if_pos h]
    refine Eq.trans (b := a (ix2 r k)) (by pointwise [k0_pay11]) (ha.trans (congrArg (fun q => A (ix3 0 q k)) (Fin.ext ?_)))
    show 256 * (t.val % 2) + r.val = 256 * t.val + r.val
    omega
  · rw [if_neg h]
    refine Eq.trans (b := b (ix2 r k)) (by pointwise [k0_pay11]) (hb.trans (congrArg (fun q => A (ix3 0 q k)) (Fin.ext ?_)))
    show 512 + (256 * (t.val % 2) + r.val) = 256 * t.val + r.val
    omega

theorem gradU_at (t : Fin cfg0.N) (r : Fin 256) (k : Fin 1024) : gradU m c t (ix2 r k) = arg m c 2 (ix3 0 (row t r) k) :=
  choose_at t _ _ (arg m c 2) r k (blk_1 m c t r k) (blk_2 m c t r k)
theorem gradD_at (t : Fin cfg0.N) (r : Fin 256) (k : Fin 1024) : gradD m c t (ix2 r k) = arg m c 3 (ix3 0 (row t r) k) :=
  choose_at t _ _ (arg m c 3) r k (blk_6 m c t r k) (blk_7 m c t r k)

/-! ## What a point writes, from its blocks -/

/-- One weight's three results of a point, from its blocks of the weight, the gradient and the moments. -/
theorem mean_at (g a : Vec Ideal S256x1024 .f32) (j : S256x1024.Idx) : (k0_pay1 (F := Ideal) g (k0_pay13 a) k0_pay15 : Vec Ideal S256x1024 .f32) j = mean (g j) (a j) := by
  obtain ⟨r, k, rfl⟩ := exists_ix2 j
  pointwise [k0_pay1, k0_pay13, k0_pay15]
  rfl
theorem spread_at (g a : Vec Ideal S256x1024 .f32) (j : S256x1024.Idx) : (k0_pay2 (F := Ideal) g (k0_pay14 a) : Vec Ideal S256x1024 .f32) j = spread (g j) (a j) := by
  obtain ⟨r, k, rfl⟩ := exists_ix2 j
  pointwise [k0_pay2, k0_pay14]
  rfl
theorem step_at (w g a b : Vec Ideal S256x1024 .f32) (j : S256x1024.Idx) :
    (k0_pay3 (F := Ideal) g (k0_pay12 w) (k0_pay13 a) (k0_pay14 b) k0_pay15 : Vec Ideal S256x1024 .f32) j = step (w j) (g j) (a j) (b j) := by
  obtain ⟨r, k, rfl⟩ := exists_ix2 j
  pointwise [k0_pay3, k0_pay12]
  rw [mean_at, spread_at]
  rfl

/-- The grid point and the row within its block where a row of the whole array is computed. -/
def pt (i : Fin 1024) : Fin cfg0.N := ⟨i.val / 256, by rw [show cfg0.N = 4 from N_0]; omega⟩
def sub (i : Fin 1024) : Fin 256 := ⟨i.val % 256, by omega⟩
theorem row_pt (i : Fin 1024) : row (pt i) (sub i) = i := Fin.ext (by show 256 * (i.val / 256) + i.val % 256 = i.val; omega)

/-- The cell of the whole array where a point's block holds its row's entry. -/
theorem idx_eq (i k : Fin 1024) (j : S1024x1024.Idx) (p q : ℕ) (h : p = (pt i).val ∧ q = 0) (h0 : (j 0).val = p * 256 + 1 * (sub i).val) (h1 : (j 1).val = q * 1024 + 1 * k.val) :
    ix2 i k = j := by
  obtain ⟨rfl, rfl⟩ := h
  refine funext fun a => Fin.ext ?_
  match a with
  | ⟨0, _⟩ => refine Eq.trans ?_ h0.symm; show i.val = i.val / 256 * 256 + 1 * (i.val % 256); omega
  | ⟨1, _⟩ => refine Eq.trans ?_ h1.symm; show k.val = 0 * 1024 + 1 * k.val; omega

theorem arr_10 (i : Fin 1024) (k : Fin 1024) : ((dats m 0 c).arrAt 10 cfg0.N : Vec Ideal S1024x1024 .f32) (ix2 i k) = arg m c 2 (ix3 0 i k) := by
  have e := congrFun (blocks10 m c (pt i) (flush0_10 _)) (ix2 (sub i) k)
  rw [View.read_apply, flushed10] at e
  refine Eq.trans (b := (gradU m c (pt i) : Vec Ideal S256x1024 .f32) (ix2 (sub i) k)) (Eq.trans ?_ (e.trans ?_)) ?_
  · refine congrArg ((dats m 0 c).arrAt 10 cfg0.N : Vec Ideal S1024x1024 .f32) (idx_eq i k _ _ _ (index_out (pt i)).1 rfl rfl)
  · unfold out0_10
    rw [View.canon_unit_zero hz]
    simp only [k0_pay16, k0_pay17, k0_pay18, k0_pay19, k0_pay20, k0_pay21, k0_pay22, View.ld_unit_zero (S := S256x1024) hz]
    rfl
  · simp only [gradU_at, row_pt]
theorem arr_11 (i : Fin 1024) (k : Fin 1024) : ((dats m 0 c).arrAt 11 cfg0.N : Vec Ideal S1024x1024 .f32) (ix2 i k) = step (arg m c 0 (ix3 0 i k)) (arg m c 2 (ix3 0 i k)) (arg m c 4 (ix3 0 i k)) (arg m c 6 (ix3 0 i k)) := by
  have e := congrFun (blocks11 m c (pt i) (flush0_11 _)) (ix2 (sub i) k)
  rw [View.read_apply, flushed11] at e
  refine Eq.trans (b := (k0_pay3 (F := Ideal) (gradU m c (pt i)) (k0_pay12 (iblk m c 0 (pt i))) (k0_pay13 (iblk m c 3 (pt i))) (k0_pay14 (iblk m c 4 (pt i))) k0_pay15 : Vec Ideal S256x1024 .f32) (ix2 (sub i) k)) (Eq.trans ?_ (e.trans ?_)) ?_
  · refine congrArg ((dats m 0 c).arrAt 11 cfg0.N : Vec Ideal S1024x1024 .f32) (idx_eq i k _ _ _ (index_out (pt i)).2.1 rfl rfl)
  · unfold out0_11
    rw [View.canon_unit_zero hz]
    simp only [k0_pay16, k0_pay17, k0_pay18, k0_pay19, k0_pay20, k0_pay21, k0_pay22, View.ld_unit_zero (S := S256x1024) hz]
    rfl
  · simp only [step_at, blk_0, gradU_at, blk_3, blk_4, row_pt]
theorem arr_12 (i : Fin 1024) (k : Fin 1024) : ((dats m 0 c).arrAt 12 cfg0.N : Vec Ideal S1024x1024 .f32) (ix2 i k) = mean (arg m c 2 (ix3 0 i k)) (arg m c 4 (ix3 0 i k)) := by
  have e := congrFun (blocks12 m c (pt i) (flush0_12 _)) (ix2 (sub i) k)
  rw [View.read_apply, flushed12] at e
  refine Eq.trans (b := (k0_pay1 (F := Ideal) (gradU m c (pt i)) (k0_pay13 (iblk m c 3 (pt i))) k0_pay15 : Vec Ideal S256x1024 .f32) (ix2 (sub i) k)) (Eq.trans ?_ (e.trans ?_)) ?_
  · refine congrArg ((dats m 0 c).arrAt 12 cfg0.N : Vec Ideal S1024x1024 .f32) (idx_eq i k _ _ _ (index_out (pt i)).2.2.1 rfl rfl)
  · unfold out0_12
    rw [View.canon_unit_zero hz]
    simp only [k0_pay16, k0_pay17, k0_pay18, k0_pay19, k0_pay20, k0_pay21, k0_pay22, View.ld_unit_zero (S := S256x1024) hz]
    rfl
  · simp only [mean_at, gradU_at, blk_3, row_pt]
theorem arr_13 (i : Fin 1024) (k : Fin 1024) : ((dats m 0 c).arrAt 13 cfg0.N : Vec Ideal S1024x1024 .f32) (ix2 i k) = spread (arg m c 2 (ix3 0 i k)) (arg m c 6 (ix3 0 i k)) := by
  have e := congrFun (blocks13 m c (pt i) (flush0_13 _)) (ix2 (sub i) k)
  rw [View.read_apply, flushed13] at e
  refine Eq.trans (b := (k0_pay2 (F := Ideal) (gradU m c (pt i)) (k0_pay14 (iblk m c 4 (pt i))) : Vec Ideal S256x1024 .f32) (ix2 (sub i) k)) (Eq.trans ?_ (e.trans ?_)) ?_
  · refine congrArg ((dats m 0 c).arrAt 13 cfg0.N : Vec Ideal S1024x1024 .f32) (idx_eq i k _ _ _ (index_out (pt i)).2.2.2.1 rfl rfl)
  · unfold out0_13
    rw [View.canon_unit_zero hz]
    simp only [k0_pay16, k0_pay17, k0_pay18, k0_pay19, k0_pay20, k0_pay21, k0_pay22, View.ld_unit_zero (S := S256x1024) hz]
    rfl
  · simp only [spread_at, gradU_at, blk_4, row_pt]
theorem arr_14 (i : Fin 1024) (k : Fin 1024) : ((dats m 0 c).arrAt 14 cfg0.N : Vec Ideal S1024x1024 .f32) (ix2 i k) = arg m c 3 (ix3 0 i k) := by
  have e := congrFun (blocks14 m c (pt i) (flush0_14 _)) (ix2 (sub i) k)
  rw [View.read_apply, flushed14] at e
  refine Eq.trans (b := (gradD m c (pt i) : Vec Ideal S256x1024 .f32) (ix2 (sub i) k)) (Eq.trans ?_ (e.trans ?_)) ?_
  · refine congrArg ((dats m 0 c).arrAt 14 cfg0.N : Vec Ideal S1024x1024 .f32) (idx_eq i k _ _ _ (index_out (pt i)).2.2.2.2.1 rfl rfl)
  · unfold out0_14
    rw [View.canon_unit_zero hz]
    simp only [k0_pay16, k0_pay17, k0_pay18, k0_pay19, k0_pay20, k0_pay21, k0_pay22, View.ld_unit_zero (S := S256x1024) hz]
    rfl
  · simp only [gradD_at, row_pt]
theorem arr_15 (i : Fin 1024) (k : Fin 1024) : ((dats m 0 c).arrAt 15 cfg0.N : Vec Ideal S1024x1024 .f32) (ix2 i k) = step (arg m c 1 (ix3 0 i k)) (arg m c 3 (ix3 0 i k)) (arg m c 5 (ix3 0 i k)) (arg m c 7 (ix3 0 i k)) := by
  have e := congrFun (blocks15 m c (pt i) (flush0_15 _)) (ix2 (sub i) k)
  rw [View.read_apply, flushed15] at e
  refine Eq.trans (b := (k0_pay3 (F := Ideal) (gradD m c (pt i)) (k0_pay12 (iblk m c 5 (pt i))) (k0_pay13 (iblk m c 8 (pt i))) (k0_pay14 (iblk m c 9 (pt i))) k0_pay15 : Vec Ideal S256x1024 .f32) (ix2 (sub i) k)) (Eq.trans ?_ (e.trans ?_)) ?_
  · refine congrArg ((dats m 0 c).arrAt 15 cfg0.N : Vec Ideal S1024x1024 .f32) (idx_eq i k _ _ _ (index_out (pt i)).2.2.2.2.2.1 rfl rfl)
  · unfold out0_15
    rw [View.canon_unit_zero hz]
    simp only [k0_pay16, k0_pay17, k0_pay18, k0_pay19, k0_pay20, k0_pay21, k0_pay22, View.ld_unit_zero (S := S256x1024) hz]
    rfl
  · simp only [step_at, blk_5, gradD_at, blk_8, blk_9, row_pt]
theorem arr_16 (i : Fin 1024) (k : Fin 1024) : ((dats m 0 c).arrAt 16 cfg0.N : Vec Ideal S1024x1024 .f32) (ix2 i k) = mean (arg m c 3 (ix3 0 i k)) (arg m c 5 (ix3 0 i k)) := by
  have e := congrFun (blocks16 m c (pt i) (flush0_16 _)) (ix2 (sub i) k)
  rw [View.read_apply, flushed16] at e
  refine Eq.trans (b := (k0_pay1 (F := Ideal) (gradD m c (pt i)) (k0_pay13 (iblk m c 8 (pt i))) k0_pay15 : Vec Ideal S256x1024 .f32) (ix2 (sub i) k)) (Eq.trans ?_ (e.trans ?_)) ?_
  · refine congrArg ((dats m 0 c).arrAt 16 cfg0.N : Vec Ideal S1024x1024 .f32) (idx_eq i k _ _ _ (index_out (pt i)).2.2.2.2.2.2.1 rfl rfl)
  · unfold out0_16
    rw [View.canon_unit_zero hz]
    simp only [k0_pay16, k0_pay17, k0_pay18, k0_pay19, k0_pay20, k0_pay21, k0_pay22, View.ld_unit_zero (S := S256x1024) hz]
    rfl
  · simp only [mean_at, gradD_at, blk_8, row_pt]
theorem arr_17 (i : Fin 1024) (k : Fin 1024) : ((dats m 0 c).arrAt 17 cfg0.N : Vec Ideal S1024x1024 .f32) (ix2 i k) = spread (arg m c 3 (ix3 0 i k)) (arg m c 7 (ix3 0 i k)) := by
  have e := congrFun (blocks17 m c (pt i) (flush0_17 _)) (ix2 (sub i) k)
  rw [View.read_apply, flushed17] at e
  refine Eq.trans (b := (k0_pay2 (F := Ideal) (gradD m c (pt i)) (k0_pay14 (iblk m c 9 (pt i))) : Vec Ideal S256x1024 .f32) (ix2 (sub i) k)) (Eq.trans ?_ (e.trans ?_)) ?_
  · refine congrArg ((dats m 0 c).arrAt 17 cfg0.N : Vec Ideal S1024x1024 .f32) (idx_eq i k _ _ _ (index_out (pt i)).2.2.2.2.2.2.2 rfl rfl)
  · unfold out0_17
    rw [View.canon_unit_zero hz]
    simp only [k0_pay16, k0_pay17, k0_pay18, k0_pay19, k0_pay20, k0_pay21, k0_pay22, View.ld_unit_zero (S := S256x1024) hz]
    rfl
  · simp only [spread_at, gradD_at, blk_9, row_pt]
end

/-! ## The reference -/

namespace Ref
open Cert.AdamRefIdeal Cert.AdamRefIdeal.Gen Cert.AdamRefIdeal.Read

variable (x0 x1 x2 x3 x4 x5 x6 x7 : Vec Ideal Cert.AdamRefIdeal.S1x1024x1024 .f32) (i k : Fin 1024)

theorem v0_at : (val_main_v0 (F := Ideal) x2 : Vec Ideal Cert.AdamRefIdeal.S1024x1024 .f32) (ix2 i k) = x2 (ix3 0 i k) := by
  pointwise [val_main_v0]
theorem v9_at : (val_main_v9 (F := Ideal) x2 x4 : Vec Ideal Cert.AdamRefIdeal.S1024x1024 .f32) (ix2 i k) = mean (x2 (ix3 0 i k)) (x4 (ix3 0 i k)) := by
  pointwise [val_main_v9, val_main_v8, val_main_v7, val_main_v6, val_main_v5, val_main_v3, val_main_v2, val_main_cst, val_main_cst_0]
  rfl
theorem v15_at : (val_main_v15 (F := Ideal) x2 x6 : Vec Ideal Cert.AdamRefIdeal.S1024x1024 .f32) (ix2 i k) = spread (x2 (ix3 0 i k)) (x6 (ix3 0 i k)) := by
  pointwise [val_main_v15, val_main_v14, val_main_v13, val_main_v12, val_main_v11, val_main_v10, val_main_v4, val_main_v2, val_main_cst_1, val_main_cst_2]
  rfl
theorem v28_at : (val_main_v28 (F := Ideal) x0 x2 x4 x6 : Vec Ideal Cert.AdamRefIdeal.S1024x1024 .f32) (ix2 i k) = step (x0 (ix3 0 i k)) (x2 (ix3 0 i k)) (x4 (ix3 0 i k)) (x6 (ix3 0 i k)) := by
  pointwise [val_main_v28, val_main_v27, val_main_v26, val_main_v25, val_main_v24, val_main_v23, val_main_v22, val_main_v21, val_main_v20, val_main_v19, val_main_v18, val_main_v17, val_main_v16, val_main_v1, val_main_cst_3, val_main_cst_4, val_main_cst_5, val_main_cst_6, val_main_cst_7]
  rw [v9_at, v15_at]
  rfl
theorem v29_at : (val_main_v29 (F := Ideal) x3 : Vec Ideal Cert.AdamRefIdeal.S1024x1024 .f32) (ix2 i k) = x3 (ix3 0 i k) := by
  pointwise [val_main_v29]
theorem v38_at : (val_main_v38 (F := Ideal) x3 x5 : Vec Ideal Cert.AdamRefIdeal.S1024x1024 .f32) (ix2 i k) = mean (x3 (ix3 0 i k)) (x5 (ix3 0 i k)) := by
  pointwise [val_main_v38, val_main_v37, val_main_v36, val_main_v35, val_main_v34, val_main_v32, val_main_v31, val_main_cst_8, val_main_cst_9]
  rfl
theorem v44_at : (val_main_v44 (F := Ideal) x3 x7 : Vec Ideal Cert.AdamRefIdeal.S1024x1024 .f32) (ix2 i k) = spread (x3 (ix3 0 i k)) (x7 (ix3 0 i k)) := by
  pointwise [val_main_v44, val_main_v43, val_main_v42, val_main_v41, val_main_v40, val_main_v39, val_main_v33, val_main_v31, val_main_cst_10, val_main_cst_11]
  rfl
theorem v57_at : (val_main_v57 (F := Ideal) x1 x3 x5 x7 : Vec Ideal Cert.AdamRefIdeal.S1024x1024 .f32) (ix2 i k) = step (x1 (ix3 0 i k)) (x3 (ix3 0 i k)) (x5 (ix3 0 i k)) (x7 (ix3 0 i k)) := by
  pointwise [val_main_v57, val_main_v56, val_main_v55, val_main_v54, val_main_v53, val_main_v52, val_main_v51, val_main_v50, val_main_v49, val_main_v48, val_main_v47, val_main_v46, val_main_v45, val_main_v30, val_main_cst_12, val_main_cst_13, val_main_cst_14, val_main_cst_15, val_main_cst_16]
  rw [v38_at, v44_at]
  rfl
end Ref

/-! ## The two programs -/

theorem frame_ref : Cert.quiescent_AdamRefIdeal (hAdamRefIdeal := AdamRefIdeal.Gen.facts) := fun m ρ _ =>
  (θ_run AdamRefIdeal.defs _ _).mono (fun r h => ⟨fun c => (h c).2.2.2.2.2.2.2.2, sem_eq_zero_of_no_sems (by decide) r.2⟩)
    (AdamRefIdeal.Value.run (F := Ideal) m ρ)

/-- Two arrays that agree at every row and column. -/
theorem ext2 (A B : S1024x1024.Idx → EReal) (h : ∀ i k, A (ix2 i k) = B (ix2 i k)) : A = B := funext fun j => by
  obtain ⟨i, k, rfl⟩ := exists_ix2 j
  exact h i k

theorem results_eq (x0 x1 x2 x3 x4 x5 x6 x7 : Vec Ideal AdamRefIdeal.S1x1024x1024 .f32) (m : (ℓ : Loc nD τ sig) → Buf (Elt Ideal) ℓ) (c : Dev nD)
    (e : x0 = arg m c 0 ∧ x1 = arg m c 1 ∧ x2 = arg m c 2 ∧ x3 = arg m c 3 ∧ x4 = arg m c 4 ∧ x5 = arg m c 5 ∧ x6 = arg m c 6 ∧ x7 = arg m c 7) :
    AdamRefIdeal.Read.val_main_v0 (F := Ideal) x2 = (dats m 0 c).arrAt 10 cfg0.N
    ∧ AdamRefIdeal.Read.val_main_v28 (F := Ideal) x0 x2 x4 x6 = (dats m 0 c).arrAt 11 cfg0.N
    ∧ AdamRefIdeal.Read.val_main_v9 (F := Ideal) x2 x4 = (dats m 0 c).arrAt 12 cfg0.N
    ∧ AdamRefIdeal.Read.val_main_v15 (F := Ideal) x2 x6 = (dats m 0 c).arrAt 13 cfg0.N
    ∧ AdamRefIdeal.Read.val_main_v29 (F := Ideal) x3 = (dats m 0 c).arrAt 14 cfg0.N
    ∧ AdamRefIdeal.Read.val_main_v57 (F := Ideal) x1 x3 x5 x7 = (dats m 0 c).arrAt 15 cfg0.N
    ∧ AdamRefIdeal.Read.val_main_v38 (F := Ideal) x3 x5 = (dats m 0 c).arrAt 16 cfg0.N
    ∧ AdamRefIdeal.Read.val_main_v44 (F := Ideal) x3 x7 = (dats m 0 c).arrAt 17 cfg0.N := by
  obtain ⟨rfl, rfl, rfl, rfl, rfl, rfl, rfl, rfl⟩ := e
  exact ⟨ext2 _ _ fun i k => (Ref.v0_at _ i k).trans (arr_10 m c i k).symm,
    ext2 _ _ fun i k => (Ref.v28_at _ _ _ _ i k).trans (arr_11 m c i k).symm,
    ext2 _ _ fun i k => (Ref.v9_at _ _ i k).trans (arr_12 m c i k).symm,
    ext2 _ _ fun i k => (Ref.v15_at _ _ i k).trans (arr_13 m c i k).symm,
    ext2 _ _ fun i k => (Ref.v29_at _ i k).trans (arr_14 m c i k).symm,
    ext2 _ _ fun i k => (Ref.v57_at _ _ _ _ i k).trans (arr_15 m c i k).symm,
    ext2 _ _ fun i k => (Ref.v38_at _ _ i k).trans (arr_16 m c i k).symm,
    ext2 _ _ fun i k => (Ref.v44_at _ _ i k).trans (arr_17 m c i k).symm⟩

theorem algebraic : Cert.algebraic_AdamHalvesIdeal_AdamRefIdeal (hAdamHalvesIdeal := AdamHalvesIdeal.Gen.facts) (hAdamRefIdeal := AdamRefIdeal.Gen.facts) := by
  intro m ρ m' ρ' hpre hag
  refine ⟨_, _, _, _, _, _, _, _, run_blocks (F := Ideal) m ρ, (θ_run AdamRefIdeal.defs _ _).mono (fun r h c => ?_)
    (AdamRefIdeal.Value.run (F := Ideal) m' ρ')⟩
  obtain ⟨e0, e1, e2, e3, e4, e5, e6, e7⟩ := results_eq _ _ _ _ _ _ _ _ m c (hag c)
  have hc := h c
  exact ⟨hc.1.trans ((AdamRefIdeal.Read.val_main_v0_eq _).trans e0), hc.2.1.trans ((AdamRefIdeal.Read.val_main_v28_eq _ _ _ _).trans e1),
    hc.2.2.1.trans ((AdamRefIdeal.Read.val_main_v9_eq _ _).trans e2), hc.2.2.2.1.trans ((AdamRefIdeal.Read.val_main_v15_eq _ _).trans e3),
    hc.2.2.2.2.1.trans ((AdamRefIdeal.Read.val_main_v29_eq _).trans e4), hc.2.2.2.2.2.1.trans ((AdamRefIdeal.Read.val_main_v57_eq _ _ _ _).trans e5),
    hc.2.2.2.2.2.2.1.trans ((AdamRefIdeal.Read.val_main_v38_eq _ _).trans e6), hc.2.2.2.2.2.2.2.1.trans ((AdamRefIdeal.Read.val_main_v44_eq _ _).trans e7),
    hc.2.2.2.2.2.2.2.2⟩

end Cert.Adam

end
-- ==== Proof.ChipSum.lean ====
/-
  The sum of the four chips' parts of a gradient: four additions in a row are the sum over the chips. No argument has to be
  finite.
-/
module

public import proofs.«01_k».proof.Defs
public import proofs.«01_k».proof.Proof.Reals
public import proofs.«01_k».proof.Proof.Gen.ChipSumIdeal.Value
public import proofs.«01_k».proof.Proof.Gen.ChipSumRefIdeal.Run
public import proofs.«01_k».proof.Proof.Gen.ChipSumRefIdeal.Read
public import Idealize.ShloMosaic.Lib.Pointwise
public import Idealize.ShloMosaic.Adequacy
public import Idealize.ShloMosaic.Init

@[expose] public section

set_option maxRecDepth 16384

noncomputable section

namespace Cert.ChipSums

open Cert.ChipSumIdeal Cert.ChipSumIdeal.Gen Idealize.ShloMosaic Idealize.ShloMosaic.TcCoe Idealize.SL.Sem Cert.Reals

theorem frame_ref : Cert.quiescent_ChipSumRefIdeal (hChipSumRefIdeal := ChipSumRefIdeal.Gen.facts) := fun m ρ _ =>
  (θ_run ChipSumRefIdeal.defs _ _).mono (fun r h => ⟨fun c => (h c).2, sem_eq_zero_of_no_sems (by decide) r.2⟩)
    (ChipSumRefIdeal.Value.run (F := Ideal) m ρ)

section
variable (x : Vec Ideal S4x512x1024 .bf16) (i : Fin 512) (k : Fin 1024)

/-- What the kernel leaves at an entry. -/
theorem kernel_at : Value.G1 (F := Ideal) x (ix2 i k) = ∑ j : Fin 4, x (ix3 j i k) := by
  unfold Value.G1
  pointwise [k0_pay1]
  exact (Fin.sum_univ_four fun j => x (ix3 j i k)).symm

/-- What the reference leaves there. -/
theorem ref_at : ChipSumRefIdeal.Read.val_main_v1 (F := Ideal) x (ix2 i k) = ∑ j : Fin 4, x (ix3 j i k) := by
  pointwise [ChipSumRefIdeal.Read.val_main_v1, ChipSumRefIdeal.Read.val_main_v0, ChipSumRefIdeal.Read.val_main_cst]
end

theorem algebraic : Cert.algebraic_ChipSumIdeal_ChipSumRefIdeal (hChipSumIdeal := ChipSumIdeal.Gen.facts) (hChipSumRefIdeal := ChipSumRefIdeal.Gen.facts) := by
  intro m ρ m' ρ' hpre hag
  refine ⟨_, Value.run (F := Ideal) m ρ, (θ_run ChipSumRefIdeal.defs _ _).mono (fun r h c => ?_) (ChipSumRefIdeal.Value.run (F := Ideal) m' ρ')⟩
  refine ⟨(h c).1.trans ((ChipSumRefIdeal.Read.val_main_v1_eq _).trans ?_), (h c).2⟩
  rw [hag c]
  refine funext fun (j : S512x1024.Idx) => ?_
  obtain ⟨i, k, rfl⟩ := exists_ix2 j
  exact (ref_at _ i k).trans (kernel_at _ i k).symm

end Cert.ChipSums

end
-- ==== Proof.lean ====
module

public import proofs.«01_k».proof.Defs
public import proofs.«01_k».proof.Proof.Inproj
public import proofs.«01_k».proof.Proof.Outproj
public import proofs.«01_k».proof.Proof.Gen.Pre_finite_gmlp
public import proofs.«01_k».proof.Proof.Gmlp
public import proofs.«01_k».proof.Proof.Mlp
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_finite_mlp
public import proofs.«01_k».proof.Proof.Infwd
public import proofs.«01_k».proof.Proof.Gen.InprojFwd
public import proofs.«01_k».proof.Proof.Gen.InprojFwd.Frame
public import proofs.«01_k».proof.Proof.Gen.InprojFwdIdeal
public import proofs.«01_k».proof.Proof.Gen.InprojFwdIdeal.Frame
public import proofs.«01_k».proof.Proof.Gen.InprojFwdIdeal.Value
public import proofs.«01_k».proof.Proof.Gen.InfwdRefIdeal
public import proofs.«01_k».proof.Proof.Gen.InfwdRefIdeal.Run
public import proofs.«01_k».proof.Proof.Gen.InfwdRefIdeal.Read
public import proofs.«01_k».proof.Proof.Tail
public import proofs.«01_k».proof.Proof.Gen.LossTail
public import proofs.«01_k».proof.Proof.Gen.LossTail.Frame
public import proofs.«01_k».proof.Proof.Gen.LossTailIdeal
public import proofs.«01_k».proof.Proof.Gen.LossTailIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_finite_tail
public import proofs.«01_k».proof.Proof.Gen.OutprojBwd
public import proofs.«01_k».proof.Proof.Gen.OutprojBwd.Frame
public import proofs.«01_k».proof.Proof.Gen.OutprojBwdIdeal
public import proofs.«01_k».proof.Proof.Gen.OutprojBwdIdeal.Frame
public import proofs.«01_k».proof.Proof.Gen.OutprojBwdIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Pre_finite_out
public import proofs.«01_k».proof.Proof.Gen.GmlpBwd
public import proofs.«01_k».proof.Proof.Gen.GmlpBwd.Frame
public import proofs.«01_k».proof.Proof.Gen.GmlpBwdIdeal
public import proofs.«01_k».proof.Proof.Gen.GmlpBwdIdeal.Frame
public import proofs.«01_k».proof.Proof.Gen.GmlpBwdIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.InprojBwdIdeal.Value
public import proofs.«01_k».proof.Proof.Gen.InprojRefIdeal.Run
public import proofs.«01_k».proof.Proof.Gen.InprojRefIdeal.Read
public import proofs.«01_k».proof.Proof.WeightGrad
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Adam
public import proofs.«01_k».proof.Proof.Gen.AdamHalves
public import proofs.«01_k».proof.Proof.Gen.AdamHalves.Frame
public import proofs.«01_k».proof.Proof.Gen.AdamHalvesIdeal
public import proofs.«01_k».proof.Proof.Gen.AdamHalvesIdeal.Frame
public import proofs.«01_k».proof.Proof.Gen.AdamHalvesIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.ChipSum
public import proofs.«01_k».proof.Proof.Gen.ChipSum
public import proofs.«01_k».proof.Proof.Gen.ChipSum.Frame
public import proofs.«01_k».proof.Proof.Gen.ChipSumIdeal
public import proofs.«01_k».proof.Proof.Gen.ChipSumIdeal.Frame
public import proofs.«01_k».proof.Proof.Gen.ChipSumIdeal.Value
public import proofs.«01_k».proof.Proof.Gen.ChipSumRefIdeal
public import proofs.«01_k».proof.Proof.Gen.ChipSumRefIdeal.Run
public import proofs.«01_k».proof.Proof.Gen.ChipSumRefIdeal.Read

@[expose] public section

noncomputable section

namespace Cert.Proof

open Idealize.ShloMosaic Idealize.SL.Sem

theorem claim : Cert.Claim :=
  ⟨Cert.InprojBwd.Gen.facts, Cert.InprojBwdIdeal.Gen.facts, Cert.InprojRefIdeal.Gen.facts,
    Cert.OutprojBwd.Gen.facts, Cert.OutprojBwdIdeal.Gen.facts, Cert.OutprojRefIdeal.Gen.facts,
    Cert.GmlpBwd.Gen.facts, Cert.GmlpBwdIdeal.Gen.facts, Cert.GmlpRefIdeal.Gen.facts,
    Cert.MlpBwd.Gen.facts, Cert.MlpBwdIdeal.Gen.facts, Cert.MlpRefIdeal.Gen.facts,
    Cert.InprojFwd.Gen.facts, Cert.InprojFwdIdeal.Gen.facts, Cert.InfwdRefIdeal.Gen.facts,
    Cert.LossTail.Gen.facts, Cert.LossTailIdeal.Gen.facts, Cert.LossRefIdeal.Gen.facts,
    Cert.DwUp.Gen.facts, Cert.DwUpIdeal.Gen.facts, Cert.DwUpRefIdeal.Gen.facts,
    Cert.AdamHalves.Gen.facts, Cert.AdamHalvesIdeal.Gen.facts, Cert.AdamRefIdeal.Gen.facts,
    Cert.ChipSum.Gen.facts, Cert.ChipSumIdeal.Gen.facts, Cert.ChipSumRefIdeal.Gen.facts,
    Cert.Pre_finite_inproj.Gen.facts, Cert.Pre_finite_out.Gen.facts, Cert.Pre_finite_gmlp.Gen.facts, Cert.Pre_finite_mlp.Gen.facts, Cert.Pre_finite_tail.Gen.facts,
    fun m ρ _ => Cert.InprojBwd.Gen.frame m ρ, fun m ρ _ => Cert.InprojBwdIdeal.Gen.frame m ρ, fun m ρ _ => Cert.InprojBwdIdeal.Gen.frame m ρ,
    Cert.Inproj.frame_ref, fun m ρ _ => Cert.Inproj.frame_ref m ρ trivial,
    fun m ρ _ => Cert.OutprojBwd.Gen.frame m ρ, fun m ρ _ => Cert.OutprojBwdIdeal.Gen.frame m ρ, fun m ρ _ => Cert.OutprojBwdIdeal.Gen.frame m ρ,
    Cert.Outproj.frame_ref, fun m ρ _ => Cert.Outproj.frame_ref m ρ trivial,
    fun m ρ _ => Cert.GmlpBwd.Gen.frame m ρ, fun m ρ _ => Cert.GmlpBwdIdeal.Gen.frame m ρ, fun m ρ _ => Cert.GmlpBwdIdeal.Gen.frame m ρ,
    Cert.Gmlp.frame_ref, fun m ρ _ => Cert.Gmlp.frame_ref m ρ trivial,
    fun m ρ _ => Cert.MlpBwd.Gen.frame m ρ, fun m ρ _ => Cert.MlpBwdIdeal.Gen.frame m ρ, fun m ρ _ => Cert.MlpBwdIdeal.Gen.frame m ρ,
    Cert.Mlp.frame_ref, fun m ρ _ => Cert.Mlp.frame_ref m ρ trivial,
    fun m ρ _ => Cert.InprojFwd.Gen.frame m ρ, fun m ρ _ => Cert.InprojFwdIdeal.Gen.frame m ρ, Cert.Infwd.frame_ref,
    fun m ρ _ => Cert.LossTail.Gen.frame m ρ, fun m ρ _ => Cert.LossTailIdeal.Gen.frame m ρ, fun m ρ _ => Cert.LossTailIdeal.Gen.frame m ρ,
    Cert.Tail.frame_ref, fun m ρ _ => Cert.Tail.frame_ref m ρ trivial,
    fun m ρ _ => Cert.DwUp.Gen.frame m ρ, fun m ρ _ => Cert.DwUpIdeal.Gen.frame m ρ, Cert.WeightGrad.frame_ref,
    fun m ρ _ => Cert.AdamHalves.Gen.frame m ρ, fun m ρ _ => Cert.AdamHalvesIdeal.Gen.frame m ρ, Cert.Adam.frame_ref,
    fun m ρ _ => Cert.ChipSum.Gen.frame m ρ, fun m ρ _ => Cert.ChipSumIdeal.Gen.frame m ρ, Cert.ChipSums.frame_ref,
    trivial, Cert.Inproj.algebraic, trivial, Cert.Outproj.algebraic, Cert.Gmlp.preserves, Cert.Gmlp.algebraic, trivial, Cert.Mlp.algebraic,
    trivial, Cert.Infwd.algebraic, trivial, Cert.Tail.algebraic, trivial, Cert.WeightGrad.algebraic, trivial, Cert.Adam.algebraic, trivial, Cert.ChipSums.algebraic⟩

end Cert.Proof

end
